-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))) = (fun _ => 1#1)

def Pre_DwdownKernel (m : (ℓ : Loc Cert.DwdownKernel.nD Cert.DwdownKernel.τ Cert.DwdownKernel.sig) → Buf (Elt Bits) ℓ) : Prop :=
  True

def Pre_DwdownKernelIdeal (m : (ℓ : Loc Cert.DwdownKernelIdeal.nD Cert.DwdownKernelIdeal.τ Cert.DwdownKernelIdeal.sig) → Buf (Elt Ideal) ℓ) : Prop :=
  True

def Pre_DwdownReferenceIdeal (m : (ℓ : Loc Cert.DwdownReferenceIdeal.nD Cert.DwdownReferenceIdeal.τ Cert.DwdownReferenceIdeal.sig) → Buf (Elt Ideal) ℓ) : Prop :=
  True

def Pre_DwgateKernel (m : (ℓ : Loc Cert.DwgateKernel.nD Cert.DwgateKernel.τ Cert.DwgateKernel.sig) → Buf (Elt Bits) ℓ) : Prop :=
  True

def Pre_DwgateKernelIdeal (m : (ℓ : Loc Cert.DwgateKernelIdeal.nD Cert.DwgateKernelIdeal.τ Cert.DwgateKernelIdeal.sig) → Buf (Elt Ideal) ℓ) : Prop :=
  True

def Pre_DwgateReferenceIdeal (m : (ℓ : Loc Cert.DwgateReferenceIdeal.nD Cert.DwgateReferenceIdeal.τ Cert.DwgateReferenceIdeal.sig) → Buf (Elt Ideal) ℓ) : Prop :=
  True

def Pre_DuKernel (m : (ℓ : Loc Cert.DuKernel.nD Cert.DuKernel.τ Cert.DuKernel.sig) → Buf (Elt Bits) ℓ) : Prop :=
  True

def Pre_DuKernelIdeal (m : (ℓ : Loc Cert.DuKernelIdeal.nD Cert.DuKernelIdeal.τ Cert.DuKernelIdeal.sig) → Buf (Elt Ideal) ℓ) : Prop :=
  True

def Pre_DuReferenceIdeal (m : (ℓ : Loc Cert.DuReferenceIdeal.nD Cert.DuReferenceIdeal.τ Cert.DuReferenceIdeal.sig) → Buf (Elt Ideal) ℓ) : Prop :=
  True

def Pre_DuupKernel (m : (ℓ : Loc Cert.DuupKernel.nD Cert.DuupKernel.τ Cert.DuupKernel.sig) → Buf (Elt Bits) ℓ) : Prop :=
  True

def Pre_DuupKernelIdeal (m : (ℓ : Loc Cert.DuupKernelIdeal.nD Cert.DuupKernelIdeal.τ Cert.DuupKernelIdeal.sig) → Buf (Elt Ideal) ℓ) : Prop :=
  True

def Pre_DuupReferenceIdeal (m : (ℓ : Loc Cert.DuupReferenceIdeal.nD Cert.DuupReferenceIdeal.τ Cert.DuupReferenceIdeal.sig) → Buf (Elt Ideal) ℓ) : Prop :=
  True

def Pre_FfninKernel (m : (ℓ : Loc Cert.FfninKernel.nD Cert.FfninKernel.τ Cert.FfninKernel.sig) → Buf (Elt Bits) ℓ) : Prop :=
  True

def Pre_FfninKernelIdeal (m : (ℓ : Loc Cert.FfninKernelIdeal.nD Cert.FfninKernelIdeal.τ Cert.FfninKernelIdeal.sig) → Buf (Elt Ideal) ℓ) : Prop :=
  True

def Pre_FfninReferenceIdeal (m : (ℓ : Loc Cert.FfninReferenceIdeal.nD Cert.FfninReferenceIdeal.τ Cert.FfninReferenceIdeal.sig) → Buf (Elt Ideal) ℓ) : Prop :=
  True

def Pre_FfnoutKernel (m : (ℓ : Loc Cert.FfnoutKernel.nD Cert.FfnoutKernel.τ Cert.FfnoutKernel.sig) → Buf (Elt Bits) ℓ) : Prop :=
  True

def Pre_FfnoutKernelIdeal (m : (ℓ : Loc Cert.FfnoutKernelIdeal.nD Cert.FfnoutKernelIdeal.τ Cert.FfnoutKernelIdeal.sig) → Buf (Elt Ideal) ℓ) : Prop :=
  True

def Pre_FfnoutReferenceIdeal (m : (ℓ : Loc Cert.FfnoutReferenceIdeal.nD Cert.FfnoutReferenceIdeal.τ Cert.FfnoutReferenceIdeal.sig) → Buf (Elt Ideal) ℓ) : Prop :=
  True

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_DwdownKernel [hDwdownKernel : Cert.DwdownKernel.Facts] : Prop :=
  ∀ (m : (ℓ : Loc Cert.DwdownKernel.nD Cert.DwdownKernel.τ Cert.DwdownKernel.sig) → Buf (Elt Bits) ℓ) (g : Dev Cert.DwdownKernel.nD → PrngReg), Pre_DwdownKernel m →
    θ_run (Cert.DwdownKernel.defs (F := Bits)) (onTc (τ := Cert.DwdownKernel.τ) (Cert.DwdownKernel.main (F := Bits))) ⟨m, fun _ => 0, g⟩ (fun r => (∀ c : Dev Cert.DwdownKernel.nD,
      r.2.mem ((c.tc : Thread Cert.DwdownKernel.nD Cert.DwdownKernel.τ).loc Cert.DwdownKernel.main_arg0) = m ((c.tc : Thread Cert.DwdownKernel.nD Cert.DwdownKernel.τ).loc Cert.DwdownKernel.main_arg0)
      ∧ r.2.mem ((c.tc : Thread Cert.DwdownKernel.nD Cert.DwdownKernel.τ).loc Cert.DwdownKernel.main_arg1) = m ((c.tc : Thread Cert.DwdownKernel.nD Cert.DwdownKernel.τ).loc Cert.DwdownKernel.main_arg1))
      ∧ r.2.sem = fun _ => 0)

def quiescent_DwdownKernelIdeal [hDwdownKernelIdeal : Cert.DwdownKernelIdeal.Facts] : Prop :=
  ∀ (m : (ℓ : Loc Cert.DwdownKernelIdeal.nD Cert.DwdownKernelIdeal.τ Cert.DwdownKernelIdeal.sig) → Buf (Elt Ideal) ℓ) (g : Dev Cert.DwdownKernelIdeal.nD → PrngReg), Pre_DwdownKernelIdeal m →
    θ_run (Cert.DwdownKernelIdeal.defs (F := Ideal)) (onTc (τ := Cert.DwdownKernelIdeal.τ) (Cert.DwdownKernelIdeal.main (F := Ideal))) ⟨m, fun _ => 0, g⟩ (fun r => (∀ c : Dev Cert.DwdownKernelIdeal.nD,
      r.2.mem ((c.tc : Thread Cert.DwdownKernelIdeal.nD Cert.DwdownKernelIdeal.τ).loc Cert.DwdownKernelIdeal.main_arg0) = m ((c.tc : Thread Cert.DwdownKernelIdeal.nD Cert.DwdownKernelIdeal.τ).loc Cert.DwdownKernelIdeal.main_arg0)
      ∧ r.2.mem ((c.tc : Thread Cert.DwdownKernelIdeal.nD Cert.DwdownKernelIdeal.τ).loc Cert.DwdownKernelIdeal.main_arg1) = m ((c.tc : Thread Cert.DwdownKernelIdeal.nD Cert.DwdownKernelIdeal.τ).loc Cert.DwdownKernelIdeal.main_arg1))
      ∧ r.2.sem = fun _ => 0)

def quiescent_DwdownReferenceIdeal [hDwdownReferenceIdeal : Cert.DwdownReferenceIdeal.Facts] : Prop :=
  ∀ (m : (ℓ : Loc Cert.DwdownReferenceIdeal.nD Cert.DwdownReferenceIdeal.τ Cert.DwdownReferenceIdeal.sig) → Buf (Elt Ideal) ℓ) (g : Dev Cert.DwdownReferenceIdeal.nD → PrngReg), Pre_DwdownReferenceIdeal m →
    θ_run (Cert.DwdownReferenceIdeal.defs (F := Ideal)) (onTc (τ := Cert.DwdownReferenceIdeal.τ) (Cert.DwdownReferenceIdeal.main (F := Ideal))) ⟨m, fun _ => 0, g⟩ (fun r => (∀ c : Dev Cert.DwdownReferenceIdeal.nD,
      r.2.mem ((c.tc : Thread Cert.DwdownReferenceIdeal.nD Cert.DwdownReferenceIdeal.τ).loc Cert.DwdownReferenceIdeal.main_arg0) = m ((c.tc : Thread Cert.DwdownReferenceIdeal.nD Cert.DwdownReferenceIdeal.τ).loc Cert.DwdownReferenceIdeal.main_arg0)
      ∧ r.2.mem ((c.tc : Thread Cert.DwdownReferenceIdeal.nD Cert.DwdownReferenceIdeal.τ).loc Cert.DwdownReferenceIdeal.main_arg1) = m ((c.tc : Thread Cert.DwdownReferenceIdeal.nD Cert.DwdownReferenceIdeal.τ).loc Cert.DwdownReferenceIdeal.main_arg1))
      ∧ r.2.sem = fun _ => 0)

def quiescent_DwgateKernel [hDwgateKernel : Cert.DwgateKernel.Facts] : Prop :=
  ∀ (m : (ℓ : Loc Cert.DwgateKernel.nD Cert.DwgateKernel.τ Cert.DwgateKernel.sig) → Buf (Elt Bits) ℓ) (g : Dev Cert.DwgateKernel.nD → PrngReg), Pre_DwgateKernel m →
    θ_run (Cert.DwgateKernel.defs (F := Bits)) (onTc (τ := Cert.DwgateKernel.τ) (Cert.DwgateKernel.main (F := Bits))) ⟨m, fun _ => 0, g⟩ (fun r => (∀ c : Dev Cert.DwgateKernel.nD,
      r.2.mem ((c.tc : Thread Cert.DwgateKernel.nD Cert.DwgateKernel.τ).loc Cert.DwgateKernel.main_arg0) = m ((c.tc : Thread Cert.DwgateKernel.nD Cert.DwgateKernel.τ).loc Cert.DwgateKernel.main_arg0)
      ∧ r.2.mem ((c.tc : Thread Cert.DwgateKernel.nD Cert.DwgateKernel.τ).loc Cert.DwgateKernel.main_arg1) = m ((c.tc : Thread Cert.DwgateKernel.nD Cert.DwgateKernel.τ).loc Cert.DwgateKernel.main_arg1))
      ∧ r.2.sem = fun _ => 0)

def quiescent_DwgateKernelIdeal [hDwgateKernelIdeal : Cert.DwgateKernelIdeal.Facts] : Prop :=
  ∀ (m : (ℓ : Loc Cert.DwgateKernelIdeal.nD Cert.DwgateKernelIdeal.τ Cert.DwgateKernelIdeal.sig) → Buf (Elt Ideal) ℓ) (g : Dev Cert.DwgateKernelIdeal.nD → PrngReg), Pre_DwgateKernelIdeal m →
    θ_run (Cert.DwgateKernelIdeal.defs (F := Ideal)) (onTc (τ := Cert.DwgateKernelIdeal.τ) (Cert.DwgateKernelIdeal.main (F := Ideal))) ⟨m, fun _ => 0, g⟩ (fun r => (∀ c : Dev Cert.DwgateKernelIdeal.nD,
      r.2.mem ((c.tc : Thread Cert.DwgateKernelIdeal.nD Cert.DwgateKernelIdeal.τ).loc Cert.DwgateKernelIdeal.main_arg0) = m ((c.tc : Thread Cert.DwgateKernelIdeal.nD Cert.DwgateKernelIdeal.τ).loc Cert.DwgateKernelIdeal.main_arg0)
      ∧ r.2.mem ((c.tc : Thread Cert.DwgateKernelIdeal.nD Cert.DwgateKernelIdeal.τ).loc Cert.DwgateKernelIdeal.main_arg1) = m ((c.tc : Thread Cert.DwgateKernelIdeal.nD Cert.DwgateKernelIdeal.τ).loc Cert.DwgateKernelIdeal.main_arg1))
      ∧ r.2.sem = fun _ => 0)

def quiescent_DwgateReferenceIdeal [hDwgateReferenceIdeal : Cert.DwgateReferenceIdeal.Facts] : Prop :=
  ∀ (m : (ℓ : Loc Cert.DwgateReferenceIdeal.nD Cert.DwgateReferenceIdeal.τ Cert.DwgateReferenceIdeal.sig) → Buf (Elt Ideal) ℓ) (g : Dev Cert.DwgateReferenceIdeal.nD → PrngReg), Pre_DwgateReferenceIdeal m →
    θ_run (Cert.DwgateReferenceIdeal.defs (F := Ideal)) (onTc (τ := Cert.DwgateReferenceIdeal.τ) (Cert.DwgateReferenceIdeal.main (F := Ideal))) ⟨m, fun _ => 0, g⟩ (fun r => (∀ c : Dev Cert.DwgateReferenceIdeal.nD,
      r.2.mem ((c.tc : Thread Cert.DwgateReferenceIdeal.nD Cert.DwgateReferenceIdeal.τ).loc Cert.DwgateReferenceIdeal.main_arg0) = m ((c.tc : Thread Cert.DwgateReferenceIdeal.nD Cert.DwgateReferenceIdeal.τ).loc Cert.DwgateReferenceIdeal.main_arg0)
      ∧ r.2.mem ((c.tc : Thread Cert.DwgateReferenceIdeal.nD Cert.DwgateReferenceIdeal.τ).loc Cert.DwgateReferenceIdeal.main_arg1) = m ((c.tc : Thread Cert.DwgateReferenceIdeal.nD Cert.DwgateReferenceIdeal.τ).loc Cert.DwgateReferenceIdeal.main_arg1))
      ∧ r.2.sem = fun _ => 0)

def quiescent_DuKernel [hDuKernel : Cert.DuKernel.Facts] : Prop :=
  ∀ (m : (ℓ : Loc Cert.DuKernel.nD Cert.DuKernel.τ Cert.DuKernel.sig) → Buf (Elt Bits) ℓ) (g : Dev Cert.DuKernel.nD → PrngReg), Pre_DuKernel m →
    θ_run (Cert.DuKernel.defs (F := Bits)) (onTc (τ := Cert.DuKernel.τ) (Cert.DuKernel.main (F := Bits))) ⟨m, fun _ => 0, g⟩ (fun r => (∀ c : Dev Cert.DuKernel.nD,
      r.2.mem ((c.tc : Thread Cert.DuKernel.nD Cert.DuKernel.τ).loc Cert.DuKernel.main_arg0) = m ((c.tc : Thread Cert.DuKernel.nD Cert.DuKernel.τ).loc Cert.DuKernel.main_arg0)
      ∧ r.2.mem ((c.tc : Thread Cert.DuKernel.nD Cert.DuKernel.τ).loc Cert.DuKernel.main_arg1) = m ((c.tc : Thread Cert.DuKernel.nD Cert.DuKernel.τ).loc Cert.DuKernel.main_arg1))
      ∧ r.2.sem = fun _ => 0)

def quiescent_DuKernelIdeal [hDuKernelIdeal : Cert.DuKernelIdeal.Facts] : Prop :=
  ∀ (m : (ℓ : Loc Cert.DuKernelIdeal.nD Cert.DuKernelIdeal.τ Cert.DuKernelIdeal.sig) → Buf (Elt Ideal) ℓ) (g : Dev Cert.DuKernelIdeal.nD → PrngReg), Pre_DuKernelIdeal m →
    θ_run (Cert.DuKernelIdeal.defs (F := Ideal)) (onTc (τ := Cert.DuKernelIdeal.τ) (Cert.DuKernelIdeal.main (F := Ideal))) ⟨m, fun _ => 0, g⟩ (fun r => (∀ c : Dev Cert.DuKernelIdeal.nD,
      r.2.mem ((c.tc : Thread Cert.DuKernelIdeal.nD Cert.DuKernelIdeal.τ).loc Cert.DuKernelIdeal.main_arg0) = m ((c.tc : Thread Cert.DuKernelIdeal.nD Cert.DuKernelIdeal.τ).loc Cert.DuKernelIdeal.main_arg0)
      ∧ r.2.mem ((c.tc : Thread Cert.DuKernelIdeal.nD Cert.DuKernelIdeal.τ).loc Cert.DuKernelIdeal.main_arg1) = m ((c.tc : Thread Cert.DuKernelIdeal.nD Cert.DuKernelIdeal.τ).loc Cert.DuKernelIdeal.main_arg1))
      ∧ r.2.sem = fun _ => 0)

def quiescent_DuReferenceIdeal [hDuReferenceIdeal : Cert.DuReferenceIdeal.Facts] : Prop :=
  ∀ (m : (ℓ : Loc Cert.DuReferenceIdeal.nD Cert.DuReferenceIdeal.τ Cert.DuReferenceIdeal.sig) → Buf (Elt Ideal) ℓ) (g : Dev Cert.DuReferenceIdeal.nD → PrngReg), Pre_DuReferenceIdeal m →
    θ_run (Cert.DuReferenceIdeal.defs (F := Ideal)) (onTc (τ := Cert.DuReferenceIdeal.τ) (Cert.DuReferenceIdeal.main (F := Ideal))) ⟨m, fun _ => 0, g⟩ (fun r => (∀ c : Dev Cert.DuReferenceIdeal.nD,
      r.2.mem ((c.tc : Thread Cert.DuReferenceIdeal.nD Cert.DuReferenceIdeal.τ).loc Cert.DuReferenceIdeal.main_arg0) = m ((c.tc : Thread Cert.DuReferenceIdeal.nD Cert.DuReferenceIdeal.τ).loc Cert.DuReferenceIdeal.main_arg0)
      ∧ r.2.mem ((c.tc : Thread Cert.DuReferenceIdeal.nD Cert.DuReferenceIdeal.τ).loc Cert.DuReferenceIdeal.main_arg1) = m ((c.tc : Thread Cert.DuReferenceIdeal.nD Cert.DuReferenceIdeal.τ).loc Cert.DuReferenceIdeal.main_arg1))
      ∧ r.2.sem = fun _ => 0)

def quiescent_DuupKernel [hDuupKernel : Cert.DuupKernel.Facts] : Prop :=
  ∀ (m : (ℓ : Loc Cert.DuupKernel.nD Cert.DuupKernel.τ Cert.DuupKernel.sig) → Buf (Elt Bits) ℓ) (g : Dev Cert.DuupKernel.nD → PrngReg), Pre_DuupKernel m →
    θ_run (Cert.DuupKernel.defs (F := Bits)) (onTc (τ := Cert.DuupKernel.τ) (Cert.DuupKernel.main (F := Bits))) ⟨m, fun _ => 0, g⟩ (fun r => (∀ c : Dev Cert.DuupKernel.nD,
      r.2.mem ((c.tc : Thread Cert.DuupKernel.nD Cert.DuupKernel.τ).loc Cert.DuupKernel.main_arg0) = m ((c.tc : Thread Cert.DuupKernel.nD Cert.DuupKernel.τ).loc Cert.DuupKernel.main_arg0)
      ∧ r.2.mem ((c.tc : Thread Cert.DuupKernel.nD Cert.DuupKernel.τ).loc Cert.DuupKernel.main_arg1) = m ((c.tc : Thread Cert.DuupKernel.nD Cert.DuupKernel.τ).loc Cert.DuupKernel.main_arg1)
      ∧ r.2.mem ((c.tc : Thread Cert.DuupKernel.nD Cert.DuupKernel.τ).loc Cert.DuupKernel.main_arg2) = m ((c.tc : Thread Cert.DuupKernel.nD Cert.DuupKernel.τ).loc Cert.DuupKernel.main_arg2))
      ∧ r.2.sem = fun _ => 0)

def quiescent_DuupKernelIdeal [hDuupKernelIdeal : Cert.DuupKernelIdeal.Facts] : Prop :=
  ∀ (m : (ℓ : Loc Cert.DuupKernelIdeal.nD Cert.DuupKernelIdeal.τ Cert.DuupKernelIdeal.sig) → Buf (Elt Ideal) ℓ) (g : Dev Cert.DuupKernelIdeal.nD → PrngReg), Pre_DuupKernelIdeal m →
    θ_run (Cert.DuupKernelIdeal.defs (F := Ideal)) (onTc (τ := Cert.DuupKernelIdeal.τ) (Cert.DuupKernelIdeal.main (F := Ideal))) ⟨m, fun _ => 0, g⟩ (fun r => (∀ c : Dev Cert.DuupKernelIdeal.nD,
      r.2.mem ((c.tc : Thread Cert.DuupKernelIdeal.nD Cert.DuupKernelIdeal.τ).loc Cert.DuupKernelIdeal.main_arg0) = m ((c.tc : Thread Cert.DuupKernelIdeal.nD Cert.DuupKernelIdeal.τ).loc Cert.DuupKernelIdeal.main_arg0)
      ∧ r.2.mem ((c.tc : Thread Cert.DuupKernelIdeal.nD Cert.DuupKernelIdeal.τ).loc Cert.DuupKernelIdeal.main_arg1) = m ((c.tc : Thread Cert.DuupKernelIdeal.nD Cert.DuupKernelIdeal.τ).loc Cert.DuupKernelIdeal.main_arg1)
      ∧ r.2.mem ((c.tc : Thread Cert.DuupKernelIdeal.nD Cert.DuupKernelIdeal.τ).loc Cert.DuupKernelIdeal.main_arg2) = m ((c.tc : Thread Cert.DuupKernelIdeal.nD Cert.DuupKernelIdeal.τ).loc Cert.DuupKernelIdeal.main_arg2))
      ∧ r.2.sem = fun _ => 0)

def quiescent_DuupReferenceIdeal [hDuupReferenceIdeal : Cert.DuupReferenceIdeal.Facts] : Prop :=
  ∀ (m : (ℓ : Loc Cert.DuupReferenceIdeal.nD Cert.DuupReferenceIdeal.τ Cert.DuupReferenceIdeal.sig) → Buf (Elt Ideal) ℓ) (g : Dev Cert.DuupReferenceIdeal.nD → PrngReg), Pre_DuupReferenceIdeal m →
    θ_run (Cert.DuupReferenceIdeal.defs (F := Ideal)) (onTc (τ := Cert.DuupReferenceIdeal.τ) (Cert.DuupReferenceIdeal.main (F := Ideal))) ⟨m, fun _ => 0, g⟩ (fun r => (∀ c : Dev Cert.DuupReferenceIdeal.nD,
      r.2.mem ((c.tc : Thread Cert.DuupReferenceIdeal.nD Cert.DuupReferenceIdeal.τ).loc Cert.DuupReferenceIdeal.main_arg0) = m ((c.tc : Thread Cert.DuupReferenceIdeal.nD Cert.DuupReferenceIdeal.τ).loc Cert.DuupReferenceIdeal.main_arg0)
      ∧ r.2.mem ((c.tc : Thread Cert.DuupReferenceIdeal.nD Cert.DuupReferenceIdeal.τ).loc Cert.DuupReferenceIdeal.main_arg1) = m ((c.tc : Thread Cert.DuupReferenceIdeal.nD Cert.DuupReferenceIdeal.τ).loc Cert.DuupReferenceIdeal.main_arg1)
      ∧ r.2.mem ((c.tc : Thread Cert.DuupReferenceIdeal.nD Cert.DuupReferenceIdeal.τ).loc Cert.DuupReferenceIdeal.main_arg2) = m ((c.tc : Thread Cert.DuupReferenceIdeal.nD Cert.DuupReferenceIdeal.τ).loc Cert.DuupReferenceIdeal.main_arg2))
      ∧ r.2.sem = fun _ => 0)

def quiescent_FfninKernel [hFfninKernel : Cert.FfninKernel.Facts] : Prop :=
  ∀ (m : (ℓ : Loc Cert.FfninKernel.nD Cert.FfninKernel.τ Cert.FfninKernel.sig) → Buf (Elt Bits) ℓ) (g : Dev Cert.FfninKernel.nD → PrngReg), Pre_FfninKernel m →
    θ_run (Cert.FfninKernel.defs (F := Bits)) (onTc (τ := Cert.FfninKernel.τ) (Cert.FfninKernel.main (F := Bits))) ⟨m, fun _ => 0, g⟩ (fun r => (∀ c : Dev Cert.FfninKernel.nD,
      r.2.mem ((c.tc : Thread Cert.FfninKernel.nD Cert.FfninKernel.τ).loc Cert.FfninKernel.main_arg0) = m ((c.tc : Thread Cert.FfninKernel.nD Cert.FfninKernel.τ).loc Cert.FfninKernel.main_arg0)
      ∧ r.2.mem ((c.tc : Thread Cert.FfninKernel.nD Cert.FfninKernel.τ).loc Cert.FfninKernel.main_arg1) = m ((c.tc : Thread Cert.FfninKernel.nD Cert.FfninKernel.τ).loc Cert.FfninKernel.main_arg1)
      ∧ r.2.mem ((c.tc : Thread Cert.FfninKernel.nD Cert.FfninKernel.τ).loc Cert.FfninKernel.main_arg2) = m ((c.tc : Thread Cert.FfninKernel.nD Cert.FfninKernel.τ).loc Cert.FfninKernel.main_arg2))
      ∧ r.2.sem = fun _ => 0)

def quiescent_FfninKernelIdeal [hFfninKernelIdeal : Cert.FfninKernelIdeal.Facts] : Prop :=
  ∀ (m : (ℓ : Loc Cert.FfninKernelIdeal.nD Cert.FfninKernelIdeal.τ Cert.FfninKernelIdeal.sig) → Buf (Elt Ideal) ℓ) (g : Dev Cert.FfninKernelIdeal.nD → PrngReg), Pre_FfninKernelIdeal m →
    θ_run (Cert.FfninKernelIdeal.defs (F := Ideal)) (onTc (τ := Cert.FfninKernelIdeal.τ) (Cert.FfninKernelIdeal.main (F := Ideal))) ⟨m, fun _ => 0, g⟩ (fun r => (∀ c : Dev Cert.FfninKernelIdeal.nD,
      r.2.mem ((c.tc : Thread Cert.FfninKernelIdeal.nD Cert.FfninKernelIdeal.τ).loc Cert.FfninKernelIdeal.main_arg0) = m ((c.tc : Thread Cert.FfninKernelIdeal.nD Cert.FfninKernelIdeal.τ).loc Cert.FfninKernelIdeal.main_arg0)
      ∧ r.2.mem ((c.tc : Thread Cert.FfninKernelIdeal.nD Cert.FfninKernelIdeal.τ).loc Cert.FfninKernelIdeal.main_arg1) = m ((c.tc : Thread Cert.FfninKernelIdeal.nD Cert.FfninKernelIdeal.τ).loc Cert.FfninKernelIdeal.main_arg1)
      ∧ r.2.mem ((c.tc : Thread Cert.FfninKernelIdeal.nD Cert.FfninKernelIdeal.τ).loc Cert.FfninKernelIdeal.main_arg2) = m ((c.tc : Thread Cert.FfninKernelIdeal.nD Cert.FfninKernelIdeal.τ).loc Cert.FfninKernelIdeal.main_arg2))
      ∧ r.2.sem = fun _ => 0)

def quiescent_FfninReferenceIdeal [hFfninReferenceIdeal : Cert.FfninReferenceIdeal.Facts] : Prop :=
  ∀ (m : (ℓ : Loc Cert.FfninReferenceIdeal.nD Cert.FfninReferenceIdeal.τ Cert.FfninReferenceIdeal.sig) → Buf (Elt Ideal) ℓ) (g : Dev Cert.FfninReferenceIdeal.nD → PrngReg), Pre_FfninReferenceIdeal m →
    θ_run (Cert.FfninReferenceIdeal.defs (F := Ideal)) (onTc (τ := Cert.FfninReferenceIdeal.τ) (Cert.FfninReferenceIdeal.main (F := Ideal))) ⟨m, fun _ => 0, g⟩ (fun r => (∀ c : Dev Cert.FfninReferenceIdeal.nD,
      r.2.mem ((c.tc : Thread Cert.FfninReferenceIdeal.nD Cert.FfninReferenceIdeal.τ).loc Cert.FfninReferenceIdeal.main_arg0) = m ((c.tc : Thread Cert.FfninReferenceIdeal.nD Cert.FfninReferenceIdeal.τ).loc Cert.FfninReferenceIdeal.main_arg0)
      ∧ r.2.mem ((c.tc : Thread Cert.FfninReferenceIdeal.nD Cert.FfninReferenceIdeal.τ).loc Cert.FfninReferenceIdeal.main_arg1) = m ((c.tc : Thread Cert.FfninReferenceIdeal.nD Cert.FfninReferenceIdeal.τ).loc Cert.FfninReferenceIdeal.main_arg1)
      ∧ r.2.mem ((c.tc : Thread Cert.FfninReferenceIdeal.nD Cert.FfninReferenceIdeal.τ).loc Cert.FfninReferenceIdeal.main_arg2) = m ((c.tc : Thread Cert.FfninReferenceIdeal.nD Cert.FfninReferenceIdeal.τ).loc Cert.FfninReferenceIdeal.main_arg2))
      ∧ r.2.sem = fun _ => 0)

def quiescent_FfnoutKernel [hFfnoutKernel : Cert.FfnoutKernel.Facts] : Prop :=
  ∀ (m : (ℓ : Loc Cert.FfnoutKernel.nD Cert.FfnoutKernel.τ Cert.FfnoutKernel.sig) → Buf (Elt Bits) ℓ) (g : Dev Cert.FfnoutKernel.nD → PrngReg), Pre_FfnoutKernel m →
    θ_run (Cert.FfnoutKernel.defs (F := Bits)) (onTc (τ := Cert.FfnoutKernel.τ) (Cert.FfnoutKernel.main (F := Bits))) ⟨m, fun _ => 0, g⟩ (fun r => (∀ c : Dev Cert.FfnoutKernel.nD,
      r.2.mem ((c.tc : Thread Cert.FfnoutKernel.nD Cert.FfnoutKernel.τ).loc Cert.FfnoutKernel.main_arg0) = m ((c.tc : Thread Cert.FfnoutKernel.nD Cert.FfnoutKernel.τ).loc Cert.FfnoutKernel.main_arg0)
      ∧ r.2.mem ((c.tc : Thread Cert.FfnoutKernel.nD Cert.FfnoutKernel.τ).loc Cert.FfnoutKernel.main_arg1) = m ((c.tc : Thread Cert.FfnoutKernel.nD Cert.FfnoutKernel.τ).loc Cert.FfnoutKernel.main_arg1))
      ∧ r.2.sem = fun _ => 0)

def quiescent_FfnoutKernelIdeal [hFfnoutKernelIdeal : Cert.FfnoutKernelIdeal.Facts] : Prop :=
  ∀ (m : (ℓ : Loc Cert.FfnoutKernelIdeal.nD Cert.FfnoutKernelIdeal.τ Cert.FfnoutKernelIdeal.sig) → Buf (Elt Ideal) ℓ) (g : Dev Cert.FfnoutKernelIdeal.nD → PrngReg), Pre_FfnoutKernelIdeal m →
    θ_run (Cert.FfnoutKernelIdeal.defs (F := Ideal)) (onTc (τ := Cert.FfnoutKernelIdeal.τ) (Cert.FfnoutKernelIdeal.main (F := Ideal))) ⟨m, fun _ => 0, g⟩ (fun r => (∀ c : Dev Cert.FfnoutKernelIdeal.nD,
      r.2.mem ((c.tc : Thread Cert.FfnoutKernelIdeal.nD Cert.FfnoutKernelIdeal.τ).loc Cert.FfnoutKernelIdeal.main_arg0) = m ((c.tc : Thread Cert.FfnoutKernelIdeal.nD Cert.FfnoutKernelIdeal.τ).loc Cert.FfnoutKernelIdeal.main_arg0)
      ∧ r.2.mem ((c.tc : Thread Cert.FfnoutKernelIdeal.nD Cert.FfnoutKernelIdeal.τ).loc Cert.FfnoutKernelIdeal.main_arg1) = m ((c.tc : Thread Cert.FfnoutKernelIdeal.nD Cert.FfnoutKernelIdeal.τ).loc Cert.FfnoutKernelIdeal.main_arg1))
      ∧ r.2.sem = fun _ => 0)

def quiescent_FfnoutReferenceIdeal [hFfnoutReferenceIdeal : Cert.FfnoutReferenceIdeal.Facts] : Prop :=
  ∀ (m : (ℓ : Loc Cert.FfnoutReferenceIdeal.nD Cert.FfnoutReferenceIdeal.τ Cert.FfnoutReferenceIdeal.sig) → Buf (Elt Ideal) ℓ) (g : Dev Cert.FfnoutReferenceIdeal.nD → PrngReg), Pre_FfnoutReferenceIdeal m →
    θ_run (Cert.FfnoutReferenceIdeal.defs (F := Ideal)) (onTc (τ := Cert.FfnoutReferenceIdeal.τ) (Cert.FfnoutReferenceIdeal.main (F := Ideal))) ⟨m, fun _ => 0, g⟩ (fun r => (∀ c : Dev Cert.FfnoutReferenceIdeal.nD,
      r.2.mem ((c.tc : Thread Cert.FfnoutReferenceIdeal.nD Cert.FfnoutReferenceIdeal.τ).loc Cert.FfnoutReferenceIdeal.main_arg0) = m ((c.tc : Thread Cert.FfnoutReferenceIdeal.nD Cert.FfnoutReferenceIdeal.τ).loc Cert.FfnoutReferenceIdeal.main_arg0)
      ∧ r.2.mem ((c.tc : Thread Cert.FfnoutReferenceIdeal.nD Cert.FfnoutReferenceIdeal.τ).loc Cert.FfnoutReferenceIdeal.main_arg1) = m ((c.tc : Thread Cert.FfnoutReferenceIdeal.nD Cert.FfnoutReferenceIdeal.τ).loc Cert.FfnoutReferenceIdeal.main_arg1))
      ∧ r.2.sem = fun _ => 0)

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v5_0)) (v1 : (c : Dev Cert.ConvKernelIdeal.nD) → Buf (Elt Ideal) ((c.tc : Thread Cert.ConvKernelIdeal.nD Cert.ConvKernelIdeal.τ).loc Cert.ConvKernelIdeal.main_v5_1)) (v2 : (c : Dev Cert.ConvKernelIdeal.nD) → Buf (Elt Ideal) ((c.tc : Thread Cert.ConvKernelIdeal.nD Cert.ConvKernelIdeal.τ).loc Cert.ConvKernelIdeal.main_v5_2)) (v3 : (c : Dev Cert.ConvKernelIdeal.nD) → Buf (Elt Ideal) ((c.tc : Thread Cert.ConvKernelIdeal.nD Cert.ConvKernelIdeal.τ).loc Cert.ConvKernelIdeal.main_v5_3)) (v4 : (c : Dev Cert.ConvKernelIdeal.nD) → Buf (Elt Ideal) ((c.tc : Thread Cert.ConvKernelIdeal.nD Cert.ConvKernelIdeal.τ).loc Cert.ConvKernelIdeal.main_v5_4)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v5_0) = v0 c
          ∧ r.2.mem ((c.tc : Thread Cert.ConvKernelIdeal.nD Cert.ConvKernelIdeal.τ).loc Cert.ConvKernelIdeal.main_v5_1) = v1 c
          ∧ r.2.mem ((c.tc : Thread Cert.ConvKernelIdeal.nD Cert.ConvKernelIdeal.τ).loc Cert.ConvKernelIdeal.main_v5_2) = v2 c
          ∧ r.2.mem ((c.tc : Thread Cert.ConvKernelIdeal.nD Cert.ConvKernelIdeal.τ).loc Cert.ConvKernelIdeal.main_v5_3) = v3 c
          ∧ r.2.mem ((c.tc : Thread Cert.ConvKernelIdeal.nD Cert.ConvKernelIdeal.τ).loc Cert.ConvKernelIdeal.main_v5_4) = v4 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v75) = v0 c
          ∧ r.2.mem ((c.tc : Thread Cert.ConvReferenceIdeal.nD Cert.ConvReferenceIdeal.τ).loc Cert.ConvReferenceIdeal.main_v76) = v1 c
          ∧ r.2.mem ((c.tc : Thread Cert.ConvReferenceIdeal.nD Cert.ConvReferenceIdeal.τ).loc Cert.ConvReferenceIdeal.main_v77) = v2 c
          ∧ r.2.mem ((c.tc : Thread Cert.ConvReferenceIdeal.nD Cert.ConvReferenceIdeal.τ).loc Cert.ConvReferenceIdeal.main_v70) = v3 c
          ∧ r.2.mem ((c.tc : Thread Cert.ConvReferenceIdeal.nD Cert.ConvReferenceIdeal.τ).loc Cert.ConvReferenceIdeal.main_v78) = v4 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v7_0)) (v1 : (c : Dev Cert.GateKernelIdeal.nD) → Buf (Elt Ideal) ((c.tc : Thread Cert.GateKernelIdeal.nD Cert.GateKernelIdeal.τ).loc Cert.GateKernelIdeal.main_v7_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v7_0) = v0 c
          ∧ r.2.mem ((c.tc : Thread Cert.GateKernelIdeal.nD Cert.GateKernelIdeal.τ).loc Cert.GateKernelIdeal.main_v7_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v11) = v0 c
          ∧ r.2.mem ((c.tc : Thread Cert.GateReferenceIdeal.nD Cert.GateReferenceIdeal.τ).loc Cert.GateReferenceIdeal.main_v13) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_AttnKernel_AttnKernelIdeal : Prop :=
  IdealRules.named_const.Statement Cert.AttnKernelIdeal.κ "mask" .f32 0xF149F2CA#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)) →
    ∃ (v0 : (c : Dev Cert.AttnKernelIdeal.nD) → Buf (Elt Ideal) ((c.tc : Thread Cert.AttnKernelIdeal.nD Cert.AttnKernelIdeal.τ).loc Cert.AttnKernelIdeal.main_v53_0)) (v1 : (c : Dev Cert.AttnKernelIdeal.nD) → Buf (Elt Ideal) ((c.tc : Thread Cert.AttnKernelIdeal.nD Cert.AttnKernelIdeal.τ).loc Cert.AttnKernelIdeal.main_v53_1)) (v2 : (c : Dev Cert.AttnKernelIdeal.nD) → Buf (Elt Ideal) ((c.tc : Thread Cert.AttnKernelIdeal.nD Cert.AttnKernelIdeal.τ).loc Cert.AttnKernelIdeal.main_v53_2)) (v3 : (c : Dev Cert.AttnKernelIdeal.nD) → Buf (Elt Ideal) ((c.tc : Thread Cert.AttnKernelIdeal.nD Cert.AttnKernelIdeal.τ).loc Cert.AttnKernelIdeal.main_v53_3)) (v4 : (c : Dev Cert.AttnKernelIdeal.nD) → Buf (Elt Ideal) ((c.tc : Thread Cert.AttnKernelIdeal.nD Cert.AttnKernelIdeal.τ).loc Cert.AttnKernelIdeal.main_v53_4)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v53_0) = v0 c
          ∧ r.2.mem ((c.tc : Thread Cert.AttnKernelIdeal.nD Cert.AttnKernelIdeal.τ).loc Cert.AttnKernelIdeal.main_v53_1) = v1 c
          ∧ r.2.mem ((c.tc : Thread Cert.AttnKernelIdeal.nD Cert.AttnKernelIdeal.τ).loc Cert.AttnKernelIdeal.main_v53_2) = v2 c
          ∧ r.2.mem ((c.tc : Thread Cert.AttnKernelIdeal.nD Cert.AttnKernelIdeal.τ).loc Cert.AttnKernelIdeal.main_v53_3) = v3 c
          ∧ r.2.mem ((c.tc : Thread Cert.AttnKernelIdeal.nD Cert.AttnKernelIdeal.τ).loc Cert.AttnKernelIdeal.main_v53_4) = v4 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v91) = v0 c
          ∧ r.2.mem ((c.tc : Thread Cert.AttnReferenceIdeal.nD Cert.AttnReferenceIdeal.τ).loc Cert.AttnReferenceIdeal.main_v93) = v1 c
          ∧ r.2.mem ((c.tc : Thread Cert.AttnReferenceIdeal.nD Cert.AttnReferenceIdeal.τ).loc Cert.AttnReferenceIdeal.main_v95) = v2 c
          ∧ r.2.mem ((c.tc : Thread Cert.AttnReferenceIdeal.nD Cert.AttnReferenceIdeal.τ).loc Cert.AttnReferenceIdeal.main_v97) = v3 c
          ∧ r.2.mem ((c.tc : Thread Cert.AttnReferenceIdeal.nD Cert.AttnReferenceIdeal.τ).loc Cert.AttnReferenceIdeal.main_v99) = v4 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_DwdownKernel_DwdownKernelIdeal : Prop :=
  True

def algebraic_DwdownKernelIdeal_DwdownReferenceIdeal [hDwdownKernelIdeal : Cert.DwdownKernelIdeal.Facts] [hDwdownReferenceIdeal : Cert.DwdownReferenceIdeal.Facts] : Prop :=
  ∀ (m : (ℓ : Loc Cert.DwdownKernelIdeal.nD Cert.DwdownKernelIdeal.τ Cert.DwdownKernelIdeal.sig) → Buf (Elt Ideal) ℓ) (g : Dev Cert.DwdownKernelIdeal.nD → PrngReg)
    (m' : (ℓ : Loc Cert.DwdownReferenceIdeal.nD Cert.DwdownReferenceIdeal.τ Cert.DwdownReferenceIdeal.sig) → Buf (Elt Ideal) ℓ) (g' : Dev Cert.DwdownReferenceIdeal.nD → PrngReg), Pre_DwdownKernelIdeal m →
    (∀ c : Dev Cert.DwdownKernelIdeal.nD,
      m' ((c.tc : Thread Cert.DwdownReferenceIdeal.nD Cert.DwdownReferenceIdeal.τ).loc Cert.DwdownReferenceIdeal.main_arg0) = m ((c.tc : Thread Cert.DwdownKernelIdeal.nD Cert.DwdownKernelIdeal.τ).loc Cert.DwdownKernelIdeal.main_arg0)
      ∧ m' ((c.tc : Thread Cert.DwdownReferenceIdeal.nD Cert.DwdownReferenceIdeal.τ).loc Cert.DwdownReferenceIdeal.main_arg1) = m ((c.tc : Thread Cert.DwdownKernelIdeal.nD Cert.DwdownKernelIdeal.τ).loc Cert.DwdownKernelIdeal.main_arg1)) →
    ∃ (v0 : (c : Dev Cert.DwdownKernelIdeal.nD) → Buf (Elt Ideal) ((c.tc : Thread Cert.DwdownKernelIdeal.nD Cert.DwdownKernelIdeal.τ).loc Cert.DwdownKernelIdeal.main_v0)),
      θ_run (Cert.DwdownKernelIdeal.defs (F := Ideal)) (onTc (τ := Cert.DwdownKernelIdeal.τ) (Cert.DwdownKernelIdeal.main (F := Ideal))) ⟨m, fun _ => 0, g⟩ (fun r => ∀ c : Dev Cert.DwdownKernelIdeal.nD,
          r.2.mem ((c.tc : Thread Cert.DwdownKernelIdeal.nD Cert.DwdownKernelIdeal.τ).loc Cert.DwdownKernelIdeal.main_v0) = v0 c
          ∧ r.2.mem ((c.tc : Thread Cert.DwdownKernelIdeal.nD Cert.DwdownKernelIdeal.τ).loc Cert.DwdownKernelIdeal.main_arg0) = m ((c.tc : Thread Cert.DwdownKernelIdeal.nD Cert.DwdownKernelIdeal.τ).loc Cert.DwdownKernelIdeal.main_arg0)
          ∧ r.2.mem ((c.tc : Thread Cert.DwdownKernelIdeal.nD Cert.DwdownKernelIdeal.τ).loc Cert.DwdownKernelIdeal.main_arg1) = m ((c.tc : Thread Cert.DwdownKernelIdeal.nD Cert.DwdownKernelIdeal.τ).loc Cert.DwdownKernelIdeal.main_arg1))
      ∧ θ_run (Cert.DwdownReferenceIdeal.defs (F := Ideal)) (onTc (τ := Cert.DwdownReferenceIdeal.τ) (Cert.DwdownReferenceIdeal.main (F := Ideal))) ⟨m', fun _ => 0, g'⟩ (fun r => ∀ c : Dev Cert.DwdownReferenceIdeal.nD,
          r.2.mem ((c.tc : Thread Cert.DwdownReferenceIdeal.nD Cert.DwdownReferenceIdeal.τ).loc Cert.DwdownReferenceIdeal.main_v5) = v0 c
          ∧ r.2.mem ((c.tc : Thread Cert.DwdownReferenceIdeal.nD Cert.DwdownReferenceIdeal.τ).loc Cert.DwdownReferenceIdeal.main_arg0) = m' ((c.tc : Thread Cert.DwdownReferenceIdeal.nD Cert.DwdownReferenceIdeal.τ).loc Cert.DwdownReferenceIdeal.main_arg0)
          ∧ r.2.mem ((c.tc : Thread Cert.DwdownReferenceIdeal.nD Cert.DwdownReferenceIdeal.τ).loc Cert.DwdownReferenceIdeal.main_arg1) = m' ((c.tc : Thread Cert.DwdownReferenceIdeal.nD Cert.DwdownReferenceIdeal.τ).loc Cert.DwdownReferenceIdeal.main_arg1))

def preserves_DwgateKernel_DwgateKernelIdeal : Prop :=
  True

def algebraic_DwgateKernelIdeal_DwgateReferenceIdeal [hDwgateKernelIdeal : Cert.DwgateKernelIdeal.Facts] [hDwgateReferenceIdeal : Cert.DwgateReferenceIdeal.Facts] : Prop :=
  ∀ (m : (ℓ : Loc Cert.DwgateKernelIdeal.nD Cert.DwgateKernelIdeal.τ Cert.DwgateKernelIdeal.sig) → Buf (Elt Ideal) ℓ) (g : Dev Cert.DwgateKernelIdeal.nD → PrngReg)
    (m' : (ℓ : Loc Cert.DwgateReferenceIdeal.nD Cert.DwgateReferenceIdeal.τ Cert.DwgateReferenceIdeal.sig) → Buf (Elt Ideal) ℓ) (g' : Dev Cert.DwgateReferenceIdeal.nD → PrngReg), Pre_DwgateKernelIdeal m →
    (∀ c : Dev Cert.DwgateKernelIdeal.nD,
      m' ((c.tc : Thread Cert.DwgateReferenceIdeal.nD Cert.DwgateReferenceIdeal.τ).loc Cert.DwgateReferenceIdeal.main_arg0) = m ((c.tc : Thread Cert.DwgateKernelIdeal.nD Cert.DwgateKernelIdeal.τ).loc Cert.DwgateKernelIdeal.main_arg0)
      ∧ m' ((c.tc : Thread Cert.DwgateReferenceIdeal.nD Cert.DwgateReferenceIdeal.τ).loc Cert.DwgateReferenceIdeal.main_arg1) = m ((c.tc : Thread Cert.DwgateKernelIdeal.nD Cert.DwgateKernelIdeal.τ).loc Cert.DwgateKernelIdeal.main_arg1)) →
    ∃ (v0 : (c : Dev Cert.DwgateKernelIdeal.nD) → Buf (Elt Ideal) ((c.tc : Thread Cert.DwgateKernelIdeal.nD Cert.DwgateKernelIdeal.τ).loc Cert.DwgateKernelIdeal.main_v1)),
      θ_run (Cert.DwgateKernelIdeal.defs (F := Ideal)) (onTc (τ := Cert.DwgateKernelIdeal.τ) (Cert.DwgateKernelIdeal.main (F := Ideal))) ⟨m, fun _ => 0, g⟩ (fun r => ∀ c : Dev Cert.DwgateKernelIdeal.nD,
          r.2.mem ((c.tc : Thread Cert.DwgateKernelIdeal.nD Cert.DwgateKernelIdeal.τ).loc Cert.DwgateKernelIdeal.main_v1) = v0 c
          ∧ r.2.mem ((c.tc : Thread Cert.DwgateKernelIdeal.nD Cert.DwgateKernelIdeal.τ).loc Cert.DwgateKernelIdeal.main_arg0) = m ((c.tc : Thread Cert.DwgateKernelIdeal.nD Cert.DwgateKernelIdeal.τ).loc Cert.DwgateKernelIdeal.main_arg0)
          ∧ r.2.mem ((c.tc : Thread Cert.DwgateKernelIdeal.nD Cert.DwgateKernelIdeal.τ).loc Cert.DwgateKernelIdeal.main_arg1) = m ((c.tc : Thread Cert.DwgateKernelIdeal.nD Cert.DwgateKernelIdeal.τ).loc Cert.DwgateKernelIdeal.main_arg1))
      ∧ θ_run (Cert.DwgateReferenceIdeal.defs (F := Ideal)) (onTc (τ := Cert.DwgateReferenceIdeal.τ) (Cert.DwgateReferenceIdeal.main (F := Ideal))) ⟨m', fun _ => 0, g'⟩ (fun r => ∀ c : Dev Cert.DwgateReferenceIdeal.nD,
          r.2.mem ((c.tc : Thread Cert.DwgateReferenceIdeal.nD Cert.DwgateReferenceIdeal.τ).loc Cert.DwgateReferenceIdeal.main_v5) = v0 c
          ∧ r.2.mem ((c.tc : Thread Cert.DwgateReferenceIdeal.nD Cert.DwgateReferenceIdeal.τ).loc Cert.DwgateReferenceIdeal.main_arg0) = m' ((c.tc : Thread Cert.DwgateReferenceIdeal.nD Cert.DwgateReferenceIdeal.τ).loc Cert.DwgateReferenceIdeal.main_arg0)
          ∧ r.2.mem ((c.tc : Thread Cert.DwgateReferenceIdeal.nD Cert.DwgateReferenceIdeal.τ).loc Cert.DwgateReferenceIdeal.main_arg1) = m' ((c.tc : Thread Cert.DwgateReferenceIdeal.nD Cert.DwgateReferenceIdeal.τ).loc Cert.DwgateReferenceIdeal.main_arg1))

def preserves_DuKernel_DuKernelIdeal : Prop :=
  True

def algebraic_DuKernelIdeal_DuReferenceIdeal [hDuKernelIdeal : Cert.DuKernelIdeal.Facts] [hDuReferenceIdeal : Cert.DuReferenceIdeal.Facts] : Prop :=
  ∀ (m : (ℓ : Loc Cert.DuKernelIdeal.nD Cert.DuKernelIdeal.τ Cert.DuKernelIdeal.sig) → Buf (Elt Ideal) ℓ) (g : Dev Cert.DuKernelIdeal.nD → PrngReg)
    (m' : (ℓ : Loc Cert.DuReferenceIdeal.nD Cert.DuReferenceIdeal.τ Cert.DuReferenceIdeal.sig) → Buf (Elt Ideal) ℓ) (g' : Dev Cert.DuReferenceIdeal.nD → PrngReg), Pre_DuKernelIdeal m →
    (∀ c : Dev Cert.DuKernelIdeal.nD,
      m' ((c.tc : Thread Cert.DuReferenceIdeal.nD Cert.DuReferenceIdeal.τ).loc Cert.DuReferenceIdeal.main_arg0) = m ((c.tc : Thread Cert.DuKernelIdeal.nD Cert.DuKernelIdeal.τ).loc Cert.DuKernelIdeal.main_arg0)
      ∧ m' ((c.tc : Thread Cert.DuReferenceIdeal.nD Cert.DuReferenceIdeal.τ).loc Cert.DuReferenceIdeal.main_arg1) = m ((c.tc : Thread Cert.DuKernelIdeal.nD Cert.DuKernelIdeal.τ).loc Cert.DuKernelIdeal.main_arg1)) →
    ∃ (v0 : (c : Dev Cert.DuKernelIdeal.nD) → Buf (Elt Ideal) ((c.tc : Thread Cert.DuKernelIdeal.nD Cert.DuKernelIdeal.τ).loc Cert.DuKernelIdeal.main_v0)),
      θ_run (Cert.DuKernelIdeal.defs (F := Ideal)) (onTc (τ := Cert.DuKernelIdeal.τ) (Cert.DuKernelIdeal.main (F := Ideal))) ⟨m, fun _ => 0, g⟩ (fun r => ∀ c : Dev Cert.DuKernelIdeal.nD,
          r.2.mem ((c.tc : Thread Cert.DuKernelIdeal.nD Cert.DuKernelIdeal.τ).loc Cert.DuKernelIdeal.main_v0) = v0 c
          ∧ r.2.mem ((c.tc : Thread Cert.DuKernelIdeal.nD Cert.DuKernelIdeal.τ).loc Cert.DuKernelIdeal.main_arg0) = m ((c.tc : Thread Cert.DuKernelIdeal.nD Cert.DuKernelIdeal.τ).loc Cert.DuKernelIdeal.main_arg0)
          ∧ r.2.mem ((c.tc : Thread Cert.DuKernelIdeal.nD Cert.DuKernelIdeal.τ).loc Cert.DuKernelIdeal.main_arg1) = m ((c.tc : Thread Cert.DuKernelIdeal.nD Cert.DuKernelIdeal.τ).loc Cert.DuKernelIdeal.main_arg1))
      ∧ θ_run (Cert.DuReferenceIdeal.defs (F := Ideal)) (onTc (τ := Cert.DuReferenceIdeal.τ) (Cert.DuReferenceIdeal.main (F := Ideal))) ⟨m', fun _ => 0, g'⟩ (fun r => ∀ c : Dev Cert.DuReferenceIdeal.nD,
          r.2.mem ((c.tc : Thread Cert.DuReferenceIdeal.nD Cert.DuReferenceIdeal.τ).loc Cert.DuReferenceIdeal.main_v4) = v0 c
          ∧ r.2.mem ((c.tc : Thread Cert.DuReferenceIdeal.nD Cert.DuReferenceIdeal.τ).loc Cert.DuReferenceIdeal.main_arg0) = m' ((c.tc : Thread Cert.DuReferenceIdeal.nD Cert.DuReferenceIdeal.τ).loc Cert.DuReferenceIdeal.main_arg0)
          ∧ r.2.mem ((c.tc : Thread Cert.DuReferenceIdeal.nD Cert.DuReferenceIdeal.τ).loc Cert.DuReferenceIdeal.main_arg1) = m' ((c.tc : Thread Cert.DuReferenceIdeal.nD Cert.DuReferenceIdeal.τ).loc Cert.DuReferenceIdeal.main_arg1))

def preserves_DuupKernel_DuupKernelIdeal : Prop :=
  True

def algebraic_DuupKernelIdeal_DuupReferenceIdeal [hDuupKernelIdeal : Cert.DuupKernelIdeal.Facts] [hDuupReferenceIdeal : Cert.DuupReferenceIdeal.Facts] : Prop :=
  ∀ (m : (ℓ : Loc Cert.DuupKernelIdeal.nD Cert.DuupKernelIdeal.τ Cert.DuupKernelIdeal.sig) → Buf (Elt Ideal) ℓ) (g : Dev Cert.DuupKernelIdeal.nD → PrngReg)
    (m' : (ℓ : Loc Cert.DuupReferenceIdeal.nD Cert.DuupReferenceIdeal.τ Cert.DuupReferenceIdeal.sig) → Buf (Elt Ideal) ℓ) (g' : Dev Cert.DuupReferenceIdeal.nD → PrngReg), Pre_DuupKernelIdeal m →
    (∀ c : Dev Cert.DuupKernelIdeal.nD,
      m' ((c.tc : Thread Cert.DuupReferenceIdeal.nD Cert.DuupReferenceIdeal.τ).loc Cert.DuupReferenceIdeal.main_arg0) = m ((c.tc : Thread Cert.DuupKernelIdeal.nD Cert.DuupKernelIdeal.τ).loc Cert.DuupKernelIdeal.main_arg0)
      ∧ m' ((c.tc : Thread Cert.DuupReferenceIdeal.nD Cert.DuupReferenceIdeal.τ).loc Cert.DuupReferenceIdeal.main_arg1) = m ((c.tc : Thread Cert.DuupKernelIdeal.nD Cert.DuupKernelIdeal.τ).loc Cert.DuupKernelIdeal.main_arg1)
      ∧ m' ((c.tc : Thread Cert.DuupReferenceIdeal.nD Cert.DuupReferenceIdeal.τ).loc Cert.DuupReferenceIdeal.main_arg2) = m ((c.tc : Thread Cert.DuupKernelIdeal.nD Cert.DuupKernelIdeal.τ).loc Cert.DuupKernelIdeal.main_arg2)) →
    ∃ (v0 : (c : Dev Cert.DuupKernelIdeal.nD) → Buf (Elt Ideal) ((c.tc : Thread Cert.DuupKernelIdeal.nD Cert.DuupKernelIdeal.τ).loc Cert.DuupKernelIdeal.main_v0)),
      θ_run (Cert.DuupKernelIdeal.defs (F := Ideal)) (onTc (τ := Cert.DuupKernelIdeal.τ) (Cert.DuupKernelIdeal.main (F := Ideal))) ⟨m, fun _ => 0, g⟩ (fun r => ∀ c : Dev Cert.DuupKernelIdeal.nD,
          r.2.mem ((c.tc : Thread Cert.DuupKernelIdeal.nD Cert.DuupKernelIdeal.τ).loc Cert.DuupKernelIdeal.main_v0) = v0 c
          ∧ r.2.mem ((c.tc : Thread Cert.DuupKernelIdeal.nD Cert.DuupKernelIdeal.τ).loc Cert.DuupKernelIdeal.main_arg0) = m ((c.tc : Thread Cert.DuupKernelIdeal.nD Cert.DuupKernelIdeal.τ).loc Cert.DuupKernelIdeal.main_arg0)
          ∧ r.2.mem ((c.tc : Thread Cert.DuupKernelIdeal.nD Cert.DuupKernelIdeal.τ).loc Cert.DuupKernelIdeal.main_arg1) = m ((c.tc : Thread Cert.DuupKernelIdeal.nD Cert.DuupKernelIdeal.τ).loc Cert.DuupKernelIdeal.main_arg1)
          ∧ r.2.mem ((c.tc : Thread Cert.DuupKernelIdeal.nD Cert.DuupKernelIdeal.τ).loc Cert.DuupKernelIdeal.main_arg2) = m ((c.tc : Thread Cert.DuupKernelIdeal.nD Cert.DuupKernelIdeal.τ).loc Cert.DuupKernelIdeal.main_arg2))
      ∧ θ_run (Cert.DuupReferenceIdeal.defs (F := Ideal)) (onTc (τ := Cert.DuupReferenceIdeal.τ) (Cert.DuupReferenceIdeal.main (F := Ideal))) ⟨m', fun _ => 0, g'⟩ (fun r => ∀ c : Dev Cert.DuupReferenceIdeal.nD,
          r.2.mem ((c.tc : Thread Cert.DuupReferenceIdeal.nD Cert.DuupReferenceIdeal.τ).loc Cert.DuupReferenceIdeal.main_v5) = v0 c
          ∧ r.2.mem ((c.tc : Thread Cert.DuupReferenceIdeal.nD Cert.DuupReferenceIdeal.τ).loc Cert.DuupReferenceIdeal.main_arg0) = m' ((c.tc : Thread Cert.DuupReferenceIdeal.nD Cert.DuupReferenceIdeal.τ).loc Cert.DuupReferenceIdeal.main_arg0)
          ∧ r.2.mem ((c.tc : Thread Cert.DuupReferenceIdeal.nD Cert.DuupReferenceIdeal.τ).loc Cert.DuupReferenceIdeal.main_arg1) = m' ((c.tc : Thread Cert.DuupReferenceIdeal.nD Cert.DuupReferenceIdeal.τ).loc Cert.DuupReferenceIdeal.main_arg1)
          ∧ r.2.mem ((c.tc : Thread Cert.DuupReferenceIdeal.nD Cert.DuupReferenceIdeal.τ).loc Cert.DuupReferenceIdeal.main_arg2) = m' ((c.tc : Thread Cert.DuupReferenceIdeal.nD Cert.DuupReferenceIdeal.τ).loc Cert.DuupReferenceIdeal.main_arg2))

def preserves_FfninKernel_FfninKernelIdeal : Prop :=
  True

def algebraic_FfninKernelIdeal_FfninReferenceIdeal [hFfninKernelIdeal : Cert.FfninKernelIdeal.Facts] [hFfninReferenceIdeal : Cert.FfninReferenceIdeal.Facts] : Prop :=
  ∀ (m : (ℓ : Loc Cert.FfninKernelIdeal.nD Cert.FfninKernelIdeal.τ Cert.FfninKernelIdeal.sig) → Buf (Elt Ideal) ℓ) (g : Dev Cert.FfninKernelIdeal.nD → PrngReg)
    (m' : (ℓ : Loc Cert.FfninReferenceIdeal.nD Cert.FfninReferenceIdeal.τ Cert.FfninReferenceIdeal.sig) → Buf (Elt Ideal) ℓ) (g' : Dev Cert.FfninReferenceIdeal.nD → PrngReg), Pre_FfninKernelIdeal m →
    (∀ c : Dev Cert.FfninKernelIdeal.nD,
      m' ((c.tc : Thread Cert.FfninReferenceIdeal.nD Cert.FfninReferenceIdeal.τ).loc Cert.FfninReferenceIdeal.main_arg0) = m ((c.tc : Thread Cert.FfninKernelIdeal.nD Cert.FfninKernelIdeal.τ).loc Cert.FfninKernelIdeal.main_arg0)
      ∧ m' ((c.tc : Thread Cert.FfninReferenceIdeal.nD Cert.FfninReferenceIdeal.τ).loc Cert.FfninReferenceIdeal.main_arg1) = m ((c.tc : Thread Cert.FfninKernelIdeal.nD Cert.FfninKernelIdeal.τ).loc Cert.FfninKernelIdeal.main_arg1)
      ∧ m' ((c.tc : Thread Cert.FfninReferenceIdeal.nD Cert.FfninReferenceIdeal.τ).loc Cert.FfninReferenceIdeal.main_arg2) = m ((c.tc : Thread Cert.FfninKernelIdeal.nD Cert.FfninKernelIdeal.τ).loc Cert.FfninKernelIdeal.main_arg2)) →
    ∃ (v0 : (c : Dev Cert.FfninKernelIdeal.nD) → Buf (Elt Ideal) ((c.tc : Thread Cert.FfninKernelIdeal.nD Cert.FfninKernelIdeal.τ).loc Cert.FfninKernelIdeal.main_v0_0)) (v1 : (c : Dev Cert.FfninKernelIdeal.nD) → Buf (Elt Ideal) ((c.tc : Thread Cert.FfninKernelIdeal.nD Cert.FfninKernelIdeal.τ).loc Cert.FfninKernelIdeal.main_v0_1)) (v2 : (c : Dev Cert.FfninKernelIdeal.nD) → Buf (Elt Ideal) ((c.tc : Thread Cert.FfninKernelIdeal.nD Cert.FfninKernelIdeal.τ).loc Cert.FfninKernelIdeal.main_v0_2)),
      θ_run (Cert.FfninKernelIdeal.defs (F := Ideal)) (onTc (τ := Cert.FfninKernelIdeal.τ) (Cert.FfninKernelIdeal.main (F := Ideal))) ⟨m, fun _ => 0, g⟩ (fun r => ∀ c : Dev Cert.FfninKernelIdeal.nD,
          r.2.mem ((c.tc : Thread Cert.FfninKernelIdeal.nD Cert.FfninKernelIdeal.τ).loc Cert.FfninKernelIdeal.main_v0_0) = v0 c
          ∧ r.2.mem ((c.tc : Thread Cert.FfninKernelIdeal.nD Cert.FfninKernelIdeal.τ).loc Cert.FfninKernelIdeal.main_v0_1) = v1 c
          ∧ r.2.mem ((c.tc : Thread Cert.FfninKernelIdeal.nD Cert.FfninKernelIdeal.τ).loc Cert.FfninKernelIdeal.main_v0_2) = v2 c
          ∧ r.2.mem ((c.tc : Thread Cert.FfninKernelIdeal.nD Cert.FfninKernelIdeal.τ).loc Cert.FfninKernelIdeal.main_arg0) = m ((c.tc : Thread Cert.FfninKernelIdeal.nD Cert.FfninKernelIdeal.τ).loc Cert.FfninKernelIdeal.main_arg0)
          ∧ r.2.mem ((c.tc : Thread Cert.FfninKernelIdeal.nD Cert.FfninKernelIdeal.τ).loc Cert.FfninKernelIdeal.main_arg1) = m ((c.tc : Thread Cert.FfninKernelIdeal.nD Cert.FfninKernelIdeal.τ).loc Cert.FfninKernelIdeal.main_arg1)
          ∧ r.2.mem ((c.tc : Thread Cert.FfninKernelIdeal.nD Cert.FfninKernelIdeal.τ).loc Cert.FfninKernelIdeal.main_arg2) = m ((c.tc : Thread Cert.FfninKernelIdeal.nD Cert.FfninKernelIdeal.τ).loc Cert.FfninKernelIdeal.main_arg2))
      ∧ θ_run (Cert.FfninReferenceIdeal.defs (F := Ideal)) (onTc (τ := Cert.FfninReferenceIdeal.τ) (Cert.FfninReferenceIdeal.main (F := Ideal))) ⟨m', fun _ => 0, g'⟩ (fun r => ∀ c : Dev Cert.FfninReferenceIdeal.nD,
          r.2.mem ((c.tc : Thread Cert.FfninReferenceIdeal.nD Cert.FfninReferenceIdeal.τ).loc Cert.FfninReferenceIdeal.main_v5) = v0 c
          ∧ r.2.mem ((c.tc : Thread Cert.FfninReferenceIdeal.nD Cert.FfninReferenceIdeal.τ).loc Cert.FfninReferenceIdeal.main_v6) = v1 c
          ∧ r.2.mem ((c.tc : Thread Cert.FfninReferenceIdeal.nD Cert.FfninReferenceIdeal.τ).loc Cert.FfninReferenceIdeal.main_v9) = v2 c
          ∧ r.2.mem ((c.tc : Thread Cert.FfninReferenceIdeal.nD Cert.FfninReferenceIdeal.τ).loc Cert.FfninReferenceIdeal.main_arg0) = m' ((c.tc : Thread Cert.FfninReferenceIdeal.nD Cert.FfninReferenceIdeal.τ).loc Cert.FfninReferenceIdeal.main_arg0)
          ∧ r.2.mem ((c.tc : Thread Cert.FfninReferenceIdeal.nD Cert.FfninReferenceIdeal.τ).loc Cert.FfninReferenceIdeal.main_arg1) = m' ((c.tc : Thread Cert.FfninReferenceIdeal.nD Cert.FfninReferenceIdeal.τ).loc Cert.FfninReferenceIdeal.main_arg1)
          ∧ r.2.mem ((c.tc : Thread Cert.FfninReferenceIdeal.nD Cert.FfninReferenceIdeal.τ).loc Cert.FfninReferenceIdeal.main_arg2) = m' ((c.tc : Thread Cert.FfninReferenceIdeal.nD Cert.FfninReferenceIdeal.τ).loc Cert.FfninReferenceIdeal.main_arg2))

def preserves_FfnoutKernel_FfnoutKernelIdeal : Prop :=
  True

def algebraic_FfnoutKernelIdeal_FfnoutReferenceIdeal [hFfnoutKernelIdeal : Cert.FfnoutKernelIdeal.Facts] [hFfnoutReferenceIdeal : Cert.FfnoutReferenceIdeal.Facts] : Prop :=
  ∀ (m : (ℓ : Loc Cert.FfnoutKernelIdeal.nD Cert.FfnoutKernelIdeal.τ Cert.FfnoutKernelIdeal.sig) → Buf (Elt Ideal) ℓ) (g : Dev Cert.FfnoutKernelIdeal.nD → PrngReg)
    (m' : (ℓ : Loc Cert.FfnoutReferenceIdeal.nD Cert.FfnoutReferenceIdeal.τ Cert.FfnoutReferenceIdeal.sig) → Buf (Elt Ideal) ℓ) (g' : Dev Cert.FfnoutReferenceIdeal.nD → PrngReg), Pre_FfnoutKernelIdeal m →
    (∀ c : Dev Cert.FfnoutKernelIdeal.nD,
      m' ((c.tc : Thread Cert.FfnoutReferenceIdeal.nD Cert.FfnoutReferenceIdeal.τ).loc Cert.FfnoutReferenceIdeal.main_arg0) = m ((c.tc : Thread Cert.FfnoutKernelIdeal.nD Cert.FfnoutKernelIdeal.τ).loc Cert.FfnoutKernelIdeal.main_arg0)
      ∧ m' ((c.tc : Thread Cert.FfnoutReferenceIdeal.nD Cert.FfnoutReferenceIdeal.τ).loc Cert.FfnoutReferenceIdeal.main_arg1) = m ((c.tc : Thread Cert.FfnoutKernelIdeal.nD Cert.FfnoutKernelIdeal.τ).loc Cert.FfnoutKernelIdeal.main_arg1)) →
    ∃ (v0 : (c : Dev Cert.FfnoutKernelIdeal.nD) → Buf (Elt Ideal) ((c.tc : Thread Cert.FfnoutKernelIdeal.nD Cert.FfnoutKernelIdeal.τ).loc Cert.FfnoutKernelIdeal.main_v0)),
      θ_run (Cert.FfnoutKernelIdeal.defs (F := Ideal)) (onTc (τ := Cert.FfnoutKernelIdeal.τ) (Cert.FfnoutKernelIdeal.main (F := Ideal))) ⟨m, fun _ => 0, g⟩ (fun r => ∀ c : Dev Cert.FfnoutKernelIdeal.nD,
          r.2.mem ((c.tc : Thread Cert.FfnoutKernelIdeal.nD Cert.FfnoutKernelIdeal.τ).loc Cert.FfnoutKernelIdeal.main_v0) = v0 c
          ∧ r.2.mem ((c.tc : Thread Cert.FfnoutKernelIdeal.nD Cert.FfnoutKernelIdeal.τ).loc Cert.FfnoutKernelIdeal.main_arg0) = m ((c.tc : Thread Cert.FfnoutKernelIdeal.nD Cert.FfnoutKernelIdeal.τ).loc Cert.FfnoutKernelIdeal.main_arg0)
          ∧ r.2.mem ((c.tc : Thread Cert.FfnoutKernelIdeal.nD Cert.FfnoutKernelIdeal.τ).loc Cert.FfnoutKernelIdeal.main_arg1) = m ((c.tc : Thread Cert.FfnoutKernelIdeal.nD Cert.FfnoutKernelIdeal.τ).loc Cert.FfnoutKernelIdeal.main_arg1))
      ∧ θ_run (Cert.FfnoutReferenceIdeal.defs (F := Ideal)) (onTc (τ := Cert.FfnoutReferenceIdeal.τ) (Cert.FfnoutReferenceIdeal.main (F := Ideal))) ⟨m', fun _ => 0, g'⟩ (fun r => ∀ c : Dev Cert.FfnoutReferenceIdeal.nD,
          r.2.mem ((c.tc : Thread Cert.FfnoutReferenceIdeal.nD Cert.FfnoutReferenceIdeal.τ).loc Cert.FfnoutReferenceIdeal.main_v2) = v0 c
          ∧ r.2.mem ((c.tc : Thread Cert.FfnoutReferenceIdeal.nD Cert.FfnoutReferenceIdeal.τ).loc Cert.FfnoutReferenceIdeal.main_arg0) = m' ((c.tc : Thread Cert.FfnoutReferenceIdeal.nD Cert.FfnoutReferenceIdeal.τ).loc Cert.FfnoutReferenceIdeal.main_arg0)
          ∧ r.2.mem ((c.tc : Thread Cert.FfnoutReferenceIdeal.nD Cert.FfnoutReferenceIdeal.τ).loc Cert.FfnoutReferenceIdeal.main_arg1) = m' ((c.tc : Thread Cert.FfnoutReferenceIdeal.nD Cert.FfnoutReferenceIdeal.τ).loc Cert.FfnoutReferenceIdeal.main_arg1))

def Claim : Prop :=
  ∃ (hConvKernel : Cert.ConvKernel.Facts) (hConvKernelIdeal : Cert.ConvKernelIdeal.Facts) (hConvReferenceIdeal : Cert.ConvReferenceIdeal.Facts) (hGateKernel : Cert.GateKernel.Facts) (hGateKernelIdeal : Cert.GateKernelIdeal.Facts) (hGateReferenceIdeal : Cert.GateReferenceIdeal.Facts) (hAttnKernel : Cert.AttnKernel.Facts) (hAttnKernelIdeal : Cert.AttnKernelIdeal.Facts) (hAttnReferenceIdeal : Cert.AttnReferenceIdeal.Facts) (hDwdownKernel : Cert.DwdownKernel.Facts) (hDwdownKernelIdeal : Cert.DwdownKernelIdeal.Facts) (hDwdownReferenceIdeal : Cert.DwdownReferenceIdeal.Facts) (hDwgateKernel : Cert.DwgateKernel.Facts) (hDwgateKernelIdeal : Cert.DwgateKernelIdeal.Facts) (hDwgateReferenceIdeal : Cert.DwgateReferenceIdeal.Facts) (hDuKernel : Cert.DuKernel.Facts) (hDuKernelIdeal : Cert.DuKernelIdeal.Facts) (hDuReferenceIdeal : Cert.DuReferenceIdeal.Facts) (hDuupKernel : Cert.DuupKernel.Facts) (hDuupKernelIdeal : Cert.DuupKernelIdeal.Facts) (hDuupReferenceIdeal : Cert.DuupReferenceIdeal.Facts) (hFfninKernel : Cert.FfninKernel.Facts) (hFfninKernelIdeal : Cert.FfninKernelIdeal.Facts) (hFfninReferenceIdeal : Cert.FfninReferenceIdeal.Facts) (hFfnoutKernel : Cert.FfnoutKernel.Facts) (hFfnoutKernelIdeal : Cert.FfnoutKernelIdeal.Facts) (hFfnoutReferenceIdeal : Cert.FfnoutReferenceIdeal.Facts) (hPre_attn_finite : Cert.Pre_attn_finite.Facts),
    quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_DwdownKernel (hDwdownKernel := hDwdownKernel)
    ∧ quiescent_DwdownKernelIdeal (hDwdownKernelIdeal := hDwdownKernelIdeal)
    ∧ quiescent_DwdownReferenceIdeal (hDwdownReferenceIdeal := hDwdownReferenceIdeal)
    ∧ quiescent_DwgateKernel (hDwgateKernel := hDwgateKernel)
    ∧ quiescent_DwgateKernelIdeal (hDwgateKernelIdeal := hDwgateKernelIdeal)
    ∧ quiescent_DwgateReferenceIdeal (hDwgateReferenceIdeal := hDwgateReferenceIdeal)
    ∧ quiescent_DuKernel (hDuKernel := hDuKernel)
    ∧ quiescent_DuKernelIdeal (hDuKernelIdeal := hDuKernelIdeal)
    ∧ quiescent_DuReferenceIdeal (hDuReferenceIdeal := hDuReferenceIdeal)
    ∧ quiescent_DuupKernel (hDuupKernel := hDuupKernel)
    ∧ quiescent_DuupKernelIdeal (hDuupKernelIdeal := hDuupKernelIdeal)
    ∧ quiescent_DuupReferenceIdeal (hDuupReferenceIdeal := hDuupReferenceIdeal)
    ∧ quiescent_FfninKernel (hFfninKernel := hFfninKernel)
    ∧ quiescent_FfninKernelIdeal (hFfninKernelIdeal := hFfninKernelIdeal)
    ∧ quiescent_FfninReferenceIdeal (hFfninReferenceIdeal := hFfninReferenceIdeal)
    ∧ quiescent_FfnoutKernel (hFfnoutKernel := hFfnoutKernel)
    ∧ quiescent_FfnoutKernelIdeal (hFfnoutKernelIdeal := hFfnoutKernelIdeal)
    ∧ quiescent_FfnoutReferenceIdeal (hFfnoutReferenceIdeal := hFfnoutReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_GateKernel_GateKernelIdeal
    ∧ algebraic_GateKernelIdeal_GateReferenceIdeal (hGateKernelIdeal := hGateKernelIdeal) (hGateReferenceIdeal := hGateReferenceIdeal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_DwdownKernel_DwdownKernelIdeal
    ∧ algebraic_DwdownKernelIdeal_DwdownReferenceIdeal (hDwdownKernelIdeal := hDwdownKernelIdeal) (hDwdownReferenceIdeal := hDwdownReferenceIdeal)
    ∧ preserves_DwgateKernel_DwgateKernelIdeal
    ∧ algebraic_DwgateKernelIdeal_DwgateReferenceIdeal (hDwgateKernelIdeal := hDwgateKernelIdeal) (hDwgateReferenceIdeal := hDwgateReferenceIdeal)
    ∧ preserves_DuKernel_DuKernelIdeal
    ∧ algebraic_DuKernelIdeal_DuReferenceIdeal (hDuKernelIdeal := hDuKernelIdeal) (hDuReferenceIdeal := hDuReferenceIdeal)
    ∧ preserves_DuupKernel_DuupKernelIdeal
    ∧ algebraic_DuupKernelIdeal_DuupReferenceIdeal (hDuupKernelIdeal := hDuupKernelIdeal) (hDuupReferenceIdeal := hDuupReferenceIdeal)
    ∧ preserves_FfninKernel_FfninKernelIdeal
    ∧ algebraic_FfninKernelIdeal_FfninReferenceIdeal (hFfninKernelIdeal := hFfninKernelIdeal) (hFfninReferenceIdeal := hFfninReferenceIdeal)
    ∧ preserves_FfnoutKernel_FfnoutKernelIdeal
    ∧ algebraic_FfnoutKernelIdeal_FfnoutReferenceIdeal (hFfnoutKernelIdeal := hFfnoutKernelIdeal) (hFfnoutReferenceIdeal := hFfnoutReferenceIdeal)
-- ==== Pre_attn_finite.lean ====
abbrev S4224x3072 : Shape := ⟨2, ![4224, 3072]⟩
abbrev S4224x16 : Shape := ⟨2, ![4224, 16]⟩
abbrev S4224x2048 : Shape := ⟨2, ![4224, 2048]⟩
abbrev S_ : Shape := ⟨0, ![]⟩

class Facts : Prop where
  bcast_S_S4224x3072 : S_.BroadcastsInDim S4224x3072 (![] : Fin 0 → Fin S4224x3072.rank)
  reducesTo_S4224x3072_S_d0_1 : S4224x3072.ReducesTo [0, 1] S_
  h_S_ : 0 < S_.numel
  bcast_S_S4224x16 : S_.BroadcastsInDim S4224x16 (![] : Fin 0 → Fin S4224x16.rank)
  reducesTo_S4224x16_S_d0_1 : S4224x16.ReducesTo [0, 1] S_
  bcast_S_S4224x2048 : S_.BroadcastsInDim S4224x2048 (![] : Fin 0 → Fin S4224x2048.rank)
  reducesTo_S4224x2048_S_d0_1 : S4224x2048.ReducesTo [0, 1] S_

variable [Facts]

def fn {F : FTy → Type} [FloatOps F] (main_arg0 : FVec F S4224x3072 .bf16) (main_arg1 : FVec F S4224x16 .f32) (main_arg2 : FVec F S4224x2048 .f32) : IVec S_ 1 :=
  let main_v0 : FVec F S4224x3072 .bf16 := Host.absf main_arg0
  let main_cst : FVec F S_ .bf16 := constant S_ .bf16 0x7F80#16
  let main_v1 : FVec F S4224x3072 .bf16 := broadcastInDim S4224x3072 ![] bcast_S_S4224x3072 main_cst
  let main_v2 : IVec S4224x3072 1 := cmpf .olt main_v0 main_v1
  let main_c : IVec S_ 1 := constantI S_ 1 1#1
  let main_v3 : IVec S_ 1 := (fun x v => Host.reduce IntOp.andi x v reducesTo_S4224x3072_S_d0_1 h_S_) main_v2 main_c
  let main_v4 : FVec F S4224x16 .f32 := Host.absf main_arg1
  let main_cst_0 : FVec F S_ .f32 := constant S_ .f32 0x7F800000#32
  let main_v5 : FVec F S4224x16 .f32 := broadcastInDim S4224x16 ![] bcast_S_S4224x16 main_cst_0
  let main_v6 : IVec S4224x16 1 := cmpf .olt main_v4 main_v5
  let main_c_1 : IVec S_ 1 := constantI S_ 1 1#1
  let main_v7 : IVec S_ 1 := (fun x v => Host.reduce IntOp.andi x v reducesTo_S4224x16_S_d0_1 h_S_) main_v6 main_c_1
  let main_v8 : IVec S_ 1 := andi main_v3 main_v7
  let main_v9 : FVec F S4224x2048 .f32 := Host.absf main_arg2
  let main_cst_2 : FVec F S_ .f32 := constant S_ .f32 0x7F800000#32
  let main_v10 : FVec F S4224x2048 .f32 := broadcastInDim S4224x2048 ![] bcast_S_S4224x2048 main_cst_2
  let main_v11 : IVec S4224x2048 1 := cmpf .olt main_v9 main_v10
  let main_c_3 : IVec S_ 1 := constantI S_ 1 1#1
  let main_v12 : IVec S_ 1 := (fun x v => Host.reduce IntOp.andi x v reducesTo_S4224x2048_S_d0_1 h_S_) main_v11 main_c_3
  let main_v13 : IVec S_ 1 := andi main_v8 main_v12
  main_v13
-- ==== ConvKernel.lean ====
abbrev S4224x6160 : Shape := ⟨2, ![4224, 6160]⟩
abbrev S3x1024 : Shape := ⟨2, ![3, 1024]⟩
abbrev S1024 : Shape := ⟨1, ![1024]⟩
abbrev S4224x2048 : Shape := ⟨2, ![4224, 2048]⟩
abbrev S4224x3072 : Shape := ⟨2, ![4224, 3072]⟩
abbrev S4224x16 : Shape := ⟨2, ![4224, 16]⟩
abbrev S_ : Shape := ⟨0, ![]⟩
abbrev S4224x112 : Shape := ⟨2, ![4224, 112]⟩
abbrev S4224x3200 : Shape := ⟨2, ![4224, 3200]⟩
abbrev S1x1024 : Shape := ⟨2, ![1, 1024]⟩
abbrev S4224x1024 : Shape := ⟨2, ![4224, 1024]⟩
abbrev S4224x128 : Shape := ⟨2, ![4224, 128]⟩
abbrev S3x128 : Shape := ⟨2, ![3, 128]⟩
abbrev S1x128 : Shape := ⟨2, ![1, 128]⟩
abbrev S128 : Shape := ⟨1, ![128]⟩

abbrev nBuf : Space → Nat
  | .hbm => 15
  | .vmem => 22
  | .smem => 0
  | _ => 0

abbrev bufTy : (tb : Table) → Fin (tcTables nBuf tb) → BufTy
  | .hbm, ⟨0, _⟩ => ⟨S4224x6160, .f32⟩
  | .hbm, ⟨1, _⟩ => ⟨S3x1024, .f32⟩
  | .hbm, ⟨2, _⟩ => ⟨S1024, .f32⟩
  | .hbm, ⟨3, _⟩ => ⟨S4224x2048, .f32⟩
  | .hbm, ⟨4, _⟩ => ⟨S4224x3072, .f32⟩
  | .hbm, ⟨5, _⟩ => ⟨S4224x16, .f32⟩
  | .hbm, ⟨6, _⟩ => ⟨S_, .f32⟩
  | .hbm, ⟨7, _⟩ => ⟨S4224x112, .f32⟩
  | .hbm, ⟨8, _⟩ => ⟨S4224x3200, .f32⟩
  | .hbm, ⟨9, _⟩ => ⟨S1x1024, .f32⟩
  | .hbm, ⟨10, _⟩ => ⟨S4224x1024, .bf16⟩
  | .hbm, ⟨11, _⟩ => ⟨S4224x1024, .bf16⟩
  | .hbm, ⟨12, _⟩ => ⟨S4224x1024, .bf16⟩
  | .hbm, ⟨13, _⟩ => ⟨S3x1024, .f32⟩
  | .hbm, ⟨14, _⟩ => ⟨S1x1024, .f32⟩
  | .local _ .vmem, ⟨0, _⟩ => ⟨S4224x128, .f32⟩
  | .local _ .vmem, ⟨1, _⟩ => ⟨S4224x128, .f32⟩
  | .local _ .vmem, ⟨2, _⟩ => ⟨S4224x128, .f32⟩
  | .local _ .vmem, ⟨3, _⟩ => ⟨S4224x128, .f32⟩
  | .local _ .vmem, ⟨4, _⟩ => ⟨S4224x128, .f32⟩
  | .local _ .vmem, ⟨5, _⟩ => ⟨S4224x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S4224x128, .f32⟩
  | .local _ .vmem, ⟨11, _⟩ => ⟨S4224x128, .f32⟩
  | .local _ .vmem, ⟨12, _⟩ => ⟨S4224x128, .bf16⟩
  | .local _ .vmem, ⟨13, _⟩ => ⟨S4224x128, .bf16⟩
  | .local _ .vmem, ⟨14, _⟩ => ⟨S4224x128, .bf16⟩
  | .local _ .vmem, ⟨15, _⟩ => ⟨S4224x128, .bf16⟩
  | .local _ .vmem, ⟨16, _⟩ => ⟨S4224x128, .bf16⟩
  | .local _ .vmem, ⟨17, _⟩ => ⟨S4224x128, .bf16⟩
  | .local _ .vmem, ⟨18, _⟩ => ⟨S3x128, .f32⟩
  | .local _ .vmem, ⟨19, _⟩ => ⟨S3x128, .f32⟩
  | .local _ .vmem, ⟨20, _⟩ => ⟨S1x128, .f32⟩
  | .local _ .vmem, ⟨21, _⟩ => ⟨S1x128, .f32⟩
  | _, _ => ⟨S4224x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4224x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4224x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4224x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvReferenceIdeal.lean ====
abbrev S4224x6160 : Shape := ⟨2, ![4224, 6160]⟩
abbrev S3x1024 : Shape := ⟨2, ![3, 1024]⟩
abbrev S1024 : Shape := ⟨1, ![1024]⟩
abbrev S4224x2048 : Shape := ⟨2, ![4224, 2048]⟩
abbrev S4224x3072 : Shape := ⟨2, ![4224, 3072]⟩
abbrev S4224x1024 : Shape := ⟨2, ![4224, 1024]⟩
abbrev S_ : Shape := ⟨0, ![]⟩
abbrev S2x1024 : Shape := ⟨2, ![2, 1024]⟩
abbrev S4226x1024 : Shape := ⟨2, ![4226, 1024]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4224x6160, .f32⟩
  | .hbm, ⟨1, _⟩ => ⟨S3x1024, .f32⟩
  | .hbm, ⟨2, _⟩ => ⟨S1024, .f32⟩
  | .hbm, ⟨3, _⟩ => ⟨S4224x2048, .f32⟩
  | .hbm, ⟨4, _⟩ => ⟨S4224x3072, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S4224x1024, .f32⟩
  | .hbm, ⟨9, _⟩ => ⟨S_, .f32⟩
  | .hbm, ⟨10, _⟩ => ⟨S2x1024, .f32⟩
  | .hbm, ⟨11, _⟩ => ⟨S4226x1024, .f32⟩
  | .hbm, ⟨12, _⟩ => ⟨S_, .f32⟩
  | .hbm, ⟨13, _⟩ => ⟨S2x1024, .f32⟩
  | .hbm, ⟨14, _⟩ => ⟨S1x1024, .f32⟩
  | .hbm, ⟨15, _⟩ => ⟨S1024, .f32⟩
  | .hbm, ⟨16, _⟩ => ⟨S4224x1024, .f32⟩
  | .hbm, ⟨17, _⟩ => ⟨S1x1024, .f32⟩
  | .hbm, ⟨18, _⟩ => ⟨S4224x1024, .f32⟩
  | .hbm, ⟨19, _⟩ => ⟨S4224x1024, .f32⟩
  | .hbm, ⟨20, _⟩ => ⟨S_, .f32⟩
  | .hbm, ⟨21, _⟩ => ⟨S4224x1024, .f32⟩
  | .hbm, ⟨22, _⟩ => ⟨S4224x1024, .f32⟩
  | .hbm, ⟨23, _⟩ => ⟨S1x1024, .f32⟩
  | .hbm, ⟨24, _⟩ => ⟨S1024, .f32⟩
  | .hbm, ⟨25, _⟩ => ⟨S4224x1024, .f32⟩
  | .hbm, ⟨26, _⟩ => ⟨S1x1024, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S1x1024, .f32⟩
  | .hbm, ⟨31, _⟩ => ⟨S1024, .f32⟩
  | .hbm, ⟨32, _⟩ => ⟨S4224x1024, .f32⟩
  | .hbm, ⟨33, _⟩ => ⟨S1x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S1x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S_, .f32⟩
  | .hbm, ⟨58, _⟩ => ⟨S4226x1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S4224x1024, .f32⟩
  | .hbm, ⟨63, _⟩ => ⟨S4224x1024, .f32⟩
  | .hbm, ⟨64, _⟩ => ⟨S4224x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S1024, .f32⟩
  | .hbm, ⟨70, _⟩ => ⟨S_, .f32⟩
  | .hbm, ⟨71, _⟩ => ⟨S4226x1024, .f32⟩
  | .hbm, ⟨72, _⟩ => ⟨S4226x1024, .f32⟩
  | .hbm, ⟨73, _⟩ => ⟨S1x1024, .f32⟩
  | .hbm, ⟨74, _⟩ => ⟨S_, .f32⟩
  | .hbm, ⟨75, _⟩ => ⟨S3x1024, .f32⟩
  | .hbm, ⟨76, _⟩ => ⟨S3x1024, .f32⟩
  | .hbm, ⟨77, _⟩ => ⟨S4224x1024, .f32⟩
  | .hbm, ⟨78, _⟩ => ⟨S4224x1024, .f32⟩
  | .hbm, ⟨79, _⟩ => ⟨S4224x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1024, .f32⟩
  | .hbm, ⟨85, _⟩ => ⟨S_, .f32⟩
  | .hbm, ⟨86, _⟩ => ⟨S4226x1024, .f32⟩
  | .hbm, ⟨87, _⟩ => ⟨S4226x1024, .f32⟩
  | .hbm, ⟨88, _⟩ => ⟨S1x1024, .f32⟩
  | .hbm, ⟨89, _⟩ => ⟨S_, .f32⟩
  | .hbm, ⟨90, _⟩ => ⟨S3x1024, .f32⟩
  | .hbm, ⟨91, _⟩ => ⟨S3x1024, .f32⟩
  | .hbm, ⟨92, _⟩ => ⟨S2x1024, .f32⟩
  | .hbm, ⟨93, _⟩ => ⟨S4224x1024, .f32⟩
  | .hbm, ⟨94, _⟩ => ⟨S4224x1024, .f32⟩
  | .hbm, ⟨95, _⟩ => ⟨S4224x1024, .f32⟩
  | .hbm, ⟨96, _⟩ => ⟨S4224x1024, .bf16⟩
  | .hbm, ⟨97, _⟩ => ⟨S4224x1024, .bf16⟩
  | .hbm, ⟨98, _⟩ => ⟨S4224x1024, .bf16⟩
  | .hbm, ⟨99, _⟩ => ⟨S1x1024, .f32⟩
  | _, _ => ⟨S4224x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== GateKernel.lean ====
abbrev S4224x6160 : Shape := ⟨2, ![4224, 6160]⟩
abbrev S16 : Shape := ⟨1, ![16]⟩
abbrev S4224x16 : Shape := ⟨2, ![4224, 16]⟩
abbrev S_ : Shape := ⟨0, ![]⟩
abbrev S128 : Shape := ⟨1, ![128]⟩
abbrev S1x128 : Shape := ⟨2, ![1, 128]⟩
abbrev S4224x3072 : Shape := ⟨2, ![4224, 3072]⟩
abbrev S4224x112 : Shape := ⟨2, ![4224, 112]⟩
abbrev S4224x3200 : Shape := ⟨2, ![4224, 3200]⟩
abbrev S4224x128 : Shape := ⟨2, ![4224, 128]⟩
abbrev S384x128 : Shape := ⟨2, ![384, 128]⟩
abbrev S384x384 : Shape := ⟨2, ![384, 384]⟩

abbrev nBuf : Space → Nat
  | .hbm => 17
  | .vmem => 9
  | .smem => 0
  | _ => 0

abbrev bufTy : (tb : Table) → Fin (tcTables nBuf tb) → BufTy
  | .hbm, ⟨0, _⟩ => ⟨S4224x6160, .f32⟩
  | .hbm, ⟨1, _⟩ => ⟨S16, .f32⟩
  | .hbm, ⟨2, _⟩ => ⟨S4224x16, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S4224x3072, .f32⟩
  | .hbm, ⟨8, _⟩ => ⟨S4224x16, .f32⟩
  | .hbm, ⟨9, _⟩ => ⟨S_, .f32⟩
  | .hbm, ⟨10, _⟩ => ⟨S4224x112, .f32⟩
  | .hbm, ⟨11, _⟩ => ⟨S4224x3200, .f32⟩
  | .hbm, ⟨12, _⟩ => ⟨S_, .i32⟩
  | .hbm, ⟨13, _⟩ => ⟨S_, .f32⟩
  | .hbm, ⟨14, _⟩ => ⟨S4224x128, .f32⟩
  | .hbm, ⟨15, _⟩ => ⟨S4224x128, .f32⟩
  | .hbm, ⟨16, _⟩ => ⟨S1x128, .f32⟩
  | .local _ .vmem, ⟨0, _⟩ => ⟨S384x128, .f32⟩
  | .local _ .vmem, ⟨1, _⟩ => ⟨S384x128, .f32⟩
  | .local _ .vmem, ⟨2, _⟩ => ⟨S1x128, .f32⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S1x128, .f32⟩
  | .local _ .vmem, ⟨8, _⟩ => ⟨S1x128, .f32⟩
  | _, _ => ⟨S4224x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c10_i32 : BitVec 32 := 10#32
  let v0 : BitVec 32 := Scalar.subi c10_i32 arg0
  let c24_i32 : BitVec 32 := 24#32
  let c0_i32 : BitVec 32 := 0#32
  ![v0.toNat, c24_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateReferenceIdeal.lean ====
abbrev S4224x6160 : Shape := ⟨2, ![4224, 6160]⟩
abbrev S16 : Shape := ⟨1, ![16]⟩
abbrev S4224x16 : Shape := ⟨2, ![4224, 16]⟩
abbrev S1x16 : Shape := ⟨2, ![1, 16]⟩
abbrev S_ : Shape := ⟨0, ![]⟩
abbrev S4224x128 : Shape := ⟨2, ![4224, 128]⟩
abbrev S128 : Shape := ⟨1, ![128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4224x6160, .f32⟩
  | .hbm, ⟨1, _⟩ => ⟨S16, .f32⟩
  | .hbm, ⟨2, _⟩ => ⟨S4224x16, .f32⟩
  | .hbm, ⟨3, _⟩ => ⟨S4224x16, .f32⟩
  | .hbm, ⟨4, _⟩ => ⟨S1x16, .f32⟩
  | .hbm, ⟨5, _⟩ => ⟨S4224x16, .f32⟩
  | .hbm, ⟨6, _⟩ => ⟨S4224x16, .f32⟩
  | .hbm, ⟨7, _⟩ => ⟨S4224x16, .f32⟩
  | .hbm, ⟨8, _⟩ => ⟨S_, .f32⟩
  | .hbm, ⟨9, _⟩ => ⟨S4224x16, .f32⟩
  | .hbm, ⟨10, _⟩ => ⟨S4224x16, .f32⟩
  | .hbm, ⟨11, _⟩ => ⟨S4224x16, .f32⟩
  | .hbm, ⟨12, _⟩ => ⟨S4224x16, .f32⟩
  | .hbm, ⟨13, _⟩ => ⟨S4224x16, .i1⟩
  | .hbm, ⟨14, _⟩ => ⟨S4224x16, .f32⟩
  | .hbm, ⟨15, _⟩ => ⟨S4224x16, .f32⟩
  | .hbm, ⟨16, _⟩ => ⟨S4224x16, .f32⟩
  | .hbm, ⟨17, _⟩ => ⟨S4224x16, .f32⟩
  | .hbm, ⟨18, _⟩ => ⟨S4224x16, .f32⟩
  | .hbm, ⟨19, _⟩ => ⟨S4224x16, .f32⟩
  | .hbm, ⟨20, _⟩ => ⟨S4224x16, .f32⟩
  | .hbm, ⟨21, _⟩ => ⟨S4224x16, .f32⟩
  | .hbm, ⟨22, _⟩ => ⟨S_, .f32⟩
  | .hbm, ⟨23, _⟩ => ⟨S4224x16, .f32⟩
  | .hbm, ⟨24, _⟩ => ⟨S4224x16, .i1⟩
  | .hbm, ⟨25, _⟩ => ⟨S_, .f32⟩
  | .hbm, ⟨26, _⟩ => ⟨S4224x16, .f32⟩
  | .hbm, ⟨27, _⟩ => ⟨S4224x16, .f32⟩
  | .hbm, ⟨28, _⟩ => ⟨S_, .f32⟩
  | .hbm, ⟨29, _⟩ => ⟨S4224x16, .f32⟩
  | .hbm, ⟨30, _⟩ => ⟨S4224x16, .i1⟩
  | .hbm, ⟨31, _⟩ => ⟨S_, .f32⟩
  | .hbm, ⟨32, _⟩ => ⟨S4224x16, .f32⟩
  | .hbm, ⟨33, _⟩ => ⟨S4224x16, .f32⟩
  | .hbm, ⟨34, _⟩ => ⟨S4224x16, .f32⟩
  | .hbm, ⟨35, _⟩ => ⟨S4224x16, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4224x16, .f32⟩
  | .hbm, ⟨44, _⟩ => ⟨S4224x16, .i1⟩
  | .hbm, ⟨45, _⟩ => ⟨S_, .f32⟩
  | .hbm, ⟨46, _⟩ => ⟨S4224x16, .f32⟩
  | .hbm, ⟨47, _⟩ => ⟨S4224x16, .f32⟩
  | .hbm, ⟨48, _⟩ => ⟨S4224x16, .f32⟩
  | .hbm, ⟨49, _⟩ => ⟨S4224x16, .f32⟩
  | .hbm, ⟨50, _⟩ => ⟨S4224x16, .f32⟩
  | .hbm, ⟨51, _⟩ => ⟨S_, .f32⟩
  | .hbm, ⟨52, _⟩ => ⟨S4224x16, .f32⟩
  | .hbm, ⟨53, _⟩ => ⟨S4224x16, .f32⟩
  | .hbm, ⟨54, _⟩ => ⟨S4224x16, .f32⟩
  | .hbm, ⟨55, _⟩ => ⟨S_, .f32⟩
  | .hbm, ⟨56, _⟩ => ⟨S_, .f32⟩
  | .hbm, ⟨57, _⟩ => ⟨S4224x16, .f32⟩
  | .hbm, ⟨58, _⟩ => ⟨S_, .f32⟩
  | .hbm, ⟨59, _⟩ => ⟨S_, .f32⟩
  | .hbm, ⟨60, _⟩ => ⟨S4224x16, .f32⟩
  | .hbm, ⟨61, _⟩ => ⟨S4224x16, .f32⟩
  | .hbm, ⟨62, _⟩ => ⟨S4224x16, .f32⟩
  | .hbm, ⟨63, _⟩ => ⟨S4224x16, .f32⟩
  | .hbm, ⟨64, _⟩ => ⟨S_, .f32⟩
  | .hbm, ⟨65, _⟩ => ⟨S16, .f32⟩
  | .hbm, ⟨66, _⟩ => ⟨S1x16, .f32⟩
  | .hbm, ⟨67, _⟩ => ⟨S_, .f32⟩
  | .hbm, ⟨68, _⟩ => ⟨S16, .f32⟩
  | .hbm, ⟨69, _⟩ => ⟨S_, .i32⟩
  | .hbm, ⟨70, _⟩ => ⟨S_, .f32⟩
  | .hbm, ⟨71, _⟩ => ⟨S4224x128, .f32⟩
  | .hbm, ⟨72, _⟩ => ⟨S_, .i32⟩
  | .hbm, ⟨73, _⟩ => ⟨S_, .f32⟩
  | .hbm, ⟨74, _⟩ => ⟨S128, .f32⟩
  | .hbm, ⟨75, _⟩ => ⟨S1x128, .f32⟩
  | _, _ => ⟨S4224x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_call2_call0_cst : Ref sig .tc := ⟨.hbm, 58, rfl⟩
abbrev main_call2_call0_v0 : Ref sig .tc := ⟨.hbm, 59, rfl⟩
abbrev main_v6 : Ref sig .tc := ⟨.hbm, 60, rfl⟩
abbrev main_call3_v0 : Ref sig .tc := ⟨.hbm, 61, rfl⟩
abbrev main_call3_v1 : Ref sig .tc := ⟨.hbm, 62, rfl⟩
abbrev main_v7 : Ref sig .tc := ⟨.hbm, 63, rfl⟩
abbrev main_cst : Ref sig .tc := ⟨.hbm, 64, rfl⟩
abbrev main_v8 : Ref sig .tc := ⟨.hbm, 65, rfl⟩
abbrev main_v9 : Ref sig .tc := ⟨.hbm, 66, rfl⟩
abbrev main_cst_0 : Ref sig .tc := ⟨.hbm, 67, rfl⟩
abbrev main_v10 : Ref sig .tc := ⟨.hbm, 68, rfl⟩
abbrev main_c : Ref sig .tc := ⟨.hbm, 69, rfl⟩
abbrev main_call4_v0 : Ref sig .tc := ⟨.hbm, 70, rfl⟩
abbrev main_v11 : Ref sig .tc := ⟨.hbm, 71, rfl⟩
abbrev main_c_1 : Ref sig .tc := ⟨.hbm, 72, rfl⟩
abbrev main_call5_v0 : Ref sig .tc := ⟨.hbm, 73, rfl⟩
abbrev main_v12 : Ref sig .tc := ⟨.hbm, 74, rfl⟩
abbrev main_v13 : Ref sig .tc := ⟨.hbm, 75, rfl⟩

abbrev nD : Nat := 1
abbrev τ : Topo := Topo.v7x

variable {F : FTy → Type} [FloatOps F]
-- ==== AttnKernel.lean ====
abbrev S4224x3072 : Shape := ⟨2, ![4224, 3072]⟩
abbrev S4224x16 : Shape := ⟨2, ![4224, 16]⟩
abbrev S4224x2048 : Shape := ⟨2, ![4224, 2048]⟩
abbrev S4224x1024 : Shape := ⟨2, ![4224, 1024]⟩
abbrev S4224x16x64 : Shape := ⟨3, ![4224, 16, 64]⟩
abbrev S16x4224x4224 : Shape := ⟨3, ![16, 4224, 4224]⟩
abbrev S_ : Shape := ⟨0, ![]⟩
abbrev S16x4224 : Shape := ⟨2, ![16, 4224]⟩
abbrev S16x4224x1 : Shape := ⟨3, ![16, 4224, 1]⟩
abbrev S16x1x4224 : Shape := ⟨3, ![16, 1, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S16x64x4224 : Shape := ⟨3, ![16, 64, 4224]⟩
abbrev S4224x8x2 : Shape := ⟨3, ![4224, 8, 2]⟩
abbrev S8x2x4224 : Shape := ⟨3, ![8, 2, 4224]⟩
abbrev S8x4224x2 : Shape := ⟨3, ![8, 4224, 2]⟩
abbrev S4224x128 : Shape := ⟨2, ![4224, 128]⟩
abbrev S384x128 : Shape := ⟨2, ![384, 128]⟩
abbrev S1x2x4224 : Shape := ⟨3, ![1, 2, 4224]⟩
abbrev S1x384x2 : Shape := ⟨3, ![1, 384, 2]⟩
abbrev S128x4224 : Shape := ⟨2, ![128, 4224]⟩
abbrev S2x4224 : Shape := ⟨2, ![2, 4224]⟩
abbrev S1x384x1 : Shape := ⟨3, ![1, 384, 1]⟩
abbrev S384x1 : Shape := ⟨2, ![384, 1]⟩
abbrev S128x384 : Shape := ⟨2, ![128, 384]⟩
abbrev S1x1x384 : Shape := ⟨3, ![1, 1, 384]⟩
abbrev S1x384 : Shape := ⟨2, ![1, 384]⟩
abbrev S384x384 : Shape := ⟨2, ![384, 384]⟩
abbrev S384 : Shape := ⟨1, ![384]⟩
abbrev S384x2 : Shape := ⟨2, ![384, 2]⟩

abbrev nBuf : Space → Nat
  | .hbm => 69
  | .vmem => 28
  | .smem => 0
  | _ => 0

abbrev bufTy : (tb : Table) → Fin (tcTables nBuf tb) → BufTy
  | .hbm, ⟨0, _⟩ => ⟨S4224x3072, .bf16⟩
  | .hbm, ⟨1, _⟩ => ⟨S4224x16, .f32⟩
  | .hbm, ⟨2, _⟩ => ⟨S4224x2048, .f32⟩
  | .hbm, ⟨3, _⟩ => ⟨S4224x3072, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S4224x16x64, .f32⟩
  | .hbm, ⟨8, _⟩ => ⟨S4224x16x64, .f32⟩
  | .hbm, ⟨9, _⟩ => ⟨S4224x16x64, .f32⟩
  | .hbm, ⟨10, _⟩ => ⟨S16x4224x4224, .f32⟩
  | .hbm, ⟨11, _⟩ => ⟨S_, .f32⟩
  | .hbm, ⟨12, _⟩ => ⟨S16x4224x4224, .f32⟩
  | .hbm, ⟨13, _⟩ => ⟨S16x4224x4224, .f32⟩
  | .hbm, ⟨14, _⟩ => ⟨S16x4224, .f32⟩
  | .hbm, ⟨15, _⟩ => ⟨S16x4224x1, .f32⟩
  | .hbm, ⟨16, _⟩ => ⟨S16x4224x4224, .f32⟩
  | .hbm, ⟨17, _⟩ => ⟨S16x4224x4224, .f32⟩
  | .hbm, ⟨18, _⟩ => ⟨S16x4224, .f32⟩
  | .hbm, ⟨19, _⟩ => ⟨S16x1x4224, .f32⟩
  | .hbm, ⟨20, _⟩ => ⟨S16x4224x4224, .f32⟩
  | .hbm, ⟨21, _⟩ => ⟨S16x4224x4224, .f32⟩
  | .hbm, ⟨22, _⟩ => ⟨S4224, .i32⟩
  | .hbm, ⟨23, _⟩ => ⟨S1x4224, .i32⟩
  | .hbm, ⟨24, _⟩ => ⟨S4224, .i32⟩
  | .hbm, ⟨25, _⟩ => ⟨S4224x1, .i32⟩
  | .hbm, ⟨26, _⟩ => ⟨S4224x4224, .i32⟩
  | .hbm, ⟨27, _⟩ => ⟨S4224x4224, .i32⟩
  | .hbm, ⟨28, _⟩ => ⟨S4224x4224, .i1⟩
  | .hbm, ⟨29, _⟩ => ⟨S_, .f32⟩
  | .hbm, ⟨30, _⟩ => ⟨S_, .f32⟩
  | .hbm, ⟨31, _⟩ => ⟨S16x4224x4224, .i1⟩
  | .hbm, ⟨32, _⟩ => ⟨S16x4224x4224, .f32⟩
  | .hbm, ⟨33, _⟩ => ⟨S16x4224x4224, .f32⟩
  | .hbm, ⟨34, _⟩ => ⟨S_, .f32⟩
  | .hbm, ⟨35, _⟩ => ⟨S16x4224, .f32⟩
  | .hbm, ⟨36, _⟩ => ⟨S16x4224x1, .f32⟩
  | .hbm, ⟨37, _⟩ => ⟨S16x4224x4224, .f32⟩
  | .hbm, ⟨38, _⟩ => ⟨S16x4224x4224, .f32⟩
  | .hbm, ⟨39, _⟩ => ⟨S16x4224x4224, .f32⟩
  | .hbm, ⟨40, _⟩ => ⟨S_, .f32⟩
  | .hbm, ⟨41, _⟩ => ⟨S16x4224, .f32⟩
  | .hbm, ⟨42, _⟩ => ⟨S16x4224, .f32⟩
  | .hbm, ⟨43, _⟩ => ⟨S16x4224, .f32⟩
  | .hbm, ⟨44, _⟩ => ⟨S16x4224x1, .f32⟩
  | .hbm, ⟨45, _⟩ => ⟨S16x4224x4224, .f32⟩
  | .hbm, ⟨46, _⟩ => ⟨S16x4224x4224, .f32⟩
  | .hbm, ⟨47, _⟩ => ⟨S16x4224x4224, .f32⟩
  | .hbm, ⟨48, _⟩ => ⟨S16x64x4224, .f32⟩
  | .hbm, ⟨49, _⟩ => ⟨S4224x16x64, .f32⟩
  | .hbm, ⟨50, _⟩ => ⟨S4224x1024, .f32⟩
  | .hbm, ⟨51, _⟩ => ⟨S4224x16x64, .f32⟩
  | .hbm, ⟨52, _⟩ => ⟨S4224x16x64, .f32⟩
  | .hbm, ⟨53, _⟩ => ⟨S_, .f32⟩
  | .hbm, ⟨54, _⟩ => ⟨S4224x16, .f32⟩
  | .hbm, ⟨55, _⟩ => ⟨S4224x16, .f32⟩
  | .hbm, ⟨56, _⟩ => ⟨S4224x8x2, .f32⟩
  | .hbm, ⟨57, _⟩ => ⟨S8x2x4224, .f32⟩
  | .hbm, ⟨58, _⟩ => ⟨S4224x8x2, .f32⟩
  | .hbm, ⟨59, _⟩ => ⟨S8x2x4224, .f32⟩
  | .hbm, ⟨60, _⟩ => ⟨S4224x8x2, .f32⟩
  | .hbm, ⟨61, _⟩ => ⟨S8x2x4224, .f32⟩
  | .hbm, ⟨62, _⟩ => ⟨S4224x8x2, .f32⟩
  | .hbm, ⟨63, _⟩ => ⟨S8x4224x2, .f32⟩
  | .hbm, ⟨64, _⟩ => ⟨S4224x1024, .bf16⟩
  | .hbm, ⟨65, _⟩ => ⟨S4224x1024, .bf16⟩
  | .hbm, ⟨66, _⟩ => ⟨S4224x1024, .bf16⟩
  | .hbm, ⟨67, _⟩ => ⟨S8x2x4224, .f32⟩
  | .hbm, ⟨68, _⟩ => ⟨S8x4224x2, .f32⟩
  | .local _ .vmem, ⟨0, _⟩ => ⟨S4224x128, .bf16⟩
  | .local _ .vmem, ⟨1, _⟩ => ⟨S4224x128, .bf16⟩
  | .local _ .vmem, ⟨2, _⟩ => ⟨S384x128, .bf16⟩
  | .local _ .vmem, ⟨3, _⟩ => ⟨S384x128, .bf16⟩
  | .local _ .vmem, ⟨4, _⟩ => ⟨S384x128, .bf16⟩
  | .local _ .vmem, ⟨5, _⟩ => ⟨S384x128, .bf16⟩
  | .local _ .vmem, ⟨6, _⟩ => ⟨S4224x128, .f32⟩
  | .local _ .vmem, ⟨7, _⟩ => ⟨S4224x128, .f32⟩
  | .local _ .vmem, ⟨8, _⟩ => ⟨S1x2x4224, .f32⟩
  | .local _ .vmem, ⟨9, _⟩ => ⟨S1x2x4224, .f32⟩
  | .local _ .vmem, ⟨10, _⟩ => ⟨S1x2x4224, .f32⟩
  | .local _ .vmem, ⟨11, _⟩ => ⟨S1x2x4224, .f32⟩
  | .local _ .vmem, ⟨12, _⟩ => ⟨S1x2x4224, .f32⟩
  | .local _ .vmem, ⟨13, _⟩ => ⟨S1x2x4224, .f32⟩
  | .local _ .vmem, ⟨14, _⟩ => ⟨S1x384x2, .f32⟩
  | .local _ .vmem, ⟨15, _⟩ => ⟨S1x384x2, .f32⟩
  | .local _ .vmem, ⟨16, _⟩ => ⟨S4224x128, .bf16⟩
  | .local _ .vmem, ⟨17, _⟩ => ⟨S4224x128, .bf16⟩
  | .local _ .vmem, ⟨18, _⟩ => ⟨S384x128, .bf16⟩
  | .local _ .vmem, ⟨19, _⟩ => ⟨S384x128, .bf16⟩
  | .local _ .vmem, ⟨20, _⟩ => ⟨S384x128, .bf16⟩
  | .local _ .vmem, ⟨21, _⟩ => ⟨S384x128, .bf16⟩
  | .local _ .vmem, ⟨22, _⟩ => ⟨S1x2x4224, .f32⟩
  | .local _ .vmem, ⟨23, _⟩ => ⟨S1x2x4224, .f32⟩
  | .local _ .vmem, ⟨24, _⟩ => ⟨S1x384x2, .f32⟩
  | .local _ .vmem, ⟨25, _⟩ => ⟨S1x384x2, .f32⟩
  | .local _ .vmem, ⟨26, _⟩ => ⟨S128x4224, .f32⟩
  | .local _ .vmem, ⟨27, _⟩ => ⟨S2x4224, .f32⟩
  | _, _ => ⟨S4224x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53_0 : Ref sig .tc := ⟨.hbm, 64, rfl⟩
abbrev main_v53_1 : Ref sig .tc := ⟨.hbm, 65, rfl⟩
abbrev main_v53_2 : Ref sig .tc := ⟨.hbm, 66, rfl⟩
abbrev main_v53_3 : Ref sig .tc := ⟨.hbm, 67, rfl⟩
abbrev main_v53_4 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg1 : BitVec 32 := BitVec.ofNat 32 (i 1).val
  let c384_i32 : BitVec 32 := 384#32
  let v51 : BitVec 32 := Scalar.muli arg1 c384_i32
  v51
def k0_off1 (i : grid0.Coords) : Fin 2 → Nat :=
  let arg1 : BitVec 32 := BitVec.ofNat 32 (i 1).val
  let c384_i32 : BitVec 32 := 384#32
  let v51 : BitVec 32 := Scalar.muli arg1 c384_i32
  let v52 : BitVec 32 := v51
  let v53 : Index := Scalar.indexCast v52
  let c0_27 : Index := 0#32
  ![v53.toNat, 0]
def k0_off2 (i : grid0.Coords) : Fin 3 → Nat :=
  let c0_29 : Index := 0#32
  let c0_30 : Index := 0#32
  let arg1 : BitVec 32 := BitVec.ofNat 32 (i 1).val
  let c384_i32 : BitVec 32 := 384#32
  let v51 : BitVec 32 := Scalar.muli arg1 c384_i32
  let v52 : BitVec 32 := v51
  let v58 : Index := Scalar.indexCast v52
  ![0, 0, v58.toNat]
def k0_off3 (i : grid0.Coords) : Fin 2 → Nat :=
  let c0_41 : Index := 0#32
  let arg1 : BitVec 32 := BitVec.ofNat 32 (i 1).val
  let c384_i32 : BitVec 32 := 384#32
  let v51 : BitVec 32 := Scalar.muli arg1 c384_i32
  let v52 : BitVec 32 := v51
  let v91 : Index := Scalar.indexCast v52
  ![0, v91.toNat]
def k0_off4 (i : grid0.Coords) : Fin 3 → Nat :=
  let c0_45 : Index := 0#32
  let c1_46 : Index := 1#32
  let arg1 : BitVec 32 := BitVec.ofNat 32 (i 1).val
  let c384_i32 : BitVec 32 := 384#32
  let v51 : BitVec 32 := Scalar.muli arg1 c384_i32
  let v52 : BitVec 32 := v51
  let v103 : Index := Scalar.indexCast v52
  ![0, 1, v103.toNat]
def k0_off5 (i : grid0.Coords) : Fin 2 → Nat :=
  let c1_57 : Index := 1#32
  let arg1 : BitVec 32 := BitVec.ofNat 32 (i 1).val
  let c384_i32 : BitVec 32 := 384#32
  let v51 : BitVec 32 := Scalar.muli arg1 c384_i32
  let v52 : BitVec 32 := v51
  let v137 : Index := Scalar.indexCast v52
  ![1, v137.toNat]
def k0_off6 (i : grid0.Coords) : Fin 2 → Nat :=
  let c0_61 : Index := 0#32
  let arg1 : BitVec 32 := BitVec.ofNat 32 (i 1).val
  let c384_i32 : BitVec 32 := 384#32
  let v51 : BitVec 32 := Scalar.muli arg1 c384_i32
  let v52 : BitVec 32 := v51
  let v149 : Index := Scalar.indexCast v52
  ![0, v149.toNat]
@[reducible] def k0_t1_loop (i : grid0.Coords) : Scf.Loop 32 :=
  let arg1 : BitVec 32 := BitVec.ofNat 32 (i 1).val
  let c1_i32 : BitVec 32 := 1#32
  let v156 : BitVec 32 := Scalar.addi arg1 c1_i32
  let c11_i32 : BitVec 32 := 11#32
  let v157 : BitVec 32 := Scalar.subi c11_i32 v156
  let c1_i32_63 : BitVec 32 := 1#32
  let v159 : BitVec 32 := Scalar.divsi v157 c1_i32_63
  let v160 : BitVec 32 := Scalar.muli v159 c1_i32_63
  let v161 : BitVec 32 := Scalar.addi v156 v160
  let c1_i32_64 : BitVec 32 := 1#32
  ⟨v156, v161, c1_i32_64⟩
def k0_mult2 (i : grid0.Coords) (k0_t1 : Fin (k0_t1_loop i).trips) : BitVec 32 :=
  let arg1 : BitVec 32 := BitVec.ofNat 32 (i 1).val
  let c1_i32 : BitVec 32 := 1#32
  let v156 : BitVec 32 := Scalar.addi arg1 c1_i32
  let c1_i32_64 : BitVec 32 := 1#32
  let arg17 : BitVec 32 := Scf.iv v156 c1_i32_64 k0_t1
  let c384_i32_77 : BitVec 32 := 384#32
  let v183 : BitVec 32 := Scalar.muli arg17 c384_i32_77
  v183
def k0_off7 (i : grid0.Coords) (k0_t1 : Fin (k0_t1_loop i).trips) : Fin 2 → Nat :=
  let arg1 : BitVec 32 := BitVec.ofNat 32 (i 1).val
  let c1_i32 : BitVec 32 := 1#32
  let v156 : BitVec 32 := Scalar.addi arg1 c1_i32
  let c1_i32_64 : BitVec 32 := 1#32
  let arg17 : BitVec 32 := Scf.iv v156 c1_i32_64 k0_t1
  let c384_i32_77 : BitVec 32 := 384#32
  let v183 : BitVec 32 := Scalar.muli arg17 c384_i32_77
  let v184 : BitVec 32 := v183
  let v185 : Index := Scalar.indexCast v184
  let c0_78 : Index := 0#32
  ![v185.toNat, 0]
def k0_off8 (i : grid0.Coords) (k0_t1 : Fin (k0_t1_loop i).trips) : Fin 3 → Nat :=
  let c0_80 : Index := 0#32
  let c0_81 : Index := 0#32
  let arg1 : BitVec 32 := BitVec.ofNat 32 (i 1).val
  let c1_i32 : BitVec 32 := 1#32
  let v156 : BitVec 32 := Scalar.addi arg1 c1_i32
  let c1_i32_64 : BitVec 32 := 1#32
  let arg17 : BitVec 32 := Scf.iv v156 c1_i32_64 k0_t1
  let c384_i32_77 : BitVec 32 := 384#32
  let v183 : BitVec 32 := Scalar.muli arg17 c384_i32_77
  let v184 : BitVec 32 := v183
  let v190 : Index := Scalar.indexCast v184
  ![0, 0, v190.toNat]
def k0_off9 (i : grid0.Coords) (k0_t1 : Fin (k0_t1_loop i).trips) : Fin 2 → Nat :=
  let c0_91 : Index := 0#32
  let arg1 : BitVec 32 := BitVec.ofNat 32 (i 1).val
  let c1_i32 : BitVec 32 := 1#32
  let v156 : BitVec 32 := Scalar.addi arg1 c1_i32
  let c1_i32_64 : BitVec 32 := 1#32
  let arg17 : BitVec 32 := Scf.iv v156 c1_i32_64 k0_t1
  let c384_i32_77 : BitVec 32 := 384#32
  let v183 : BitVec 32 := Scalar.muli arg17 c384_i32_77
  let v184 : BitVec 32 := v183
  let v218 : Index := Scalar.indexCast v184
  ![0, v218.toNat]
def k0_off10 (i : grid0.Coords) (k0_t1 : Fin (k0_t1_loop i).trips) : Fin 3 → Nat :=
  let c0_95 : Index := 0#32
  let c1_96 : Index := 1#32
  let arg1 : BitVec 32 := BitVec.ofNat 32 (i 1).val
  let c1_i32 : BitVec 32 := 1#32
  let v156 : BitVec 32 := Scalar.addi arg1 c1_i32
  let c1_i32_64 : BitVec 32 := 1#32
  let arg17 : BitVec 32 := Scf.iv v156 c1_i32_64 k0_t1
  let c384_i32_77 : BitVec 32 := 384#32
  let v183 : BitVec 32 := Scalar.muli arg17 c384_i32_77
  let v184 : BitVec 32 := v183
  let v230 : Index := Scalar.indexCast v184
  ![0, 1, v230.toNat]
def k0_off11 (i : grid0.Coords) (k0_t1 : Fin (k0_t1_loop i).trips) : Fin 2 → Nat :=
  let c1_106 : Index := 1#32
  let arg1 : BitVec 32 := BitVec.ofNat 32 (i 1).val
  let c1_i32 : BitVec 32 := 1#32
  let v156 : BitVec 32 := Scalar.addi arg1 c1_i32
  let c1_i32_64 : BitVec 32 := 1#32
  let arg17 : BitVec 32 := Scf.iv v156 c1_i32_64 k0_t1
  let c384_i32_77 : BitVec 32 := 384#32
  let v183 : BitVec 32 := Scalar.muli arg17 c384_i32_77
  let v184 : BitVec 32 := v183
  let v259 : Index := Scalar.indexCast v184
  ![1, v259.toNat]
def k0_off12 (i : grid0.Coords) (k0_t1 : Fin (k0_t1_loop i).trips) : Fin 2 → Nat :=
  let c0_110 : Index := 0#32
  let arg1 : BitVec 32 := BitVec.ofNat 32 (i 1).val
  let c1_i32 : BitVec 32 := 1#32
  let v156 : BitVec 32 := Scalar.addi arg1 c1_i32
  let c1_i32_64 : BitVec 32 := 1#32
  let arg17 : BitVec 32 := Scf.iv v156 c1_i32_64 k0_t1
  let c384_i32_77 : BitVec 32 := 384#32
  let v183 : BitVec 32 := Scalar.muli arg17 c384_i32_77
  let v184 : BitVec 32 := v183
  let v271 : Index := Scalar.indexCast v184
  ![0, v271.toNat]
@[reducible] def k0_t2_loop (i : grid0.Coords) : Scf.Loop 32 :=
  let arg1 : BitVec 32 := BitVec.ofNat 32 (i 1).val
  let c1_i32 : BitVec 32 := 1#32
  let v156 : BitVec 32 := Scalar.addi arg1 c1_i32
  let c11_i32 : BitVec 32 := 11#32
  let v157 : BitVec 32 := Scalar.subi c11_i32 v156
  let c1_i32_63 : BitVec 32 := 1#32
  let v159 : BitVec 32 := Scalar.divsi v157 c1_i32_63
  let v160 : BitVec 32 := Scalar.muli v159 c1_i32_63
  let v161 : BitVec 32 := Scalar.addi v156 v160
  let v158 : BitVec 32 := Scalar.addi v156 v157
  let c1_i32_65 : BitVec 32 := 1#32
  ⟨v161, v158, c1_i32_65⟩
def k0_mult3 (i : grid0.Coords) (k0_t2 : Fin (k0_t2_loop i).trips) : BitVec 32 :=
  let arg1 : BitVec 32 := BitVec.ofNat 32 (i 1).val
  let c1_i32 : BitVec 32 := 1#32
  let v156 : BitVec 32 := Scalar.addi arg1 c1_i32
  let c11_i32 : BitVec 32 := 11#32
  let v157 : BitVec 32 := Scalar.subi c11_i32 v156
  let c1_i32_63 : BitVec 32 := 1#32
  let v159 : BitVec 32 := Scalar.divsi v157 c1_i32_63
  let v160 : BitVec 32 := Scalar.muli v159 c1_i32_63
  let v161 : BitVec 32 := Scalar.addi v156 v160
  let c1_i32_65 : BitVec 32 := 1#32
  let arg17 : BitVec 32 := Scf.iv v161 c1_i32_65 k0_t2
  let c384_i32_77 : BitVec 32 := 384#32
  let v183 : BitVec 32 := Scalar.muli arg17 c384_i32_77
  v183
def k0_off13 (i : grid0.Coords) (k0_t2 : Fin (k0_t2_loop i).trips) : Fin 2 → Nat :=
  let arg1 : BitVec 32 := BitVec.ofNat 32 (i 1).val
  let c1_i32 : BitVec 32 := 1#32
  let v156 : BitVec 32 := Scalar.addi arg1 c1_i32
  let c11_i32 : BitVec 32 := 11#32
  let v157 : BitVec 32 := Scalar.subi c11_i32 v156
  let c1_i32_63 : BitVec 32 := 1#32
  let v159 : BitVec 32 := Scalar.divsi v157 c1_i32_63
  let v160 : BitVec 32 := Scalar.muli v159 c1_i32_63
  let v161 : BitVec 32 := Scalar.addi v156 v160
  let c1_i32_65 : BitVec 32 := 1#32
  let arg17 : BitVec 32 := Scf.iv v161 c1_i32_65 k0_t2
  let c384_i32_77 : BitVec 32 := 384#32
  let v183 : BitVec 32 := Scalar.muli arg17 c384_i32_77
  let v184 : BitVec 32 := v183
  let v185 : Index := Scalar.indexCast v184
  let c0_78 : Index := 0#32
  ![v185.toNat, 0]
def k0_off14 (i : grid0.Coords) (k0_t2 : Fin (k0_t2_loop i).trips) : Fin 3 → Nat :=
  let c0_80 : Index := 0#32
  let c0_81 : Index := 0#32
  let arg1 : BitVec 32 := BitVec.ofNat 32 (i 1).val
  let c1_i32 : BitVec 32 := 1#32
  let v156 : BitVec 32 := Scalar.addi arg1 c1_i32
  let c11_i32 : BitVec 32 := 11#32
  let v157 : BitVec 32 := Scalar.subi c11_i32 v156
  let c1_i32_63 : BitVec 32 := 1#32
  let v159 : BitVec 32 := Scalar.divsi v157 c1_i32_63
  let v160 : BitVec 32 := Scalar.muli v159 c1_i32_63
  let v161 : BitVec 32 := Scalar.addi v156 v160
  let c1_i32_65 : BitVec 32 := 1#32
  let arg17 : BitVec 32 := Scf.iv v161 c1_i32_65 k0_t2
  let c384_i32_77 : BitVec 32 := 384#32
  let v183 : BitVec 32 := Scalar.muli arg17 c384_i32_77
  let v184 : BitVec 32 := v183
  let v190 : Index := Scalar.indexCast v184
  ![0, 0, v190.toNat]
def k0_off15 (i : grid0.Coords) (k0_t2 : Fin (k0_t2_loop i).trips) : Fin 2 → Nat :=
  let c0_91 : Index := 0#32
  let arg1 : BitVec 32 := BitVec.ofNat 32 (i 1).val
  let c1_i32 : BitVec 32 := 1#32
  let v156 : BitVec 32 := Scalar.addi arg1 c1_i32
  let c11_i32 : BitVec 32 := 11#32
  let v157 : BitVec 32 := Scalar.subi c11_i32 v156
  let c1_i32_63 : BitVec 32 := 1#32
  let v159 : BitVec 32 := Scalar.divsi v157 c1_i32_63
  let v160 : BitVec 32 := Scalar.muli v159 c1_i32_63
  let v161 : BitVec 32 := Scalar.addi v156 v160
  let c1_i32_65 : BitVec 32 := 1#32
  let arg17 : BitVec 32 := Scf.iv v161 c1_i32_65 k0_t2
  let c384_i32_77 : BitVec 32 := 384#32
  let v183 : BitVec 32 := Scalar.muli arg17 c384_i32_77
  let v184 : BitVec 32 := v183
  let v218 : Index := Scalar.indexCast v184
  ![0, v218.toNat]
def k0_off16 (i : grid0.Coords) (k0_t2 : Fin (k0_t2_loop i).trips) : Fin 3 → Nat :=
  let c0_95 : Index := 0#32
  let c1_96 : Index := 1#32
  let arg1 : BitVec 32 := BitVec.ofNat 32 (i 1).val
  let c1_i32 : BitVec 32 := 1#32
  let v156 : BitVec 32 := Scalar.addi arg1 c1_i32
  let c11_i32 : BitVec 32 := 11#32
  let v157 : BitVec 32 := Scalar.subi c11_i32 v156
  let c1_i32_63 : BitVec 32 := 1#32
  let v159 : BitVec 32 := Scalar.divsi v157 c1_i32_63
  let v160 : BitVec 32 := Scalar.muli v159 c1_i32_63
  let v161 : BitVec 32 := Scalar.addi v156 v160
  let c1_i32_65 : BitVec 32 := 1#32
  let arg17 : BitVec 32 := Scf.iv v161 c1_i32_65 k0_t2
  let c384_i32_77 : BitVec 32 := 384#32
  let v183 : BitVec 32 := Scalar.muli arg17 c384_i32_77
  let v184 : BitVec 32 := v183
  let v230 : Index := Scalar.indexCast v184
  ![0, 1, v230.toNat]
def k0_off17 (i : grid0.Coords) (k0_t2 : Fin (k0_t2_loop i).trips) : Fin 2 → Nat :=
  let c1_106 : Index := 1#32
  let arg1 : BitVec 32 := BitVec.ofNat 32 (i 1).val
  let c1_i32 : BitVec 32 := 1#32
  let v156 : BitVec 32 := Scalar.addi arg1 c1_i32
  let c11_i32 : BitVec 32 := 11#32
  let v157 : BitVec 32 := Scalar.subi c11_i32 v156
  let c1_i32_63 : BitVec 32 := 1#32
  let v159 : BitVec 32 := Scalar.divsi v157 c1_i32_63
  let v160 : BitVec 32 := Scalar.muli v159 c1_i32_63
  let v161 : BitVec 32 := Scalar.addi v156 v160
  let c1_i32_65 : BitVec 32 := 1#32
  let arg17 : BitVec 32 := Scf.iv v161 c1_i32_65 k0_t2
  let c384_i32_77 : BitVec 32 := 384#32
  let v183 : BitVec 32 := Scalar.muli arg17 c384_i32_77
  let v184 : BitVec 32 := v183
  let v259 : Index := Scalar.indexCast v184
  ![1, v259.toNat]
def k0_off18 (i : grid0.Coords) (k0_t2 : Fin (k0_t2_loop i).trips) : Fin 2 → Nat :=
  let c0_110 : Index := 0#32
  let arg1 : BitVec 32 := BitVec.ofNat 32 (i 1).val
  let c1_i32 : BitVec 32 := 1#32
  let v156 : BitVec 32 := Scalar.addi arg1 c1_i32
  let c11_i32 : BitVec 32 := 11#32
  let v157 : BitVec 32 := Scalar.subi c11_i32 v156
  let c1_i32_63 : BitVec 32 := 1#32
  let v159 : BitVec 32 := Scalar.divsi v157 c1_i32_63
  let v160 : BitVec 32 := Scalar.muli v159 c1_i32_63
  let v161 : BitVec 32 := Scalar.addi v156 v160
  let c1_i32_65 : BitVec 32 := 1#32
  let arg17 : BitVec 32 := Scf.iv v161 c1_i32_65 k0_t2
  let c384_i32_77 : BitVec 32 := 384#32
  let v183 : BitVec 32 := Scalar.muli arg17 c384_i32_77
  let v184 : BitVec 32 := v183
  let v271 : Index := Scalar.indexCast v184
  ![0, v271.toNat]
def k0_cond2 (i : grid0.Coords) : BitVec 1 :=
  let arg1 : BitVec 32 := BitVec.ofNat 32 (i 1).val
  let c10_i32 : BitVec 32 := 10#32
  let v180 : BitVec 1 := Scalar.cmpi .eq arg1 c10_i32
  let v181 : BitVec 32 := Scalar.extui v180
  let c0_i32_76 : BitVec 32 := 0#32
  let v182 : BitVec 1 := Scalar.cmpi .ne v181 c0_i32_76
  v182

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x4224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x4224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x4224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x384x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4224x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x4224 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x384x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnKernelIdeal.lean ====
variable {F : FTy → Type} [FloatOps F] [Named F]
def κ : String → Option EReal := fun
  | "mask" => some ⊥
  | _ => none
-- ==== AttnReferenceIdeal.lean ====
abbrev S4224x3072 : Shape := ⟨2, ![4224, 3072]⟩
abbrev S4224x16 : Shape := ⟨2, ![4224, 16]⟩
abbrev S4224x2048 : Shape := ⟨2, ![4224, 2048]⟩
abbrev S4224x1024 : Shape := ⟨2, ![4224, 1024]⟩
abbrev S4224x16x64 : Shape := ⟨3, ![4224, 16, 64]⟩
abbrev S16x4224x4224 : Shape := ⟨3, ![16, 4224, 4224]⟩
abbrev S_ : Shape := ⟨0, ![]⟩
abbrev S16x4224 : Shape := ⟨2, ![16, 4224]⟩
abbrev S16x4224x1 : Shape := ⟨3, ![16, 4224, 1]⟩
abbrev S16x1x4224 : Shape := ⟨3, ![16, 1, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S16x64x4224 : Shape := ⟨3, ![16, 64, 4224]⟩
abbrev S16x4224x64 : Shape := ⟨3, ![16, 4224, 64]⟩
abbrev S4224x8x2 : Shape := ⟨3, ![4224, 8, 2]⟩
abbrev S8x2x4224 : Shape := ⟨3, ![8, 2, 4224]⟩
abbrev S8x4224x2 : Shape := ⟨3, ![8, 4224, 2]⟩

abbrev nBuf : Space → Nat
  | .hbm => 129
  | .vmem => 0
  | .smem => 0
  | _ => 0

abbrev hbmTy0_0 (i : Nat) : BufTy := match i % 128 with
  | 0 => ⟨S4224x3072, .bf16⟩
  | 1 => ⟨S4224x16, .f32⟩
  | 2 => ⟨S4224x2048, .f32⟩
  | 3 => ⟨S4224x3072, .f32⟩
  | 4 => ⟨S4224x1024, .f32⟩
  | 5 => ⟨S4224x1024, .f32⟩
  | 6 => ⟨S4224x1024, .f32⟩
  | 7 => ⟨S4224x16x64, .f32⟩
  | 8 => ⟨S4224x16x64, .f32⟩
  | 9 => ⟨S4224x16x64, .f32⟩
  | 10 => ⟨S4224x1024, .f32⟩
  | 11 => ⟨S4224x16x64, .f32⟩
  | 12 => ⟨S16x4224x4224, .f32⟩
  | 13 => ⟨S_, .f32⟩
  | 14 => ⟨S16x4224x4224, .f32⟩
  | 15 => ⟨S16x4224x4224, .f32⟩
  | 16 => ⟨S16x4224, .f32⟩
  | 17 => ⟨S16x4224x1, .f32⟩
  | 18 => ⟨S16x4224x4224, .f32⟩
  | 19 => ⟨S16x4224x4224, .f32⟩
  | 20 => ⟨S16x4224, .f32⟩
  | 21 => ⟨S16x1x4224, .f32⟩
  | 22 => ⟨S16x4224x4224, .f32⟩
  | 23 => ⟨S16x4224x4224, .f32⟩
  | 24 => ⟨S4224, .i32⟩
  | 25 => ⟨S1x4224, .i32⟩
  | 26 => ⟨S4224, .i32⟩
  | 27 => ⟨S4224x1, .i32⟩
  | 28 => ⟨S4224x4224, .i32⟩
  | 29 => ⟨S4224x4224, .i32⟩
  | 30 => ⟨S4224x4224, .i1⟩
  | 31 => ⟨S_, .f32⟩
  | 32 => ⟨S_, .f32⟩
  | 33 => ⟨S16x4224x4224, .i1⟩
  | 34 => ⟨S16x4224x4224, .f32⟩
  | 35 => ⟨S16x4224x4224, .f32⟩
  | 36 => ⟨S_, .f32⟩
  | 37 => ⟨S16x4224x4224, .f32⟩
  | 38 => ⟨S_, .f32⟩
  | 39 => ⟨S16x4224, .f32⟩
  | 40 => ⟨S16x4224x1, .f32⟩
  | 41 => ⟨S16x4224x4224, .f32⟩
  | 42 => ⟨S16x4224x4224, .i1⟩
  | 43 => ⟨S16x4224x4224, .f32⟩
  | 44 => ⟨S_, .f32⟩
  | 45 => ⟨S16x4224, .f32⟩
  | 46 => ⟨S_, .f32⟩
  | 47 => ⟨S16x4224, .f32⟩
  | 48 => ⟨S16x4224, .f32⟩
  | 49 => ⟨S_, .f32⟩
  | 50 => ⟨S16x4224, .f32⟩
  | 51 => ⟨S16x4224, .i1⟩
  | 52 => ⟨S_, .f32⟩
  | 53 => ⟨S16x4224, .f32⟩
  | 54 => ⟨S16x4224, .i1⟩
  | 55 => ⟨S_, .f32⟩
  | 56 => ⟨S16x4224, .f32⟩
  | 57 => ⟨S_, .f32⟩
  | 58 => ⟨S16x4224, .f32⟩
  | 59 => ⟨S_, .f32⟩
  | 60 => ⟨S16x4224, .f32⟩
  | 61 => ⟨S16x4224, .f32⟩
  | 62 => ⟨S16x4224, .f32⟩
  | 63 => ⟨S16x4224x1, .f32⟩
  | 64 => ⟨S16x4224x4224, .f32⟩
  | 65 => ⟨S16x4224x4224, .f32⟩
  | 66 => ⟨S16x4224x4224, .f32⟩
  | 67 => ⟨S_, .f32⟩
  | 68 => ⟨S16x4224, .f32⟩
  | 69 => ⟨S16x4224x1, .f32⟩
  | 70 => ⟨S16x4224x4224, .f32⟩
  | 71 => ⟨S16x4224x4224, .f32⟩
  | 72 => ⟨S16x4224x1, .f32⟩
  | 73 => ⟨S_, .f32⟩
  | 74 => ⟨S16x4224x1, .f32⟩
  | 75 => ⟨S16x4224x1, .f32⟩
  | 76 => ⟨S16x64x4224, .f32⟩
  | 77 => ⟨S4224x16x64, .f32⟩
  | 78 => ⟨S16x64x4224, .f32⟩
  | 79 => ⟨S16x4224x4224, .f32⟩
  | 80 => ⟨S16x64x4224, .f32⟩
  | 81 => ⟨S4224x16x64, .f32⟩
  | 82 => ⟨S16x4224x4224, .f32⟩
  | 83 => ⟨S16x4224x4224, .f32⟩
  | 84 => ⟨S16x4224x4224, .f32⟩
  | 85 => ⟨S_, .f32⟩
  | 86 => ⟨S16x4224, .f32⟩
  | 87 => ⟨S16x4224x1, .f32⟩
  | 88 => ⟨S16x4224x1, .f32⟩
  | 89 => ⟨S16x4224x4224, .f32⟩
  | 90 => ⟨S16x4224x4224, .f32⟩
  | 91 => ⟨S_, .f32⟩
  | 92 => ⟨S16x4224, .f32⟩
  | 93 => ⟨S16x4224x4224, .f32⟩
  | 94 => ⟨S16x4224x4224, .f32⟩
  | 95 => ⟨S16x4224x4224, .f32⟩
  | 96 => ⟨S_, .f32⟩
  | 97 => ⟨S16x4224x4224, .f32⟩
  | 98 => ⟨S16x4224x4224, .f32⟩
  | 99 => ⟨S16x4224x4224, .f32⟩
  | 100 => ⟨S_, .f32⟩
  | 101 => ⟨S16x4224, .f32⟩
  | 102 => ⟨S16x1x4224, .f32⟩
  | 103 => ⟨S_, .f32⟩
  | 104 => ⟨S16x4224, .f32⟩
  | 105 => ⟨S4224x16, .f32⟩
  | 106 => ⟨S_, .f32⟩
  | 107 => ⟨S16x4224, .f32⟩
  | 108 => ⟨S16x4224x1, .f32⟩
  | 109 => ⟨S_, .f32⟩
  | 110 => ⟨S16x4224, .f32⟩
  | 111 => ⟨S4224x16, .f32⟩
  | 112 => ⟨S_, .f32⟩
  | 113 => ⟨S16x4224x4224, .f32⟩
  | 114 => ⟨S16x4224x4224, .f32⟩
  | 115 => ⟨S16x4224x64, .f32⟩
  | 116 => ⟨S4224x16x64, .f32⟩
  | 117 => ⟨S16x4224x64, .f32⟩
  | 118 => ⟨S4224x16x64, .f32⟩
  | 119 => ⟨S4224x1024, .f32⟩
  | 120 => ⟨S4224x1024, .bf16⟩
  | 121 => ⟨S4224x1024, .f32⟩
  | 122 => ⟨S4224x1024, .bf16⟩
  | 123 => ⟨S4224x1024, .f32⟩
  | 124 => ⟨S4224x1024, .bf16⟩
  | 125 => ⟨S4224x8x2, .f32⟩
  | 126 => ⟨S8x2x4224, .f32⟩
  | 127 => ⟨S4224x8x2, .f32⟩
  | _ => ⟨S4224x3072, .bf16⟩

abbrev hbmTy0_1 (i : Nat) : BufTy := match i % 128 with
  | 0 => ⟨S8x4224x2, .f32⟩
  | _ => ⟨S4224x3072, .bf16⟩

abbrev hbmTy (i : Nat) : BufTy := match i / 128 with
  | 0 => hbmTy0_0 i
  | 1 => hbmTy0_1 i
  | _ => ⟨S4224x3072, .bf16⟩

abbrev bufTy : (tb : Table) → Fin (tcTables nBuf tb) → BufTy
  | .hbm, ⟨i, _⟩ => hbmTy i
  | _, _ => ⟨S4224x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== DwdownKernel.lean ====
abbrev S4224x5632 : Shape := ⟨2, ![4224, 5632]⟩
abbrev S4224x2048 : Shape := ⟨2, ![4224, 2048]⟩
abbrev S5632x2048 : Shape := ⟨2, ![5632, 2048]⟩
abbrev S4224x512 : Shape := ⟨2, ![4224, 512]⟩
abbrev S4224x1024 : Shape := ⟨2, ![4224, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S5632x2048, .f32⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .f32⟩
  | .local _ .vmem, ⟨5, _⟩ => ⟨S512x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownReferenceIdeal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S_, .f32⟩
  | .hbm, ⟨3, _⟩ => ⟨S5632x2048, .f32⟩
  | .hbm, ⟨4, _⟩ => ⟨S4224x5632, .f32⟩
  | .hbm, ⟨5, _⟩ => ⟨S4224x2048, .f32⟩
  | .hbm, ⟨6, _⟩ => ⟨S4224x2048, .f32⟩
  | .hbm, ⟨7, _⟩ => ⟨S2048x5632, .f32⟩
  | .hbm, ⟨8, _⟩ => ⟨S5632x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwgateKernel.lean ====
abbrev S4224x2048 : Shape := ⟨2, ![4224, 2048]⟩
abbrev S4224x5632 : Shape := ⟨2, ![4224, 5632]⟩
abbrev S2048x4224 : Shape := ⟨2, ![2048, 4224]⟩
abbrev S2048x5632 : Shape := ⟨2, ![2048, 5632]⟩
abbrev S1024x4224 : Shape := ⟨2, ![1024, 4224]⟩
abbrev S4224x512 : Shape := ⟨2, ![4224, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x5632, .bf16⟩
  | .hbm, ⟨2, _⟩ => ⟨S2048x4224, .bf16⟩
  | .hbm, ⟨3, _⟩ => ⟨S2048x5632, .f32⟩
  | .local _ .vmem, ⟨0, _⟩ => ⟨S1024x4224, .bf16⟩
  | .local _ .vmem, ⟨1, _⟩ => ⟨S1024x4224, .bf16⟩
  | .local _ .vmem, ⟨2, _⟩ => ⟨S4224x512, .bf16⟩
  | .local _ .vmem, ⟨3, _⟩ => ⟨S4224x512, .bf16⟩
  | .local _ .vmem, ⟨4, _⟩ => ⟨S1024x512, .f32⟩
  | .local _ .vmem, ⟨5, _⟩ => ⟨S1024x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgateReferenceIdeal.lean ====
abbrev S4224x2048 : Shape := ⟨2, ![4224, 2048]⟩
abbrev S4224x5632 : Shape := ⟨2, ![4224, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x5632, .bf16⟩
  | .hbm, ⟨2, _⟩ => ⟨S_, .f32⟩
  | .hbm, ⟨3, _⟩ => ⟨S2048x5632, .f32⟩
  | .hbm, ⟨4, _⟩ => ⟨S4224x2048, .f32⟩
  | .hbm, ⟨5, _⟩ => ⟨S4224x5632, .f32⟩
  | .hbm, ⟨6, _⟩ => ⟨S4224x5632, .f32⟩
  | .hbm, ⟨7, _⟩ => ⟨S5632x2048, .f32⟩
  | .hbm, ⟨8, _⟩ => ⟨S2048x5632, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DuKernel.lean ====
abbrev S4224x5632 : Shape := ⟨2, ![4224, 5632]⟩
abbrev S2048x5632 : Shape := ⟨2, ![2048, 5632]⟩
abbrev S4224x2048 : Shape := ⟨2, ![4224, 2048]⟩
abbrev S384x5632 : Shape := ⟨2, ![384, 5632]⟩
abbrev S512x5632 : Shape := ⟨2, ![512, 5632]⟩
abbrev S384x512 : Shape := ⟨2, ![384, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x5632, .bf16⟩
  | .hbm, ⟨1, _⟩ => ⟨S2048x5632, .bf16⟩
  | .hbm, ⟨2, _⟩ => ⟨S4224x2048, .f32⟩
  | .local _ .vmem, ⟨0, _⟩ => ⟨S384x5632, .bf16⟩
  | .local _ .vmem, ⟨1, _⟩ => ⟨S384x5632, .bf16⟩
  | .local _ .vmem, ⟨2, _⟩ => ⟨S512x5632, .bf16⟩
  | .local _ .vmem, ⟨3, _⟩ => ⟨S512x5632, .bf16⟩
  | .local _ .vmem, ⟨4, _⟩ => ⟨S384x512, .f32⟩
  | .local _ .vmem, ⟨5, _⟩ => ⟨S384x512, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuReferenceIdeal.lean ====
abbrev S4224x5632 : Shape := ⟨2, ![4224, 5632]⟩
abbrev S2048x5632 : Shape := ⟨2, ![2048, 5632]⟩
abbrev S_ : Shape := ⟨0, ![]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S2048x5632, .bf16⟩
  | .hbm, ⟨2, _⟩ => ⟨S_, .f32⟩
  | .hbm, ⟨3, _⟩ => ⟨S4224x2048, .f32⟩
  | .hbm, ⟨4, _⟩ => ⟨S2048x5632, .f32⟩
  | .hbm, ⟨5, _⟩ => ⟨S4224x5632, .f32⟩
  | .hbm, ⟨6, _⟩ => ⟨S4224x5632, .f32⟩
  | .hbm, ⟨7, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DuupKernel.lean ====
abbrev S4224x5632 : Shape := ⟨2, ![4224, 5632]⟩
abbrev S2048x5632 : Shape := ⟨2, ![2048, 5632]⟩
abbrev S4224x2048 : Shape := ⟨2, ![4224, 2048]⟩
abbrev S384x5632 : Shape := ⟨2, ![384, 5632]⟩
abbrev S512x5632 : Shape := ⟨2, ![512, 5632]⟩
abbrev S384x512 : Shape := ⟨2, ![384, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x5632, .bf16⟩
  | .hbm, ⟨1, _⟩ => ⟨S2048x5632, .bf16⟩
  | .hbm, ⟨2, _⟩ => ⟨S4224x2048, .f32⟩
  | .hbm, ⟨3, _⟩ => ⟨S4224x2048, .f32⟩
  | .local _ .vmem, ⟨0, _⟩ => ⟨S384x5632, .bf16⟩
  | .local _ .vmem, ⟨1, _⟩ => ⟨S384x5632, .bf16⟩
  | .local _ .vmem, ⟨2, _⟩ => ⟨S512x5632, .bf16⟩
  | .local _ .vmem, ⟨3, _⟩ => ⟨S512x5632, .bf16⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuupReferenceIdeal.lean ====
abbrev S4224x5632 : Shape := ⟨2, ![4224, 5632]⟩
abbrev S2048x5632 : Shape := ⟨2, ![2048, 5632]⟩
abbrev S4224x2048 : Shape := ⟨2, ![4224, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S2048x5632, .bf16⟩
  | .hbm, ⟨2, _⟩ => ⟨S4224x2048, .f32⟩
  | .hbm, ⟨3, _⟩ => ⟨S_, .f32⟩
  | .hbm, ⟨4, _⟩ => ⟨S4224x2048, .f32⟩
  | .hbm, ⟨5, _⟩ => ⟨S2048x5632, .f32⟩
  | .hbm, ⟨6, _⟩ => ⟨S4224x5632, .f32⟩
  | .hbm, ⟨7, _⟩ => ⟨S4224x5632, .f32⟩
  | .hbm, ⟨8, _⟩ => ⟨S4224x2048, .f32⟩
  | .hbm, ⟨9, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfninKernel.lean ====
abbrev S4224x2048 : Shape := ⟨2, ![4224, 2048]⟩
abbrev S2048x5632 : Shape := ⟨2, ![2048, 5632]⟩
abbrev S4224x5632 : Shape := ⟨2, ![4224, 5632]⟩
abbrev S384x2048 : Shape := ⟨2, ![384, 2048]⟩
abbrev S2048x1408 : Shape := ⟨2, ![2048, 1408]⟩
abbrev S384x1408 : Shape := ⟨2, ![384, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4224x2048, .bf16⟩
  | .hbm, ⟨1, _⟩ => ⟨S2048x5632, .bf16⟩
  | .hbm, ⟨2, _⟩ => ⟨S2048x5632, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .local _ .vmem, ⟨0, _⟩ => ⟨S384x2048, .bf16⟩
  | .local _ .vmem, ⟨1, _⟩ => ⟨S384x2048, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S384x1408, .bf16⟩
  | .local _ .vmem, ⟨7, _⟩ => ⟨S384x1408, .bf16⟩
  | .local _ .vmem, ⟨8, _⟩ => ⟨S384x1408, .bf16⟩
  | .local _ .vmem, ⟨9, _⟩ => ⟨S384x1408, .bf16⟩
  | .local _ .vmem, ⟨10, _⟩ => ⟨S384x1408, .bf16⟩
  | .local _ .vmem, ⟨11, _⟩ => ⟨S384x1408, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfninReferenceIdeal.lean ====
abbrev S4224x2048 : Shape := ⟨2, ![4224, 2048]⟩
abbrev S2048x5632 : Shape := ⟨2, ![2048, 5632]⟩
abbrev S4224x5632 : Shape := ⟨2, ![4224, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x5632, .bf16⟩
  | .hbm, ⟨2, _⟩ => ⟨S2048x5632, .bf16⟩
  | .hbm, ⟨3, _⟩ => ⟨S4224x2048, .f32⟩
  | .hbm, ⟨4, _⟩ => ⟨S2048x5632, .f32⟩
  | .hbm, ⟨5, _⟩ => ⟨S2048x5632, .f32⟩
  | .hbm, ⟨6, _⟩ => ⟨S4224x5632, .f32⟩
  | .hbm, ⟨7, _⟩ => ⟨S4224x5632, .f32⟩
  | .hbm, ⟨8, _⟩ => ⟨S4224x5632, .bf16⟩
  | .hbm, ⟨9, _⟩ => ⟨S4224x5632, .bf16⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S_, .f32⟩
  | .hbm, ⟨16, _⟩ => ⟨S4224x5632, .f32⟩
  | .hbm, ⟨17, _⟩ => ⟨S4224x5632, .f32⟩
  | .hbm, ⟨18, _⟩ => ⟨S4224x5632, .f32⟩
  | .hbm, ⟨19, _⟩ => ⟨S4224x5632, .f32⟩
  | .hbm, ⟨20, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnoutKernel.lean ====
abbrev S4224x5632 : Shape := ⟨2, ![4224, 5632]⟩
abbrev S5632x2048 : Shape := ⟨2, ![5632, 2048]⟩
abbrev S4224x2048 : Shape := ⟨2, ![4224, 2048]⟩
abbrev S384x5632 : Shape := ⟨2, ![384, 5632]⟩
abbrev S5632x512 : Shape := ⟨2, ![5632, 512]⟩
abbrev S384x512 : Shape := ⟨2, ![384, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .local _ .vmem, ⟨0, _⟩ => ⟨S384x5632, .bf16⟩
  | .local _ .vmem, ⟨1, _⟩ => ⟨S384x5632, .bf16⟩
  | .local _ .vmem, ⟨2, _⟩ => ⟨S5632x512, .bf16⟩
  | .local _ .vmem, ⟨3, _⟩ => ⟨S5632x512, .bf16⟩
  | .local _ .vmem, ⟨4, _⟩ => ⟨S384x512, .f32⟩
  | .local _ .vmem, ⟨5, _⟩ => ⟨S384x512, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnoutReferenceIdeal.lean ====
abbrev S4224x5632 : Shape := ⟨2, ![4224, 5632]⟩
abbrev S5632x2048 : Shape := ⟨2, ![5632, 2048]⟩
abbrev S4224x2048 : Shape := ⟨2, ![4224, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x5632, .f32⟩
  | .hbm, ⟨3, _⟩ => ⟨S5632x2048, .f32⟩
  | .hbm, ⟨4, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.ConvSpec.lean ====
/- The gradient of the gated short convolution, as formulas over its four arguments: the projection `X` (its
   columns 3088–4111 are the output gate, 4112–5135 the input gate, 5136–6159 the convolved branch), the taps `W`,
   the bias `B` and the cotangent `D` (columns 1024–2047). No program is mentioned here: the kernel and the
   reference are each shown to compute these. -/
module

public import Idealize.ShloMosaic.Lib.Pointwise
public import Idealize.ShloMosaic.Lib.Pipeline.ValueKit

@[expose] public section

noncomputable section

namespace Cert.ConvSpec

open Idealize.ShloMosaic

/-- The projection, 4224 rows by 6160 columns. -/
abbrev Proj := FVec Ideal ⟨2, ![4224, 6160]⟩ .f32
/-- The three taps of each of the 1024 channels. -/
abbrev Taps := FVec Ideal ⟨2, ![3, 1024]⟩ .f32
/-- The bias of each channel. -/
abbrev Bias := FVec Ideal ⟨1, ![1024]⟩ .f32
/-- The cotangent of the mixer's output, 4224 rows by 2048 columns. -/
abbrev Cot := FVec Ideal ⟨2, ![4224, 2048]⟩ .f32
/-- A quantity per row and channel. -/
abbrev Seq := Fin 4224 → Fin 1024 → EReal

/-- The output gate. -/
def gateB (X : Proj) : Seq := fun r l => X (ix2 r ⟨3088 + l, by omega⟩)
/-- The input gate. -/
def gateC (X : Proj) : Seq := fun r l => X (ix2 r ⟨4112 + l, by omega⟩)
/-- The branch that is convolved. -/
def branch (X : Proj) : Seq := fun r l => X (ix2 r ⟨5136 + l, by omega⟩)
/-- What enters the convolution: the gated branch. -/
def z (X : Proj) : Seq := fun r l => gateC X r l * branch X r l
/-- The cotangent of the convolution's result. -/
def ct (X : Proj) (D : Cot) : Seq := fun r l => gateB X r l * D (ix2 r ⟨1024 + l, by omega⟩)

/-- `u` delayed by `k` rows, zero before the first row. -/
def delay (k : ℕ) (u : Seq) : Seq := fun r l => if (r : ℕ) < k then 0 else u ⟨r - k, by omega⟩ l
/-- `u` advanced by `k` rows, zero after the last row. -/
def advance (k : ℕ) (u : Seq) : Seq := fun r l => if h : (r : ℕ) + k < 4224 then u ⟨r + k, h⟩ l else 0

/-- The convolution's result. -/
def conv (X : Proj) (W : Taps) (B : Bias) : Seq := fun r l =>
  W (ix2 0 l) * delay 2 (z X) r l + W (ix2 1 l) * delay 1 (z X) r l + W (ix2 2 l) * z X r l + B (ix1 l)

/-- The cotangent of what enters the convolution. -/
def dz (X : Proj) (W : Taps) (D : Cot) : Seq := fun r l =>
  W (ix2 2 l) * ct X D r l + W (ix2 1 l) * advance 1 (ct X D) r l + W (ix2 0 l) * advance 2 (ct X D) r l

/-- The gradient of the output gate. -/
def dGateB (X : Proj) (W : Taps) (B : Bias) (D : Cot) : Seq := fun r l => D (ix2 r ⟨1024 + l, by omega⟩) * conv X W B r l
/-- The gradient of the input gate. -/
def dGateC (X : Proj) (W : Taps) (D : Cot) : Seq := fun r l => dz X W D r l * branch X r l
/-- The gradient of the convolved branch. -/
def dBranch (X : Proj) (W : Taps) (D : Cot) : Seq := fun r l => dz X W D r l * gateC X r l
/-- The gradient of tap `k`: the cotangent against the input delayed by `2 - k` rows. -/
def dTap (X : Proj) (D : Cot) : Fin 3 → Fin 1024 → EReal := fun k l => ∑ r : Fin 4224, ct X D r l * delay (2 - k) (z X) r l
/-- The gradient of the bias. -/
def dBias (X : Proj) (D : Cot) : Fin 1024 → EReal := fun l => ∑ r : Fin 4224, ct X D r l

end Cert.ConvSpec

end
-- ==== Proof.ConvRead.lean ====
/- What the kernel's windows show at each grid point, in terms of the four arguments. -/
module

public import proofs.«01_k».proof.Proof.ConvSpec
public import proofs.«01_k».proof.Proof.Gen.ConvKernelIdeal.Value
public import Idealize.ShloMosaic.Lib.Claim

@[expose] public section

set_option maxRecDepth 16384

noncomputable section

namespace Cert.ConvKernelIdeal.Spec

open Cert.ConvKernelIdeal Cert.ConvKernelIdeal.Gen Cert.ConvSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has eight points. -/
theorem t_lt (t : Fin cfg0.N) : t.val < 8 := lt_of_lt_of_eq t.isLt N_0

/-- The channel that column `l` of the block of grid point `t` stands for. -/
def chan (t : Fin cfg0.N) (l : Fin 128) : Fin 1024 := ⟨t.val * 128 + l.val, by have := t_lt t; have := l.isLt; omega⟩

/-- The columns of the projection past the attention's, the forget gates moved to the end and padded with zeros. -/
def restOf (X : Proj) : FVec Ideal S4224x3200 .f32 := concatenate S4224x3200 1
    [⟨S4224x3072, extractStridedSlice S4224x3072 ![0, 3088] X slices_S4224x6160_S4224x3072_0_3088⟩,
     ⟨S4224x16, extractStridedSlice S4224x16 ![0, 3072] X slices_S4224x6160_S4224x16_0_3072⟩,
     ⟨S4224x112, broadcastInDim S4224x112 ![] bcast_S_S4224x112 (constant (F := Ideal) S_ .f32 0x00000000#32)⟩]
    concatenates_S4224x3072_S4224x16_S4224x112_S4224x3200_d1

/-- The first 3072 of those columns are the projection's last 3072. -/
theorem restOf_at (X : Proj) (r : Fin 4224) (q : Fin 3200) (hq : q.val < 3072) :
    restOf X (ix2 r q) = X (ix2 r ⟨3088 + q.val, by omega⟩) := by
  pointwise [restOf]
  simp only [dif_pos hq]

/-- The array the kernel's first three windows read holds those columns. -/
theorem V3 (c : Dev nD) : V m c main_v3 = restOf (m ((c : Thread nD τ).loc main_arg0)) := by
  unfold V
  after_results
  rfl

/-- The bias as a row. -/
theorem V4 (c : Dev nD) : V m c main_v4 = shapeCast S1x1024 (m ((c : Thread nD τ).loc main_arg2)) shapeCasts_S1024_S1x1024 := by
  unfold V
  after_results
  rfl

/-! The block of columns that each window shows at grid point `t`. -/

theorem idx0 : ∀ t : Fin cfg0.N, win0_0.index t = ![0, t.val] := (by decide +kernel : ∀ t : Fin grid0.N, _)
theorem idx1 : ∀ t : Fin cfg0.N, win0_1.index t = ![0, 8 + t.val] := (by decide +kernel : ∀ t : Fin grid0.N, _)
theorem idx2 : ∀ t : Fin cfg0.N, win0_2.index t = ![0, 16 + t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, 8 + t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)
theorem idx8 : ∀ t : Fin cfg0.N, win0_8.index t = ![0, t.val] := (by decide +kernel : ∀ t : Fin grid0.N, _)
theorem idx9 : ∀ t : Fin cfg0.N, win0_9.index t = ![0, t.val] := (by decide +kernel : ∀ t : Fin grid0.N, _)
theorem idx10 : ∀ t : Fin cfg0.N, win0_10.index t = ![0, t.val] := (by decide +kernel : ∀ t : Fin grid0.N, _)

/-- Window 0 reads the output gate. -/
theorem rd0 (c : Dev nD) (t : Fin cfg0.N) (r : Fin 4224) (l : Fin 128) :
    iblk m c 0 t (ix2 r l) = gateB (m ((c : Thread nD τ).loc main_arg0)) r (chan t l) := by
  have ht := t_lt t
  have hl := l.isLt
  have e : iblk m c 0 t (ix2 r l) = V m c main_v3 (ix2 r ⟨0 + (t.val * 128 + l.val), by omega⟩) := by
    blk_simp [iblk]
    refine congrArg (V m c main_v3) ?_
    blk_ext [idx0 t]
  refine e.trans ?_
  rw [V3]
  refine (restOf_at _ r _ (by show 0 + (t.val * 128 + l.val) < 3072; omega)).trans ?_
  unfold gateB chan
  refine congrArg _ ?_
  idx_ext

/-- Window 1 reads the input gate. -/
theorem rd1 (c : Dev nD) (t : Fin cfg0.N) (r : Fin 4224) (l : Fin 128) :
    iblk m c 1 t (ix2 r l) = gateC (m ((c : Thread nD τ).loc main_arg0)) r (chan t l) := by
  have ht := t_lt t
  have hl := l.isLt
  have e : iblk m c 1 t (ix2 r l) = V m c main_v3 (ix2 r ⟨1024 + (t.val * 128 + l.val), by omega⟩) := by
    blk_simp [iblk]
    refine congrArg (V m c main_v3) ?_
    blk_ext [idx1 t]
  refine e.trans ?_
  rw [V3]
  refine (restOf_at _ r _ (by show 1024 + (t.val * 128 + l.val) < 3072; omega)).trans ?_
  unfold gateC chan
  refine congrArg _ ?_
  idx_ext

/-- Window 2 reads the convolved branch. -/
theorem rd2 (c : Dev nD) (t : Fin cfg0.N) (r : Fin 4224) (l : Fin 128) :
    iblk m c 2 t (ix2 r l) = branch (m ((c : Thread nD τ).loc main_arg0)) r (chan t l) := by
  have ht := t_lt t
  have hl := l.isLt
  have e : iblk m c 2 t (ix2 r l) = V m c main_v3 (ix2 r ⟨2048 + (t.val * 128 + l.val), by omega⟩) := by
    blk_simp [iblk]
    refine congrArg (V m c main_v3) ?_
    blk_ext [idx2 t]
  refine e.trans ?_
  rw [V3]
  refine (restOf_at _ r _ (by show 2048 + (t.val * 128 + l.val) < 3072; omega)).trans ?_
  unfold branch chan
  refine congrArg _ ?_
  idx_ext

/-- Window 3 reads the taps. -/
theorem rd3 (c : Dev nD) (t : Fin cfg0.N) (k : Fin 3) (l : Fin 128) :
    iblk m c 3 t (ix2 k l) = m ((c : Thread nD τ).loc main_arg1) (ix2 k (chan t l)) := by
  have ht := t_lt t
  blk_simp [iblk]
  refine (congrFun (V_main_arg1 m c) _).trans (congrArg _ ?_)
  blk_ext [idx3 t, chan]

/-- Window 4 reads the bias. -/
theorem rd4 (c : Dev nD) (t : Fin cfg0.N) (l : Fin 128) :
    iblk m c 4 t (ix2 0 l) = m ((c : Thread nD τ).loc main_arg2) (ix1 (chan t l)) := by
  have ht := t_lt t
  have e : iblk m c 4 t (ix2 0 l) = V m c main_v4 (ix2 0 (chan t l)) := by
    blk_simp [iblk]
    refine congrArg (V m c main_v4) ?_
    blk_ext [idx4 t, chan]
  refine e.trans ?_
  rw [V4]
  pointwise

/-- Window 5 reads the cotangent of the convolution's half. -/
theorem rd5 (c : Dev nD) (t : Fin cfg0.N) (r : Fin 4224) (l : Fin 128) :
    iblk m c 5 t (ix2 r l) = m ((c : Thread nD τ).loc main_arg3) (ix2 r ⟨1024 + (chan t l).val, by have := (chan t l).isLt; omega⟩) := by
  have ht := t_lt t
  blk_simp [iblk]
  refine (congrFun (V_main_arg3 m c) _).trans (congrArg _ ?_)
  blk_ext [idx5 t, chan]

end Cert.ConvKernelIdeal.Spec

end
-- ==== Proof.ConvKer.lean ====
/- What each output array of the kernel holds after the run: the formulas of the gradient, in every row and channel. -/
module

public import proofs.«01_k».proof.Proof.ConvRead

@[expose] public section

set_option maxRecDepth 16384

noncomputable section

namespace Cert.ConvKernelIdeal.Spec

open Cert.ConvKernelIdeal Cert.ConvKernelIdeal.Gen Cert.ConvSpec Idealize.ShloMosaic Idealize.ShloMosaic.TcCoe Idealize.SL.Sem
open Idealize.ShloMosaic.Pipeline (Dat)

/-- A select on "the row is at least `k`". -/
theorem sel_ge (n k : ℕ) (hn : n < 2 ^ 31) (hk : k < 2 ^ 31) (a b : EReal) :
    Scalar.select (IntOp.cmpi .sge (BitVec.ofNat 32 n) (BitVec.ofNat 32 k)) a b = if n < k then b else a := by
  have hn' : (BitVec.ofNat 32 n).toNat = n := by simp; omega
  have hk' : (BitVec.ofNat 32 k).toNat = k := by simp; omega
  rw [WordCmp.cmpi_sge_of_lt (by rw [hn']; exact hn) (by rw [hk']; exact hk), hn', hk']
  by_cases h : n < k
  · simp [Scalar.select, h, Nat.not_le.mpr h]
  · simp [Scalar.select, h, not_lt.mp h]

/-- A select on "the row is below `k`". -/
theorem sel_lt (n k : ℕ) (hn : n < 2 ^ 31) (hk : k < 2 ^ 31) (a b : EReal) :
    Scalar.select (IntOp.cmpi .slt (BitVec.ofNat 32 n) (BitVec.ofNat 32 k)) a b = if n < k then a else b := by
  have hn' : (BitVec.ofNat 32 n).toNat = n := by simp; omega
  have hk' : (BitVec.ofNat 32 k).toNat = k := by simp; omega
  rw [WordCmp.cmpi_slt_of_lt (by rw [hn']; exact hn) (by rw [hk']; exact hk), hn', hk']
  by_cases h : n < k
  · simp [Scalar.select, h]
  · simp [Scalar.select, h]

/-- A rotation by `k` rows with the wrapped rows set to zero is a delay by `k`. -/
theorem delayed (u : Seq) (w : EReal) (r : Fin 4224) (l : Fin 1024) (k : ℕ) (hk : k ≤ 4224) (h) :
    Scalar.select (IntOp.cmpi .sge (BitVec.ofNat 32 r.val) (BitVec.ofNat 32 k)) (w * u ⟨(r.val + 4224 - k) % 4224, h⟩ l) (0 : EReal)
      = w * delay k u r l := by
  have hr := r.isLt
  rw [sel_ge _ _ (by omega) (by omega)]
  unfold delay
  by_cases hrk : r.val < k
  · rw [if_pos hrk, if_pos hrk, mul_zero]
  · rw [if_neg hrk, if_neg hrk]
    have e : (⟨(r.val + 4224 - k) % 4224, h⟩ : Fin 4224) = ⟨r.val - k, by omega⟩ := Fin.ext (by show (r.val + 4224 - k) % 4224 = r.val - k; omega)
    rw [e]

/-- The same without a factor. -/
theorem delayed0 (u : Seq) (r : Fin 4224) (l : Fin 1024) (k : ℕ) (hk : k ≤ 4224) (h) :
    Scalar.select (IntOp.cmpi .sge (BitVec.ofNat 32 r.val) (BitVec.ofNat 32 k)) (u ⟨(r.val + 4224 - k) % 4224, h⟩ l) (0 : EReal)
      = delay k u r l := by
  have e := delayed u 1 r l k hk h
  rwa [one_mul, one_mul] at e

/-- A rotation by `4224 - k` rows with the wrapped rows set to zero is an advance by `k`. -/
theorem advanced (u : Seq) (w : EReal) (r : Fin 4224) (l : Fin 1024) (s k : ℕ) (hk : s + k = 4224) (h) :
    Scalar.select (IntOp.cmpi .slt (BitVec.ofNat 32 r.val) (BitVec.ofNat 32 s)) (w * u ⟨(r.val + 4224 - s) % 4224, h⟩ l) (0 : EReal)
      = w * advance k u r l := by
  have hr := r.isLt
  rw [sel_lt _ _ (by omega) (by omega)]
  unfold advance
  by_cases hrk : r.val < s
  · rw [if_pos hrk, dif_pos (show r.val + k < 4224 by omega)]
    have e : (⟨(r.val + 4224 - s) % 4224, h⟩ : Fin 4224) = ⟨r.val + k, by omega⟩ := Fin.ext (by show (r.val + 4224 - s) % 4224 = r.val + k; omega)
    rw [e]
  · rw [if_neg hrk, dif_neg (show ¬ r.val + k < 4224 by omega), mul_zero]

/-- The product with its factors in the kernel's order. -/
def ctk (X : Proj) (D : Cot) : Seq := fun r l => D (ix2 r ⟨1024 + l.val, by omega⟩) * gateB X r l

/-- The kernel's product of the output's gradient with the output gate is the specification's. -/
theorem ct_comm (X : Proj) (D : Cot) : ctk X D = ct X D :=
  funext fun _ => funext fun _ => mul_comm _ _

theorem dBias_comm (X : Proj) (D : Cot) (l : Fin 1024) : ∑ r : Fin 4224, D (ix2 r ⟨1024 + l.val, by omega⟩) * gateB X r l = dBias X D l :=
  Finset.sum_congr rfl fun _ _ => mul_comm _ _

/-- The three rows of the gradient of the taps, from the convolved sequence and its two delays. -/
theorem pay9_at (v4 v10 v16 v32 v36 : Vec Ideal S4224x128 .f32) (k : Fin 3) (l : Fin 128) (u : Fin 4224 → EReal) (w : ℕ → Fin 4224 → EReal)
    (hu : ∀ r, v32 (ix2 r l) * v36 (ix2 r l) = u r) (h2 : ∀ r, v16 (ix2 r l) = w 2 r) (h1 : ∀ r, v10 (ix2 r l) = w 1 r)
    (h0 : ∀ r, v4 (ix2 r l) = w 0 r) :
    k0_pay9 (F := Ideal) v4 v10 v16 v32 v36 (ix2 k l) = ∑ r, u r * w (2 - k.val) r := by
  have hk := k.isLt
  pointwise [k0_pay9, k0_pay8]
  simp only [hu, h2, h1, h0]
  by_cases a : k.val < 1
  · rw [dif_pos a, show 2 - k.val = 2 by omega]
  · rw [dif_neg a]
    by_cases b : k.val - 1 < 1
    · rw [dif_pos b, show 2 - k.val = 1 by omega]
    · rw [dif_neg b, show 2 - k.val = 0 by omega]

variable (m : (ℓ : Loc nD τ sig) → Buf (Elt Ideal) ℓ)

set_option maxRecDepth 200000 in
/-- The first output holds the gradient of the output gate. -/
theorem final6 (c : Dev nD) : (dats m 0 c).arrAt 6 (cfgs 0).N
    = fun j : S4224x1024.Idx => dGateB (m ((c : Thread nD τ).loc main_arg0)) (m ((c : Thread nD τ).loc main_arg1)) (m ((c : Thread nD τ).loc main_arg2)) (m ((c : Thread nD τ).loc main_arg3)) (j 0) (j 1) := by
  refine (dats m 0 c).arrAt_eq_of_covers 6 _ (by decide +kernel) fun t _ y => ?_
  blk_simp
  rw [after0_6]; frame_out
  idx_vars y
  have e0 : ((cfg0.win 6).blk t).view.emb (ix2 y0 y1) 0 = (y0 : Fin 4224) := Fin.ext (by blk_simp [idx6 t] <;> omega)
  have e1 : ((cfg0.win 6).blk t).view.emb (ix2 y0 y1) 1 = chan t y1 := Fin.ext (by blk_simp [idx6 t, chan])
  refine Eq.trans ?_ (show dGateB (m ((c : Thread nD τ).loc main_arg0)) (m ((c : Thread nD τ).loc main_arg1)) (m ((c : Thread nD τ).loc main_arg2)) (m ((c : Thread nD τ).loc main_arg3)) y0 (chan t y1) = _ from by rw [e0, e1])
  pointwise [k0_pay2, k0_pay3, k0_pay4, k0_pay5, k0_pay6, k0_pay7]
  simp only [rd0, rd1, rd2, rd3, rd4, rd5]
  exact congrArg₂ (· * ·) rfl (congrArg₂ (· + ·) (congrArg₂ (· + ·) (congrArg₂ (· + ·)
    (delayed (z (m ((c : Thread nD τ).loc main_arg0))) _ y0 (chan t y1) 2 (by omega) _) (delayed (z (m ((c : Thread nD τ).loc main_arg0))) _ y0 (chan t y1) 1 (by omega) _)) rfl) rfl)

set_option maxRecDepth 200000 in
/-- The second output holds the gradient of the input gate. -/
theorem final7 (c : Dev nD) : (dats m 0 c).arrAt 7 (cfgs 0).N
    = fun j : S4224x1024.Idx => dGateC (m ((c : Thread nD τ).loc main_arg0)) (m ((c : Thread nD τ).loc main_arg1)) (m ((c : Thread nD τ).loc main_arg3)) (j 0) (j 1) := by
  refine (dats m 0 c).arrAt_eq_of_covers 7 _ (by decide +kernel) fun t _ y => ?_
  blk_simp
  rw [after0_7]; frame_out
  idx_vars y
  have e0 : ((cfg0.win 7).blk t).view.emb (ix2 y0 y1) 0 = (y0 : Fin 4224) := Fin.ext (by blk_simp [idx7 t] <;> omega)
  have e1 : ((cfg0.win 7).blk t).view.emb (ix2 y0 y1) 1 = chan t y1 := Fin.ext (by blk_simp [idx7 t, chan])
  refine Eq.trans ?_ (show dGateC (m ((c : Thread nD τ).loc main_arg0)) (m ((c : Thread nD τ).loc main_arg1)) (m ((c : Thread nD τ).loc main_arg3)) y0 (chan t y1) = _ from by rw [e0, e1])
  pointwise [k0_pay12, k0_pay11, k0_pay8, k0_pay3, k0_pay2]
  simp only [rd0, rd1, rd2, rd3, rd4, rd5]
  refine congrArg₂ (· * ·) ?_ rfl
  unfold dz
  rw [← ct_comm]
  exact congrArg₂ (· + ·) (congrArg₂ (· + ·) rfl
    (advanced (ctk (m ((c : Thread nD τ).loc main_arg0)) (m ((c : Thread nD τ).loc main_arg3))) _ y0 (chan t y1) 4223 1 rfl _))
    (advanced (ctk (m ((c : Thread nD τ).loc main_arg0)) (m ((c : Thread nD τ).loc main_arg3))) _ y0 (chan t y1) 4222 2 rfl _)

set_option maxRecDepth 200000 in
/-- The third output holds the gradient of the convolved branch. -/
theorem final8 (c : Dev nD) : (dats m 0 c).arrAt 8 (cfgs 0).N
    = fun j : S4224x1024.Idx => dBranch (m ((c : Thread nD τ).loc main_arg0)) (m ((c : Thread nD τ).loc main_arg1)) (m ((c : Thread nD τ).loc main_arg3)) (j 0) (j 1) := by
  refine (dats m 0 c).arrAt_eq_of_covers 8 _ (by decide +kernel) fun t _ y => ?_
  blk_simp
  rw [after0_8]; frame_out
  idx_vars y
  have e0 : ((cfg0.win 8).blk t).view.emb (ix2 y0 y1) 0 = (y0 : Fin 4224) := Fin.ext (by blk_simp [idx8 t] <;> omega)
  have e1 : ((cfg0.win 8).blk t).view.emb (ix2 y0 y1) 1 = chan t y1 := Fin.ext (by blk_simp [idx8 t, chan])
  refine Eq.trans ?_ (show dBranch (m ((c : Thread nD τ).loc main_arg0)) (m ((c : Thread nD τ).loc main_arg1)) (m ((c : Thread nD τ).loc main_arg3)) y0 (chan t y1) = _ from by rw [e0, e1])
  pointwise [k0_pay1, k0_pay11, k0_pay8, k0_pay3, k0_pay2]
  simp only [rd0, rd1, rd2, rd3, rd4, rd5]
  refine congrArg₂ (· * ·) ?_ rfl
  unfold dz
  rw [← ct_comm]
  exact congrArg₂ (· + ·) (congrArg₂ (· + ·) rfl
    (advanced (ctk (m ((c : Thread nD τ).loc main_arg0)) (m ((c : Thread nD τ).loc main_arg3))) _ y0 (chan t y1) 4223 1 rfl _))
    (advanced (ctk (m ((c : Thread nD τ).loc main_arg0)) (m ((c : Thread nD τ).loc main_arg3))) _ y0 (chan t y1) 4222 2 rfl _)

set_option maxRecDepth 200000 in
/-- The fourth output holds the gradient of the taps. -/
theorem final9 (c : Dev nD) : (dats m 0 c).arrAt 9 (cfgs 0).N
    = fun j : S3x1024.Idx => dTap (m ((c : Thread nD τ).loc main_arg0)) (m ((c : Thread nD τ).loc main_arg3)) (j 0) (j 1) := by
  refine (dats m 0 c).arrAt_eq_of_covers 9 _ (by decide +kernel) fun t _ y => ?_
  blk_simp
  rw [after0_9]; frame_out
  idx_vars y
  have e0 : ((cfg0.win 9).blk t).view.emb (ix2 y0 y1) 0 = (y0 : Fin 3) := Fin.ext (by blk_simp [idx9 t] <;> omega)
  have e1 : ((cfg0.win 9).blk t).view.emb (ix2 y0 y1) 1 = chan t y1 := Fin.ext (by blk_simp [idx9 t, chan])
  refine Eq.trans ?_ (show dTap (m ((c : Thread nD τ).loc main_arg0)) (m ((c : Thread nD τ).loc main_arg3)) y0 (chan t y1) = _ from by rw [e0, e1])
  refine (pay9_at _ _ _ _ _ y0 y1 (fun r => ct (m ((c : Thread nD τ).loc main_arg0)) (m ((c : Thread nD τ).loc main_arg3)) r (chan t y1)) (fun k r => delay k (z (m ((c : Thread nD τ).loc main_arg0))) r (chan t y1)) (fun r => ?_) (fun r => ?_) (fun r => ?_) (fun r => ?_))
  · pointwise
    simp only [rd0, rd5]
    exact mul_comm _ _
  · pointwise [k0_pay6, k0_pay4, k0_pay3, k0_pay2]
    simp only [rd1, rd2]
    exact delayed0 (z (m ((c : Thread nD τ).loc main_arg0))) r (chan t y1) 2 (by omega) _
  · pointwise [k0_pay5, k0_pay4, k0_pay3, k0_pay2]
    simp only [rd1, rd2]
    exact delayed0 (z (m ((c : Thread nD τ).loc main_arg0))) r (chan t y1) 1 (by omega) _
  · pointwise [k0_pay4, k0_pay3, k0_pay2]
    simp only [rd1, rd2]
    exact (if_neg (Nat.not_lt_zero _)).symm

set_option maxRecDepth 200000 in
/-- The fifth output holds the gradient of the bias. -/
theorem final10 (c : Dev nD) : (dats m 0 c).arrAt 10 (cfgs 0).N
    = fun j : S1x1024.Idx => dBias (m ((c : Thread nD τ).loc main_arg0)) (m ((c : Thread nD τ).loc main_arg3)) (j 1) := by
  refine (dats m 0 c).arrAt_eq_of_covers 10 _ (by decide +kernel) fun t _ y => ?_
  blk_simp
  rw [after0_10]; frame_out
  idx_vars y
  have e1 : ((cfg0.win 10).blk t).view.emb (ix2 y0 y1) 1 = chan t y1 := Fin.ext (by blk_simp [idx10 t, chan])
  refine Eq.trans ?_ (show dBias (m ((c : Thread nD τ).loc main_arg0)) (m ((c : Thread nD τ).loc main_arg3)) (chan t y1) = _ from by rw [e1])
  pointwise [k0_pay10, k0_pay8, k0_pay2]
  simp only [rd0, rd1, rd2, rd3, rd4, rd5]
  exact dBias_comm _ _ _

end Cert.ConvKernelIdeal.Spec

end
-- ==== Proof.ConvRef.lean ====
/- What the reference computes. -/
module

public import proofs.«01_k».proof.Proof.ConvSpec
public import proofs.«01_k».proof.Proof.Gen.ConvReferenceIdeal.Run

@[expose] public section

set_option maxRecDepth 16384

noncomputable section

namespace Cert.ConvReferenceIdeal.Spec

open Cert.ConvReferenceIdeal Cert.ConvReferenceIdeal.Gen Cert.ConvSpec Idealize.ShloMosaic Idealize.ShloMosaic.TcCoe Idealize.SL.Sem

variable (m : (ℓ : Loc nD τ sig) → Buf (Elt Ideal) ℓ) (ρ : Dev nD → PrngReg)

/-- The reference's five results are the formulas of the gradient, its arguments unchanged. -/
theorem run : θ_run defs (onTc (τ := τ) (main (F := Ideal))) ⟨m, fun _ => 0, ρ⟩ fun r => ∀ c : Dev nD,
      r.2.mem ((c.tc : Thread nD τ).loc main_v75) = (fun j : S4224x1024.Idx => dGateB (m ((c.tc : Thread nD τ).loc main_arg0)) (m ((c.tc : Thread nD τ).loc main_arg1)) (m ((c.tc : Thread nD τ).loc main_arg2)) (m ((c.tc : Thread nD τ).loc main_arg3)) (j 0) (j 1))
      ∧ r.2.mem ((c.tc : Thread nD τ).loc main_v76) = (fun j : S4224x1024.Idx => dGateC (m ((c.tc : Thread nD τ).loc main_arg0)) (m ((c.tc : Thread nD τ).loc main_arg1)) (m ((c.tc : Thread nD τ).loc main_arg3)) (j 0) (j 1))
      ∧ r.2.mem ((c.tc : Thread nD τ).loc main_v77) = (fun j : S4224x1024.Idx => dBranch (m ((c.tc : Thread nD τ).loc main_arg0)) (m ((c.tc : Thread nD τ).loc main_arg1)) (m ((c.tc : Thread nD τ).loc main_arg3)) (j 0) (j 1))
      ∧ r.2.mem ((c.tc : Thread nD τ).loc main_v70) = (fun j : S3x1024.Idx => dTap (m ((c.tc : Thread nD τ).loc main_arg0)) (m ((c.tc : Thread nD τ).loc main_arg3)) (j 0) (j 1))
      ∧ r.2.mem ((c.tc : Thread nD τ).loc main_v78) = (fun j : S1x1024.Idx => dBias (m ((c.tc : Thread nD τ).loc main_arg0)) (m ((c.tc : Thread nD τ).loc main_arg3)) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, h3, h4, h5⟩ := h c
  refine ⟨h0.trans ?_, h1.trans ?_, h2.trans ?_, h3.trans ?_, h4.trans ?_, h5⟩ <;> clear h h0 h1 h2 h3 h4 h5
  · funext j
    idx_vars j
    pointwise [dGateB, conv, z, gateC, branch, delay]
    simp only [Nat.add_comm 1, ← Nat.add_assoc, Nat.reduceAdd, Nat.reduceSubDiff, Nat.reduceLeDiff]
    by_cases h2 : (j0 : ℕ) < 2 <;> by_cases h1 : (j0 : ℕ) + 1 < 2
    · have h0 : (j0 : ℕ) < 1 := by omega
      simp only [dif_pos h2, dif_pos h1, if_pos h2, if_pos h0]
    · have h0 : ¬ (j0 : ℕ) < 1 := by omega
      simp only [dif_pos h2, dif_neg h1, if_pos h2, if_neg h0]
    · omega
    · have h0 : ¬ (j0 : ℕ) < 1 := by omega
      simp only [dif_neg h2, dif_neg h1, if_neg h2, if_neg h0]
  · funext j
    idx_vars j
    pointwise [dGateC, dz, ct, gateB, branch, advance]
    simp only [Nat.add_comm 2, ← Nat.add_assoc, Nat.reduceAdd, Nat.reduceSubDiff, Nat.add_one_sub_one]
    split_ifs <;> first | rfl | (exfalso; omega) | simp
  · funext j
    idx_vars j
    pointwise [dBranch, dz, ct, gateB, gateC, advance]
    simp only [Nat.add_comm 2, ← Nat.add_assoc, Nat.reduceAdd, Nat.reduceSubDiff, Nat.add_one_sub_one]
    rw [mul_comm]
    split_ifs <;> first | rfl | (exfalso; omega) | simp
  · funext j
    idx_vars j
    pointwise [Value.res_main_v70, dTap, ct, gateB, z, delay, branch, gateC]
    simp only [Nat.add_comm 1, ← Nat.add_assoc, Nat.reduceAdd, Nat.reduceSubDiff, Fin.sum_univ_one]
    fin_vals j0 with hk
    · simp only [hk]
      show (_ : EReal) = _
      refine Eq.trans ?_ (Fin.sum_univ_two_halves 2 4222 rfl _).symm
      simp
      refine Finset.sum_congr rfl fun x _ => ?_
      exact (if_neg (by omega)).symm
    · simp [hk]
      show (_ : EReal) = _
      refine Finset.sum_congr rfl fun x _ => ?_
      by_cases hx : x = 0
      · exact (dif_pos hx).trans (if_pos hx).symm
      · exact (dif_neg hx).trans (if_neg hx).symm
    · simp [hk]
  · funext j
    idx_vars j
    pointwise [dBias, ct, gateB]
    rw [Fin.sum_univ_one]

end Cert.ConvReferenceIdeal.Spec

end
-- ==== Proof.ConvEq.lean ====
/- The run of the convolution's backward kernel beside the reference's. -/
module

public import proofs.«01_k».proof.Proof.ConvKer
public import proofs.«01_k».proof.Proof.ConvRef
public import proofs.«01_k».proof.Defs

@[expose] public section

set_option maxRecDepth 16384

noncomputable section

namespace Cert.ConvKernelIdeal.Spec

open Cert.ConvKernelIdeal Cert.ConvKernelIdeal.Gen Cert.ConvSpec Idealize.ShloMosaic Idealize.ShloMosaic.TcCoe Idealize.SL.Sem

/-- The kernel's run ends with the formulas in its output arrays and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5_0) = (fun j : S4224x1024.Idx => dGateB (m ((c.tc : Thread nD τ).loc main_arg0)) (m ((c.tc : Thread nD τ).loc main_arg1)) (m ((c.tc : Thread nD τ).loc main_arg2)) (m ((c.tc : Thread nD τ).loc main_arg3)) (j 0) (j 1))
      ∧ r.2.mem ((c.tc : Thread nD τ).loc main_v5_1) = (fun j : S4224x1024.Idx => dGateC (m ((c.tc : Thread nD τ).loc main_arg0)) (m ((c.tc : Thread nD τ).loc main_arg1)) (m ((c.tc : Thread nD τ).loc main_arg3)) (j 0) (j 1))
      ∧ r.2.mem ((c.tc : Thread nD τ).loc main_v5_2) = (fun j : S4224x1024.Idx => dBranch (m ((c.tc : Thread nD τ).loc main_arg0)) (m ((c.tc : Thread nD τ).loc main_arg1)) (m ((c.tc : Thread nD τ).loc main_arg3)) (j 0) (j 1))
      ∧ r.2.mem ((c.tc : Thread nD τ).loc main_v5_3) = (fun j : S3x1024.Idx => dTap (m ((c.tc : Thread nD τ).loc main_arg0)) (m ((c.tc : Thread nD τ).loc main_arg3)) (j 0) (j 1))
      ∧ r.2.mem ((c.tc : Thread nD τ).loc main_v5_4) = (fun j : S1x1024.Idx => dBias (m ((c.tc : Thread nD τ).loc main_arg0)) (m ((c.tc : Thread nD τ).loc main_arg3)) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run_blocks m ρ)
  have h := h c
  rw [final6 m c, final7 m c, final8 m c, final9 m c, final10 m c] at h
  exact h

/-- The kernel and the reference end with equal results. -/
theorem algebraic : Cert.algebraic_ConvKernelIdeal_ConvReferenceIdeal (hConvKernelIdeal := Cert.ConvKernelIdeal.Gen.facts)
    (hConvReferenceIdeal := Cert.ConvReferenceIdeal.Gen.facts) := by
  intro m ρ m' ρ' _ hag
  refine ⟨_, _, _, _, _, run m ρ, (θ_run _ _ _).mono (fun _ h c => ?_) (Cert.ConvReferenceIdeal.Spec.run m' ρ')⟩
  have h := h c
  have e := hag c
  rw [e.1, e.2.1, e.2.2.1, e.2.2.2] at h
  have h' := h.2.2.2.2.2
  rw [← e.1, ← e.2.1, ← e.2.2.1, ← e.2.2.2] at h'
  exact ⟨h.1, h.2.1, h.2.2.1, h.2.2.2.1, h.2.2.2.2.1, h'⟩

end Cert.ConvKernelIdeal.Spec

end
-- ==== Proof.GateMath.lean ====
/- The derivative of the logarithm of the sigmoid, in the two forms it is computed in. -/
module

public import Idealize.ShloMosaic.Lib.Pointwise
public import Idealize.ShloMosaic.Lib.Pipeline.ValueKit

@[expose] public section

noncomputable section

namespace Cert.GateMath

open Idealize.ShloMosaic

/-- The bit pattern of the largest value is read as `⊤`. -/
theorem ofBits_top : Ideal.ofBits .f32 2139095040#32 = ⊤ := by
  pointwise!

/-- `max n 0 + log (1 + exp (-|n|))`, the softplus. -/
def softplus (n : EReal) : EReal := max n 0 + Ideal.log1p (Ideal.exp (-(max n (-n))))

/-- The weight `exp (n - softplus n)` of the derivative, infinities replaced by zero first. -/
def wexp (n : EReal) : EReal := Ideal.exp ((if n = ⊤ then 0 else n) - (if softplus n = ⊤ then 0 else softplus n))

/-- The sigmoid of the negated argument, `1 / (1 + exp z)`. -/
def dsig (z : EReal) : EReal := Ideal.div 1 (1 + Ideal.exp z)

theorem softplus_coe (x : ℝ) : softplus x = ((Real.log (1 + Real.exp x) : ℝ) : EReal) := by
  have hp : ∀ y : ℝ, (0:ℝ) < 1 + Real.exp y := fun y => by positivity
  unfold softplus Ideal.log1p
  rw [← EReal.coe_zero, ← EReal.coe_neg, ← EReal.coe_strictMono.monotone.map_max, ← EReal.coe_strictMono.monotone.map_max, ← EReal.coe_neg, Ideal.exp_coe, ← EReal.coe_one, ← EReal.coe_add,
    Ideal.log_coe, if_neg (not_le.mpr (hp _)), ← EReal.coe_add]
  congr 1
  rcases le_total x 0 with h | h
  · rw [max_eq_right h, max_eq_right (by linarith), neg_neg, zero_add]
  · rw [max_eq_left h, max_eq_left (by linarith)]
    have e : 1 + Real.exp x = Real.exp x * (1 + Real.exp (-x)) := by rw [mul_add, ← Real.exp_add]; simp [add_comm]
    rw [e, Real.log_mul (Real.exp_pos x).ne' (hp _).ne', Real.log_exp]

theorem log_one : Ideal.log 1 = 0 := by
  rw [← EReal.coe_one, Ideal.log_coe, if_neg (by norm_num), Real.log_one, EReal.coe_zero]

theorem exp_zero : Ideal.exp 0 = 1 := by
  rw [← EReal.coe_zero, Ideal.exp_coe, Real.exp_zero, EReal.coe_one]

theorem div_one' : Ideal.div 1 1 = 1 := by
  conv_lhs => rw [← EReal.coe_one]
  rw [Ideal.div_coe one_ne_zero]; simp

theorem one_add_top : (1 : EReal) + ⊤ = ⊤ := EReal.add_top_of_ne_bot (by decide)

/-- The two forms of the weight agree on every extended real. -/
theorem wexp_neg (z : EReal) : wexp (-z) = dsig z := by
  induction z with
  | bot => simp [wexp, dsig, softplus, Ideal.log1p, log_one, div_one', exp_zero, EReal.top_add_of_ne_bot]
  | top => simp [wexp, dsig, softplus, Ideal.log1p, log_one, div_one', one_add_top, Ideal.div]
  | coe x =>
    rw [← EReal.coe_neg]
    unfold wexp dsig
    rw [softplus_coe, if_neg (EReal.coe_ne_top _), if_neg (EReal.coe_ne_top _), ← EReal.coe_sub, Ideal.exp_coe, Ideal.exp_coe, ← EReal.coe_one,
      ← EReal.coe_add, Ideal.div_coe (by positivity), EReal.coe_one, one_mul]
    congr 1
    have hp : (0:ℝ) < 1 + Real.exp (-x) := by positivity
    rw [Real.exp_sub, Real.exp_log hp, Real.exp_neg]
    have := Real.exp_pos x
    field_simp
    ring

end Cert.GateMath

end
-- ==== Proof.GateSpec.lean ====
/- The gradient of the forget gate, as formulas over its three arguments: the projection `X` (its columns 3072–3087
   are the gates of the 16 heads), the gate's bias `B`, and the gradient `D` of the running sum of the logarithms
   of the gates. The results are padded with zeros to 128 lanes. No program is mentioned here. -/
module

public import proofs.«01_k».proof.Proof.GateMath

@[expose] public section

noncomputable section

namespace Cert.GateSpec

open Idealize.ShloMosaic Cert.GateMath

/-- The projection, 4224 rows by 6160 columns. -/
abbrev Proj := FVec Ideal ⟨2, ![4224, 6160]⟩ .f32
/-- The bias of each head's gate. -/
abbrev Bias := FVec Ideal ⟨1, ![16]⟩ .f32
/-- The gradient of the running sum, 4224 rows by 16 heads. -/
abbrev Cot := FVec Ideal ⟨2, ![4224, 16]⟩ .f32

/-- The gate before the sigmoid. -/
def gate (X : Proj) (B : Bias) (r : Fin 4224) (l : Fin 16) : EReal := X (ix2 r ⟨3072 + l.val, by omega⟩) + B (ix1 l)

/-- A column continued by zeros below its last row. -/
def ext (u : Fin 4224 → EReal) (k : ℕ) : EReal := if h : k < 4224 then u ⟨k, h⟩ else 0

/-- The sum of a column's rows from `s` on. -/
def tail (u : Fin 4224 → EReal) (s : ℕ) : EReal := ∑ k ∈ Finset.Ico s 4224, ext u k

/-- The gradient of the gate: the tail sum of the incoming gradient times the derivative of the log-sigmoid. -/
def dz (X : Proj) (B : Bias) (D : Cot) (r : Fin 4224) (l : Fin 16) : EReal :=
  tail (fun k => D (ix2 k l)) r.val * dsig (gate X B r l)

/-- The gradient of the gate on 128 lanes, the lanes past the heads zero. -/
def dGate (X : Proj) (B : Bias) (D : Cot) (r : Fin 4224) (l : Fin 128) : EReal :=
  if h : l.val < 16 then dz X B D r ⟨l.val, h⟩ else 0

/-- The gradient of the bias on 128 lanes. -/
def dBias (X : Proj) (B : Bias) (D : Cot) (l : Fin 128) : EReal := ∑ r : Fin 4224, dGate X B D r l

end Cert.GateSpec

end
-- ==== Proof.GateRead.lean ====
/- What the kernel's windows show at each grid point, in terms of the three arguments. The grid runs over the
   blocks of 384 rows from the last block to the first. -/
module

public import proofs.«01_k».proof.Proof.GateSpec
public import proofs.«01_k».proof.Proof.Gen.GateKernelIdeal.Value
public import Idealize.ShloMosaic.Lib.Claim

@[expose] public section

set_option maxRecDepth 16384

noncomputable section

namespace Cert.GateKernelIdeal.Spec

open Cert.GateKernelIdeal Cert.GateKernelIdeal.Gen Cert.GateSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has eleven points. -/
theorem t_lt (t : Fin cfg0.N) : t.val < 11 := lt_of_lt_of_eq t.isLt N_0

/-- The row that row `q` of the block of grid point `t` stands for. -/
def row (t : Fin cfg0.N) (q : Fin 384) : Fin 4224 := ⟨(10 - t.val) * 384 + q.val, by have := t_lt t; have := q.isLt; omega⟩

/-- The gates on 128 lanes, the lanes past the heads zero; the bias and the incoming gradient the same way. -/
def padX (X : Proj) (r : Fin 4224) (l : Fin 128) : EReal := if h : l.val < 16 then X (ix2 r ⟨3072 + l.val, by omega⟩) else 0
def padB (B : Bias) (l : Fin 128) : EReal := if h : l.val < 16 then B (ix1 ⟨l.val, h⟩) else 0
def padD (D : Cot) (r : Fin 4224) (l : Fin 128) : EReal := if h : l.val < 16 then D (ix2 r ⟨l.val, h⟩) else 0

/-- The columns of the projection past the attention's, the forget gates moved to the end and padded with zeros. -/
def restOf (X : Proj) : FVec Ideal S4224x3200 .f32 := concatenate S4224x3200 1
    [⟨S4224x3072, extractStridedSlice S4224x3072 ![0, 3088] X slices_S4224x6160_S4224x3072_0_3088⟩,
     ⟨S4224x16, extractStridedSlice S4224x16 ![0, 3072] X slices_S4224x6160_S4224x16_0_3072⟩,
     ⟨S4224x112, broadcastInDim S4224x112 ![] bcast_S_S4224x112 (constant (F := Ideal) S_ .f32 0x00000000#32)⟩]
    concatenates_S4224x3072_S4224x16_S4224x112_S4224x3200_d1

/-- The last 128 of those columns are the gates, padded. -/
theorem restOf_at (X : Proj) (r : Fin 4224) (l : Fin 128) :
    restOf X (ix2 r ⟨3072 + l.val, by omega⟩) = padX X r l := by
  pointwise [restOf, padX]

theorem V5 (c : Dev nD) : V m c main_v5 = restOf (m ((c : Thread nD τ).loc main_arg0)) := by
  unfold V
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results
  rfl

/-- The bias as a row, padded. -/
def rowOf (B : Bias) : FVec Ideal S1x128 .f32 := shapeCast S1x128 (pad S128 ![0] ![112] ![0] B (sitofp (F := Ideal) .f32 (constantI S_ 32 0#32)) pads_S16_S128_01120 h_S_) shapeCasts_S128_S1x128

theorem V1 (c : Dev nD) : V m c main_v1 = rowOf (m ((c : Thread nD τ).loc main_arg1)) := by
  unfold V
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results
  rfl

/-- The incoming gradient, padded. -/
def cotOf (D : Cot) : FVec Ideal S4224x128 .f32 := pad S4224x128 ![0, 0] ![0, 112] ![0, 0] D (sitofp (F := Ideal) .f32 (constantI S_ 32 0#32)) pads_S4224x16_S4224x128_000_01120 h_S_

theorem V6 (c : Dev nD) : V m c main_v6 = cotOf (m ((c : Thread nD τ).loc main_arg2)) := by
  unfold V
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results
  rfl

theorem pad_zero : FloatOps.sitofp (F := Ideal) .f32 (0#32) = (0 : EReal) := by
  show (((0#32 : BitVec 32).toInt : ℝ) : EReal) = 0
  simp

theorem rowOf_at (B : Bias) (z : Fin 1) (l : Fin 128) : rowOf B (ix2 z l) = padB B l := by
  pointwise [rowOf, padB, pad_zero]

theorem cotOf_at (D : Cot) (r : Fin 4224) (l : Fin 128) : cotOf D (ix2 r l) = padD D r l := by
  pointwise [cotOf, padD, pad_zero]

theorem idx0 : ∀ t : Fin cfg0.N, win0_0.index t = ![10 - t.val, 24] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![10 - t.val, 0] := (by decide +kernel : ∀ t : Fin grid0.N, _)
theorem idx3 : ∀ t : Fin cfg0.N, win0_3.index t = ![10 - t.val, 0] := (by decide +kernel : ∀ t : Fin grid0.N, _)
theorem idx4 : ∀ t : Fin cfg0.N, win0_4.index t = ![0, 0] := (by decide +kernel : ∀ t : Fin grid0.N, _)

theorem rd0 (c : Dev nD) (t : Fin cfg0.N) (q : Fin 384) (l : Fin 128) :
    iblk m c 0 t (ix2 q l) = padX (m ((c : Thread nD τ).loc main_arg0)) (row t q) l := by
  have ht := t_lt t
  have hq := q.isLt
  have hl := l.isLt
  have e : iblk m c 0 t (ix2 q l) = V m c main_v5 (ix2 (row t q) ⟨3072 + l.val, by omega⟩) := by
    blk_simp [iblk]
    refine congrArg (V m c main_v5) ?_
    blk_ext [idx0 t, row]
  refine e.trans ?_
  rw [V5]
  exact restOf_at _ _ _

theorem rd1 (c : Dev nD) (t : Fin cfg0.N) (z : Fin 1) (l : Fin 128) :
    iblk m c 1 t (ix2 z l) = padB (m ((c : Thread nD τ).loc main_arg1)) l := by
  have e : iblk m c 1 t (ix2 z l) = V m c main_v1 (ix2 z l) := by
    blk_simp [iblk]
    refine congrArg (V m c main_v1) ?_
    blk_ext [idx1 t]
  refine e.trans ?_
  rw [V1]
  exact rowOf_at _ _ _

theorem rd2 (c : Dev nD) (t : Fin cfg0.N) (q : Fin 384) (l : Fin 128) :
    iblk m c 2 t (ix2 q l) = padD (m ((c : Thread nD τ).loc main_arg2)) (row t q) l := by
  have ht := t_lt t
  have hq := q.isLt
  have e : iblk m c 2 t (ix2 q l) = V m c main_v6 (ix2 (row t q) l) := by
    blk_simp [iblk]
    refine congrArg (V m c main_v6) ?_
    blk_ext [idx2 t, row]
  refine e.trans ?_
  rw [V6]
  exact cotOf_at _ _ _

end Cert.GateKernelIdeal.Spec

end
-- ==== Proof.GateKer.lean ====
/- What each output array of the kernel holds after the run: the formulas of the gradient. -/
module

public import Idealize.ShloMosaic.Lib.Pipeline.ReadBack
public import proofs.«01_k».proof.Proof.GateRead

@[expose] public section

set_option maxRecDepth 16384

noncomputable section

namespace Cert.GateKernelIdeal.Spec

open Cert.GateKernelIdeal Cert.GateKernelIdeal.Gen Cert.GateSpec Cert.GateMath Idealize.ShloMosaic Idealize.ShloMosaic.TcCoe Idealize.SL.Sem
open Idealize.ShloMosaic.Pipeline (Dat)

theorem ext_of_lt (u : Fin 4224 → EReal) (k : ℕ) (h : k < 4224) : ext u k = u ⟨k, h⟩ := dif_pos h

/-- The rows of one block from row `q` on, and everything below the block, make the tail from that row. -/
theorem tail_step (u : Fin 4224 → EReal) (s q : ℕ) (hs : s + 384 ≤ 4224) (hq : q ≤ 384) :
    (∑ k : Fin 384, if q ≤ k.val then u ⟨s + k.val, by have := k.isLt; omega⟩ else 0) + tail u (s + 384) = tail u (s + q) := by
  unfold tail
  rw [← Finset.sum_Ico_consecutive (ext u) (show s + q ≤ s + 384 by omega) hs]
  congr 1
  rw [Finset.sum_Ico_eq_sum_range, show s + 384 - (s + q) = 384 - q by omega]
  rw [← Finset.sum_filter]
  symm
  refine Finset.sum_bij (fun k hk => (⟨q + k, by rw [Finset.mem_range] at hk; omega⟩ : Fin 384)) ?_ ?_ ?_ ?_
  · intro k hk; simp
  · intro a _ b _ e
    have := congrArg Fin.val e
    simpa using this
  · intro b hb
    have hb' : q ≤ b.val := by simpa using hb
    exact ⟨b.val - q, by rw [Finset.mem_range]; have := b.isLt; omega, Fin.ext (by show q + (b.val - q) = b.val; omega)⟩
  · intro k hk
    rw [Finset.mem_range] at hk
    rw [ext_of_lt _ _ (show s + q + k < 4224 by omega)]
    exact congrArg u (Fin.ext (by show s + q + k = s + (q + k); omega))

/-- The same for the whole block, the block's sum on the right. -/
theorem tail_block (u : Fin 4224 → EReal) (s : ℕ) (hs : s + 384 ≤ 4224) :
    tail u (s + 384) + (∑ k : Fin 384, u ⟨s + k.val, by have := k.isLt; omega⟩) = tail u s := by
  have e := tail_step u s 0 hs (by omega)
  rw [add_comm]
  simpa only [Nat.zero_le, if_true, Nat.add_zero] using e

theorem tail_end (u : Fin 4224 → EReal) : tail u 4224 = 0 := by simp [tail]

theorem tail_zero (u : Fin 4224 → EReal) : tail u 0 = ∑ r, u r := by
  unfold tail
  rw [← Finset.range_eq_Ico, ← Fin.sum_univ_eq_sum_range]
  exact Finset.sum_congr rfl fun r _ => ext_of_lt u r.val r.isLt

/-- The triangle of ones as the kernel builds it, times an entry: the entry on and above the diagonal. -/
theorem tri_mul (k q : Fin 384) (a : EReal) :
    FloatOps.sitofp (F := Ideal) .f32 (BitVec.setWidth 32 (IntOp.cmpi .sge (BitVec.ofNat 32 k.val) (BitVec.ofNat 32 q.val))) * a = if q.val ≤ k.val then a else 0 := by
  have hk := k.isLt
  have hq := q.isLt
  by_cases h : q.val ≤ k.val
  · rw [if_pos h, show IntOp.cmpi .sge (BitVec.ofNat 32 k.val) (BitVec.ofNat 32 q.val) = 1#1 from ?_]
    · rw [show FloatOps.sitofp (F := Ideal) .f32 (BitVec.setWidth 32 1#1) = (1 : EReal) by show (((BitVec.setWidth 32 1#1).toInt : ℝ) : EReal) = 1; simp]
      exact one_mul a
    · word_cmp
  · rw [if_neg h, show IntOp.cmpi .sge (BitVec.ofNat 32 k.val) (BitVec.ofNat 32 q.val) = 0#1 from ?_]
    · rw [show FloatOps.sitofp (F := Ideal) .f32 (BitVec.setWidth 32 0#1) = (0 : EReal) by show (((BitVec.setWidth 32 0#1).toInt : ℝ) : EReal) = 0; simp]
      exact zero_mul a
    · word_cmp

variable (v3 v9 : Vec Ideal S384x128 .f32) (v5 v17 v31 : Vec Ideal S1x128 .f32) (q : Fin 384) (l : Fin 128)

theorem pay4_at : k0_pay4 (F := Ideal) v9 v17 (ix2 q l) = (∑ k : Fin 384, if q.val ≤ k.val then v9 (ix2 k l) else 0) + v17 (ix2 0 l) := by
  pointwise [k0_pay4]
  exact congrArg (· + _) (Finset.sum_congr rfl fun k _ => tri_mul k q _)

theorem pay5_at : k0_pay5 (F := Ideal) v3 v5 v9 v17 (ix2 q l) = k0_pay4 (F := Ideal) v9 v17 (ix2 q l) * dsig (v3 (ix2 q l) + v5 (ix2 0 l)) := by
  pointwise [k0_pay5]
  rw [zero_sub, zero_sub, neg_neg]
  rfl

theorem pay6_at : k0_pay6 (F := Ideal) v3 v5 v9 v17 v31 (ix2 0 l) = v31 (ix2 0 l) + ∑ q, k0_pay5 (F := Ideal) v3 v5 v9 v17 (ix2 q l) := by
  pointwise [k0_pay6]

theorem pay1_at : k0_pay1 (F := Ideal) v9 (ix2 0 l) = v9 (ix2 0 l) := by
  pointwise [k0_pay1]

variable (m : (ℓ : Loc nD τ sig) → Buf (Elt Ideal) ℓ)

/-- The gradient of the gate from the padded arguments. -/
def dP (X : Proj) (B : Bias) (D : Cot) (r : Fin 4224) (l : Fin 128) : EReal :=
  tail (fun k => padD D k l) r.val * dsig (padX X r l + padB B l)

theorem dP_eq (X : Proj) (B : Bias) (D : Cot) (r : Fin 4224) (l : Fin 128) : dP X B D r l = dGate X B D r l := by
  unfold dP dGate padD padX padB
  by_cases h : l.val < 16
  · simp only [dif_pos h]
    rfl
  · simp only [dif_neg h]
    rw [show tail (fun _ => 0) r.val = 0 from Finset.sum_eq_zero fun k _ => by unfold ext; split <;> rfl, zero_mul]

section Block

variable (c : Dev nD) (t : Fin cfg0.N)

/-- What a point leaves: the block's gradient, the bias's running sum and the carried row, over the carried row `v17`
    and the running sum `v31` it starts from. -/
def Leaves (v17 v31 : FVec Ideal S1x128 .f32) : Prop :=
  (outsAt0 m c t.val t.isLt).1 = k0_pay5 (iblk m c 0 t) (iblk m c 1 t) (iblk m c 2 t) v17
    ∧ (outsAt0 m c t.val t.isLt).2.1 = k0_pay6 (iblk m c 0 t) (iblk m c 1 t) (iblk m c 2 t) v17 v31
    ∧ (outsAt0 m c t.val t.isLt).2.2 = k0_pay1 (k0_pay4 (iblk m c 2 t) v17)

theorem leaves_first (h : t.val % 11 = 0) : Leaves m c t k0_pay2 k0_pay3 := by
  unfold Leaves
  rw [outsAt0_A m c t h]
  refine ⟨?_, ?_, ?_⟩ <;> frame_out

theorem leaves_next (h : ¬ t.val % 11 = 0) :
    Leaves m c t (outsAt0 m c (t.val - 1) (Nat.lt_of_le_of_lt (Nat.sub_le _ _) t.isLt)).2.2 (outsAt0 m c (t.val - 1) (Nat.lt_of_le_of_lt (Nat.sub_le _ _) t.isLt)).2.1 := by
  unfold Leaves
  rw [outsAt0_B m c t h]
  refine ⟨?_, ?_, ?_⟩
  · frame_out
    rw [read_unread_whole]
  · frame_out
    rw [read_unread_whole]
  · frame_out
    rw [read_unread_whole]

variable (v17 v31 : FVec Ideal S1x128 .f32) (q : Fin 384) (l : Fin 128)
  (hc : v17 (ix2 0 l) = tail (fun k => padD (m ((c : Thread nD τ).loc main_arg2)) k l) ((10 - t.val) * 384 + 384))
include hc

theorem block4 : k0_pay4 (F := Ideal) (iblk m c 2 t) v17 (ix2 q l) = tail (fun k => padD (m ((c : Thread nD τ).loc main_arg2)) k l) (row t q).val := by
  have ht := t_lt t
  have hq := q.isLt
  rw [pay4_at, hc]
  simp only [rd2]
  exact tail_step (fun k => padD (m ((c : Thread nD τ).loc main_arg2)) k l) ((10 - t.val) * 384) q.val (by omega) (by omega)

theorem block5 : k0_pay5 (F := Ideal) (iblk m c 0 t) (iblk m c 1 t) (iblk m c 2 t) v17 (ix2 q l)
    = dP (m ((c : Thread nD τ).loc main_arg0)) (m ((c : Thread nD τ).loc main_arg1)) (m ((c : Thread nD τ).loc main_arg2)) (row t q) l := by
  rw [pay5_at, block4 m c t v17 q l hc, rd0, rd1]
  rfl

theorem block6 (hv : v31 (ix2 0 l) = tail (fun r => dP (m ((c : Thread nD τ).loc main_arg0)) (m ((c : Thread nD τ).loc main_arg1)) (m ((c : Thread nD τ).loc main_arg2)) r l) ((10 - t.val) * 384 + 384)) :
    k0_pay6 (F := Ideal) (iblk m c 0 t) (iblk m c 1 t) (iblk m c 2 t) v17 v31 (ix2 0 l)
      = tail (fun r => dP (m ((c : Thread nD τ).loc main_arg0)) (m ((c : Thread nD τ).loc main_arg1)) (m ((c : Thread nD τ).loc main_arg2)) r l) ((10 - t.val) * 384) := by
  have ht := t_lt t
  rw [pay6_at, hv]
  refine Eq.trans (congrArg (_ + ·) (Finset.sum_congr rfl fun q _ => block5 m c t v17 q l hc)) ?_
  exact tail_block (fun r => dP (m ((c : Thread nD τ).loc main_arg0)) (m ((c : Thread nD τ).loc main_arg1)) (m ((c : Thread nD τ).loc main_arg2)) r l) ((10 - t.val) * 384) (by omega)

end Block

/-- Each point starts from the sums over the rows below its block. -/
theorem starts (c : Dev nD) (n : ℕ) (hn : n < cfg0.N) : ∃ v17 v31 : FVec Ideal S1x128 .f32, Leaves m c ⟨n, hn⟩ v17 v31
    ∧ (∀ l, v17 (ix2 0 l) = tail (fun k => padD (m ((c : Thread nD τ).loc main_arg2)) k l) ((10 - n) * 384 + 384))
    ∧ (∀ l, v31 (ix2 0 l) = tail (fun r => dP (m ((c : Thread nD τ).loc main_arg0)) (m ((c : Thread nD τ).loc main_arg1)) (m ((c : Thread nD τ).loc main_arg2)) r l) ((10 - n) * 384 + 384)) := by
  induction n with
  | zero =>
    refine ⟨_, _, leaves_first m c ⟨0, hn⟩ rfl, fun l => ?_, fun l => ?_⟩
    · pointwise [k0_pay2]
      exact (tail_end _).symm
    · pointwise [k0_pay3]
      exact (tail_end _).symm
  | succ n ih =>
    have hN : n + 1 < 11 := lt_of_lt_of_eq hn N_0
    obtain ⟨v17, v31, ⟨_, h1, h2⟩, hc, hv⟩ := ih (Nat.lt_of_succ_lt hn)
    refine ⟨_, _, leaves_next m c ⟨n + 1, hn⟩ (by show ¬ (n + 1) % 11 = 0; omega), fun l => ?_, fun l => ?_⟩
    · refine Eq.trans (congrFun h2 (ix2 0 l)) ?_
      rw [pay1_at, block4 m c ⟨n, _⟩ v17 0 l (hc l)]
      exact congrArg (tail _) (show (10 - n) * 384 + 0 = (10 - (n + 1)) * 384 + 384 by omega)
    · refine Eq.trans (congrFun h1 (ix2 0 l)) ?_
      rw [block6 m c ⟨n, _⟩ v17 v31 l (hc l) (hv l)]
      exact congrArg (tail _) (show (10 - n) * 384 = (10 - (n + 1)) * 384 + 384 by omega)

/-- The first output holds the gradient of the gate. -/
theorem final3 (c : Dev nD) : (dats m 0 c).arrAt 3 (cfgs 0).N
    = fun j : S4224x128.Idx => dGate (m ((c : Thread nD τ).loc main_arg0)) (m ((c : Thread nD τ).loc main_arg1)) (m ((c : Thread nD τ).loc main_arg2)) (j 0) (j 1) := by
  refine (dats m 0 c).arrAt_eq_of_covers 3 _ (by decide +kernel) fun t _ y => ?_
  have ht := t_lt t
  blk_simp
  rw [after0_3]
  obtain ⟨v17, v31, ⟨h0, _, _⟩, hc, _⟩ := starts m c t.val t.isLt
  idx_vars y
  have e0 : ((cfg0.win 3).blk t).view.emb (ix2 y0 y1) 0 = row t y0 := Fin.ext (by blk_simp [idx3 t, row])
  have e1 : ((cfg0.win 3).blk t).view.emb (ix2 y0 y1) 1 = (y1 : Fin 128) := Fin.ext (by blk_simp [idx3 t])
  refine Eq.trans (congrFun h0 (ix2 y0 y1)) ?_
  rw [block5 m c t v17 y0 y1 (hc y1), dP_eq]
  exact congrArg₂ (dGate _ _ _) e0.symm e1.symm

/-- The second output holds the gradient of the bias. -/
theorem final4 (c : Dev nD) : (dats m 0 c).arrAt 4 (cfgs 0).N
    = fun j : S1x128.Idx => dBias (m ((c : Thread nD τ).loc main_arg0)) (m ((c : Thread nD τ).loc main_arg1)) (m ((c : Thread nD τ).loc main_arg2)) (j 1) := by
  have hw : ∀ t : Fin cfg0.N, t.val = 10 → (cfg0.win 4).WholeAt t := by decide +kernel
  obtain ⟨t, ht⟩ : ∃ t : Fin cfg0.N, t.val = 10 := ⟨⟨10, by rw [show cfg0.N = 11 from N_0]; omega⟩, rfl⟩
  refine (dats m 0 c).arrAt_eq_of_after_last 4 t (hw t ht) _ fun y => ?_
  obtain ⟨v17, v31, ⟨_, h1, _⟩, hc, hv⟩ := starts m c t.val t.isLt
  rw [after0_4]
  idx_vars y
  obtain rfl : y0 = 0 := Fin.ext (by have := y0.isLt; omega)
  refine Eq.trans (congrFun h1 (ix2 0 y1)) ?_
  rw [block6 m c t v17 v31 y1 (hc y1) (hv y1), ht]
  refine (tail_zero _).trans ?_
  exact Finset.sum_congr rfl fun r _ => dP_eq _ _ _ _ _

end Cert.GateKernelIdeal.Spec

end
-- ==== Proof.GateRef.lean ====
/- What the reference computes. -/
module

public import proofs.«01_k».proof.Proof.GateSpec
public import proofs.«01_k».proof.Proof.Gen.GateReferenceIdeal.Run

@[expose] public section

set_option maxRecDepth 16384

noncomputable section

namespace Cert.GateReferenceIdeal.Spec

open Cert.GateReferenceIdeal Cert.GateReferenceIdeal.Gen Cert.GateSpec Cert.GateMath Idealize.ShloMosaic Idealize.ShloMosaic.TcCoe Idealize.SL.Sem

/-- A left fold of additions from zero is the sum. -/
theorem foldl_add {ι : Type*} (L : List ι) (f : ι → EReal) (a : EReal) : L.foldl (fun r n => r + f n) a = a + (L.map f).sum := by
  induction L generalizing a with
  | nil => simp
  | cons x L ih => rw [List.foldl_cons, ih, List.map_cons, List.sum_cons, add_assoc]

/-- The window sum with the window hanging below each row is the sum of the column's tail. -/
theorem window_at (x : FVec Ideal S4224x16 .f32) (init : FVec Ideal S_ .f32) (h) (hu) (h0 : ∀ i, init i = 0) (r : Fin 4224) (l : Fin 16) :
    Host.reduceWindowAdd (t := S4224x16) ![4224, 1] ![1, 1] ![0, 0] ![4223, 0] x init h hu (ix2 r l) = tail (fun k => x (ix2 k l)) r.val := by
  have hr := r.isLt
  unfold Host.reduceWindowAdd
  rw [Ideal.hostReduceWindowAdd_def]
  unfold Ideal.hostReduceWindowAdd Host.reduceWindow
  dsimp only
  rw [foldl_add, h0, zero_add, ← Fin.sum_univ_def]
  trans ∑ i : Fin 4224, ext (fun k => x (ix2 k l)) (r.val + i.val)
  · refine Fintype.sum_equiv (finCongr (show (⟨2, ![4224, 1]⟩ : Shape).numel = 4224 by decide)) _ _ fun i => ?_
    have e := Shape.rowMajor_val_two ((⟨2, ![4224, 1]⟩ : Shape).rowMajor.symm i)
    rw [Equiv.apply_symm_apply] at e
    have e1 : (((⟨2, ![4224, 1]⟩ : Shape).rowMajor.symm i) 1).val < 1 := (((⟨2, ![4224, 1]⟩ : Shape).rowMajor.symm i) 1).isLt
    have e0 : (((⟨2, ![4224, 1]⟩ : Shape).rowMajor.symm i) 0).val * 1 + (((⟨2, ![4224, 1]⟩ : Shape).rowMajor.symm i) 1).val = i.val := e.symm
    have hl := l.isLt
    unfold ext
    by_cases hin : r.val + i.val < 4224
    · rw [dif_pos (show r.val + ((finCongr (show (⟨2, ![4224, 1]⟩ : Shape).numel = 4224 by decide)) i).val < 4224 from hin), dif_pos]
      · refine congrArg x (funext fun a => ?_)
        match a with
        | 0 => exact Fin.ext (show r.val * 1 + _ - 0 = r.val + i.val by omega)
        | 1 => exact Fin.ext (show l.val * 1 + _ - 0 = l.val by omega)
      · intro a
        match a with
        | 0 => exact ⟨Nat.zero_le _, show r.val * 1 + _ - 0 < 4224 by omega⟩
        | 1 => exact ⟨Nat.zero_le _, show l.val * 1 + _ - 0 < 16 by omega⟩
    · rw [dif_neg (show ¬ r.val + ((finCongr (show (⟨2, ![4224, 1]⟩ : Shape).numel = 4224 by decide)) i).val < 4224 from hin), dif_neg]
      intro hall
      have h2 : r.val * 1 + (((⟨2, ![4224, 1]⟩ : Shape).rowMajor.symm i) 0).val - 0 < 4224 := (hall 0).2
      omega
  · unfold tail
    rw [Finset.sum_Ico_eq_sum_range, Fin.sum_univ_eq_sum_range (fun k => ext (fun k => x (ix2 k l)) (r.val + k))]
    refine (Finset.sum_subset (Finset.range_mono (Nat.sub_le _ _)) fun k _ hk => ?_).symm
    rw [Finset.mem_range] at hk
    exact dif_neg (by omega)

/-- The derivative's weight as the reference writes it. -/
theorem weight (n : EReal) (h : (2139095040#32 : BitVec 32) = 2139095040#32) :
    Ideal.exp ((if n = Ideal.ofBits .f32 2139095040#32 then 0 else n)
      - if (if n ≠ n then n else max n 0 + Ideal.log1p (Ideal.exp (-FloatOps.absf (F := Ideal) (φ := .f32) n))) = Ideal.ofBits .f32 2139095040#32 then 0
        else if n ≠ n then n else max n 0 + Ideal.log1p (Ideal.exp (-FloatOps.absf (F := Ideal) (φ := .f32) n))) = wexp n := by
  simp only [ne_eq, not_true_eq_false, if_false, ofBits_top]
  rfl

variable (m : (ℓ : Loc nD τ sig) → Buf (Elt Ideal) ℓ) (ρ : Dev nD → PrngReg)

theorem pad_zero : FloatOps.sitofp (F := Ideal) .f32 (0#32) = (0 : EReal) := by
  show (((0#32 : BitVec 32).toInt : ℝ) : EReal) = 0
  simp

theorem neg_neg_mul (a b : EReal) : -(-a * b) = a * b := by rw [EReal.neg_mul, neg_neg]

theorem out0_at (c : Dev nD) (j0 : Fin 4224) (j1 : Fin 128) : Value.res_out0 m c (ix2 j0 j1)
    = dGate (m ((c.tc : Thread nD τ).loc main_arg0)) (m ((c.tc : Thread nD τ).loc main_arg1)) (m ((c.tc : Thread nD τ).loc main_arg2)) j0 j1 := by
  pointwise [Value.res_out0, Value.res_main_v11, pad_zero]
  unfold dGate
  by_cases h : j1.val < 16
  · rw [dif_pos h, dif_pos h, weight _ rfl, wexp_neg, window_at _ _ _ _ (fun i => by pointwise), neg_neg_mul]
    rfl
  · rw [dif_neg h, dif_neg h]

theorem out1_at (c : Dev nD) (j0 : Fin 1) (j1 : Fin 128) : Value.res_out1 m c (ix2 j0 j1)
    = dBias (m ((c.tc : Thread nD τ).loc main_arg0)) (m ((c.tc : Thread nD τ).loc main_arg1)) (m ((c.tc : Thread nD τ).loc main_arg2)) j1 := by
  pointwise [Value.res_out1, Value.res_main_v13, pad_zero]
  unfold dBias dGate
  by_cases h : j1.val < 16
  · rw [dif_pos h]
    show (_ : EReal) = _
    rw [Fin.sum_univ_one]
    refine Finset.sum_congr rfl fun r _ => ?_
    rw [dif_pos h, weight _ rfl, wexp_neg, window_at _ _ _ _ (fun i => by pointwise), neg_neg_mul]
    rfl
  · rw [dif_neg h]
    simp only [dif_neg h, Finset.sum_const_zero]

/-- The reference's two results are the formulas of the gradient, its arguments unchanged. -/
theorem run : θ_run defs (onTc (τ := τ) (main (F := Ideal))) ⟨m, fun _ => 0, ρ⟩ fun r => ∀ c : Dev nD,
      r.2.mem ((c.tc : Thread nD τ).loc main_v11) = (fun j : S4224x128.Idx => dGate (m ((c.tc : Thread nD τ).loc main_arg0)) (m ((c.tc : Thread nD τ).loc main_arg1)) (m ((c.tc : Thread nD τ).loc main_arg2)) (j 0) (j 1))
      ∧ r.2.mem ((c.tc : Thread nD τ).loc main_v13) = (fun j : S1x128.Idx => dBias (m ((c.tc : Thread nD τ).loc main_arg0)) (m ((c.tc : Thread nD τ).loc main_arg1)) (m ((c.tc : Thread nD τ).loc main_arg2)) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, h1, h2⟩ := h c
  refine ⟨h0.trans (funext fun j => ?_), h1.trans (funext fun j => ?_), h2⟩
  · idx_vars j
    exact out0_at m c j0 j1
  · idx_vars j
    exact out1_at m c j0 j1

end Cert.GateReferenceIdeal.Spec

end
-- ==== Proof.GateEq.lean ====
/- The run of the forget gate's backward kernel beside the reference's. -/
module

public import proofs.«01_k».proof.Proof.GateKer
public import proofs.«01_k».proof.Proof.GateRef
public import proofs.«01_k».proof.Defs

@[expose] public section

set_option maxRecDepth 16384

noncomputable section

namespace Cert.GateKernelIdeal.Spec

open Cert.GateKernelIdeal Cert.GateKernelIdeal.Gen Cert.GateSpec Idealize.ShloMosaic Idealize.ShloMosaic.TcCoe Idealize.SL.Sem

/-- The kernel's run ends with the formulas in its output arrays and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7_0) = (fun j : S4224x128.Idx => dGate (m ((c.tc : Thread nD τ).loc main_arg0)) (m ((c.tc : Thread nD τ).loc main_arg1)) (m ((c.tc : Thread nD τ).loc main_arg2)) (j 0) (j 1))
      ∧ r.2.mem ((c.tc : Thread nD τ).loc main_v7_1) = (fun j : S1x128.Idx => dBias (m ((c.tc : Thread nD τ).loc main_arg0)) (m ((c.tc : Thread nD τ).loc main_arg1)) (m ((c.tc : Thread nD τ).loc main_arg2)) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run_blocks m ρ)
  have h := h c
  rw [final3 m c, final4 m c] at h
  exact h

/-- The kernel and the reference end with equal results. -/
theorem algebraic : Cert.algebraic_GateKernelIdeal_GateReferenceIdeal (hGateKernelIdeal := Cert.GateKernelIdeal.Gen.facts)
    (hGateReferenceIdeal := Cert.GateReferenceIdeal.Gen.facts) := by
  intro m ρ m' ρ' _ hag
  refine ⟨_, _, run m ρ, (θ_run _ _ _).mono (fun _ h c => ?_) (Cert.GateReferenceIdeal.Spec.run m' ρ')⟩
  have h := h c
  have e := hag c
  rw [e.1, e.2.1, e.2.2] at h
  have h' := h.2.2
  rw [← e.1, ← e.2.1, ← e.2.2] at h'
  exact ⟨h.1, h.2.1, h'⟩

end Cert.GateKernelIdeal.Spec

end
-- ==== Proof.AttnBodyIdeal.lean ====
module

public import proofs.«01_k».proof.Proof.Gen.AttnKernelIdeal.Frame
public import proofs.«01_k».proof.Proof.Gen.AttnKernelIdeal.Skeleton
public import Idealize.ShloMosaic.Lib.Pipeline.Frame
public import Idealize.ShloMosaic.Lib.Tactic

@[expose] public section

set_option maxRecDepth 16384

noncomputable section

namespace Cert.AttnKernelIdeal.Body

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the loop over the later query blocks carries: the two heads' sums for the keys, the values and the decay. -/
abbrev Carry (F : FTy → Type) [FloatOps F] := FVec F S384x128 .f32 × FVec F S384x128 .f32 × FVec F S384x1 .f32 × FVec F S384x128 .f32 × FVec F S384x128 .f32 × FVec F S384x1 .f32

/-- One trip of the loop: the carried sums, the accumulator of the queries' gradient and that of the decay's. -/
def tripOf (c : Dev nD) (i : grid0.Coords) (arg2 : Memref sig .tc .vmem S4224x128 .bf16) (arg5 : Memref sig .tc .vmem S4224x128 .f32) (arg6 : Memref sig .tc .vmem S1x2x4224 .f32) (arg7 : Memref sig .tc .vmem S1x2x4224 .f32) (arg8 : Memref sig .tc .vmem S1x2x4224 .f32) (arg15 : Memref sig .tc .vmem S128x4224 .f32) (arg16 : Memref sig .tc .vmem S2x4224 .f32) (f2 : Buf (Elt F) (arg2.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (v15 : FVec F S384x128 .bf16) (v25 : FVec F S384x128 .bf16) (v33 : Vec F S384x128 .bf16) (v41 : Vec F S384x128 .bf16) (v43 : FVec F S384x1 .f32) (v45 : FVec F S384x1 .f32) (v46 : FVec F S128x384 .bf16) (v47 : FVec F S128x384 .bf16) (k : Fin (k0_t1_loop i).trips)
    (s : Carry F × Buf (Elt F) (arg15.view.loc (c : Thread nD τ)) × Buf (Elt F) (arg16.view.loc (c : Thread nD τ))) : Carry F × Buf (Elt F) (arg15.view.loc (c : Thread nD τ)) × Buf (Elt F) (arg16.view.loc (c : Thread nD τ)) :=
  ((k0_pay15 v15 v33 v43 s.1.1 (View.readAt (Elt F) arg2.view (Rect.unit (s := S4224x128) (k0_off7 i k) S384x128.size (k0_off7_inb i k)).toLoadRect f2) (View.readAt (Elt F) arg5.view (Rect.unit (s := S4224x128) (k0_off7 i k) S384x128.size (k0_off7_inb i k)).toLoadRect f5) (View.readAt (Elt F) arg6.view (Rect.unit (s := S1x2x4224) (k0_off8 i k) S1x1x384.size (k0_off8_inb i k)).toLoadRect f6) (View.readAt (Elt F) arg7.view (Rect.unit (s := S1x2x4224) (k0_off8 i k) S1x1x384.size (k0_off8_inb i k)).toLoadRect f7) (View.readAt (Elt F) arg8.view (Rect.unit (s := S1x2x4224) (k0_off8 i k) S1x1x384.size (k0_off8_inb i k)).toLoadRect f8),
    k0_pay12 v15 v43 s.1.2.1 (View.readAt (Elt F) arg2.view (Rect.unit (s := S4224x128) (k0_off7 i k) S384x128.size (k0_off7_inb i k)).toLoadRect f2) (View.readAt (Elt F) arg5.view (Rect.unit (s := S4224x128) (k0_off7 i k) S384x128.size (k0_off7_inb i k)).toLoadRect f5) (View.readAt (Elt F) arg6.view (Rect.unit (s := S1x2x4224) (k0_off8 i k) S1x1x384.size (k0_off8_inb i k)).toLoadRect f6) (View.readAt (Elt F) arg8.view (Rect.unit (s := S1x2x4224) (k0_off8 i k) S1x1x384.size (k0_off8_inb i k)).toLoadRect f8),
    k0_pay19 s.1.2.2.1 (k0_pay13 v15 v33 v43 (View.readAt (Elt F) arg2.view (Rect.unit (s := S4224x128) (k0_off7 i k) S384x128.size (k0_off7_inb i k)).toLoadRect f2) (View.readAt (Elt F) arg5.view (Rect.unit (s := S4224x128) (k0_off7 i k) S384x128.size (k0_off7_inb i k)).toLoadRect f5) (View.readAt (Elt F) arg6.view (Rect.unit (s := S1x2x4224) (k0_off8 i k) S1x1x384.size (k0_off8_inb i k)).toLoadRect f6) (View.readAt (Elt F) arg7.view (Rect.unit (s := S1x2x4224) (k0_off8 i k) S1x1x384.size (k0_off8_inb i k)).toLoadRect f7) (View.readAt (Elt F) arg8.view (Rect.unit (s := S1x2x4224) (k0_off8 i k) S1x1x384.size (k0_off8_inb i k)).toLoadRect f8)),
    k0_pay24 v25 v41 v45 s.1.2.2.2.1 (View.readAt (Elt F) arg2.view (Rect.unit (s := S4224x128) (k0_off7 i k) S384x128.size (k0_off7_inb i k)).toLoadRect f2) (k0_pay10 (View.readAt (Elt F) arg5.view (Rect.unit (s := S4224x128) (k0_off7 i k) S384x128.size (k0_off7_inb i k)).toLoadRect f5)) (View.readAt (Elt F) arg6.view (Rect.unit (s := S1x2x4224) (k0_off10 i k) S1x1x384.size (k0_off10_inb i k)).toLoadRect f6) (View.readAt (Elt F) arg7.view (Rect.unit (s := S1x2x4224) (k0_off10 i k) S1x1x384.size (k0_off10_inb i k)).toLoadRect f7) (View.readAt (Elt F) arg8.view (Rect.unit (s := S1x2x4224) (k0_off10 i k) S1x1x384.size (k0_off10_inb i k)).toLoadRect f8),
    k0_pay21 v25 v45 s.1.2.2.2.2.1 (View.readAt (Elt F) arg2.view (Rect.unit (s := S4224x128) (k0_off7 i k) S384x128.size (k0_off7_inb i k)).toLoadRect f2) (k0_pay10 (View.readAt (Elt F) arg5.view (Rect.unit (s := S4224x128) (k0_off7 i k) S384x128.size (k0_off7_inb i k)).toLoadRect f5)) (View.readAt (Elt F) arg6.view (Rect.unit (s := S1x2x4224) (k0_off10 i k) S1x1x384.size (k0_off10_inb i k)).toLoadRect f6) (View.readAt (Elt F) arg8.view (Rect.unit (s := S1x2x4224) (k0_off10 i k) S1x1x384.size (k0_off10_inb i k)).toLoadRect f8),
    k0_pay1 s.1.2.2.2.2.2 (k0_pay22 v25 v41 v45 (View.readAt (Elt F) arg2.view (Rect.unit (s := S4224x128) (k0_off7 i k) S384x128.size (k0_off7_inb i k)).toLoadRect f2) (k0_pay10 (View.readAt (Elt F) arg5.view (Rect.unit (s := S4224x128) (k0_off7 i k) S384x128.size (k0_off7_inb i k)).toLoadRect f5)) (View.readAt (Elt F) arg6.view (Rect.unit (s := S1x2x4224) (k0_off10 i k) S1x1x384.size (k0_off10_inb i k)).toLoadRect f6) (View.readAt (Elt F) arg7.view (Rect.unit (s := S1x2x4224) (k0_off10 i k) S1x1x384.size (k0_off10_inb i k)).toLoadRect f7) (View.readAt (Elt F) arg8.view (Rect.unit (s := S1x2x4224) (k0_off10 i k) S1x1x384.size (k0_off10_inb i k)).toLoadRect f8))),
   arg15.view.writes (Elt F) s.2.1 [⟨Rect.unit (s := S128x4224) (k0_off12 i k) S128x384.size (k0_off12_inb i k), k0_pay2 (k0_pay25 v25 v41 v45 v47 (View.readAt (Elt F) arg2.view (Rect.unit (s := S4224x128) (k0_off7 i k) S384x128.size (k0_off7_inb i k)).toLoadRect f2) (k0_pay10 (View.readAt (Elt F) arg5.view (Rect.unit (s := S4224x128) (k0_off7 i k) S384x128.size (k0_off7_inb i k)).toLoadRect f5)) (k0_pay16 v15 v33 v43 v46 (View.readAt (Elt F) arg2.view (Rect.unit (s := S4224x128) (k0_off7 i k) S384x128.size (k0_off7_inb i k)).toLoadRect f2) (View.readAt (Elt F) arg5.view (Rect.unit (s := S4224x128) (k0_off7 i k) S384x128.size (k0_off7_inb i k)).toLoadRect f5) (View.readAt (Elt F) arg6.view (Rect.unit (s := S1x2x4224) (k0_off8 i k) S1x1x384.size (k0_off8_inb i k)).toLoadRect f6) (View.readAt (Elt F) arg7.view (Rect.unit (s := S1x2x4224) (k0_off8 i k) S1x1x384.size (k0_off8_inb i k)).toLoadRect f7) (View.readAt (Elt F) arg8.view (Rect.unit (s := S1x2x4224) (k0_off8 i k) S1x1x384.size (k0_off8_inb i k)).toLoadRect f8)) (View.readAt (Elt F) arg6.view (Rect.unit (s := S1x2x4224) (k0_off10 i k) S1x1x384.size (k0_off10_inb i k)).toLoadRect f6) (View.readAt (Elt F) arg7.view (Rect.unit (s := S1x2x4224) (k0_off10 i k) S1x1x384.size (k0_off10_inb i k)).toLoadRect f7) (View.readAt (Elt F) arg8.view (Rect.unit (s := S1x2x4224) (k0_off10 i k) S1x1x384.size (k0_off10_inb i k)).toLoadRect f8)) (View.readAt (Elt F) arg15.view (Rect.unit (s := S128x4224) (k0_off12 i k) S128x384.size (k0_off12_inb i k)).toLoadRect s.2.1)⟩],
   arg16.view.writes (Elt F) s.2.2 [⟨Rect.unit (s := S2x4224) (k0_off11 i k) S1x384.size (k0_off11_inb i k), k0_pay26 v25 v41 v45 (View.readAt (Elt F) arg2.view (Rect.unit (s := S4224x128) (k0_off7 i k) S384x128.size (k0_off7_inb i k)).toLoadRect f2) (k0_pay10 (View.readAt (Elt F) arg5.view (Rect.unit (s := S4224x128) (k0_off7 i k) S384x128.size (k0_off7_inb i k)).toLoadRect f5)) (View.readAt (Elt F) arg6.view (Rect.unit (s := S1x2x4224) (k0_off10 i k) S1x1x384.size (k0_off10_inb i k)).toLoadRect f6) (View.readAt (Elt F) arg7.view (Rect.unit (s := S1x2x4224) (k0_off10 i k) S1x1x384.size (k0_off10_inb i k)).toLoadRect f7) (View.readAt (Elt F) arg8.view (Rect.unit (s := S1x2x4224) (k0_off10 i k) S1x1x384.size (k0_off10_inb i k)).toLoadRect f8) (View.readAt (Elt F) arg16.view (Rect.unit (s := S2x4224) (k0_off11 i k) S1x384.size (k0_off11_inb i k)).toLoadRect s.2.2)⟩,
     ⟨Rect.unit (s := S2x4224) (k0_off9 i k) S1x384.size (k0_off9_inb i k), k0_pay18 (k0_pay17 v15 v33 v43 (View.readAt (Elt F) arg2.view (Rect.unit (s := S4224x128) (k0_off7 i k) S384x128.size (k0_off7_inb i k)).toLoadRect f2) (View.readAt (Elt F) arg5.view (Rect.unit (s := S4224x128) (k0_off7 i k) S384x128.size (k0_off7_inb i k)).toLoadRect f5) (View.readAt (Elt F) arg6.view (Rect.unit (s := S1x2x4224) (k0_off8 i k) S1x1x384.size (k0_off8_inb i k)).toLoadRect f6) (View.readAt (Elt F) arg7.view (Rect.unit (s := S1x2x4224) (k0_off8 i k) S1x1x384.size (k0_off8_inb i k)).toLoadRect f7) (View.readAt (Elt F) arg8.view (Rect.unit (s := S1x2x4224) (k0_off8 i k) S1x1x384.size (k0_off8_inb i k)).toLoadRect f8) (View.readAt (Elt F) arg16.view (Rect.unit (s := S2x4224) (k0_off9 i k) S1x384.size (k0_off9_inb i k)).toLoadRect s.2.2))⟩])

/-- The state before trip `k`. -/
def st (c : Dev nD) (i : grid0.Coords) (arg2 : Memref sig .tc .vmem S4224x128 .bf16) (arg5 : Memref sig .tc .vmem S4224x128 .f32) (arg6 : Memref sig .tc .vmem S1x2x4224 .f32) (arg7 : Memref sig .tc .vmem S1x2x4224 .f32) (arg8 : Memref sig .tc .vmem S1x2x4224 .f32) (arg15 : Memref sig .tc .vmem S128x4224 .f32) (arg16 : Memref sig .tc .vmem S2x4224 .f32) (f2 : Buf (Elt F) (arg2.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (v15 : FVec F S384x128 .bf16) (v25 : FVec F S384x128 .bf16) (v33 : Vec F S384x128 .bf16) (v41 : Vec F S384x128 .bf16) (v43 : FVec F S384x1 .f32) (v45 : FVec F S384x1 .f32) (v46 : FVec F S128x384 .bf16) (v47 : FVec F S128x384 .bf16) (s₀ : Carry F × Buf (Elt F) (arg15.view.loc (c : Thread nD τ)) × Buf (Elt F) (arg16.view.loc (c : Thread nD τ))) :
    ℕ → Carry F × Buf (Elt F) (arg15.view.loc (c : Thread nD τ)) × Buf (Elt F) (arg16.view.loc (c : Thread nD τ))
  | 0 => s₀
  | k + 1 => if h : k < (k0_t1_loop i).trips then
      tripOf c i arg2 arg5 arg6 arg7 arg8 arg15 arg16 f2 f5 f6 f7 f8 v15 v25 v33 v41 v43 v45 v46 v47 ⟨k, h⟩ (st c i arg2 arg5 arg6 arg7 arg8 arg15 arg16 f2 f5 f6 f7 f8 v15 v25 v33 v41 v43 v45 v46 v47 s₀ k)
    else st c i arg2 arg5 arg6 arg7 arg8 arg15 arg16 f2 f5 f6 f7 f8 v15 v25 v33 v41 v43 v45 v46 v47 s₀ k

/-- The inputs the trip reads as they were, the accumulators and the carried sums as given. -/
abbrev invAt (c : Dev nD) (arg2 : Memref sig .tc .vmem S4224x128 .bf16) (arg5 : Memref sig .tc .vmem S4224x128 .f32) (arg6 : Memref sig .tc .vmem S1x2x4224 .f32) (arg7 : Memref sig .tc .vmem S1x2x4224 .f32) (arg8 : Memref sig .tc .vmem S1x2x4224 .f32) (arg15 : Memref sig .tc .vmem S128x4224 .f32) (arg16 : Memref sig .tc .vmem S2x4224 .f32) (f2 : Buf (Elt F) (arg2.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (acc : Carry F) (s : Carry F × Buf (Elt F) (arg15.view.loc (c : Thread nD τ)) × Buf (Elt F) (arg16.view.loc (c : Thread nD τ))) : sProp 𝕄 :=
  iprop((arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
    ∗ (arg15.view.loc (c : Thread nD τ) ↦[arg15.view.set]{fullShare} s.2.1) ∗ (arg16.view.loc (c : Thread nD τ) ↦[arg16.view.set]{fullShare} s.2.2) ∗ ⌜acc = s.1⌝)

/-- Before each trip: the accumulators and the carried sums as the trips so far left them. -/
def inv (c : Dev nD) (i : grid0.Coords) (arg2 : Memref sig .tc .vmem S4224x128 .bf16) (arg5 : Memref sig .tc .vmem S4224x128 .f32) (arg6 : Memref sig .tc .vmem S1x2x4224 .f32) (arg7 : Memref sig .tc .vmem S1x2x4224 .f32) (arg8 : Memref sig .tc .vmem S1x2x4224 .f32) (arg15 : Memref sig .tc .vmem S128x4224 .f32) (arg16 : Memref sig .tc .vmem S2x4224 .f32) (f2 : Buf (Elt F) (arg2.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (v15 : FVec F S384x128 .bf16) (v25 : FVec F S384x128 .bf16) (v33 : Vec F S384x128 .bf16) (v41 : Vec F S384x128 .bf16) (v43 : FVec F S384x1 .f32) (v45 : FVec F S384x1 .f32) (v46 : FVec F S128x384 .bf16) (v47 : FVec F S128x384 .bf16) (init : Carry F) (f15 : Buf (Elt F) (arg15.view.loc (c : Thread nD τ))) (f16 : Buf (Elt F) (arg16.view.loc (c : Thread nD τ))) : ℕ → Carry F → sProp 𝕄
  | 0, acc => iprop((arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
    ∗ (arg15.view.loc (c : Thread nD τ) ↦[arg15.view.set]{fullShare} f15) ∗ (arg16.view.loc (c : Thread nD τ) ↦[arg16.view.set]{fullShare} f16) ∗ ⌜acc = init⌝)
  | k + 1, acc => invAt c arg2 arg5 arg6 arg7 arg8 arg15 arg16 f2 f5 f6 f7 f8 acc (st c i arg2 arg5 arg6 arg7 arg8 arg15 arg16 f2 f5 f6 f7 f8 v15 v25 v33 v41 v43 v45 v46 v47 (init, f15, f16) (k + 1))

theorem inv_eq (c : Dev nD) (i : grid0.Coords) (arg2 : Memref sig .tc .vmem S4224x128 .bf16) (arg5 : Memref sig .tc .vmem S4224x128 .f32) (arg6 : Memref sig .tc .vmem S1x2x4224 .f32) (arg7 : Memref sig .tc .vmem S1x2x4224 .f32) (arg8 : Memref sig .tc .vmem S1x2x4224 .f32) (arg15 : Memref sig .tc .vmem S128x4224 .f32) (arg16 : Memref sig .tc .vmem S2x4224 .f32) (f2 : Buf (Elt F) (arg2.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (v15 : FVec F S384x128 .bf16) (v25 : FVec F S384x128 .bf16) (v33 : Vec F S384x128 .bf16) (v41 : Vec F S384x128 .bf16) (v43 : FVec F S384x1 .f32) (v45 : FVec F S384x1 .f32) (v46 : FVec F S128x384 .bf16) (v47 : FVec F S128x384 .bf16) (init : Carry F) (f15 : Buf (Elt F) (arg15.view.loc (c : Thread nD τ))) (f16 : Buf (Elt F) (arg16.view.loc (c : Thread nD τ))) (k : ℕ) (acc : Carry F) :
    inv c i arg2 arg5 arg6 arg7 arg8 arg15 arg16 f2 f5 f6 f7 f8 v15 v25 v33 v41 v43 v45 v46 v47 init f15 f16 k acc = invAt c arg2 arg5 arg6 arg7 arg8 arg15 arg16 f2 f5 f6 f7 f8 acc (st c i arg2 arg5 arg6 arg7 arg8 arg15 arg16 f2 f5 f6 f7 f8 v15 v25 v33 v41 v43 v45 v46 v47 (init, f15, f16) k) := by
  cases k <;> rfl

set_option maxHeartbeats 1000000 in
theorem step (c : Dev nD) (E : Set ℕ) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S1x2x4224 .f32) (harg6 : arg6.IsWhole) (arg7 : Memref sig .tc .vmem S1x2x4224 .f32) (harg7 : arg7.IsWhole) (arg8 : Memref sig .tc .vmem S1x2x4224 .f32) (harg8 : arg8.IsWhole) (arg9 : Memref sig .tc .vmem S1x384x2 .f32) (harg9 : arg9.IsWhole) (arg10 : Memref sig .tc .vmem S4224x128 .bf16) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x2x4224 .f32) (harg13 : arg13.IsWhole) (arg14 : Memref sig .tc .vmem S1x384x2 .f32) (harg14 : arg14.IsWhole) (arg15 : Memref sig .tc .vmem S128x4224 .f32) (harg15 : arg15.IsWhole) (arg16 : Memref sig .tc .vmem S2x4224 .f32) (harg16 : arg16.IsWhole) (v15 : FVec F S384x128 .bf16) (v25 : FVec F S384x128 .bf16) (v33 : Vec F S384x128 .bf16) (v41 : Vec F S384x128 .bf16) (v43 : FVec F S384x1 .f32) (v45 : FVec F S384x1 .f32) (v46 : FVec F S128x384 .bf16) (v47 : FVec F S128x384 .bf16) (v156 : BitVec 32) (f2 : Buf (Elt F) (arg2.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (init : Carry F) (f15 : Buf (Elt F) (arg15.view.loc (c : Thread nD τ))) (f16 : Buf (Elt F) (arg16.view.loc (c : Thread nD τ)))
    (k : Fin (k0_t1_loop i).trips) (acc : Carry F) :
    inv c i arg2 arg5 arg6 arg7 arg8 arg15 arg16 f2 f5 f6 f7 f8 v15 v25 v33 v41 v43 v45 v46 v47 init f15 f16 k.val acc
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v25 v33 v41 v43 v45 v46 v47 v156 k acc)
        (inv c i arg2 arg5 arg6 arg7 arg8 arg15 arg16 f2 f5 f6 f7 f8 v15 v25 v33 v41 v43 v45 v46 v47 init f15 f16 (k.val + 1)) := by
  have es : st c i arg2 arg5 arg6 arg7 arg8 arg15 arg16 f2 f5 f6 f7 f8 v15 v25 v33 v41 v43 v45 v46 v47 (init, f15, f16) (k.val + 1) = tripOf c i arg2 arg5 arg6 arg7 arg8 arg15 arg16 f2 f5 f6 f7 f8 v15 v25 v33 v41 v43 v45 v46 v47 k (st c i arg2 arg5 arg6 arg7 arg8 arg15 arg16 f2 f5 f6 f7 f8 v15 v25 v33 v41 v43 v45 v46 v47 (init, f15, f16) k.val) := by
    rw [st, dif_pos k.isLt]
  have e2 : inv c i arg2 arg5 arg6 arg7 arg8 arg15 arg16 f2 f5 f6 f7 f8 v15 v25 v33 v41 v43 v45 v46 v47 init f15 f16 (k.val + 1) = fun acc => invAt c arg2 arg5 arg6 arg7 arg8 arg15 arg16 f2 f5 f6 f7 f8 acc (st c i arg2 arg5 arg6 arg7 arg8 arg15 arg16 f2 f5 f6 f7 f8 v15 v25 v33 v41 v43 v45 v46 v47 (init, f15, f16) (k.val + 1)) :=
    funext fun acc => inv_eq c i arg2 arg5 arg6 arg7 arg8 arg15 arg16 f2 f5 f6 f7 f8 v15 v25 v33 v41 v43 v45 v46 v47 init f15 f16 (k.val + 1) acc
  rw [inv_eq, e2, es]
  unfold invAt
  generalize st c i arg2 arg5 arg6 arg7 arg8 arg15 arg16 f2 f5 f6 f7 f8 v15 v25 v33 v41 v43 v45 v46 v47 (init, f15, f16) k.val = s
  unfold k0_t1_body
  simp only [k0_part1_eq_skeleton, k0_part2_eq_skeleton]
  iintro ⟨H2, H5, H6, H7, H8, H15, H16, %hacc⟩
  subst hacc
  sl_exec
  sl_step
  isplitl [H2]; · iexact H2
  isplitl [H5]; · iexact H5
  isplitl [H6]; · iexact H6
  isplitl [H7]; · iexact H7
  isplitl [H8]; · iexact H8
  isplitl [H15]; · iexact H15
  isplitl [H16]; · iexact H16
  ipureintro; rfl

/-- There is no remainder loop. -/
theorem trips2 : ∀ i : grid0.Coords, (k0_t2_loop i).trips = 0 := by
  intro i
  have h : ∀ b : Fin 11, (Scf.Loop.mk (w := 32) (Scalar.addi (Scalar.addi (BitVec.ofNat 32 b.val) 1#32) (Scalar.muli (Scalar.divsi (Scalar.subi 11#32 (Scalar.addi (BitVec.ofNat 32 b.val) 1#32)) 1#32) 1#32))
      (Scalar.addi (Scalar.addi (BitVec.ofNat 32 b.val) 1#32) (Scalar.subi 11#32 (Scalar.addi (BitVec.ofNat 32 b.val) 1#32))) 1#32).trips = 0 := by decide +kernel
  exact h (i 1)

/-- The loop runs once for each later query block. -/
theorem trips1 : ∀ i : grid0.Coords, (k0_t1_loop i).trips = 10 - (i 1).val := by
  intro i
  have h : ∀ b : Fin 11, (Scf.Loop.mk (w := 32) (Scalar.addi (BitVec.ofNat 32 b.val) 1#32) (Scalar.addi (Scalar.addi (BitVec.ofNat 32 b.val) 1#32) (Scalar.muli (Scalar.divsi (Scalar.subi 11#32 (Scalar.addi (BitVec.ofNat 32 b.val) 1#32)) 1#32) 1#32))
      1#32).trips = 10 - b.val := by decide +kernel
  exact h (i 1)

section
variable (c : Dev nD) (E : Set ℕ) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S1x2x4224 .f32) (harg6 : arg6.IsWhole) (arg7 : Memref sig .tc .vmem S1x2x4224 .f32) (harg7 : arg7.IsWhole) (arg8 : Memref sig .tc .vmem S1x2x4224 .f32) (harg8 : arg8.IsWhole) (arg9 : Memref sig .tc .vmem S1x384x2 .f32) (harg9 : arg9.IsWhole) (arg10 : Memref sig .tc .vmem S4224x128 .bf16) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x2x4224 .f32) (harg13 : arg13.IsWhole) (arg14 : Memref sig .tc .vmem S1x384x2 .f32) (harg14 : arg14.IsWhole) (arg15 : Memref sig .tc .vmem S128x4224 .f32) (harg15 : arg15.IsWhole) (arg16 : Memref sig .tc .vmem S2x4224 .f32) (harg16 : arg16.IsWhole) (v15 : FVec F S384x128 .bf16) (v25 : FVec F S384x128 .bf16) (v33 : Vec F S384x128 .bf16) (v41 : Vec F S384x128 .bf16) (v43 : FVec F S384x1 .f32) (v45 : FVec F S384x1 .f32) (v46 : FVec F S128x384 .bf16) (v47 : FVec F S128x384 .bf16) (v156 : BitVec 32) (f2 : Buf (Elt F) (arg2.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (init : Carry F)

set_option warn.classDefReducibility false in
/-- The invariant of the loop, from the accumulators as the loop finds them. -/
@[sl_loop] def loopInv (f15 : Buf (Elt F) (arg15.view.loc (c : Thread nD τ))) (f16 : Buf (Elt F) (arg16.view.loc (c : Thread nD τ))) :
    LoopInv (M := 𝕄) frame (wpE (defs₀ (F := F)) Variants.none c none) E (k0_t1_loop i).lb (k0_t1_loop i).ub (k0_t1_loop i).st (k0_t1_ok i) init
      (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v25 v33 v41 v43 v45 v46 v47 v156) where
  inv := inv c i arg2 arg5 arg6 arg7 arg8 arg15 arg16 f2 f5 f6 f7 f8 v15 v25 v33 v41 v43 v45 v46 v47 init f15 f16
  step := step c E i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v25 v33 v41 v43 v45 v46 v47 v156 f2 f5 f6 f7 f8 init f15 f16

/-- What the loop leaves: the state after all its trips. -/
instance loopExit (f15 : Buf (Elt F) (arg15.view.loc (c : Thread nD τ))) (f16 : Buf (Elt F) (arg16.view.loc (c : Thread nD τ))) : LoopExit (loopInv c E i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v25 v33 v41 v43 v45 v46 v47 v156 f2 f5 f6 f7 f8 init f15 f16) where
  post acc := invAt c arg2 arg5 arg6 arg7 arg8 arg15 arg16 f2 f5 f6 f7 f8 acc (st c i arg2 arg5 arg6 arg7 arg8 arg15 arg16 f2 f5 f6 f7 f8 v15 v25 v33 v41 v43 v45 v46 v47 (init, f15, f16) (k0_t1_loop i).trips)
  exit acc := by
    show inv c i arg2 arg5 arg6 arg7 arg8 arg15 arg16 f2 f5 f6 f7 f8 v15 v25 v33 v41 v43 v45 v46 v47 init f15 f16 (k0_t1_loop i).trips acc ⊢ _
    rw [inv_eq]

end

end Cert.AttnKernelIdeal.Body

end
-- ==== Proof.AttnPureIdeal.lean ====
module

public import proofs.«01_k».proof.Proof.Gen.AttnKernelIdeal.Frame
public import proofs.«01_k».proof.Proof.Gen.AttnKernelIdeal.Skeleton
public import proofs.«01_k».proof.Proof.AttnBodyIdeal
public import Idealize.ShloMosaic.Lib.Pipeline.Frame
public import Idealize.ShloMosaic.Lib.VecWindow
public import Idealize.ShloMosaic.Lib.Tactic

@[expose] public section

set_option maxRecDepth 16384

noncomputable section

namespace Cert.AttnKernelIdeal.Body

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- One trip of the loop on values: the carried sums, the accumulator of the queries' gradient and that of the decay's. -/
def trip (i : grid0.Coords) (X2 : Vec F S4224x128 .bf16) (X5 : Vec F S4224x128 .f32) (X6 : Vec F S1x2x4224 .f32) (X7 : Vec F S1x2x4224 .f32) (X8 : Vec F S1x2x4224 .f32) (v15 : FVec F S384x128 .bf16) (v25 : FVec F S384x128 .bf16) (v33 : Vec F S384x128 .bf16) (v41 : Vec F S384x128 .bf16) (v43 : FVec F S384x1 .f32) (v45 : FVec F S384x1 .f32) (v46 : FVec F S128x384 .bf16) (v47 : FVec F S128x384 .bf16) (k : Fin (k0_t1_loop i).trips) (s : Carry F × Vec F S128x4224 .f32 × Vec F S2x4224 .f32) : Carry F × Vec F S128x4224 .f32 × Vec F S2x4224 .f32 :=
  ((k0_pay15 v15 v33 v43 s.1.1 (View.ld (Val := Elt F) X2 (Rect.unit (s := S4224x128) (k0_off7 i k) S384x128.size (k0_off7_inb i k))) (View.ld (Val := Elt F) X5 (Rect.unit (s := S4224x128) (k0_off7 i k) S384x128.size (k0_off7_inb i k))) (View.ld (Val := Elt F) X6 (Rect.unit (s := S1x2x4224) (k0_off8 i k) S1x1x384.size (k0_off8_inb i k))) (View.ld (Val := Elt F) X7 (Rect.unit (s := S1x2x4224) (k0_off8 i k) S1x1x384.size (k0_off8_inb i k))) (View.ld (Val := Elt F) X8 (Rect.unit (s := S1x2x4224) (k0_off8 i k) S1x1x384.size (k0_off8_inb i k))),
    k0_pay12 v15 v43 s.1.2.1 (View.ld (Val := Elt F) X2 (Rect.unit (s := S4224x128) (k0_off7 i k) S384x128.size (k0_off7_inb i k))) (View.ld (Val := Elt F) X5 (Rect.unit (s := S4224x128) (k0_off7 i k) S384x128.size (k0_off7_inb i k))) (View.ld (Val := Elt F) X6 (Rect.unit (s := S1x2x4224) (k0_off8 i k) S1x1x384.size (k0_off8_inb i k))) (View.ld (Val := Elt F) X8 (Rect.unit (s := S1x2x4224) (k0_off8 i k) S1x1x384.size (k0_off8_inb i k))),
    k0_pay19 s.1.2.2.1 (k0_pay13 v15 v33 v43 (View.ld (Val := Elt F) X2 (Rect.unit (s := S4224x128) (k0_off7 i k) S384x128.size (k0_off7_inb i k))) (View.ld (Val := Elt F) X5 (Rect.unit (s := S4224x128) (k0_off7 i k) S384x128.size (k0_off7_inb i k))) (View.ld (Val := Elt F) X6 (Rect.unit (s := S1x2x4224) (k0_off8 i k) S1x1x384.size (k0_off8_inb i k))) (View.ld (Val := Elt F) X7 (Rect.unit (s := S1x2x4224) (k0_off8 i k) S1x1x384.size (k0_off8_inb i k))) (View.ld (Val := Elt F) X8 (Rect.unit (s := S1x2x4224) (k0_off8 i k) S1x1x384.size (k0_off8_inb i k)))),
    k0_pay24 v25 v41 v45 s.1.2.2.2.1 (View.ld (Val := Elt F) X2 (Rect.unit (s := S4224x128) (k0_off7 i k) S384x128.size (k0_off7_inb i k))) (k0_pay10 (View.ld (Val := Elt F) X5 (Rect.unit (s := S4224x128) (k0_off7 i k) S384x128.size (k0_off7_inb i k)))) (View.ld (Val := Elt F) X6 (Rect.unit (s := S1x2x4224) (k0_off10 i k) S1x1x384.size (k0_off10_inb i k))) (View.ld (Val := Elt F) X7 (Rect.unit (s := S1x2x4224) (k0_off10 i k) S1x1x384.size (k0_off10_inb i k))) (View.ld (Val := Elt F) X8 (Rect.unit (s := S1x2x4224) (k0_off10 i k) S1x1x384.size (k0_off10_inb i k))),
    k0_pay21 v25 v45 s.1.2.2.2.2.1 (View.ld (Val := Elt F) X2 (Rect.unit (s := S4224x128) (k0_off7 i k) S384x128.size (k0_off7_inb i k))) (k0_pay10 (View.ld (Val := Elt F) X5 (Rect.unit (s := S4224x128) (k0_off7 i k) S384x128.size (k0_off7_inb i k)))) (View.ld (Val := Elt F) X6 (Rect.unit (s := S1x2x4224) (k0_off10 i k) S1x1x384.size (k0_off10_inb i k))) (View.ld (Val := Elt F) X8 (Rect.unit (s := S1x2x4224) (k0_off10 i k) S1x1x384.size (k0_off10_inb i k))),
    k0_pay1 s.1.2.2.2.2.2 (k0_pay22 v25 v41 v45 (View.ld (Val := Elt F) X2 (Rect.unit (s := S4224x128) (k0_off7 i k) S384x128.size (k0_off7_inb i k))) (k0_pay10 (View.ld (Val := Elt F) X5 (Rect.unit (s := S4224x128) (k0_off7 i k) S384x128.size (k0_off7_inb i k)))) (View.ld (Val := Elt F) X6 (Rect.unit (s := S1x2x4224) (k0_off10 i k) S1x1x384.size (k0_off10_inb i k))) (View.ld (Val := Elt F) X7 (Rect.unit (s := S1x2x4224) (k0_off10 i k) S1x1x384.size (k0_off10_inb i k))) (View.ld (Val := Elt F) X8 (Rect.unit (s := S1x2x4224) (k0_off10 i k) S1x1x384.size (k0_off10_inb i k))))),
   (VecWindow.put (s := S128x4224) s.2.1 (k0_off12 i k) S128x384.size (k0_pay2 (k0_pay25 v25 v41 v45 v47 (View.ld (Val := Elt F) X2 (Rect.unit (s := S4224x128) (k0_off7 i k) S384x128.size (k0_off7_inb i k))) (k0_pay10 (View.ld (Val := Elt F) X5 (Rect.unit (s := S4224x128) (k0_off7 i k) S384x128.size (k0_off7_inb i k)))) (k0_pay16 v15 v33 v43 v46 (View.ld (Val := Elt F) X2 (Rect.unit (s := S4224x128) (k0_off7 i k) S384x128.size (k0_off7_inb i k))) (View.ld (Val := Elt F) X5 (Rect.unit (s := S4224x128) (k0_off7 i k) S384x128.size (k0_off7_inb i k))) (View.ld (Val := Elt F) X6 (Rect.unit (s := S1x2x4224) (k0_off8 i k) S1x1x384.size (k0_off8_inb i k))) (View.ld (Val := Elt F) X7 (Rect.unit (s := S1x2x4224) (k0_off8 i k) S1x1x384.size (k0_off8_inb i k))) (View.ld (Val := Elt F) X8 (Rect.unit (s := S1x2x4224) (k0_off8 i k) S1x1x384.size (k0_off8_inb i k)))) (View.ld (Val := Elt F) X6 (Rect.unit (s := S1x2x4224) (k0_off10 i k) S1x1x384.size (k0_off10_inb i k))) (View.ld (Val := Elt F) X7 (Rect.unit (s := S1x2x4224) (k0_off10 i k) S1x1x384.size (k0_off10_inb i k))) (View.ld (Val := Elt F) X8 (Rect.unit (s := S1x2x4224) (k0_off10 i k) S1x1x384.size (k0_off10_inb i k)))) (View.ld (Val := Elt F) s.2.1 (Rect.unit (s := S128x4224) (k0_off12 i k) S128x384.size (k0_off12_inb i k))))),
   (VecWindow.put (s := S2x4224) (VecWindow.put (s := S2x4224) s.2.2 (k0_off9 i k) S1x384.size (k0_pay18 (k0_pay17 v15 v33 v43 (View.ld (Val := Elt F) X2 (Rect.unit (s := S4224x128) (k0_off7 i k) S384x128.size (k0_off7_inb i k))) (View.ld (Val := Elt F) X5 (Rect.unit (s := S4224x128) (k0_off7 i k) S384x128.size (k0_off7_inb i k))) (View.ld (Val := Elt F) X6 (Rect.unit (s := S1x2x4224) (k0_off8 i k) S1x1x384.size (k0_off8_inb i k))) (View.ld (Val := Elt F) X7 (Rect.unit (s := S1x2x4224) (k0_off8 i k) S1x1x384.size (k0_off8_inb i k))) (View.ld (Val := Elt F) X8 (Rect.unit (s := S1x2x4224) (k0_off8 i k) S1x1x384.size (k0_off8_inb i k))) (View.ld (Val := Elt F) s.2.2 (Rect.unit (s := S2x4224) (k0_off9 i k) S1x384.size (k0_off9_inb i k)))))) (k0_off11 i k) S1x384.size (k0_pay26 v25 v41 v45 (View.ld (Val := Elt F) X2 (Rect.unit (s := S4224x128) (k0_off7 i k) S384x128.size (k0_off7_inb i k))) (k0_pay10 (View.ld (Val := Elt F) X5 (Rect.unit (s := S4224x128) (k0_off7 i k) S384x128.size (k0_off7_inb i k)))) (View.ld (Val := Elt F) X6 (Rect.unit (s := S1x2x4224) (k0_off10 i k) S1x1x384.size (k0_off10_inb i k))) (View.ld (Val := Elt F) X7 (Rect.unit (s := S1x2x4224) (k0_off10 i k) S1x1x384.size (k0_off10_inb i k))) (View.ld (Val := Elt F) X8 (Rect.unit (s := S1x2x4224) (k0_off10 i k) S1x1x384.size (k0_off10_inb i k))) (View.ld (Val := Elt F) s.2.2 (Rect.unit (s := S2x4224) (k0_off11 i k) S1x384.size (k0_off11_inb i k))))))

/-- The state on values before trip `k`. -/
def loop (i : grid0.Coords) (X2 : Vec F S4224x128 .bf16) (X5 : Vec F S4224x128 .f32) (X6 : Vec F S1x2x4224 .f32) (X7 : Vec F S1x2x4224 .f32) (X8 : Vec F S1x2x4224 .f32) (v15 : FVec F S384x128 .bf16) (v25 : FVec F S384x128 .bf16) (v33 : Vec F S384x128 .bf16) (v41 : Vec F S384x128 .bf16) (v43 : FVec F S384x1 .f32) (v45 : FVec F S384x1 .f32) (v46 : FVec F S128x384 .bf16) (v47 : FVec F S128x384 .bf16) (s₀ : Carry F × Vec F S128x4224 .f32 × Vec F S2x4224 .f32) : ℕ → Carry F × Vec F S128x4224 .f32 × Vec F S2x4224 .f32
  | 0 => s₀
  | k + 1 => if h : k < (k0_t1_loop i).trips then trip i X2 X5 X6 X7 X8 v15 v25 v33 v41 v43 v45 v46 v47 ⟨k, h⟩ (loop i X2 X5 X6 X7 X8 v15 v25 v33 v41 v43 v45 v46 v47 s₀ k) else loop i X2 X5 X6 X7 X8 v15 v25 v33 v41 v43 v45 v46 v47 s₀ k

/-- A state of the buffers, read. -/
def seen (c : Dev nD) (arg15 : Memref sig .tc .vmem S128x4224 .f32) (arg16 : Memref sig .tc .vmem S2x4224 .f32) (s : Carry F × Buf (Elt F) (arg15.view.loc (c : Thread nD τ)) × Buf (Elt F) (arg16.view.loc (c : Thread nD τ))) : Carry F × Vec F S128x4224 .f32 × Vec F S2x4224 .f32 :=
  (s.1, arg15.view.read (Elt F) s.2.1, arg16.view.read (Elt F) s.2.2)

theorem readAt_ld {κ : Kind} {sp : Space} {s : Shape} {e : EltTy} (v : View sig κ sp s e) (f : v.ty.Contents (Elt F)) (r : Rect s) :
    v.readAt (Elt F) r.toLoadRect f = View.ld (Val := Elt F) (v.read (Elt F) f) r := rfl

theorem read_put {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

theorem writes_nil {κ : Kind} {sp : Space} {s : Shape} {e : EltTy} (v : View sig κ sp s e) (f : v.ty.Contents (Elt F)) :
    v.writes (Elt F) f [] = f := rfl

theorem seen_trip (c : Dev nD) (i : grid0.Coords) (arg2 : Memref sig .tc .vmem S4224x128 .bf16) (arg5 : Memref sig .tc .vmem S4224x128 .f32) (arg6 : Memref sig .tc .vmem S1x2x4224 .f32) (arg7 : Memref sig .tc .vmem S1x2x4224 .f32) (arg8 : Memref sig .tc .vmem S1x2x4224 .f32) (arg15 : Memref sig .tc .vmem S128x4224 .f32) (arg16 : Memref sig .tc .vmem S2x4224 .f32) (f2 : Buf (Elt F) (arg2.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (v15 : FVec F S384x128 .bf16) (v25 : FVec F S384x128 .bf16) (v33 : Vec F S384x128 .bf16) (v41 : Vec F S384x128 .bf16) (v43 : FVec F S384x1 .f32) (v45 : FVec F S384x1 .f32) (v46 : FVec F S128x384 .bf16) (v47 : FVec F S128x384 .bf16) (k : Fin (k0_t1_loop i).trips) (s : Carry F × Buf (Elt F) (arg15.view.loc (c : Thread nD τ)) × Buf (Elt F) (arg16.view.loc (c : Thread nD τ))) :
    seen c arg15 arg16 (tripOf c i arg2 arg5 arg6 arg7 arg8 arg15 arg16 f2 f5 f6 f7 f8 v15 v25 v33 v41 v43 v45 v46 v47 k s) = trip i (arg2.view.read (Elt F) f2) (arg5.view.read (Elt F) f5) (arg6.view.read (Elt F) f6) (arg7.view.read (Elt F) f7) (arg8.view.read (Elt F) f8) v15 v25 v33 v41 v43 v45 v46 v47 k (seen c arg15 arg16 s) := by
  unfold seen tripOf trip
  simp only [readAt_ld, read_put, writes_nil]

theorem seen_loop (c : Dev nD) (i : grid0.Coords) (arg2 : Memref sig .tc .vmem S4224x128 .bf16) (arg5 : Memref sig .tc .vmem S4224x128 .f32) (arg6 : Memref sig .tc .vmem S1x2x4224 .f32) (arg7 : Memref sig .tc .vmem S1x2x4224 .f32) (arg8 : Memref sig .tc .vmem S1x2x4224 .f32) (arg15 : Memref sig .tc .vmem S128x4224 .f32) (arg16 : Memref sig .tc .vmem S2x4224 .f32) (f2 : Buf (Elt F) (arg2.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (v15 : FVec F S384x128 .bf16) (v25 : FVec F S384x128 .bf16) (v33 : Vec F S384x128 .bf16) (v41 : Vec F S384x128 .bf16) (v43 : FVec F S384x1 .f32) (v45 : FVec F S384x1 .f32) (v46 : FVec F S128x384 .bf16) (v47 : FVec F S128x384 .bf16) (s₀ : Carry F × Buf (Elt F) (arg15.view.loc (c : Thread nD τ)) × Buf (Elt F) (arg16.view.loc (c : Thread nD τ))) (k : ℕ) :
    seen c arg15 arg16 (st c i arg2 arg5 arg6 arg7 arg8 arg15 arg16 f2 f5 f6 f7 f8 v15 v25 v33 v41 v43 v45 v46 v47 s₀ k) = loop i (arg2.view.read (Elt F) f2) (arg5.view.read (Elt F) f5) (arg6.view.read (Elt F) f6) (arg7.view.read (Elt F) f7) (arg8.view.read (Elt F) f8) v15 v25 v33 v41 v43 v45 v46 v47 (seen c arg15 arg16 s₀) k := by
  induction k with
  | zero => rfl
  | succ k ih =>
    rw [st, loop]
    split
    · rw [seen_trip, ih]
    · exact ih

/-- The keys of the first head, scaled. -/
def head0 (X3 : Vec F S384x128 .bf16) : FVec F S384x128 .bf16 := (k0_pay47 (View.ld (Val := Elt F) X3 (Rect.unit (s := S384x128) ![0, 0] S384x128.size inb_S384x128_S384x128_0_0)))

/-- The keys of the second head, scaled. -/
def head1 (X3 : Vec F S384x128 .bf16) : FVec F S384x128 .bf16 := (k0_pay48 (View.ld (Val := Elt F) X3 (Rect.unit (s := S384x128) ![0, 0] S384x128.size inb_S384x128_S384x128_0_0)))

/-- The values of the first head. -/
def val0 (X4 : Vec F S384x128 .bf16) : Vec F S384x128 .bf16 := (k0_pay49 (View.ld (Val := Elt F) X4 (Rect.unit (s := S384x128) ![0, 0] S384x128.size inb_S384x128_S384x128_0_0)))

/-- The values of the second head. -/
def val1 (X4 : Vec F S384x128 .bf16) : Vec F S384x128 .bf16 := (k0_pay51 k0_pay46 k0_pay50 (View.ld (Val := Elt F) X4 (Rect.unit (s := S384x128) ![0, 0] S384x128.size inb_S384x128_S384x128_0_0)))

/-- The keys' decay of the first head. -/
def dec0 (X9 : Vec F S1x384x2 .f32) : FVec F S384x1 .f32 := (k0_pay52 (View.ld (Val := Elt F) X9 (Rect.unit (s := S1x384x2) ![0, 0, 0] S1x384x1.size inb_S1x384x2_S1x384x1_0_0_0)))

/-- The keys' decay of the second head. -/
def dec1 (X9 : Vec F S1x384x2 .f32) : FVec F S384x1 .f32 := (k0_pay53 (View.ld (Val := Elt F) X9 (Rect.unit (s := S1x384x2) ![0, 0, 1] S1x384x1.size inb_S1x384x2_S1x384x1_0_0_1)))

/-- The first head's keys, transposed. -/
def tr0 (X3 : Vec F S384x128 .bf16) : FVec F S128x384 .bf16 := (k0_pay54 (head0 X3))

/-- The second head's keys, transposed. -/
def tr1 (X3 : Vec F S384x128 .bf16) : FVec F S128x384 .bf16 := (k0_pay55 (head1 X3))

/-- The diagonal query block: the sums it starts and the accumulators it leaves. -/
def diag (i : grid0.Coords) (X2 : Vec F S4224x128 .bf16) (X3 : Vec F S384x128 .bf16) (X4 : Vec F S384x128 .bf16) (X5 : Vec F S4224x128 .f32) (X6 : Vec F S1x2x4224 .f32) (X7 : Vec F S1x2x4224 .f32) (X8 : Vec F S1x2x4224 .f32) (X9 : Vec F S1x384x2 .f32) (A : Vec F S128x4224 .f32 × Vec F S2x4224 .f32) : Carry F × Vec F S128x4224 .f32 × Vec F S2x4224 .f32 :=
  ((k0_pay67 (val0 X4) (k0_pay56 (F := F)) (View.ld (Val := Elt F) X2 (Rect.unit (s := S4224x128) (k0_off1 i) S384x128.size (k0_off1_inb i))) (k0_pay59 (View.ld (Val := Elt F) X5 (Rect.unit (s := S4224x128) (k0_off1 i) S384x128.size (k0_off1_inb i)))) (k0_pay60 (View.ld (Val := Elt F) X6 (Rect.unit (s := S1x2x4224) (k0_off2 i) S1x1x384.size (k0_off2_inb i)))) (k0_pay61 (View.ld (Val := Elt F) X7 (Rect.unit (s := S1x2x4224) (k0_off2 i) S1x1x384.size (k0_off2_inb i)))) (k0_pay62 (head0 X3) (View.ld (Val := Elt F) X9 (Rect.unit (s := S1x384x2) ![0, 0, 0] S1x384x1.size inb_S1x384x2_S1x384x1_0_0_0)) (View.ld (Val := Elt F) X2 (Rect.unit (s := S4224x128) (k0_off1 i) S384x128.size (k0_off1_inb i))) (View.ld (Val := Elt F) X8 (Rect.unit (s := S1x2x4224) (k0_off2 i) S1x1x384.size (k0_off2_inb i)))) (iota .tc S384x384 32 [0] iota_S384x384_d0_w32),
    k0_pay64 (k0_pay57 (F := F)) (k0_pay59 (View.ld (Val := Elt F) X5 (Rect.unit (s := S4224x128) (k0_off1 i) S384x128.size (k0_off1_inb i)))) (k0_pay60 (View.ld (Val := Elt F) X6 (Rect.unit (s := S1x2x4224) (k0_off2 i) S1x1x384.size (k0_off2_inb i)))) (k0_pay62 (head0 X3) (View.ld (Val := Elt F) X9 (Rect.unit (s := S1x384x2) ![0, 0, 0] S1x384x1.size inb_S1x384x2_S1x384x1_0_0_0)) (View.ld (Val := Elt F) X2 (Rect.unit (s := S4224x128) (k0_off1 i) S384x128.size (k0_off1_inb i))) (View.ld (Val := Elt F) X8 (Rect.unit (s := S1x2x4224) (k0_off2 i) S1x1x384.size (k0_off2_inb i)))) (iota .tc S384x384 32 [0] iota_S384x384_d0_w32),
    k0_pay70 (val0 X4) (k0_pay58 (F := F)) (k0_pay59 (View.ld (Val := Elt F) X5 (Rect.unit (s := S4224x128) (k0_off1 i) S384x128.size (k0_off1_inb i)))) (k0_pay60 (View.ld (Val := Elt F) X6 (Rect.unit (s := S1x2x4224) (k0_off2 i) S1x1x384.size (k0_off2_inb i)))) (k0_pay61 (View.ld (Val := Elt F) X7 (Rect.unit (s := S1x2x4224) (k0_off2 i) S1x1x384.size (k0_off2_inb i)))) (k0_pay62 (head0 X3) (View.ld (Val := Elt F) X9 (Rect.unit (s := S1x384x2) ![0, 0, 0] S1x384x1.size inb_S1x384x2_S1x384x1_0_0_0)) (View.ld (Val := Elt F) X2 (Rect.unit (s := S4224x128) (k0_off1 i) S384x128.size (k0_off1_inb i))) (View.ld (Val := Elt F) X8 (Rect.unit (s := S1x2x4224) (k0_off2 i) S1x1x384.size (k0_off2_inb i)))) (iota .tc S384x384 32 [0] iota_S384x384_d0_w32),
    k0_pay79 (val1 X4) (k0_pay56 (F := F)) (View.ld (Val := Elt F) X2 (Rect.unit (s := S4224x128) (k0_off1 i) S384x128.size (k0_off1_inb i))) (k0_pay59 (View.ld (Val := Elt F) X5 (Rect.unit (s := S4224x128) (k0_off1 i) S384x128.size (k0_off1_inb i)))) (k0_pay71 (View.ld (Val := Elt F) X6 (Rect.unit (s := S1x2x4224) (k0_off4 i) S1x1x384.size (k0_off4_inb i)))) (k0_pay72 (View.ld (Val := Elt F) X7 (Rect.unit (s := S1x2x4224) (k0_off4 i) S1x1x384.size (k0_off4_inb i)))) (k0_pay73 (head1 X3) (View.ld (Val := Elt F) X2 (Rect.unit (s := S4224x128) (k0_off1 i) S384x128.size (k0_off1_inb i))) (View.ld (Val := Elt F) X8 (Rect.unit (s := S1x2x4224) (k0_off4 i) S1x1x384.size (k0_off4_inb i)))) (k0_pay74 (dec1 X9)),
    k0_pay76 (k0_pay57 (F := F)) (k0_pay59 (View.ld (Val := Elt F) X5 (Rect.unit (s := S4224x128) (k0_off1 i) S384x128.size (k0_off1_inb i)))) (k0_pay71 (View.ld (Val := Elt F) X6 (Rect.unit (s := S1x2x4224) (k0_off4 i) S1x1x384.size (k0_off4_inb i)))) (k0_pay73 (head1 X3) (View.ld (Val := Elt F) X2 (Rect.unit (s := S4224x128) (k0_off1 i) S384x128.size (k0_off1_inb i))) (View.ld (Val := Elt F) X8 (Rect.unit (s := S1x2x4224) (k0_off4 i) S1x1x384.size (k0_off4_inb i)))) (k0_pay74 (dec1 X9)),
    k0_pay81 (val1 X4) (k0_pay58 (F := F)) (k0_pay59 (View.ld (Val := Elt F) X5 (Rect.unit (s := S4224x128) (k0_off1 i) S384x128.size (k0_off1_inb i)))) (k0_pay71 (View.ld (Val := Elt F) X6 (Rect.unit (s := S1x2x4224) (k0_off4 i) S1x1x384.size (k0_off4_inb i)))) (k0_pay72 (View.ld (Val := Elt F) X7 (Rect.unit (s := S1x2x4224) (k0_off4 i) S1x1x384.size (k0_off4_inb i)))) (k0_pay73 (head1 X3) (View.ld (Val := Elt F) X2 (Rect.unit (s := S4224x128) (k0_off1 i) S384x128.size (k0_off1_inb i))) (View.ld (Val := Elt F) X8 (Rect.unit (s := S1x2x4224) (k0_off4 i) S1x1x384.size (k0_off4_inb i)))) (k0_pay74 (dec1 X9))),
   (VecWindow.put (s := S128x4224) A.1 (k0_off6 i) S128x384.size (k0_pay82 (val1 X4) (tr1 X3) (k0_pay59 (View.ld (Val := Elt F) X5 (Rect.unit (s := S4224x128) (k0_off1 i) S384x128.size (k0_off1_inb i)))) (k0_pay68 (val0 X4) (tr0 X3) (k0_pay59 (View.ld (Val := Elt F) X5 (Rect.unit (s := S4224x128) (k0_off1 i) S384x128.size (k0_off1_inb i)))) (k0_pay60 (View.ld (Val := Elt F) X6 (Rect.unit (s := S1x2x4224) (k0_off2 i) S1x1x384.size (k0_off2_inb i)))) (k0_pay61 (View.ld (Val := Elt F) X7 (Rect.unit (s := S1x2x4224) (k0_off2 i) S1x1x384.size (k0_off2_inb i)))) (k0_pay62 (head0 X3) (View.ld (Val := Elt F) X9 (Rect.unit (s := S1x384x2) ![0, 0, 0] S1x384x1.size inb_S1x384x2_S1x384x1_0_0_0)) (View.ld (Val := Elt F) X2 (Rect.unit (s := S4224x128) (k0_off1 i) S384x128.size (k0_off1_inb i))) (View.ld (Val := Elt F) X8 (Rect.unit (s := S1x2x4224) (k0_off2 i) S1x1x384.size (k0_off2_inb i)))) (iota .tc S384x384 32 [0] iota_S384x384_d0_w32)) (k0_pay71 (View.ld (Val := Elt F) X6 (Rect.unit (s := S1x2x4224) (k0_off4 i) S1x1x384.size (k0_off4_inb i)))) (k0_pay72 (View.ld (Val := Elt F) X7 (Rect.unit (s := S1x2x4224) (k0_off4 i) S1x1x384.size (k0_off4_inb i)))) (k0_pay73 (head1 X3) (View.ld (Val := Elt F) X2 (Rect.unit (s := S4224x128) (k0_off1 i) S384x128.size (k0_off1_inb i))) (View.ld (Val := Elt F) X8 (Rect.unit (s := S1x2x4224) (k0_off4 i) S1x1x384.size (k0_off4_inb i)))) (k0_pay74 (dec1 X9)) (View.ld (Val := Elt F) A.1 (Rect.unit (s := S128x4224) (k0_off6 i) S128x384.size (k0_off6_inb i))))),
   (VecWindow.put (s := S2x4224) (VecWindow.put (s := S2x4224) A.2 (k0_off3 i) S1x384.size (k0_pay69 (val0 X4) (k0_pay59 (View.ld (Val := Elt F) X5 (Rect.unit (s := S4224x128) (k0_off1 i) S384x128.size (k0_off1_inb i)))) (k0_pay60 (View.ld (Val := Elt F) X6 (Rect.unit (s := S1x2x4224) (k0_off2 i) S1x1x384.size (k0_off2_inb i)))) (k0_pay61 (View.ld (Val := Elt F) X7 (Rect.unit (s := S1x2x4224) (k0_off2 i) S1x1x384.size (k0_off2_inb i)))) (k0_pay62 (head0 X3) (View.ld (Val := Elt F) X9 (Rect.unit (s := S1x384x2) ![0, 0, 0] S1x384x1.size inb_S1x384x2_S1x384x1_0_0_0)) (View.ld (Val := Elt F) X2 (Rect.unit (s := S4224x128) (k0_off1 i) S384x128.size (k0_off1_inb i))) (View.ld (Val := Elt F) X8 (Rect.unit (s := S1x2x4224) (k0_off2 i) S1x1x384.size (k0_off2_inb i)))) (iota .tc S384x384 32 [0] iota_S384x384_d0_w32) (View.ld (Val := Elt F) A.2 (Rect.unit (s := S2x4224) (k0_off3 i) S1x384.size (k0_off3_inb i))))) (k0_off5 i) S1x384.size (k0_pay80 (val1 X4) (k0_pay59 (View.ld (Val := Elt F) X5 (Rect.unit (s := S4224x128) (k0_off1 i) S384x128.size (k0_off1_inb i)))) (k0_pay71 (View.ld (Val := Elt F) X6 (Rect.unit (s := S1x2x4224) (k0_off4 i) S1x1x384.size (k0_off4_inb i)))) (k0_pay72 (View.ld (Val := Elt F) X7 (Rect.unit (s := S1x2x4224) (k0_off4 i) S1x1x384.size (k0_off4_inb i)))) (k0_pay73 (head1 X3) (View.ld (Val := Elt F) X2 (Rect.unit (s := S4224x128) (k0_off1 i) S384x128.size (k0_off1_inb i))) (View.ld (Val := Elt F) X8 (Rect.unit (s := S1x2x4224) (k0_off4 i) S1x1x384.size (k0_off4_inb i)))) (k0_pay74 (dec1 X9)) (View.ld (Val := Elt F) A.2 (Rect.unit (s := S2x4224) (k0_off5 i) S1x384.size (k0_off5_inb i))))))

/-- What the body at point `i` ends with: the sums for its key block and the accumulators. -/
def ends (i : grid0.Coords) (X2 : Vec F S4224x128 .bf16) (X3 : Vec F S384x128 .bf16) (X4 : Vec F S384x128 .bf16) (X5 : Vec F S4224x128 .f32) (X6 : Vec F S1x2x4224 .f32) (X7 : Vec F S1x2x4224 .f32) (X8 : Vec F S1x2x4224 .f32) (X9 : Vec F S1x384x2 .f32) (A : Vec F S128x4224 .f32 × Vec F S2x4224 .f32) : Carry F × Vec F S128x4224 .f32 × Vec F S2x4224 .f32 :=
  loop i X2 X5 X6 X7 X8 (head0 X3) (head1 X3) (val0 X4) (val1 X4) (dec0 X9) (dec1 X9) (tr0 X3) (tr1 X3) (diag i X2 X3 X4 X5 X6 X7 X8 X9 A) (k0_t1_loop i).trips

/-- The accumulators the first point of a head pair starts with. -/
def zeros : Vec F S128x4224 .f32 × Vec F S2x4224 .f32 := (k0_pay44 (F := F), k0_pay45 (F := F))

theorem put_full15 (x w : Vec F S128x4224 .f32) : VecWindow.put (s := S128x4224) x ![0, 0] ![128, 4224] w = w := by
  funext y
  have h : ∀ a : Fin 2, (![0, 0] : Fin 2 → ℕ) a ≤ (y a).val ∧ (y a).val < (![0, 0] : Fin 2 → ℕ) a + (![128, 4224] : Fin 2 → ℕ) a := by
    intro a; have := (y a).isLt
    fin_cases a <;> exact ⟨Nat.zero_le _, by simpa using this⟩
  refine (dif_pos h).trans (congrArg w (funext fun a => Fin.ext ?_))
  show (y a).val - (![0, 0] : Fin 2 → ℕ) a = (y a).val
  fin_cases a <;> rfl

theorem put_full16 (x w : Vec F S2x4224 .f32) : VecWindow.put (s := S2x4224) x ![0, 0] ![2, 4224] w = w := by
  funext y
  have h : ∀ a : Fin 2, (![0, 0] : Fin 2 → ℕ) a ≤ (y a).val ∧ (y a).val < (![0, 0] : Fin 2 → ℕ) a + (![2, 4224] : Fin 2 → ℕ) a := by
    intro a; have := (y a).isLt
    fin_cases a <;> exact ⟨Nat.zero_le _, by simpa using this⟩
  refine (dif_pos h).trans (congrArg w (funext fun a => Fin.ext ?_))
  show (y a).val - (![0, 0] : Fin 2 → ℕ) a = (y a).val
  fin_cases a <;> rfl

theorem apart (i : grid0.Coords) (x : Vec F S2x4224 .f32) (w : FVec F S1x384 .f32) :
    View.ld (Val := Elt F) (VecWindow.put (s := S2x4224) x (k0_off3 i) ![1, 384] w) (Rect.unit (s := S2x4224) (k0_off5 i) ![1, 384] (k0_off5_inb i))
      = View.ld (Val := Elt F) x (Rect.unit (s := S2x4224) (k0_off5 i) ![1, 384] (k0_off5_inb i)) :=
  VecWindow.window_put_of_disjoint x (k0_off3 i) S1x384.size (k0_off5 i) S1x384.size (k0_off5_inb i) w (0 : Fin 2) (.inr (by
    show 0 + 1 ≤ 1
    exact le_refl _))

theorem ends_of (c : Dev nD) (i : grid0.Coords) (arg2 : Memref sig .tc .vmem S4224x128 .bf16) (arg3 : Memref sig .tc .vmem S384x128 .bf16) (arg4 : Memref sig .tc .vmem S384x128 .bf16) (arg5 : Memref sig .tc .vmem S4224x128 .f32) (arg6 : Memref sig .tc .vmem S1x2x4224 .f32) (arg7 : Memref sig .tc .vmem S1x2x4224 .f32) (arg8 : Memref sig .tc .vmem S1x2x4224 .f32) (arg9 : Memref sig .tc .vmem S1x384x2 .f32) (arg10 : Memref sig .tc .vmem S4224x128 .bf16) (arg11 : Memref sig .tc .vmem S384x128 .bf16) (arg12 : Memref sig .tc .vmem S384x128 .bf16) (arg13 : Memref sig .tc .vmem S1x2x4224 .f32) (arg14 : Memref sig .tc .vmem S1x384x2 .f32) (arg15 : Memref sig .tc .vmem S128x4224 .f32) (arg16 : Memref sig .tc .vmem S2x4224 .f32) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (A : Vec F S128x4224 .f32 × Vec F S2x4224 .f32)
    (s₀ : Carry F × Buf (Elt F) (arg15.view.loc (c : Thread nD τ)) × Buf (Elt F) (arg16.view.loc (c : Thread nD τ))) (h : seen c arg15 arg16 s₀ = diag i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) A) :
    seen c arg15 arg16 (st c i arg2 arg5 arg6 arg7 arg8 arg15 arg16 f2 f5 f6 f7 f8 (head0 (arg3.view.read (Elt F) f3)) (head1 (arg3.view.read (Elt F) f3)) (val0 (arg4.view.read (Elt F) f4)) (val1 (arg4.view.read (Elt F) f4)) (dec0 (arg9.view.read (Elt F) f9)) (dec1 (arg9.view.read (Elt F) f9)) (tr0 (arg3.view.read (Elt F) f3)) (tr1 (arg3.view.read (Elt F) f3)) s₀ (k0_t1_loop i).trips)
      = ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) A := by
  rw [seen_loop, h]; rfl

end Cert.AttnKernelIdeal.Body

end
-- ==== Proof.AttnRunAIdeal.lean ====
module

public import proofs.«01_k».proof.Proof.Gen.AttnKernelIdeal.Frame
public import proofs.«01_k».proof.Proof.Gen.AttnKernelIdeal.Skeleton
public import proofs.«01_k».proof.Proof.AttnPureIdeal
public import Idealize.ShloMosaic.Lib.Pipeline.Frame
public import Idealize.ShloMosaic.Lib.Tactic

@[expose] public section

set_option maxRecDepth 16384

noncomputable section

namespace Cert.AttnKernelIdeal.Body

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runA (c : Dev nD) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S1x2x4224 .f32) (harg6 : arg6.IsWhole) (arg7 : Memref sig .tc .vmem S1x2x4224 .f32) (harg7 : arg7.IsWhole) (arg8 : Memref sig .tc .vmem S1x2x4224 .f32) (harg8 : arg8.IsWhole) (arg9 : Memref sig .tc .vmem S1x384x2 .f32) (harg9 : arg9.IsWhole) (arg10 : Memref sig .tc .vmem S4224x128 .bf16) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x2x4224 .f32) (harg13 : arg13.IsWhole) (arg14 : Memref sig .tc .vmem S1x384x2 .f32) (harg14 : arg14.IsWhole) (arg15 : Memref sig .tc .vmem S128x4224 .f32) (harg15 : arg15.IsWhole) (arg16 : Memref sig .tc .vmem S2x4224 .f32) (harg16 : arg16.IsWhole) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ)))
    (hc1 : (Scalar.cmpi .ne (Scalar.extui (Scalar.cmpi .eq (BitVec.ofNat 32 (i 1).val) 0#32)) 0#32) = 1#1) (hc2 : ¬ k0_cond2 i = 1#1) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp 𝕄)
      ⊢ wp frame (wpE (defs₀ (F := F)) Variants.none c none) (Set.univ : Set ℕ) (cc0_l0_b_attn_skel i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ =>
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (owns (c : Thread nD τ) arg11 fullShare (k0_pay5 k0_pay46 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (zeros (F := F))).1.1 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (zeros (F := F))).1.2.2.2.1)) ∗ (owns (c : Thread nD τ) arg12 fullShare (k0_pay6 k0_pay46 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (zeros (F := F))).1.2.1 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (zeros (F := F))).1.2.2.2.2.1)) ∗ (arg13.view.loc (c : Thread nD τ) ↦[arg13.view.set]{fullShare} f13) ∗ (owns (c : Thread nD τ) arg14 fullShare (k0_pay7 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (zeros (F := F))).1.2.2.1 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (zeros (F := F))).1.2.2.2.2.2)) ∗ (owns (c : Thread nD τ) arg15 fullShare ((ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (zeros (F := F))).2.1)) ∗ (owns (c : Thread nD τ) arg16 fullShare ((ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (zeros (F := F))).2.2)))) := by
  have htr := trips2 i
  unfold cc0_l0_b_attn_skel
  simp only [k0_part5_eq_skeleton, k0_part6_eq_skeleton, k0_part7_eq_skeleton, k0_part8_eq_skeleton]
  iintro ⟨H2, H3, H4, H5, H6, H7, H8, H9, H10, H11, H12, H13, H14, H15, H16⟩
  sl_exec (disch := first | sl_exact hc1 | sl_exact hc2)
  have hs := ends_of c i arg2 arg3 arg4 arg5 arg6 arg7 arg8 arg9 arg10 arg11 arg12 arg13 arg14 arg15 arg16 f2 f3 f4 f5 f6 f7 f8 f9 (zeros (F := F))
    (((runA.sl.r_14 c i arg2 arg3 arg4 arg5 arg6 arg7 arg8 arg9 f2 f3 f4 f5 f6 f7 f8 f9), (runA.sl.r_13 c i arg2 arg3 arg5 arg6 arg8 arg9 f2 f3 f5 f6 f8 f9), (runA.sl.r_16 c i arg2 arg3 arg4 arg5 arg6 arg7 arg8 arg9 f2 f3 f4 f5 f6 f7 f8 f9), (runA.sl.r_22 c i arg2 arg3 arg4 arg5 arg6 arg7 arg8 arg9 f2 f3 f4 f5 f6 f7 f8 f9), (runA.sl.r_21 c i arg2 arg3 arg5 arg6 arg8 arg9 f2 f3 f5 f6 f8 f9), (runA.sl.r_23 c i arg2 arg3 arg4 arg5 arg6 arg7 arg8 arg9 f2 f3 f4 f5 f6 f7 f8 f9)),
      arg15.view.writes (Elt F) arg15.view.junk (⟨Rect.unit (s := S128x4224) (k0_off6 i) S128x384.size (k0_off6_inb i), k0_pay82 (runA.sl.r_3 c arg4 f4) (runA.sl.r_7 c arg3 f3) (runA.sl.r_9 c i arg5 f5) (runA.sl.r_15 c i arg2 arg3 arg4 arg5 arg6 arg7 arg8 arg9 f2 f3 f4 f5 f6 f7 f8 f9) (runA.sl.r_17 c i arg6 f6) (runA.sl.r_18 c i arg7 f7) (runA.sl.r_19 c i arg2 arg3 arg8 f2 f3 f8) (runA.sl.r_20 c arg9 f9) (View.readAt (Elt F) arg15.view (Rect.unit (s := S128x4224) (k0_off6 i) S128x384.size (k0_off6_inb i)).toLoadRect (arg15.view.writes (Elt F) arg15.view.junk runA.sl.H15_1))⟩ :: runA.sl.H15_1),
      arg16.view.writes (Elt F) arg16.view.junk (⟨Rect.unit (s := S2x4224) (k0_off5 i) S1x384.size (k0_off5_inb i), k0_pay80 (runA.sl.r_3 c arg4 f4) (runA.sl.r_9 c i arg5 f5) (runA.sl.r_17 c i arg6 f6) (runA.sl.r_18 c i arg7 f7) (runA.sl.r_19 c i arg2 arg3 arg8 f2 f3 f8) (runA.sl.r_20 c arg9 f9) (View.readAt (Elt F) arg16.view (Rect.unit (s := S2x4224) (k0_off5 i) S1x384.size (k0_off5_inb i)).toLoadRect (arg16.view.writes (Elt F) arg16.view.junk (runA.sl.H16_2 c i arg2 arg3 arg4 arg5 arg6 arg7 arg8 arg9 arg16 f2 f3 f4 f5 f6 f7 f8 f9)))⟩ :: (runA.sl.H16_2 c i arg2 arg3 arg4 arg5 arg6 arg7 arg8 arg9 arg16 f2 f3 f4 f5 f6 f7 f8 f9)))
    (by
      delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.v72 runA.sl.H15_1 runA.sl.H16_1 runA.sl.H16_2
      refine Prod.ext ?_ (Prod.ext ?_ ?_)
      · simp only [seen, diag, head0, head1, val0, val1, tr0, tr1, dec1, zeros, readAt_ld, read_put, writes_nil]
      · simp only [seen, diag, head0, head1, val0, val1, tr0, tr1, dec1, zeros, readAt_ld, read_put, writes_nil]
        rw [put_full15]
      · simp only [seen, diag, head0, head1, val0, val1, tr0, tr1, dec1, zeros, readAt_ld, read_put, writes_nil]
        rw [put_full16, apart])
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro
    refine (View.read_writes_full _ _ _ _ _).trans ?_
    refine congrArg₂ (fun a b => k0_pay5 k0_pay46 a b) (congrArg (fun r => r.1.1) hs) (congrArg (fun r => r.1.2.2.2.1) hs)
  isplitl [H12]
  · unfold owns; iexists _; isplitr
    swap; · iexact H12
    ipureintro
    refine (View.read_writes_full _ _ _ _ _).trans ?_
    refine congrArg₂ (fun a b => k0_pay6 k0_pay46 a b) (congrArg (fun r => r.1.2.1) hs) (congrArg (fun r => r.1.2.2.2.2.1) hs)
  isplitl [H13]; · iexact H13
  isplitl [H14]
  · unfold owns; iexists _; isplitr
    swap; · iexact H14
    ipureintro
    refine (View.read_writes_full _ _ _ _ _).trans ?_
    refine congrArg₂ (fun a b => k0_pay7 a b) (congrArg (fun r => r.1.2.2.1) hs) (congrArg (fun r => r.1.2.2.2.2.2) hs)
  isplitl [H15]
  · unfold owns; iexists _; isplitr
    swap; · iexact H15
    ipureintro
    refine (congrArg (fun r => r.2.1) hs)
  unfold owns; iexists _; isplitr
  swap; · iexact H16
  ipureintro
  refine (congrArg (fun r => r.2.2) hs)

end Cert.AttnKernelIdeal.Body

end
-- ==== Proof.AttnRunBIdeal.lean ====
module

public import proofs.«01_k».proof.Proof.Gen.AttnKernelIdeal.Frame
public import proofs.«01_k».proof.Proof.Gen.AttnKernelIdeal.Skeleton
public import proofs.«01_k».proof.Proof.AttnPureIdeal
public import Idealize.ShloMosaic.Lib.Pipeline.Frame
public import Idealize.ShloMosaic.Lib.Tactic

@[expose] public section

set_option maxRecDepth 16384

noncomputable section

namespace Cert.AttnKernelIdeal.Body

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runB (c : Dev nD) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S1x2x4224 .f32) (harg6 : arg6.IsWhole) (arg7 : Memref sig .tc .vmem S1x2x4224 .f32) (harg7 : arg7.IsWhole) (arg8 : Memref sig .tc .vmem S1x2x4224 .f32) (harg8 : arg8.IsWhole) (arg9 : Memref sig .tc .vmem S1x384x2 .f32) (harg9 : arg9.IsWhole) (arg10 : Memref sig .tc .vmem S4224x128 .bf16) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x2x4224 .f32) (harg13 : arg13.IsWhole) (arg14 : Memref sig .tc .vmem S1x384x2 .f32) (harg14 : arg14.IsWhole) (arg15 : Memref sig .tc .vmem S128x4224 .f32) (harg15 : arg15.IsWhole) (arg16 : Memref sig .tc .vmem S2x4224 .f32) (harg16 : arg16.IsWhole) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ)))
    (hc1 : ¬ (Scalar.cmpi .ne (Scalar.extui (Scalar.cmpi .eq (BitVec.ofNat 32 (i 1).val) 0#32)) 0#32) = 1#1) (hc2 : ¬ k0_cond2 i = 1#1) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp 𝕄)
      ⊢ wp frame (wpE (defs₀ (F := F)) Variants.none c none) (Set.univ : Set ℕ) (cc0_l0_b_attn_skel i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ =>
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (owns (c : Thread nD τ) arg11 fullShare (k0_pay5 k0_pay46 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.1 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.2.2.2.1)) ∗ (owns (c : Thread nD τ) arg12 fullShare (k0_pay6 k0_pay46 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.2.1 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.2.2.2.2.1)) ∗ (arg13.view.loc (c : Thread nD τ) ↦[arg13.view.set]{fullShare} f13) ∗ (owns (c : Thread nD τ) arg14 fullShare (k0_pay7 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.2.2.1 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.2.2.2.2.2)) ∗ (owns (c : Thread nD τ) arg15 fullShare ((ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).2.1)) ∗ (owns (c : Thread nD τ) arg16 fullShare ((ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).2.2)))) := by
  have htr := trips2 i
  unfold cc0_l0_b_attn_skel
  simp only [k0_part5_eq_skeleton, k0_part6_eq_skeleton, k0_part7_eq_skeleton, k0_part8_eq_skeleton]
  iintro ⟨H2, H3, H4, H5, H6, H7, H8, H9, H10, H11, H12, H13, H14, H15, H16⟩
  sl_exec (disch := first | sl_exact hc1 | sl_exact hc2)
  have hs := ends_of c i arg2 arg3 arg4 arg5 arg6 arg7 arg8 arg9 arg10 arg11 arg12 arg13 arg14 arg15 arg16 f2 f3 f4 f5 f6 f7 f8 f9 (arg15.view.read (Elt F) f15, arg16.view.read (Elt F) f16)
    (((runB.sl.r_14 c i arg2 arg3 arg4 arg5 arg6 arg7 arg8 arg9 f2 f3 f4 f5 f6 f7 f8 f9), (runB.sl.r_13 c i arg2 arg3 arg5 arg6 arg8 arg9 f2 f3 f5 f6 f8 f9), (runB.sl.r_16 c i arg2 arg3 arg4 arg5 arg6 arg7 arg8 arg9 f2 f3 f4 f5 f6 f7 f8 f9), (runB.sl.r_22 c i arg2 arg3 arg4 arg5 arg6 arg7 arg8 arg9 f2 f3 f4 f5 f6 f7 f8 f9), (runB.sl.r_21 c i arg2 arg3 arg5 arg6 arg8 arg9 f2 f3 f5 f6 f8 f9), (runB.sl.r_23 c i arg2 arg3 arg4 arg5 arg6 arg7 arg8 arg9 f2 f3 f4 f5 f6 f7 f8 f9)),
      arg15.view.writes (Elt F) f15 (⟨Rect.unit (s := S128x4224) (k0_off6 i) S128x384.size (k0_off6_inb i), k0_pay82 (runB.sl.r_3 c arg4 f4) (runB.sl.r_7 c arg3 f3) (runB.sl.r_9 c i arg5 f5) (runB.sl.r_15 c i arg2 arg3 arg4 arg5 arg6 arg7 arg8 arg9 f2 f3 f4 f5 f6 f7 f8 f9) (runB.sl.r_17 c i arg6 f6) (runB.sl.r_18 c i arg7 f7) (runB.sl.r_19 c i arg2 arg3 arg8 f2 f3 f8) (runB.sl.r_20 c arg9 f9) (View.readAt (Elt F) arg15.view (Rect.unit (s := S128x4224) (k0_off6 i) S128x384.size (k0_off6_inb i)).toLoadRect f15)⟩ :: []),
      arg16.view.writes (Elt F) f16 (⟨Rect.unit (s := S2x4224) (k0_off5 i) S1x384.size (k0_off5_inb i), k0_pay80 (runB.sl.r_3 c arg4 f4) (runB.sl.r_9 c i arg5 f5) (runB.sl.r_17 c i arg6 f6) (runB.sl.r_18 c i arg7 f7) (runB.sl.r_19 c i arg2 arg3 arg8 f2 f3 f8) (runB.sl.r_20 c arg9 f9) (runB.sl.v138 c i arg16 f16)⟩ :: [⟨Rect.unit (s := S2x4224) (k0_off3 i) S1x384.size (k0_off3_inb i), k0_pay69 (runB.sl.r_2 c arg4 f4) (runB.sl.r_9 c i arg5 f5) (runB.sl.r_10 c i arg6 f6) (runB.sl.r_11 c i arg7 f7) (runB.sl.r_12 c i arg2 arg3 arg8 arg9 f2 f3 f8 f9) runB.sl.v72 (View.readAt (Elt F) arg16.view (Rect.unit (s := S2x4224) (k0_off3 i) S1x384.size (k0_off3_inb i)).toLoadRect f16)⟩]))
    (by
      delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.v72 runB.sl.v138
      refine Prod.ext ?_ (Prod.ext ?_ ?_)
      · simp only [seen, diag, head0, head1, val0, val1, tr0, tr1, dec1, readAt_ld, read_put, writes_nil]
      · simp only [seen, diag, head0, head1, val0, val1, tr0, tr1, dec1, readAt_ld, read_put, writes_nil]
      · simp only [seen, diag, head0, head1, val0, val1, tr0, tr1, dec1, readAt_ld, read_put, writes_nil])
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro
    refine (View.read_writes_full _ _ _ _ _).trans ?_
    refine congrArg₂ (fun a b => k0_pay5 k0_pay46 a b) (congrArg (fun r => r.1.1) hs) (congrArg (fun r => r.1.2.2.2.1) hs)
  isplitl [H12]
  · unfold owns; iexists _; isplitr
    swap; · iexact H12
    ipureintro
    refine (View.read_writes_full _ _ _ _ _).trans ?_
    refine congrArg₂ (fun a b => k0_pay6 k0_pay46 a b) (congrArg (fun r => r.1.2.1) hs) (congrArg (fun r => r.1.2.2.2.2.1) hs)
  isplitl [H13]; · iexact H13
  isplitl [H14]
  · unfold owns; iexists _; isplitr
    swap; · iexact H14
    ipureintro
    refine (View.read_writes_full _ _ _ _ _).trans ?_
    refine congrArg₂ (fun a b => k0_pay7 a b) (congrArg (fun r => r.1.2.2.1) hs) (congrArg (fun r => r.1.2.2.2.2.2) hs)
  isplitl [H15]
  · unfold owns; iexists _; isplitr
    swap; · iexact H15
    ipureintro
    refine (congrArg (fun r => r.2.1) hs)
  unfold owns; iexists _; isplitr
  swap; · iexact H16
  ipureintro
  refine (congrArg (fun r => r.2.2) hs)

end Cert.AttnKernelIdeal.Body

end
-- ==== Proof.AttnRunCIdeal.lean ====
module

public import proofs.«01_k».proof.Proof.Gen.AttnKernelIdeal.Frame
public import proofs.«01_k».proof.Proof.Gen.AttnKernelIdeal.Skeleton
public import proofs.«01_k».proof.Proof.AttnPureIdeal
public import Idealize.ShloMosaic.Lib.Pipeline.Frame
public import Idealize.ShloMosaic.Lib.Tactic

@[expose] public section

set_option maxRecDepth 16384

noncomputable section

namespace Cert.AttnKernelIdeal.Body

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runC (c : Dev nD) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S1x2x4224 .f32) (harg6 : arg6.IsWhole) (arg7 : Memref sig .tc .vmem S1x2x4224 .f32) (harg7 : arg7.IsWhole) (arg8 : Memref sig .tc .vmem S1x2x4224 .f32) (harg8 : arg8.IsWhole) (arg9 : Memref sig .tc .vmem S1x384x2 .f32) (harg9 : arg9.IsWhole) (arg10 : Memref sig .tc .vmem S4224x128 .bf16) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x2x4224 .f32) (harg13 : arg13.IsWhole) (arg14 : Memref sig .tc .vmem S1x384x2 .f32) (harg14 : arg14.IsWhole) (arg15 : Memref sig .tc .vmem S128x4224 .f32) (harg15 : arg15.IsWhole) (arg16 : Memref sig .tc .vmem S2x4224 .f32) (harg16 : arg16.IsWhole) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ)))
    (hc1 : ¬ (Scalar.cmpi .ne (Scalar.extui (Scalar.cmpi .eq (BitVec.ofNat 32 (i 1).val) 0#32)) 0#32) = 1#1) (hc2 : k0_cond2 i = 1#1) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp 𝕄)
      ⊢ wp frame (wpE (defs₀ (F := F)) Variants.none c none) (Set.univ : Set ℕ) (cc0_l0_b_attn_skel i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ =>
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (owns (c : Thread nD τ) arg10 fullShare (k0_pay8 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).2.1)) ∗ (owns (c : Thread nD τ) arg11 fullShare (k0_pay5 k0_pay46 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.1 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.2.2.2.1)) ∗ (owns (c : Thread nD τ) arg12 fullShare (k0_pay6 k0_pay46 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.2.1 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.2.2.2.2.1)) ∗ (owns (c : Thread nD τ) arg13 fullShare (k0_pay9 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).2.2)) ∗ (owns (c : Thread nD τ) arg14 fullShare (k0_pay7 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.2.2.1 (ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).1.2.2.2.2.2)) ∗ (owns (c : Thread nD τ) arg15 fullShare ((ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).2.1)) ∗ (owns (c : Thread nD τ) arg16 fullShare ((ends i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg15.view.read (Elt F) f15, arg16.view.read (Elt F) f16)).2.2)))) := by
  have htr := trips2 i
  unfold cc0_l0_b_attn_skel
  simp only [k0_part5_eq_skeleton, k0_part6_eq_skeleton, k0_part7_eq_skeleton, k0_part8_eq_skeleton]
  iintro ⟨H2, H3, H4, H5, H6, H7, H8, H9, H10, H11, H12, H13, H14, H15, H16⟩
  sl_exec (disch := first | sl_exact hc1 | sl_exact hc2)
  have hs := ends_of c i arg2 arg3 arg4 arg5 arg6 arg7 arg8 arg9 arg10 arg11 arg12 arg13 arg14 arg15 arg16 f2 f3 f4 f5 f6 f7 f8 f9 (arg15.view.read (Elt F) f15, arg16.view.read (Elt F) f16)
    (((runC.sl.r_14 c i arg2 arg3 arg4 arg5 arg6 arg7 arg8 arg9 f2 f3 f4 f5 f6 f7 f8 f9), (runC.sl.r_13 c i arg2 arg3 arg5 arg6 arg8 arg9 f2 f3 f5 f6 f8 f9), (runC.sl.r_16 c i arg2 arg3 arg4 arg5 arg6 arg7 arg8 arg9 f2 f3 f4 f5 f6 f7 f8 f9), (runC.sl.r_22 c i arg2 arg3 arg4 arg5 arg6 arg7 arg8 arg9 f2 f3 f4 f5 f6 f7 f8 f9), (runC.sl.r_21 c i arg2 arg3 arg5 arg6 arg8 arg9 f2 f3 f5 f6 f8 f9), (runC.sl.r_23 c i arg2 arg3 arg4 arg5 arg6 arg7 arg8 arg9 f2 f3 f4 f5 f6 f7 f8 f9)),
      arg15.view.writes (Elt F) f15 (⟨Rect.unit (s := S128x4224) (k0_off6 i) S128x384.size (k0_off6_inb i), k0_pay82 (runC.sl.r_3 c arg4 f4) (runC.sl.r_7 c arg3 f3) (runC.sl.r_9 c i arg5 f5) (runC.sl.r_15 c i arg2 arg3 arg4 arg5 arg6 arg7 arg8 arg9 f2 f3 f4 f5 f6 f7 f8 f9) (runC.sl.r_17 c i arg6 f6) (runC.sl.r_18 c i arg7 f7) (runC.sl.r_19 c i arg2 arg3 arg8 f2 f3 f8) (runC.sl.r_20 c arg9 f9) (View.readAt (Elt F) arg15.view (Rect.unit (s := S128x4224) (k0_off6 i) S128x384.size (k0_off6_inb i)).toLoadRect f15)⟩ :: []),
      arg16.view.writes (Elt F) f16 (⟨Rect.unit (s := S2x4224) (k0_off5 i) S1x384.size (k0_off5_inb i), k0_pay80 (runC.sl.r_3 c arg4 f4) (runC.sl.r_9 c i arg5 f5) (runC.sl.r_17 c i arg6 f6) (runC.sl.r_18 c i arg7 f7) (runC.sl.r_19 c i arg2 arg3 arg8 f2 f3 f8) (runC.sl.r_20 c arg9 f9) (runC.sl.v138 c i arg16 f16)⟩ :: [⟨Rect.unit (s := S2x4224) (k0_off3 i) S1x384.size (k0_off3_inb i), k0_pay69 (runC.sl.r_2 c arg4 f4) (runC.sl.r_9 c i arg5 f5) (runC.sl.r_10 c i arg6 f6) (runC.sl.r_11 c i arg7 f7) (runC.sl.r_12 c i arg2 arg3 arg8 arg9 f2 f3 f8 f9) runC.sl.v72 (View.readAt (Elt F) arg16.view (Rect.unit (s := S2x4224) (k0_off3 i) S1x384.size (k0_off3_inb i)).toLoadRect f16)⟩]))
    (by
      delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.r_14 runC.sl.r_15 runC.sl.r_16 runC.sl.r_17 runC.sl.r_18 runC.sl.r_19 runC.sl.r_20 runC.sl.r_21 runC.sl.r_22 runC.sl.r_23 runC.sl.v72 runC.sl.v138
      refine Prod.ext ?_ (Prod.ext ?_ ?_)
      · simp only [seen, diag, head0, head1, val0, val1, tr0, tr1, dec1, readAt_ld, read_put, writes_nil]
      · simp only [seen, diag, head0, head1, val0, val1, tr0, tr1, dec1, readAt_ld, read_put, writes_nil]
      · simp only [seen, diag, head0, head1, val0, val1, tr0, tr1, dec1, readAt_ld, read_put, writes_nil])
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro
    refine (View.read_writes_full _ _ _ _ _).trans ?_
    exact congrArg k0_pay8 ((View.readAt_full _ _ _).trans (congrArg (fun r => r.2.1) hs))
  isplitl [H11]
  · unfold owns; iexists _; isplitr
    swap; · iexact H11
    ipureintro
    refine (View.read_writes_full _ _ _ _ _).trans ?_
    refine congrArg₂ (fun a b => k0_pay5 k0_pay46 a b) (congrArg (fun r => r.1.1) hs) (congrArg (fun r => r.1.2.2.2.1) hs)
  isplitl [H12]
  · unfold owns; iexists _; isplitr
    swap; · iexact H12
    ipureintro
    refine (View.read_writes_full _ _ _ _ _).trans ?_
    refine congrArg₂ (fun a b => k0_pay6 k0_pay46 a b) (congrArg (fun r => r.1.2.1) hs) (congrArg (fun r => r.1.2.2.2.2.1) hs)
  isplitl [H13]
  · unfold owns; iexists _; isplitr
    swap; · iexact H13
    ipureintro
    refine (View.read_writes_full _ _ _ _ _).trans ?_
    exact congrArg k0_pay9 ((View.readAt_full _ _ _).trans (congrArg (fun r => r.2.2) hs))
  isplitl [H14]
  · unfold owns; iexists _; isplitr
    swap; · iexact H14
    ipureintro
    refine (View.read_writes_full _ _ _ _ _).trans ?_
    refine congrArg₂ (fun a b => k0_pay7 a b) (congrArg (fun r => r.1.2.2.1) hs) (congrArg (fun r => r.1.2.2.2.2.2) hs)
  isplitl [H15]
  · unfold owns; iexists _; isplitr
    swap; · iexact H15
    ipureintro
    refine (congrArg (fun r => r.2.1) hs)
  unfold owns; iexists _; isplitr
  swap; · iexact H16
  ipureintro
  refine (congrArg (fun r => r.2.2) hs)

end Cert.AttnKernelIdeal.Body

end
-- ==== Proof.AttnFrameIdeal.lean ====
module

public import proofs.«01_k».proof.Proof.AttnRunAIdeal
public import proofs.«01_k».proof.Proof.AttnRunBIdeal
public import proofs.«01_k».proof.Proof.AttnRunCIdeal
public import Idealize.ShloMosaic.Lib.Quiescent
public import Idealize.ShloMosaic.Lib.Claim

/-! The attention gradient as a whole: what every point leaves, the body at every point, and the run of the program. -/

@[expose] public section

set_option maxRecDepth 16384

noncomputable section

namespace Cert.AttnKernelIdeal.Body

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body, its memrefs owned at values -/

/-- What the body leaves of the sums and the accumulators at a point, from the blocks there. -/
abbrev Res (F : FTy → Type) [FloatOps F] : Type := Carry F × Vec F S128x4224 .f32 × Vec F S2x4224 .f32

/-- The key gradient a point writes. -/
def outK (R : Res F) : Vec F S384x128 .bf16 := k0_pay5 k0_pay46 R.1.1 R.1.2.2.2.1
/-- The value gradient a point writes. -/
def outV (R : Res F) : Vec F S384x128 .bf16 := k0_pay6 k0_pay46 R.1.2.1 R.1.2.2.2.2.1
/-- The gradient of the decay at the keys a point writes. -/
def outC (R : Res F) : Vec F S1x384x2 .f32 := k0_pay7 R.1.2.2.1 R.1.2.2.2.2.2
/-- The query gradient the last point of a head pair writes. -/
def outQ (R : Res F) : Vec F S4224x128 .bf16 := k0_pay8 R.2.1
/-- The gradient of the decay at the queries the last point of a head pair writes. -/
def outD (R : Res F) : Vec F S1x2x4224 .f32 := k0_pay9 R.2.2

set_option maxHeartbeats 3200000 in
/-- The body at the first point of a head pair, its memrefs owned at values. -/
theorem tripleA (c : Dev nD) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S1x2x4224 .f32) (harg6 : arg6.IsWhole) (arg7 : Memref sig .tc .vmem S1x2x4224 .f32) (harg7 : arg7.IsWhole) (arg8 : Memref sig .tc .vmem S1x2x4224 .f32) (harg8 : arg8.IsWhole) (arg9 : Memref sig .tc .vmem S1x384x2 .f32) (harg9 : arg9.IsWhole) (arg10 : Memref sig .tc .vmem S4224x128 .bf16) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x2x4224 .f32) (harg13 : arg13.IsWhole) (arg14 : Memref sig .tc .vmem S1x384x2 .f32) (harg14 : arg14.IsWhole) (arg15 : Memref sig .tc .vmem S128x4224 .f32) (harg15 : arg15.IsWhole) (arg16 : Memref sig .tc .vmem S2x4224 .f32) (harg16 : arg16.IsWhole) (X2 : Vec F S4224x128 .bf16) (X3 : Vec F S384x128 .bf16) (X4 : Vec F S384x128 .bf16) (X5 : Vec F S4224x128 .f32) (X6 : Vec F S1x2x4224 .f32) (X7 : Vec F S1x2x4224 .f32) (X8 : Vec F S1x2x4224 .f32) (X9 : Vec F S1x384x2 .f32) (X10 : Vec F S4224x128 .bf16) (X13 : Vec F S1x2x4224 .f32)
    (hc1 : (Scalar.cmpi .ne (Scalar.extui (Scalar.cmpi .eq (BitVec.ofNat 32 (i 1).val) 0#32)) 0#32) = 1#1) (hc2 : ¬ k0_cond2 i = 1#1) (Q : PUnit → sProp 𝕄) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ d, owns (c : Thread nD τ) arg11 fullShare d) ∗ (∃ d, owns (c : Thread nD τ) arg12 fullShare d) ∗ owns (c : Thread nD τ) arg13 fullShare X13 ∗ (∃ d, owns (c : Thread nD τ) arg14 fullShare d) ∗ (∃ d, owns (c : Thread nD τ) arg15 fullShare d) ∗ (∃ d, owns (c : Thread nD τ) arg16 fullShare d) ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare (outK (ends i X2 X3 X4 X5 X6 X7 X8 X9 (zeros (F := F)))) ∗ owns (c : Thread nD τ) arg12 fullShare (outV (ends i X2 X3 X4 X5 X6 X7 X8 X9 (zeros (F := F)))) ∗ owns (c : Thread nD τ) arg13 fullShare X13 ∗ owns (c : Thread nD τ) arg14 fullShare (outC (ends i X2 X3 X4 X5 X6 X7 X8 X9 (zeros (F := F)))) ∗ owns (c : Thread nD τ) arg15 fullShare (ends i X2 X3 X4 X5 X6 X7 X8 X9 (zeros (F := F))).2.1 ∗ owns (c : Thread nD τ) arg16 fullShare (ends i X2 X3 X4 X5 X6 X7 X8 X9 (zeros (F := F))).2.2) -∗ Q PUnit.unit)) : sProp 𝕄)
      ⊢ wp frame (wpE (defs₀ (F := F)) Variants.none c none) (Set.univ : Set ℕ) (cc0_l0_b_attn i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_l0_b_attn_eq_skeleton]
  simp only [owns]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%X11, %f11, %h11, H11⟩, ⟨%X12, %f12, %h12, H12⟩, ⟨%f13, %h13, H13⟩, ⟨%X14, %f14, %h14, H14⟩, ⟨%X15, %f15, %h15, H15⟩, ⟨%X16, %f16, %h16, H16⟩, HQ⟩
  subst h2
  subst h3
  subst h4
  subst h5
  subst h6
  subst h7
  subst h8
  subst h9
  subst h10
  subst h11
  subst h12
  subst h13
  subst h14
  subst h15
  subst h16
  iapply (wp_wand_r frame (wpE (defs₀ (F := F)) Variants.none c none) (Set.univ : Set ℕ))
  isplitr [HQ]
  · iapply (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 hc1 hc2)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %_ ⟨H2, H3, H4, H5, H6, H7, H8, H9, H10, H11, H12, H13, H14, H15, H16⟩
  iapply HQ
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · simp only [owns]; iexact H11
  isplitl [H12]
  · simp only [owns]; iexact H12
  isplitl [H13]
  · iexists f13; isplitr; · ipureintro; rfl
    iexact H13
  isplitl [H14]
  · simp only [owns]; iexact H14
  isplitl [H15]
  · simp only [owns]; iexact H15
  simp only [owns]; iexact H16

set_option maxHeartbeats 3200000 in
/-- The body at a middle point of a head pair, its memrefs owned at values. -/
theorem tripleB (c : Dev nD) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S1x2x4224 .f32) (harg6 : arg6.IsWhole) (arg7 : Memref sig .tc .vmem S1x2x4224 .f32) (harg7 : arg7.IsWhole) (arg8 : Memref sig .tc .vmem S1x2x4224 .f32) (harg8 : arg8.IsWhole) (arg9 : Memref sig .tc .vmem S1x384x2 .f32) (harg9 : arg9.IsWhole) (arg10 : Memref sig .tc .vmem S4224x128 .bf16) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x2x4224 .f32) (harg13 : arg13.IsWhole) (arg14 : Memref sig .tc .vmem S1x384x2 .f32) (harg14 : arg14.IsWhole) (arg15 : Memref sig .tc .vmem S128x4224 .f32) (harg15 : arg15.IsWhole) (arg16 : Memref sig .tc .vmem S2x4224 .f32) (harg16 : arg16.IsWhole) (X2 : Vec F S4224x128 .bf16) (X3 : Vec F S384x128 .bf16) (X4 : Vec F S384x128 .bf16) (X5 : Vec F S4224x128 .f32) (X6 : Vec F S1x2x4224 .f32) (X7 : Vec F S1x2x4224 .f32) (X8 : Vec F S1x2x4224 .f32) (X9 : Vec F S1x384x2 .f32) (X15 : Vec F S128x4224 .f32) (X16 : Vec F S2x4224 .f32) (X10 : Vec F S4224x128 .bf16) (X13 : Vec F S1x2x4224 .f32)
    (hc1 : ¬ (Scalar.cmpi .ne (Scalar.extui (Scalar.cmpi .eq (BitVec.ofNat 32 (i 1).val) 0#32)) 0#32) = 1#1) (hc2 : ¬ k0_cond2 i = 1#1) (Q : PUnit → sProp 𝕄) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ d, owns (c : Thread nD τ) arg11 fullShare d) ∗ (∃ d, owns (c : Thread nD τ) arg12 fullShare d) ∗ owns (c : Thread nD τ) arg13 fullShare X13 ∗ (∃ d, owns (c : Thread nD τ) arg14 fullShare d) ∗ owns (c : Thread nD τ) arg15 fullShare X15 ∗ owns (c : Thread nD τ) arg16 fullShare X16 ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare (outK (ends i X2 X3 X4 X5 X6 X7 X8 X9 (X15, X16))) ∗ owns (c : Thread nD τ) arg12 fullShare (outV (ends i X2 X3 X4 X5 X6 X7 X8 X9 (X15, X16))) ∗ owns (c : Thread nD τ) arg13 fullShare X13 ∗ owns (c : Thread nD τ) arg14 fullShare (outC (ends i X2 X3 X4 X5 X6 X7 X8 X9 (X15, X16))) ∗ owns (c : Thread nD τ) arg15 fullShare (ends i X2 X3 X4 X5 X6 X7 X8 X9 (X15, X16)).2.1 ∗ owns (c : Thread nD τ) arg16 fullShare (ends i X2 X3 X4 X5 X6 X7 X8 X9 (X15, X16)).2.2) -∗ Q PUnit.unit)) : sProp 𝕄)
      ⊢ wp frame (wpE (defs₀ (F := F)) Variants.none c none) (Set.univ : Set ℕ) (cc0_l0_b_attn i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_l0_b_attn_eq_skeleton]
  simp only [owns]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%X11, %f11, %h11, H11⟩, ⟨%X12, %f12, %h12, H12⟩, ⟨%f13, %h13, H13⟩, ⟨%X14, %f14, %h14, H14⟩, ⟨%f15, %h15, H15⟩, ⟨%f16, %h16, H16⟩, HQ⟩
  subst h2
  subst h3
  subst h4
  subst h5
  subst h6
  subst h7
  subst h8
  subst h9
  subst h10
  subst h11
  subst h12
  subst h13
  subst h14
  subst h15
  subst h16
  iapply (wp_wand_r frame (wpE (defs₀ (F := F)) Variants.none c none) (Set.univ : Set ℕ))
  isplitr [HQ]
  · iapply (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 hc1 hc2)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %_ ⟨H2, H3, H4, H5, H6, H7, H8, H9, H10, H11, H12, H13, H14, H15, H16⟩
  iapply HQ
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · simp only [owns]; iexact H11
  isplitl [H12]
  · simp only [owns]; iexact H12
  isplitl [H13]
  · iexists f13; isplitr; · ipureintro; rfl
    iexact H13
  isplitl [H14]
  · simp only [owns]; iexact H14
  isplitl [H15]
  · simp only [owns]; iexact H15
  simp only [owns]; iexact H16

set_option maxHeartbeats 3200000 in
/-- The body at the last point of a head pair, its memrefs owned at values. -/
theorem tripleC (c : Dev nD) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S1x2x4224 .f32) (harg6 : arg6.IsWhole) (arg7 : Memref sig .tc .vmem S1x2x4224 .f32) (harg7 : arg7.IsWhole) (arg8 : Memref sig .tc .vmem S1x2x4224 .f32) (harg8 : arg8.IsWhole) (arg9 : Memref sig .tc .vmem S1x384x2 .f32) (harg9 : arg9.IsWhole) (arg10 : Memref sig .tc .vmem S4224x128 .bf16) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x2x4224 .f32) (harg13 : arg13.IsWhole) (arg14 : Memref sig .tc .vmem S1x384x2 .f32) (harg14 : arg14.IsWhole) (arg15 : Memref sig .tc .vmem S128x4224 .f32) (harg15 : arg15.IsWhole) (arg16 : Memref sig .tc .vmem S2x4224 .f32) (harg16 : arg16.IsWhole) (X2 : Vec F S4224x128 .bf16) (X3 : Vec F S384x128 .bf16) (X4 : Vec F S384x128 .bf16) (X5 : Vec F S4224x128 .f32) (X6 : Vec F S1x2x4224 .f32) (X7 : Vec F S1x2x4224 .f32) (X8 : Vec F S1x2x4224 .f32) (X9 : Vec F S1x384x2 .f32) (X15 : Vec F S128x4224 .f32) (X16 : Vec F S2x4224 .f32)
    (hc1 : ¬ (Scalar.cmpi .ne (Scalar.extui (Scalar.cmpi .eq (BitVec.ofNat 32 (i 1).val) 0#32)) 0#32) = 1#1) (hc2 : k0_cond2 i = 1#1) (Q : PUnit → sProp 𝕄) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare X15 ∗ owns (c : Thread nD τ) arg16 fullShare X16 ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare (outQ (ends i X2 X3 X4 X5 X6 X7 X8 X9 (X15, X16))) ∗ owns (c : Thread nD τ) arg11 fullShare (outK (ends i X2 X3 X4 X5 X6 X7 X8 X9 (X15, X16))) ∗ owns (c : Thread nD τ) arg12 fullShare (outV (ends i X2 X3 X4 X5 X6 X7 X8 X9 (X15, X16))) ∗ owns (c : Thread nD τ) arg13 fullShare (outD (ends i X2 X3 X4 X5 X6 X7 X8 X9 (X15, X16))) ∗ owns (c : Thread nD τ) arg14 fullShare (outC (ends i X2 X3 X4 X5 X6 X7 X8 X9 (X15, X16))) ∗ owns (c : Thread nD τ) arg15 fullShare (ends i X2 X3 X4 X5 X6 X7 X8 X9 (X15, X16)).2.1 ∗ owns (c : Thread nD τ) arg16 fullShare (ends i X2 X3 X4 X5 X6 X7 X8 X9 (X15, X16)).2.2) -∗ Q PUnit.unit)) : sProp 𝕄)
      ⊢ wp frame (wpE (defs₀ (F := F)) Variants.none c none) (Set.univ : Set ℕ) (cc0_l0_b_attn i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_l0_b_attn_eq_skeleton]
  simp only [owns]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%X10, %f10, %h10, H10⟩, ⟨%X11, %f11, %h11, H11⟩, ⟨%X12, %f12, %h12, H12⟩, ⟨%X13, %f13, %h13, H13⟩, ⟨%X14, %f14, %h14, H14⟩, ⟨%f15, %h15, H15⟩, ⟨%f16, %h16, H16⟩, HQ⟩
  subst h2
  subst h3
  subst h4
  subst h5
  subst h6
  subst h7
  subst h8
  subst h9
  subst h10
  subst h11
  subst h12
  subst h13
  subst h14
  subst h15
  subst h16
  iapply (wp_wand_r frame (wpE (defs₀ (F := F)) Variants.none c none) (Set.univ : Set ℕ))
  isplitr [HQ]
  · iapply (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 hc1 hc2)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %_ ⟨H2, H3, H4, H5, H6, H7, H8, H9, H10, H11, H12, H13, H14, H15, H16⟩
  iapply HQ
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · simp only [owns]; iexact H10
  isplitl [H11]
  · simp only [owns]; iexact H11
  isplitl [H12]
  · simp only [owns]; iexact H12
  isplitl [H13]
  · simp only [owns]; iexact H13
  isplitl [H14]
  · simp only [owns]; iexact H14
  isplitl [H15]
  · simp only [owns]; iexact H15
  simp only [owns]; iexact H16

/-! ## What every point leaves -/

variable (m : (ℓ : Loc nD τ sig) → Buf (Elt F) ℓ) (ρ : Dev nD → PrngReg)

/-- What point `t` leaves, from the accumulators it starts with. -/
def res (c : Dev nD) (t : Fin cfg0.N) (A : Vec F S128x4224 .f32 × Vec F S2x4224 .f32) : Res F :=
  ends (grid0.coords t) (iblk m c 0 t) (iblk m c 1 t) (iblk m c 2 t) (iblk m c 3 t) (iblk m c 4 t) (iblk m c 5 t) (iblk m c 6 t) (iblk m c 7 t) A

/-- What point `n` leaves: the first point of a head pair starts from zero, every other one from what the point before
    left in the accumulators. -/
def acc (c : Dev nD) : (n : ℕ) → n < cfg0.N → Res F
  | 0, h => res m c ⟨0, h⟩ zeros
  | n + 1, h => res m c ⟨n + 1, h⟩ (if (n + 1) % 11 = 0 then zeros else (acc c n (Nat.lt_of_succ_lt h)).2)

theorem acc_first (c : Dev nD) (t : Fin cfg0.N) (h0 : t.val % 11 = 0) : acc m c t.val t.isLt = res m c t zeros := by
  obtain ⟨n, hn⟩ := t
  cases n with
  | zero => rfl
  | succ n => rw [acc, if_pos h0]

theorem acc_next (c : Dev nD) (t : Fin cfg0.N) (h0 : ¬ t.val % 11 = 0) :
    acc m c t.val t.isLt = res m c t (acc m c (t.val - 1) (Nat.lt_of_le_of_lt (Nat.sub_le _ _) t.isLt)).2 := by
  obtain ⟨n, hn⟩ := t
  cases n with
  | zero => exact absurd rfl h0
  | succ n => rw [acc, if_neg h0]; rfl

/-! ## The proof data of the pipeline -/

abbrev ms0_0 (t : Fin cfg0.N) : Memref sig .tc .vmem S4224x128 .bf16 := win0_0.stage (cfg0.slots t 0)
abbrev ms0_1 (t : Fin cfg0.N) : Memref sig .tc .vmem S384x128 .bf16 := win0_1.stage (cfg0.slots t 1)
abbrev ms0_2 (t : Fin cfg0.N) : Memref sig .tc .vmem S384x128 .bf16 := win0_2.stage (cfg0.slots t 2)
abbrev ms0_3 (t : Fin cfg0.N) : Memref sig .tc .vmem S4224x128 .f32 := win0_3.stage (cfg0.slots t 3)
abbrev ms0_4 (t : Fin cfg0.N) : Memref sig .tc .vmem S1x2x4224 .f32 := win0_4.stage (cfg0.slots t 4)
abbrev ms0_5 (t : Fin cfg0.N) : Memref sig .tc .vmem S1x2x4224 .f32 := win0_5.stage (cfg0.slots t 5)
abbrev ms0_6 (t : Fin cfg0.N) : Memref sig .tc .vmem S1x2x4224 .f32 := win0_6.stage (cfg0.slots t 6)
abbrev ms0_7 (t : Fin cfg0.N) : Memref sig .tc .vmem S1x384x2 .f32 := win0_7.stage (cfg0.slots t 7)
abbrev ms0_8 (t : Fin cfg0.N) : Memref sig .tc .vmem S4224x128 .bf16 := win0_8.stage (cfg0.slots t 8)
abbrev ms0_9 (t : Fin cfg0.N) : Memref sig .tc .vmem S384x128 .bf16 := win0_9.stage (cfg0.slots t 9)
abbrev ms0_10 (t : Fin cfg0.N) : Memref sig .tc .vmem S384x128 .bf16 := win0_10.stage (cfg0.slots t 10)
abbrev ms0_11 (t : Fin cfg0.N) : Memref sig .tc .vmem S1x2x4224 .f32 := win0_11.stage (cfg0.slots t 11)
abbrev ms0_12 (t : Fin cfg0.N) : Memref sig .tc .vmem S1x384x2 .f32 := win0_12.stage (cfg0.slots t 12)
/-- The two accumulators, whole. -/
abbrev scM0_0 : Memref sig .tc .vmem S128x4224 .f32 := Memref.whole cc0_scratch0
abbrev scM0_1 : Memref sig .tc .vmem S2x4224 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Between points the accumulators hold what the point before left. -/
def PhiS (c : Dev nD) : (n : ℕ) → n ≤ cfg0.N → sProp 𝕄
  | 0, _ => Pipeline.ΦA spec0 c
  | n + 1, hn => iprop(iprop(owns (c : Thread nD τ) scM0_0 fullShare (acc m c n hn).2.1 ∗ owns (c : Thread nD τ) scM0_1 fullShare (acc m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (acc m c n hn).2.1 ∗ owns (c : Thread nD τ) scM0_1 fullShare (acc m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (acc m c (n - 1) (by omega)).2.1 ∗ owns (c : Thread nD τ) scM0_1 fullShare (acc m c (n - 1) (by omega)).2.2) ∗ (∃ r, prngReg c r)) := by
  cases n with
  | zero => exact absurd rfl hz
  | succ n => rfl

/-- After point `t` every input's buffer holds its block and every output's what the point writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ (acc m c t.val t.isLt)
    | ⟨9, _⟩ => outK (acc m c t.val t.isLt)
    | ⟨10, _⟩ => outV (acc m c t.val t.isLt)
    | ⟨11, _⟩ => outD (acc m c t.val t.isLt)
    | ⟨12, _⟩ => outC (acc m c t.val t.isLt)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outQ (acc m c t.val t.isLt) := by dsimp only [dats]
theorem after0_9 (c : Dev nD) (t : Fin cfg0.N) : (dats m 0 c).after 9 t = outK (acc m c t.val t.isLt) := by dsimp only [dats]
theorem after0_10 (c : Dev nD) (t : Fin cfg0.N) : (dats m 0 c).after 10 t = outV (acc m c t.val t.isLt) := by dsimp only [dats]
theorem after0_11 (c : Dev nD) (t : Fin cfg0.N) : (dats m 0 c).after 11 t = outD (acc m c t.val t.isLt) := by dsimp only [dats]
theorem after0_12 (c : Dev nD) (t : Fin cfg0.N) : (dats m 0 c).after 12 t = outC (acc m c t.val t.isLt) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## Which point is which -/

theorem hcond1 : ∀ t : Fin cfg0.N, ((Scalar.cmpi .ne (Scalar.extui (Scalar.cmpi .eq (BitVec.ofNat 32 (grid0.coords t 1).val) 0#32)) 0#32) = 1#1) ↔ t.val % 11 = 0 :=
  (fun t => by
    have ht : t.val < 88 := Nat.lt_of_lt_of_eq t.isLt N_0
    have e1 : (grid0.coords t 1).val = t.val / 1 % 11 := Pipeline.Grid.coords_val t 1 (by decide) rfl
    simp only [e1]
    word_cmp
   : ∀ t : Fin grid0.N, ((Scalar.cmpi .ne (Scalar.extui (Scalar.cmpi .eq (BitVec.ofNat 32 (grid0.coords t 1).val) 0#32)) 0#32) = 1#1) ↔ t.val % 11 = 0)

theorem hcond2 : ∀ t : Fin cfg0.N, k0_cond2 (grid0.coords t) = 1#1 ↔ t.val % 11 = 10 :=
  (fun t => by
    have ht : t.val < 88 := Nat.lt_of_lt_of_eq t.isLt N_0
    have e1 : (grid0.coords t 1).val = t.val / 1 % 11 := Pipeline.Grid.coords_val t 1 (by decide) rfl
    simp only [k0_cond2, e1]
    word_cmp
   : ∀ t : Fin grid0.N, k0_cond2 (grid0.coords t) = 1#1 ↔ t.val % 11 = 10)

/-- Output 8 is left as found except at the last point of a head pair, -/
theorem leaves8_idle (c : Dev nD) (t : Fin cfg0.N) (h : ¬ t.val % 11 = 10) :
    (dats m 0 c).leavesExact 8 t = iprop(∃ d, owns (c : Thread nD τ) (ms0_8 t) fullShare ((dats m 0 c).before 8 t d)) := by
  have hi : cfg0.idle 8 (cfg0.grid.coords t) = true := by
    show (!(k0_cond2 (grid0.coords t) == 1#1)) = true
    rw [show (k0_cond2 (grid0.coords t) == 1#1) = false from beq_eq_false_iff_ne.mpr fun e => h ((hcond2 t).mp e)]; rfl
  have hf : (cfg0.win 8).flush t = false := Bool.eq_false_iff.mpr fun e => h ((flush0_8 t).mp e)
  unfold Dat.leavesExact
  rw [hi, hf]
/-- where it is written. -/
theorem leaves8_last (c : Dev nD) (t : Fin cfg0.N) (h : t.val % 11 = 10) :
    (dats m 0 c).leavesExact 8 t = owns (c : Thread nD τ) (ms0_8 t) fullShare (outQ (acc m c t.val t.isLt)) := by
  have hi : cfg0.idle 8 (cfg0.grid.coords t) = false := by
    show (!(k0_cond2 (grid0.coords t) == 1#1)) = false
    rw [show (k0_cond2 (grid0.coords t) == 1#1) = true from beq_iff_eq.mpr ((hcond2 t).mpr h)]; rfl
  unfold Dat.leavesExact
  rw [hi, after0_8]

/-- Output 11 is left as found except at the last point of a head pair, -/
theorem leaves11_idle (c : Dev nD) (t : Fin cfg0.N) (h : ¬ t.val % 11 = 10) :
    (dats m 0 c).leavesExact 11 t = iprop(∃ d, owns (c : Thread nD τ) (ms0_11 t) fullShare ((dats m 0 c).before 11 t d)) := by
  have hi : cfg0.idle 11 (cfg0.grid.coords t) = true := by
    show (!(k0_cond2 (grid0.coords t) == 1#1)) = true
    rw [show (k0_cond2 (grid0.coords t) == 1#1) = false from beq_eq_false_iff_ne.mpr fun e => h ((hcond2 t).mp e)]; rfl
  have hf : (cfg0.win 11).flush t = false := Bool.eq_false_iff.mpr fun e => h ((flush0_11 t).mp e)
  unfold Dat.leavesExact
  rw [hi, hf]
/-- where it is written. -/
theorem leaves11_last (c : Dev nD) (t : Fin cfg0.N) (h : t.val % 11 = 10) :
    (dats m 0 c).leavesExact 11 t = owns (c : Thread nD τ) (ms0_11 t) fullShare (outD (acc m c t.val t.isLt)) := by
  have hi : cfg0.idle 11 (cfg0.grid.coords t) = false := by
    show (!(k0_cond2 (grid0.coords t) == 1#1)) = false
    rw [show (k0_cond2 (grid0.coords t) == 1#1) = true from beq_iff_eq.mpr ((hcond2 t).mpr h)]; rfl
  unfold Dat.leavesExact
  rw [hi, after0_11]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (dats m 0 c).leavesExact 8 t
    ∗ owns (c : Thread nD τ) (ms0_9 t) fullShare ((dats m 0 c).after 9 t)
    ∗ owns (c : Thread nD τ) (ms0_10 t) fullShare ((dats m 0 c).after 10 t)
    ∗ (dats m 0 c).leavesExact 11 t
    ∗ owns (c : Thread nD τ) (ms0_12 t) fullShare ((dats m 0 c).after 12 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_9, after0_10, after0_12]
  rw [show (dats m 0 c).Φ t.succ = PhiS m c (t.val + 1) t.isLt from rfl, PhiS_succ]
  have hN : t.val < 88 := lt_of_lt_of_eq t.isLt (show cfg0.N = 88 from N_0)
  by_cases h0 : t.val % 11 = 0
  · have h1 : ¬ t.val % 11 = 10 := by omega
    rw [leaves8_idle m c t h1, leaves11_idle m c t h1, acc_first m c t h0]
    unfold res
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (tripleA c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ ((hcond1 t).mpr h0) (fun h => h1 ((hcond2 t).mp h)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexists _; iexact H12
      isplitl [HS0]; · iexact HS0
      isplitl [HS1]; · iexact HS1
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [H11]; · iexists _; iexact H11
      iexact H12
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (tripleA c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ ((hcond1 t).mpr h0) (fun h => h1 ((hcond2 t).mp h)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexists _; iexact H12
      isplitl [HS0]; · iexists _; iexact HS0
      isplitl [HS1]; · iexists _; iexact HS1
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [H11]; · iexists _; iexact H11
      iexact H12
  · have hz : t.val ≠ 0 := by omega
    rw [acc_next m c t h0, PhiS_castSucc m c t, PhiS_pos m c _ _ hz]
    by_cases h1 : t.val % 11 = 10
    · rw [leaves8_last m c t h1, leaves11_last m c t h1, acc_next m c t h0]
      unfold res
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (tripleC c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ (fun h => h0 ((hcond1 t).mp h)) ((hcond2 t).mpr h1) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [leaves8_idle m c t h1, leaves11_idle m c t h1]
      unfold res
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (tripleB c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ (fun h => h0 ((hcond1 t).mp h)) (fun h => h1 ((hcond2 t).mp h)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexists _; iexact H12
      isplitl [HS0]; · iexact HS0
      isplitl [HS1]; · iexact HS1
      iintro ⟨H0, H1, H2, H3, H4, H5, H6, H7, H8, H9, H10, H11, H12, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [H11]; · iexists _; iexact H11
      iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 88 := N_0; omega), PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every run of the program ends, with every array at what the points above leave and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ)) ((θ_run defs _ _).mono (fun _ h => h.2) (run_main_quiescent m ρ))

end Cert.AttnKernelIdeal.Body

end
-- ==== Proof.AttnPay.lean ====
/- What the body's operations compute on finite values, operation group by operation group. -/
module

public import proofs.«01_k».proof.Proof.AttnPureIdeal
public import Idealize.ShloMosaic.Lib.Pointwise
public import Idealize.ShloMosaic.Lib.WordCmp
public import Idealize.ShloMosaic.Lib.Pipeline.ValueKit

@[expose] public section

set_option maxRecDepth 16384

noncomputable section

namespace Cert.AttnKernelIdeal.Pay

open Cert.AttnKernelIdeal Cert.AttnKernelIdeal.Gen
open Idealize.ShloMosaic Idealize.ShloMosaic.TcCoe

/-- A sum of finite values is the finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A weight: the exponential of scores plus decays minus the normaliser. -/
def rp (ks q : Fin 384 → Fin 128 → ℝ) (ck c L : Fin 384 → ℝ) (k r : Fin 384) : ℝ :=
  Real.exp ((((∑ l, ks k l * q r l) + c r) - ck k) - L r)

/-- A score gradient: the weight times what the value products exceed the row's mean by. -/
def rs (p : Fin 384 → Fin 384 → ℝ) (vs g : Fin 384 → Fin 128 → ℝ) (D : Fin 384 → ℝ) (k r : Fin 384) : ℝ :=
  p k r * ((∑ l, vs k l * g r l) - D r)

section
variable {v15 v25 : FVec Ideal S384x128 .bf16} {v33 v41 : Vec Ideal S384x128 .bf16} {v43 v45 : FVec Ideal S384x1 .f32}
  {v46 v47 : FVec Ideal S128x384 .bf16} {v186 : Vec Ideal S384x128 .bf16} {v188 : Vec Ideal S384x128 .f32} {v189 : FVec Ideal S384x128 .bf16}
  {v191 v194 v197 : Vec Ideal S1x1x384 .f32}
  {ks q vs g : Fin 384 → Fin 128 → ℝ} {ck c L D : Fin 384 → ℝ} {p s : Fin 384 → Fin 384 → ℝ}

theorem pay11_at (h15 : ∀ k l, v15 (ix2 k l) = (ks k l : EReal)) (h186 : ∀ r l, v186 (ix2 r l) = (q r l : EReal)) (h43 : ∀ k, v43 (ix2 k 0) = (ck k : EReal))
    (h197 : ∀ r, v197 (ix3 0 0 r) = (c r : EReal)) (h191 : ∀ r, v191 (ix3 0 0 r) = (L r : EReal)) (k r : Fin 384) :
    k0_pay11 v15 v43 v186 v191 v197 (ix2 k r) = (rp ks q ck c L k r : EReal) := by
  pointwise [k0_pay11]
  simp only [h15, h186, h43, h197, h191, ← EReal.coe_mul, ← coe_sum, ← EReal.coe_add, ← EReal.coe_sub, Ideal.exp_coe, zero_add]
  rfl

theorem pay13_at (hp : ∀ k r, k0_pay11 v15 v43 v186 v191 v197 (ix2 k r) = (p k r : EReal)) (h33 : ∀ k l, v33 (ix2 k l) = (vs k l : EReal))
    (h188 : ∀ r l, v188 (ix2 r l) = (g r l : EReal)) (h194 : ∀ r, v194 (ix3 0 0 r) = (D r : EReal)) (k r : Fin 384) :
    k0_pay13 v15 v33 v43 v186 v188 v191 v194 v197 (ix2 k r) = (rs p vs g D k r : EReal) := by
  pointwise [k0_pay13, k0_pay10]
  simp only [hp, h33, h188, h194, ← EReal.coe_mul, ← coe_sum, ← EReal.coe_add, ← EReal.coe_sub, zero_add]
  rfl

theorem pay12_at {a : Vec Ideal S384x128 .f32} {A : Fin 384 → Fin 128 → ℝ} (hp : ∀ k r, k0_pay11 v15 v43 v186 v191 v197 (ix2 k r) = (p k r : EReal))
    (h188 : ∀ r l, v188 (ix2 r l) = (g r l : EReal)) (ha : ∀ k l, a (ix2 k l) = (A k l : EReal)) (k : Fin 384) (l : Fin 128) :
    k0_pay12 v15 v43 a v186 v188 v191 v197 (ix2 k l) = ((A k l + ∑ r, p k r * g r l : ℝ) : EReal) := by
  pointwise [k0_pay12, k0_pay10]
  simp only [hp, h188, ha, ← EReal.coe_mul, ← coe_sum, ← EReal.coe_add, zero_add]

theorem pay15_at {a : Vec Ideal S384x128 .f32} {A : Fin 384 → Fin 128 → ℝ} (hs : ∀ k r, k0_pay13 v15 v33 v43 v186 v188 v191 v194 v197 (ix2 k r) = (s k r : EReal))
    (h186 : ∀ r l, v186 (ix2 r l) = (q r l : EReal)) (ha : ∀ k l, a (ix2 k l) = (A k l : EReal)) (k : Fin 384) (l : Fin 128) :
    k0_pay15 v15 v33 v43 a v186 v188 v191 v194 v197 (ix2 k l) = ((A k l + ∑ r, s k r * q r l : ℝ) : EReal) := by
  pointwise [k0_pay15, k0_pay14]
  simp only [hs, h186, ha, ← EReal.coe_mul, ← coe_sum, ← EReal.coe_add, zero_add]

theorem pay19_at {a : FVec Ideal S384x1 .f32} {w : FVec Ideal S384x384 .f32} {A : Fin 384 → ℝ} (hs : ∀ k r, w (ix2 k r) = (s k r : EReal))
    (ha : ∀ k, a (ix2 k 0) = (A k : EReal)) (k : Fin 384) :
    k0_pay19 a w (ix2 k 0) = ((A k + ∑ r, s k r : ℝ) : EReal) := by
  pointwise [k0_pay19]
  simp only [hs, ha, ← coe_sum, ← EReal.coe_add, zero_add]

theorem pay16_at (h46 : ∀ l k, v46 (ix2 l k) = (ks k l : EReal)) (hs : ∀ k r, k0_pay13 v15 v33 v43 v186 v188 v191 v194 v197 (ix2 k r) = (s k r : EReal))
    (l : Fin 128) (r : Fin 384) :
    k0_pay16 v15 v33 v43 v46 v186 v188 v191 v194 v197 (ix2 l r) = ((∑ k, ks k l * s k r : ℝ) : EReal) := by
  pointwise [k0_pay16, k0_pay14]
  simp only [hs, h46, ← EReal.coe_mul, ← coe_sum, ← EReal.coe_add, zero_add]

theorem pay17_at {a : Vec Ideal S1x384 .f32} (hs : ∀ k r, k0_pay13 v15 v33 v43 v186 v188 v191 v194 v197 (ix2 k r) = (s k r : EReal))
    (r : Fin 384) :
    k0_pay18 (k0_pay17 v15 v33 v43 v186 v188 v191 v194 v197 a) (ix2 0 r) = (show EReal from a (ix2 0 r)) + ((∑ k, s k r : ℝ) : EReal) := by
  pointwise [k0_pay17, k0_pay18]
  simp only [hs, ← coe_sum, zero_add]

theorem pay20_at (h25 : ∀ k l, v25 (ix2 k l) = (ks k l : EReal)) (h186 : ∀ r l, v186 (ix2 r l) = (q r l : EReal)) (h45 : ∀ k, v45 (ix2 k 0) = (ck k : EReal))
    (h197 : ∀ r, v197 (ix3 0 0 r) = (c r : EReal)) (h191 : ∀ r, v191 (ix3 0 0 r) = (L r : EReal)) (k r : Fin 384) :
    k0_pay20 v25 v45 v186 v191 v197 (ix2 k r) = (rp ks q ck c L k r : EReal) := by
  pointwise [k0_pay20]
  simp only [h25, h186, h45, h197, h191, ← EReal.coe_mul, ← coe_sum, ← EReal.coe_add, ← EReal.coe_sub, Ideal.exp_coe, zero_add]
  rfl

theorem pay22_at (hp : ∀ k r, k0_pay20 v25 v45 v186 v191 v197 (ix2 k r) = (p k r : EReal)) (h41 : ∀ k l, v41 (ix2 k l) = (vs k l : EReal))
    (h189 : ∀ r l, v189 (ix2 r l) = (g r l : EReal)) (h194 : ∀ r, v194 (ix3 0 0 r) = (D r : EReal)) (k r : Fin 384) :
    k0_pay22 v25 v41 v45 v186 v189 v191 v194 v197 (ix2 k r) = (rs p vs g D k r : EReal) := by
  pointwise [k0_pay22]
  simp only [hp, h41, h189, h194, ← EReal.coe_mul, ← coe_sum, ← EReal.coe_add, ← EReal.coe_sub, zero_add]
  rfl

theorem pay21_at {a : Vec Ideal S384x128 .f32} {A : Fin 384 → Fin 128 → ℝ} (hp : ∀ k r, k0_pay20 v25 v45 v186 v191 v197 (ix2 k r) = (p k r : EReal))
    (h189 : ∀ r l, v189 (ix2 r l) = (g r l : EReal)) (ha : ∀ k l, a (ix2 k l) = (A k l : EReal)) (k : Fin 384) (l : Fin 128) :
    k0_pay21 v25 v45 a v186 v189 v191 v197 (ix2 k l) = ((A k l + ∑ r, p k r * g r l : ℝ) : EReal) := by
  pointwise [k0_pay21]
  simp only [hp, h189, ha, ← EReal.coe_mul, ← coe_sum, ← EReal.coe_add, zero_add]

theorem pay24_at {a : Vec Ideal S384x128 .f32} {A : Fin 384 → Fin 128 → ℝ} (hs : ∀ k r, k0_pay22 v25 v41 v45 v186 v189 v191 v194 v197 (ix2 k r) = (s k r : EReal))
    (h186 : ∀ r l, v186 (ix2 r l) = (q r l : EReal)) (ha : ∀ k l, a (ix2 k l) = (A k l : EReal)) (k : Fin 384) (l : Fin 128) :
    k0_pay24 v25 v41 v45 a v186 v189 v191 v194 v197 (ix2 k l) = ((A k l + ∑ r, s k r * q r l : ℝ) : EReal) := by
  pointwise [k0_pay24, k0_pay23]
  simp only [hs, h186, ha, ← EReal.coe_mul, ← coe_sum, ← EReal.coe_add, zero_add]

theorem pay1_at {a : FVec Ideal S384x1 .f32} {w : FVec Ideal S384x384 .f32} {A : Fin 384 → ℝ} (hs : ∀ k r, w (ix2 k r) = (s k r : EReal))
    (ha : ∀ k, a (ix2 k 0) = (A k : EReal)) (k : Fin 384) :
    k0_pay1 a w (ix2 k 0) = ((A k + ∑ r, s k r : ℝ) : EReal) := by
  pointwise [k0_pay1]
  simp only [hs, ha, ← coe_sum, ← EReal.coe_add, zero_add]

theorem pay25_at {w : FVec Ideal S128x384 .f32} {a : Vec Ideal S128x384 .f32} {W : Fin 128 → Fin 384 → ℝ} (h47 : ∀ l k, v47 (ix2 l k) = (ks k l : EReal)) (hs : ∀ k r, k0_pay22 v25 v41 v45 v186 v189 v191 v194 v197 (ix2 k r) = (s k r : EReal))
    (hw : ∀ l r, w (ix2 l r) = (W l r : EReal)) (l : Fin 128) (r : Fin 384) :
    k0_pay2 (k0_pay25 v25 v41 v45 v47 v186 v189 w v191 v194 v197) a (ix2 l r) = (show EReal from a (ix2 l r)) + ((W l r + ∑ k, ks k l * s k r : ℝ) : EReal) := by
  pointwise [k0_pay25, k0_pay23, k0_pay2]
  simp only [hs, h47, hw, ← EReal.coe_mul, ← coe_sum, ← EReal.coe_add, zero_add]

theorem pay26_at {a : Vec Ideal S1x384 .f32} (hs : ∀ k r, k0_pay22 v25 v41 v45 v186 v189 v191 v194 v197 (ix2 k r) = (s k r : EReal))
    (r : Fin 384) :
    k0_pay26 v25 v41 v45 v186 v189 v191 v194 v197 a (ix2 0 r) = (show EReal from a (ix2 0 r)) + ((∑ k, s k r : ℝ) : EReal) := by
  pointwise [k0_pay26]
  simp only [hs, ← coe_sum, zero_add]

end

/-! ## The block on the diagonal -/

/-- A weight of the diagonal block: no weight on later keys. -/
def rpd (ks q : Fin 384 → Fin 128 → ℝ) (ck c L : Fin 384 → ℝ) (k r : Fin 384) : ℝ :=
  if k ≤ r then rp ks q ck c L k r else 0

theorem mask_eq : Named.named (F := Ideal) (φ := .f32) κ "mask" 0xF149F2CA#32 = (⊥ : EReal) := rfl

section
variable {v15 v25 : FVec Ideal S384x128 .bf16} {v33 v41 : Vec Ideal S384x128 .bf16} {v42 : Vec Ideal S1x384x1 .f32} {v45 : FVec Ideal S384x1 .f32}
  {v46 v47 : FVec Ideal S128x384 .bf16} {v54 : Vec Ideal S384x128 .bf16} {v57 : FVec Ideal S384x128 .bf16}
  {v60 v63 v105 v108 : FVec Ideal S1x384 .f32} {v65 : Vec Ideal S1x1x384 .f32} {v71 v114 v115 : FVec Ideal S384x384 .f32}
  {ks q vs g : Fin 384 → Fin 128 → ℝ} {ck c L D : Fin 384 → ℝ} {p s : Fin 384 → Fin 384 → ℝ}

theorem pay63_at (h15 : ∀ k l, v15 (ix2 k l) = (ks k l : EReal)) (h54 : ∀ r l, v54 (ix2 r l) = (q r l : EReal)) (h42 : ∀ k, v42 (ix3 0 k 0) = (ck k : EReal))
    (h65 : ∀ r, v65 (ix3 0 0 r) = (c r : EReal)) (h60 : ∀ r, v60 (ix2 0 r) = (L r : EReal)) (k r : Fin 384) :
    k0_pay63 v60 (k0_pay62 v15 v42 v54 v65) (iota .tc S384x384 32 [0] iota_S384x384_d0_w32) (ix2 k r) = (rpd ks q ck c L k r : EReal) := by
  pointwise [k0_pay63, k0_pay62, k0_pay52]
  simp only [h15, h54, h42, h65, h60, ← EReal.coe_mul, ← coe_sum, ← EReal.coe_add, ← EReal.coe_sub, zero_add]
  simp (disch := word_cmp_side) only [hlo_ix, mask_eq]
  unfold rpd rp
  by_cases h : (k : ℕ) ≤ r
  · rw [if_pos h, if_pos (Fin.le_def.2 h), ← EReal.coe_sub, Ideal.exp_coe]
  · rw [if_neg h, if_neg (fun h' => h (Fin.le_def.1 h')), EReal.bot_sub, EReal.coe_zero]
    rfl

theorem pay75_at (h25 : ∀ k l, v25 (ix2 k l) = (ks k l : EReal)) (h54 : ∀ r l, v54 (ix2 r l) = (q r l : EReal)) (h45 : ∀ k, v45 (ix2 k 0) = (ck k : EReal))
    (h65 : ∀ r, v65 (ix3 0 0 r) = (c r : EReal)) (h105 : ∀ r, v105 (ix2 0 r) = (L r : EReal)) (k r : Fin 384) :
    k0_pay75 v105 (k0_pay73 v25 v54 v65) (k0_pay74 v45) (ix2 k r) = (rpd ks q ck c L k r : EReal) := by
  pointwise [k0_pay75, k0_pay73, k0_pay74]
  simp only [h25, h54, h45, h65, h105, ← EReal.coe_mul, ← coe_sum, ← EReal.coe_add, ← EReal.coe_sub, zero_add]
  simp (disch := word_cmp_side) only [hlo_ix, mask_eq]
  unfold rpd rp
  by_cases h : (k : ℕ) ≤ r
  · rw [if_pos h, if_pos (Fin.le_def.2 h), ← EReal.coe_sub, Ideal.exp_coe]
  · rw [if_neg h, if_neg (fun h' => h (Fin.le_def.1 h')), EReal.bot_sub, EReal.coe_zero]
    rfl

end

section
variable {v33 v41 : Vec Ideal S384x128 .bf16} {v46 v47 : FVec Ideal S128x384 .bf16} {v54 : Vec Ideal S384x128 .bf16} {v57 : FVec Ideal S384x128 .bf16}
  {v60 v63 v105 v108 : FVec Ideal S1x384 .f32} {v71 v114 v115 : FVec Ideal S384x384 .f32} {w : IVec S384x384 32}
  {ks q vs g : Fin 384 → Fin 128 → ℝ} {ck c L D : Fin 384 → ℝ} {p s : Fin 384 → Fin 384 → ℝ}

theorem pay56_at (k : Fin 384) (l : Fin 128) : k0_pay56 (F := Ideal) (ix2 k l) = 0 := by pointwise [k0_pay56]

theorem pay57_at (k : Fin 384) (l : Fin 128) : k0_pay57 (F := Ideal) (ix2 k l) = 0 := by pointwise [k0_pay57]

theorem pay58_at (k : Fin 384) : k0_pay58 (F := Ideal) (ix2 k 0) = 0 := by pointwise [k0_pay58]

theorem pay60_at (x : Vec Ideal S1x1x384 .f32) (r : Fin 384) : k0_pay60 x (ix2 0 r) = x (ix3 0 0 r) := by
  pointwise [k0_pay60]

theorem pay61_at (x : Vec Ideal S1x1x384 .f32) (r : Fin 384) : k0_pay61 x (ix2 0 r) = x (ix3 0 0 r) := by
  pointwise [k0_pay61]

theorem pay71_at (x : Vec Ideal S1x1x384 .f32) (r : Fin 384) : k0_pay71 x (ix2 0 r) = x (ix3 0 0 r) := by
  pointwise [k0_pay71]

theorem pay72_at (x : Vec Ideal S1x1x384 .f32) (r : Fin 384) : k0_pay72 x (ix2 0 r) = x (ix3 0 0 r) := by
  pointwise [k0_pay72]

theorem pay65_at (hp : ∀ k r, k0_pay63 v60 v71 w (ix2 k r) = (p k r : EReal)) (h33 : ∀ k l, v33 (ix2 k l) = (vs k l : EReal))
    (h57 : ∀ r l, v57 (ix2 r l) = (g r l : EReal)) (h63 : ∀ r, v63 (ix2 0 r) = (D r : EReal)) (k r : Fin 384) :
    k0_pay65 v33 v57 v60 v63 v71 w (ix2 k r) = (rs p vs g D k r : EReal) := by
  pointwise [k0_pay65]
  simp only [hp, h33, h57, h63, ← EReal.coe_mul, ← coe_sum, ← EReal.coe_add, ← EReal.coe_sub, zero_add]
  rfl

theorem pay64_at (hp : ∀ k r, k0_pay63 v60 v71 w (ix2 k r) = (p k r : EReal))
    (h57 : ∀ r l, v57 (ix2 r l) = (g r l : EReal)) (k : Fin 384) (l : Fin 128) :
    k0_pay64 k0_pay57 v57 v60 v71 w (ix2 k l) = ((∑ r, p k r * g r l : ℝ) : EReal) := by
  pointwise [k0_pay64, k0_pay57]
  simp only [hp, h57, ← EReal.coe_mul, ← coe_sum, zero_add]

theorem pay67_at (hs : ∀ k r, k0_pay65 v33 v57 v60 v63 v71 w (ix2 k r) = (s k r : EReal))
    (h54 : ∀ r l, v54 (ix2 r l) = (q r l : EReal)) (k : Fin 384) (l : Fin 128) :
    k0_pay67 v33 k0_pay56 v54 v57 v60 v63 v71 w (ix2 k l) = ((∑ r, s k r * q r l : ℝ) : EReal) := by
  pointwise [k0_pay67, k0_pay66, k0_pay56]
  simp only [hs, h54, ← EReal.coe_mul, ← coe_sum, zero_add]

theorem pay70_at (hs : ∀ k r, k0_pay65 v33 v57 v60 v63 v71 w (ix2 k r) = (s k r : EReal)) (k : Fin 384) :
    k0_pay70 v33 k0_pay58 v57 v60 v63 v71 w (ix2 k 0) = ((∑ r, s k r : ℝ) : EReal) := by
  pointwise [k0_pay70, k0_pay58]
  simp only [hs, ← coe_sum, zero_add]

theorem pay68_at (h46 : ∀ l k, v46 (ix2 l k) = (ks k l : EReal)) (hs : ∀ k r, k0_pay65 v33 v57 v60 v63 v71 w (ix2 k r) = (s k r : EReal))
    (l : Fin 128) (r : Fin 384) :
    k0_pay68 v33 v46 v57 v60 v63 v71 w (ix2 l r) = ((∑ k, ks k l * s k r : ℝ) : EReal) := by
  pointwise [k0_pay68, k0_pay66]
  simp only [hs, h46, ← EReal.coe_mul, ← coe_sum, zero_add]

theorem pay69_at {a : Vec Ideal S1x384 .f32} (hs : ∀ k r, k0_pay65 v33 v57 v60 v63 v71 w (ix2 k r) = (s k r : EReal)) (r : Fin 384) :
    k0_pay69 v33 v57 v60 v63 v71 w a (ix2 0 r) = (show EReal from a (ix2 0 r)) + ((∑ k, s k r : ℝ) : EReal) := by
  pointwise [k0_pay69]
  simp only [hs, ← coe_sum, zero_add]

theorem pay77_at (hp : ∀ k r, k0_pay75 v105 v114 v115 (ix2 k r) = (p k r : EReal)) (h41 : ∀ k l, v41 (ix2 k l) = (vs k l : EReal))
    (h57 : ∀ r l, v57 (ix2 r l) = (g r l : EReal)) (h108 : ∀ r, v108 (ix2 0 r) = (D r : EReal)) (k r : Fin 384) :
    k0_pay77 v41 v57 v105 v108 v114 v115 (ix2 k r) = (rs p vs g D k r : EReal) := by
  pointwise [k0_pay77]
  simp only [hp, h41, h57, h108, ← EReal.coe_mul, ← coe_sum, ← EReal.coe_add, ← EReal.coe_sub, zero_add]
  rfl

theorem pay76_at (hp : ∀ k r, k0_pay75 v105 v114 v115 (ix2 k r) = (p k r : EReal))
    (h57 : ∀ r l, v57 (ix2 r l) = (g r l : EReal)) (k : Fin 384) (l : Fin 128) :
    k0_pay76 k0_pay57 v57 v105 v114 v115 (ix2 k l) = ((∑ r, p k r * g r l : ℝ) : EReal) := by
  pointwise [k0_pay76, k0_pay57]
  simp only [hp, h57, ← EReal.coe_mul, ← coe_sum, zero_add]

theorem pay79_at (hs : ∀ k r, k0_pay77 v41 v57 v105 v108 v114 v115 (ix2 k r) = (s k r : EReal))
    (h54 : ∀ r l, v54 (ix2 r l) = (q r l : EReal)) (k : Fin 384) (l : Fin 128) :
    k0_pay79 v41 k0_pay56 v54 v57 v105 v108 v114 v115 (ix2 k l) = ((∑ r, s k r * q r l : ℝ) : EReal) := by
  pointwise [k0_pay79, k0_pay78, k0_pay56]
  simp only [hs, h54, ← EReal.coe_mul, ← coe_sum, zero_add]

theorem pay81_at (hs : ∀ k r, k0_pay77 v41 v57 v105 v108 v114 v115 (ix2 k r) = (s k r : EReal)) (k : Fin 384) :
    k0_pay81 v41 k0_pay58 v57 v105 v108 v114 v115 (ix2 k 0) = ((∑ r, s k r : ℝ) : EReal) := by
  pointwise [k0_pay81, k0_pay58]
  simp only [hs, ← coe_sum, zero_add]

theorem pay82_at {u : FVec Ideal S128x384 .f32} {a : Vec Ideal S128x384 .f32} {W : Fin 128 → Fin 384 → ℝ} (h47 : ∀ l k, v47 (ix2 l k) = (ks k l : EReal))
    (hs : ∀ k r, k0_pay77 v41 v57 v105 v108 v114 v115 (ix2 k r) = (s k r : EReal)) (hu : ∀ l r, u (ix2 l r) = (W l r : EReal))
    (l : Fin 128) (r : Fin 384) :
    k0_pay82 v41 v47 v57 u v105 v108 v114 v115 a (ix2 l r) = (show EReal from a (ix2 l r)) + ((W l r + ∑ k, ks k l * s k r : ℝ) : EReal) := by
  pointwise [k0_pay82, k0_pay78]
  simp only [hs, h47, hu, ← EReal.coe_mul, ← coe_sum, ← EReal.coe_add, zero_add]

theorem pay80_at {a : Vec Ideal S1x384 .f32} (hs : ∀ k r, k0_pay77 v41 v57 v105 v108 v114 v115 (ix2 k r) = (s k r : EReal)) (r : Fin 384) :
    k0_pay80 v41 v57 v105 v108 v114 v115 a (ix2 0 r) = (show EReal from a (ix2 0 r)) + ((∑ k, s k r : ℝ) : EReal) := by
  pointwise [k0_pay80]
  simp only [hs, ← coe_sum, zero_add]

end

/-! ## The operands of the two heads and what is stored -/

section
variable {x : Vec Ideal S384x128 .bf16} {y : Fin 384 → Fin 128 → ℝ}

theorem eighth : Ideal.ofBits .bf16 0x3E00#16 = ((0.125 : ℝ) : EReal) := by
  simp [Ideal.ofBits, Ideal.ieee, -EReal.coe_mul]
  norm_num

theorem eighth32 : Ideal.ofBits .f32 0x3E000000#32 = ((0.125 : ℝ) : EReal) := by
  simp [Ideal.ofBits, Ideal.ieee, -EReal.coe_mul]
  norm_num

theorem pay46_at (k : Fin 384) (l : Fin 128) : k0_pay46 (ix2 k l) = BitVec.ofBool (decide (64 ≤ l.val)) := by
  pointwise [k0_pay46]
  word_cmp

theorem pay47_at (hx : ∀ k l, x (ix2 k l) = (y k l : EReal)) (k : Fin 384) (l : Fin 128) :
    k0_pay47 x (ix2 k l) = ((if l.val < 64 then y k l * 0.125 else 0 : ℝ) : EReal) := by
  pointwise [k0_pay47, hx]
  rw [pay46_at, eighth]
  by_cases h : l.val < 64
  · rw [if_pos h, decide_eq_false (by omega)]
    first | rfl | (rw [EReal.coe_mul]; rfl)
  · rw [if_neg h, decide_eq_true (by omega)]
    first | rfl | (rw [EReal.coe_mul]; rfl)

theorem pay48_at (hx : ∀ k l, x (ix2 k l) = (y k l : EReal)) (k : Fin 384) (l : Fin 128) :
    k0_pay48 x (ix2 k l) = ((if l.val < 64 then 0 else y k l * 0.125 : ℝ) : EReal) := by
  pointwise [k0_pay48, hx]
  rw [pay46_at, eighth]
  by_cases h : l.val < 64
  · rw [if_pos h, decide_eq_false (by omega)]
    first | rfl | (rw [EReal.coe_mul]; rfl)
  · rw [if_neg h, decide_eq_true (by omega)]
    first | rfl | (rw [EReal.coe_mul]; rfl)

theorem pay49_at (hx : ∀ k l, x (ix2 k l) = (y k l : EReal)) (k : Fin 384) (l : Fin 128) :
    k0_pay49 x (ix2 k l) = ((if l.val < 64 then y k l else 0 : ℝ) : EReal) := by
  pointwise [k0_pay49, hx]
  rw [pay46_at]
  by_cases h : l.val < 64
  · rw [if_pos h, decide_eq_false (by omega)]
    first | rfl | (rw [EReal.coe_mul]; rfl)
  · rw [if_neg h, decide_eq_true (by omega)]
    first | rfl | (rw [EReal.coe_mul]; rfl)

theorem pay51_at (hx : ∀ k l, x (ix2 k l) = (y k l : EReal)) (k : Fin 384) (l : Fin 128) :
    k0_pay51 k0_pay46 k0_pay50 x (ix2 k l) = ((if l.val < 64 then 0 else y k l : ℝ) : EReal) := by
  pointwise [k0_pay51, k0_pay50, hx]
  rw [pay46_at]
  by_cases h : l.val < 64
  · rw [if_pos h, decide_eq_false (by omega)]
    first | rfl | (rw [EReal.coe_mul]; rfl)
  · rw [if_neg h, decide_eq_true (by omega)]
    first | rfl | (rw [EReal.coe_mul]; rfl)

theorem pay5_at {a b : FVec Ideal S384x128 .f32} (k : Fin 384) (l : Fin 128) :
    k0_pay5 k0_pay46 a b (ix2 k l) = (show EReal from if l.val < 64 then a (ix2 k l) else b (ix2 k l)) * ((0.125 : ℝ) : EReal) := by
  pointwise [k0_pay5]
  rw [pay46_at, eighth32]
  by_cases h : l.val < 64
  · rw [if_pos h, decide_eq_false (by omega)]
    first | rfl | (rw [EReal.coe_mul]; rfl)
  · rw [if_neg h, decide_eq_true (by omega)]
    first | rfl | (rw [EReal.coe_mul]; rfl)

theorem pay6_at {a b : FVec Ideal S384x128 .f32} (k : Fin 384) (l : Fin 128) :
    k0_pay6 k0_pay46 a b (ix2 k l) = (show EReal from if l.val < 64 then a (ix2 k l) else b (ix2 k l)) := by
  pointwise [k0_pay6]
  rw [pay46_at]
  by_cases h : l.val < 64
  · rw [if_pos h, decide_eq_false (by omega)]
    first | rfl | (rw [EReal.coe_mul]; rfl)
  · rw [if_neg h, decide_eq_true (by omega)]
    first | rfl | (rw [EReal.coe_mul]; rfl)

theorem pay7_at {a b : FVec Ideal S384x1 .f32} (k : Fin 384) (h : Fin 2) :
    k0_pay7 a b (ix3 0 k h) = 0 - (show EReal from if h.val < 1 then a (ix2 k 0) else b (ix2 k 0)) := by
  pointwise [k0_pay7]
  by_cases e : h.val < 1
  · rw [dif_pos e, if_pos e]; congr 2; exact congrArg _ (Subsingleton.elim _ _)
  · rw [dif_neg e, if_neg e]; congr 2; exact congrArg _ (Subsingleton.elim _ _)

end

end Cert.AttnKernelIdeal.Pay

end
-- ==== Proof.AttnLoop.lean ====
/- The sums the body carries from one query block to the next, on finite values. -/
module

public import proofs.«01_k».proof.Proof.AttnPay

@[expose] public section

set_option maxRecDepth 16384

noncomputable section

namespace Cert.AttnKernelIdeal.Pay

open Cert.AttnKernelIdeal Cert.AttnKernelIdeal.Gen Cert.AttnKernelIdeal.Body
open Idealize.ShloMosaic Idealize.ShloMosaic.TcCoe

/-- The finite operands of a pair of heads: rows by lane for queries, keys, values and the cotangent, and for each head
    the cumulative decay, the normaliser and the mean per row. -/
structure Data where
  Q : ℕ → ℕ → ℝ
  K : ℕ → ℕ → ℝ
  V : ℕ → ℕ → ℝ
  G : ℕ → ℕ → ℝ
  C : ℕ → ℕ → ℝ
  L : ℕ → ℕ → ℝ
  D : ℕ → ℕ → ℝ

namespace Data
variable (d : Data)

/-- A head's keys, scaled; the other head's lanes hold zero. -/
def ks (h j l : ℕ) : ℝ := if h = 0 then (if l < 64 then d.K j l * 0.125 else 0) else (if l < 64 then 0 else d.K j l * 0.125)

/-- A head's values; the other head's lanes hold zero. -/
def vs (h j l : ℕ) : ℝ := if h = 0 then (if l < 64 then d.V j l else 0) else (if l < 64 then 0 else d.V j l)

/-- The weight query `q` gives to key `k`. -/
def pr (h q k : ℕ) : ℝ :=
  if k ≤ q then Real.exp ((((∑ l : Fin 128, d.ks h k l * d.Q q l) + d.C h q) - d.C h k) - d.L h q) else 0

/-- The gradient of the score of query `q` and key `k`. -/
def ds (h q k : ℕ) : ℝ := d.pr h q k * ((∑ l : Fin 128, d.vs h k l * d.G q l) - d.D h q)

theorem pr_late (h q k : ℕ) (hk : q < k) : d.pr h q k = 0 := if_neg (by omega)

theorem ds_late (h q k : ℕ) (hk : q < k) : d.ds h q k = 0 := by rw [ds, pr_late d h q k hk, zero_mul]

/-- The sums over the first `n` query blocks for key block `b`. -/
def dk (b n h k l : ℕ) : ℝ := ∑ e ∈ Finset.range n, ∑ r : Fin 384, d.ds h (384 * e + r) (384 * b + k) * d.Q (384 * e + r) l
def dv (b n h k l : ℕ) : ℝ := ∑ e ∈ Finset.range n, ∑ r : Fin 384, d.pr h (384 * e + r) (384 * b + k) * d.G (384 * e + r) l
def dc (b n h k : ℕ) : ℝ := ∑ e ∈ Finset.range n, ∑ r : Fin 384, d.ds h (384 * e + r) (384 * b + k)

/-- What key block `b` adds to the gradient of query row `q` and of its decay. -/
def dq (b l q : ℕ) : ℝ := (∑ k : Fin 384, d.ks 0 (384 * b + k) l * d.ds 0 q (384 * b + k)) + ∑ k : Fin 384, d.ks 1 (384 * b + k) l * d.ds 1 q (384 * b + k)
def dr (b h q : ℕ) : ℝ := ∑ k : Fin 384, d.ds h q (384 * b + k)

end Data

/-- The carried sums after `n` query blocks. -/
structure CarryIs (d : Data) (b n : ℕ) (s : Carry Ideal) : Prop where
  k0 : ∀ (k : Fin 384) (l : Fin 128), s.1 (ix2 k l) = (d.dk b n 0 k l : EReal)
  v0 : ∀ (k : Fin 384) (l : Fin 128), s.2.1 (ix2 k l) = (d.dv b n 0 k l : EReal)
  c0 : ∀ (k : Fin 384), s.2.2.1 (ix2 k 0) = (d.dc b n 0 k : EReal)
  k1 : ∀ (k : Fin 384) (l : Fin 128), s.2.2.2.1 (ix2 k l) = (d.dk b n 1 k l : EReal)
  v1 : ∀ (k : Fin 384) (l : Fin 128), s.2.2.2.2.1 (ix2 k l) = (d.dv b n 1 k l : EReal)
  c1 : ∀ (k : Fin 384), s.2.2.2.2.2 (ix2 k 0) = (d.dc b n 1 k : EReal)

/-- The accumulators after `n` query blocks, over what they held before. -/
structure AccIs (d : Data) (b n : ℕ) (a : ℕ → ℕ → ℝ) (a' : ℕ → ℕ → ℝ) (s : Vec Ideal S128x4224 .f32 × Vec Ideal S2x4224 .f32) : Prop where
  q : ∀ (l : Fin 128) (q : Fin 4224), s.1 (ix2 l q) = ((a l q + if q.val < 384 * n then d.dq b l q else 0 : ℝ) : EReal)
  c : ∀ (h : Fin 2) (q : Fin 4224), s.2 (ix2 h q) = ((a' h q + if q.val < 384 * n then d.dr b h q else 0 : ℝ) : EReal)

theorem put_acc (x : Vec Ideal S128x4224 .f32) (off : Fin 2 → ℕ) (w : Vec Ideal S128x384 .f32) (o : ℕ) (ho : off = ![0, o]) (l : Fin 128) (q : Fin 4224) :
    VecWindow.put (s := S128x4224) x off S128x384.size w (ix2 l q) = if h : o ≤ q.val ∧ q.val < o + 384 then w (ix2 l ⟨q.val - o, by omega⟩) else x (ix2 l q) := by
  subst ho
  unfold VecWindow.put
  by_cases h : o ≤ q.val ∧ q.val < o + 384
  · rw [dif_pos h, dif_pos (show ∀ a : Fin 2, (![0, o] : Fin 2 → ℕ) a ≤ (ix2 l q a).val ∧ (ix2 l q a).val < (![0, o] : Fin 2 → ℕ) a + (![128, 384] : Fin 2 → ℕ) a from
      Fin.forall_fin_two.2 ⟨⟨Nat.zero_le _, (Nat.zero_add 128).symm ▸ l.isLt⟩, h⟩)]
    refine congrArg w ?_
    funext a
    exact Fin.cases rfl (fun a => Fin.cases rfl (fun a => a.elim0) a) a
  · rw [dif_neg h, dif_neg (fun h' => h (h' 1))]

theorem put_row (x : Vec Ideal S2x4224 .f32) (off : Fin 2 → ℕ) (w : Vec Ideal S1x384 .f32) (g o : ℕ) (ho : off = ![g, o]) (h : Fin 2) (q : Fin 4224) :
    VecWindow.put (s := S2x4224) x off S1x384.size w (ix2 h q) = if _ : h.val = g ∧ o ≤ q.val ∧ q.val < o + 384 then w (ix2 0 ⟨q.val - o, by omega⟩) else x (ix2 h q) := by
  subst ho
  unfold VecWindow.put
  by_cases e : h.val = g ∧ o ≤ q.val ∧ q.val < o + 384
  · rw [dif_pos e, dif_pos (show ∀ a : Fin 2, (![g, o] : Fin 2 → ℕ) a ≤ (ix2 h q a).val ∧ (ix2 h q a).val < (![g, o] : Fin 2 → ℕ) a + (![1, 384] : Fin 2 → ℕ) a from
      Fin.forall_fin_two.2 ⟨⟨e.1.ge, Nat.lt_succ_of_le e.1.le⟩, e.2⟩)]
    refine congrArg w ?_
    funext a
    exact Fin.cases (Subsingleton.elim (α := Fin 1) _ _) (fun a => Fin.cases rfl (fun a => a.elim0) a) a
  · rw [dif_neg e, dif_neg (fun h' => e ⟨le_antisymm (Nat.lt_succ_iff.1 (h' 0).2) (h' 0).1, h' 1⟩)]

section
variable (i : grid0.Coords)

theorem word (n : ℕ) (h : n < 11) : (Scalar.indexCast (Scalar.muli (BitVec.ofNat 32 n) 384#32)).toNat = 384 * n := by
  have : ∀ n : Fin 11, (Scalar.indexCast (Scalar.muli (BitVec.ofNat 32 n.val) 384#32)).toNat = 384 * n.val := by decide +kernel
  exact this ⟨n, h⟩

theorem off1 : k0_off1 i = ![384 * (i 1).val, 0] := by unfold k0_off1; exact congrArg (fun x => ![x, 0]) (word _ (i 1).isLt)
theorem off2 : k0_off2 i = ![0, 0, 384 * (i 1).val] := by unfold k0_off2; exact congrArg (fun x => ![0, 0, x]) (word _ (i 1).isLt)
theorem off3 : k0_off3 i = ![0, 384 * (i 1).val] := by unfold k0_off3; exact congrArg (fun x => ![0, x]) (word _ (i 1).isLt)
theorem off4 : k0_off4 i = ![0, 1, 384 * (i 1).val] := by unfold k0_off4; exact congrArg (fun x => ![0, 1, x]) (word _ (i 1).isLt)
theorem off5 : k0_off5 i = ![1, 384 * (i 1).val] := by unfold k0_off5; exact congrArg (fun x => ![1, x]) (word _ (i 1).isLt)
theorem off6 : k0_off6 i = ![0, 384 * (i 1).val] := by unfold k0_off6; exact congrArg (fun x => ![0, x]) (word _ (i 1).isLt)

theorem word' (k : Fin (k0_t1_loop i).trips) :
    (Scalar.indexCast (Scalar.muli (Scf.iv (Scalar.addi (BitVec.ofNat 32 (i 1).val) 1#32) 1#32 k.val) 384#32)).toNat = 384 * ((i 1).val + 1 + k.val) := by
  have : ∀ (b : Fin 11) (k : Fin 10), k.val < 10 - b.val → (Scalar.indexCast (Scalar.muli (Scf.iv (Scalar.addi (BitVec.ofNat 32 b.val) 1#32) 1#32 k.val) 384#32)).toNat = 384 * (b.val + 1 + k.val) := by decide +kernel
  have hk : k.val < 10 - (i 1).val := (trips1 i) ▸ k.isLt
  exact this (i 1) ⟨k.val, by omega⟩ hk

variable (k : Fin (k0_t1_loop i).trips)
theorem off7 : k0_off7 i k = ![384 * ((i 1).val + 1 + k.val), 0] := by unfold k0_off7; exact congrArg (fun x => ![x, 0]) (word' i k)
theorem off8 : k0_off8 i k = ![0, 0, 384 * ((i 1).val + 1 + k.val)] := by unfold k0_off8; exact congrArg (fun x => ![0, 0, x]) (word' i k)
theorem off9 : k0_off9 i k = ![0, 384 * ((i 1).val + 1 + k.val)] := by unfold k0_off9; exact congrArg (fun x => ![0, x]) (word' i k)
theorem off10 : k0_off10 i k = ![0, 1, 384 * ((i 1).val + 1 + k.val)] := by unfold k0_off10; exact congrArg (fun x => ![0, 1, x]) (word' i k)
theorem off11 : k0_off11 i k = ![1, 384 * ((i 1).val + 1 + k.val)] := by unfold k0_off11; exact congrArg (fun x => ![1, x]) (word' i k)
theorem off12 : k0_off12 i k = ![0, 384 * ((i 1).val + 1 + k.val)] := by unfold k0_off12; exact congrArg (fun x => ![0, x]) (word' i k)
end

/-- A load of 384 rows. -/
theorem ld_rows {e : EltTy} (X : Vec Ideal S4224x128 e) (off : Fin 2 → ℕ) (inb : ∀ a : Fin S4224x128.rank, off a + S384x128.size a ≤ S4224x128.size a) (o : ℕ) (ho : off = ![o, 0]) (r : Fin 384) (l : Fin 128)
    (h : o + r.val < 4224) :
    View.ld (Val := Elt Ideal) X (Rect.unit (s := S4224x128) off S384x128.size inb) (ix2 r l) = X (ix2 ⟨o + r.val, h⟩ l) := by
  subst ho
  pointwise

/-- A load of 384 entries of one head's row. -/
theorem ld_stat {e : EltTy} (X : Vec Ideal S1x2x4224 e) (off : Fin 3 → ℕ) (inb : ∀ a : Fin S1x2x4224.rank, off a + S1x1x384.size a ≤ S1x2x4224.size a) (g : Fin 2) (o : ℕ) (ho : off = ![0, g.val, o]) (r : Fin 384)
    (h : o + r.val < 4224) :
    View.ld (Val := Elt Ideal) X (Rect.unit (s := S1x2x4224) off S1x1x384.size inb) (ix3 0 0 r) = X (ix3 0 g ⟨o + r.val, h⟩) := by
  subst ho
  pointwise

theorem ld_acc {e : EltTy} (X : Vec Ideal S128x4224 e) (off : Fin 2 → ℕ) (inb : ∀ a : Fin S128x4224.rank, off a + S128x384.size a ≤ S128x4224.size a) (o : ℕ) (ho : off = ![0, o]) (l : Fin 128) (r : Fin 384)
    (h : o + r.val < 4224) :
    View.ld (Val := Elt Ideal) X (Rect.unit (s := S128x4224) off S128x384.size inb) (ix2 l r) = X (ix2 l ⟨o + r.val, h⟩) := by
  subst ho
  pointwise

theorem ld_row {e : EltTy} (X : Vec Ideal S2x4224 e) (off : Fin 2 → ℕ) (inb : ∀ a : Fin S2x4224.rank, off a + S1x384.size a ≤ S2x4224.size a) (g : Fin 2) (o : ℕ) (ho : off = ![g.val, o]) (r : Fin 384)
    (h : o + r.val < 4224) :
    View.ld (Val := Elt Ideal) X (Rect.unit (s := S2x4224) off S1x384.size inb) (ix2 0 r) = X (ix2 g ⟨o + r.val, h⟩) := by
  subst ho
  pointwise

/-- The operands staged at a point of key block `b` hold the finite data. -/
structure Holds (d : Data) (b : ℕ) (X2 : Vec Ideal S4224x128 .bf16) (X3 X4 : Vec Ideal S384x128 .bf16) (X5 : Vec Ideal S4224x128 .f32)
    (X6 X7 X8 : Vec Ideal S1x2x4224 .f32) (X9 : Vec Ideal S1x384x2 .f32) : Prop where
  h2 : ∀ (r : Fin 4224) (l : Fin 128), X2 (ix2 r l) = (d.Q r l : EReal)
  h3 : ∀ (k : Fin 384) (l : Fin 128), X3 (ix2 k l) = (d.K (384 * b + k) l : EReal)
  h4 : ∀ (k : Fin 384) (l : Fin 128), X4 (ix2 k l) = (d.V (384 * b + k) l : EReal)
  h5 : ∀ (r : Fin 4224) (l : Fin 128), X5 (ix2 r l) = (d.G r l : EReal)
  h6 : ∀ (h : Fin 2) (r : Fin 4224), X6 (ix3 0 h r) = (d.L h r : EReal)
  h7 : ∀ (h : Fin 2) (r : Fin 4224), X7 (ix3 0 h r) = (d.D h r : EReal)
  h8 : ∀ (h : Fin 2) (r : Fin 4224), X8 (ix3 0 h r) = (d.C h r : EReal)
  h9 : ∀ (k : Fin 384) (h : Fin 2), X9 (ix3 0 k h) = (d.C h (384 * b + k) : EReal)

section
variable {d : Data} {b : ℕ} {X2 : Vec Ideal S4224x128 .bf16} {X3 X4 : Vec Ideal S384x128 .bf16} {X5 : Vec Ideal S4224x128 .f32}
    {X6 X7 X8 : Vec Ideal S1x2x4224 .f32} {X9 : Vec Ideal S1x384x2 .f32}

theorem ld_all3 (k : Fin 384) (l : Fin 128) :
    View.ld (Val := Elt Ideal) X3 (Rect.unit (s := S384x128) ![0, 0] S384x128.size inb_S384x128_S384x128_0_0) (ix2 k l) = X3 (ix2 k l) := by
  pointwise
  try (refine congrArg X3 ?_; idx_ext <;> omega)

theorem head0_at (H : Holds d b X2 X3 X4 X5 X6 X7 X8 X9) (k : Fin 384) (l : Fin 128) : head0 X3 (ix2 k l) = (d.ks 0 (384 * b + k) l : EReal) :=
  (pay47_at (y := fun k l => d.K (384 * b + k.val) l.val) (fun k l => (ld_all3 k l).trans (H.h3 k l)) k l).trans (by rw [Data.ks, if_pos rfl])

theorem head1_at (H : Holds d b X2 X3 X4 X5 X6 X7 X8 X9) (k : Fin 384) (l : Fin 128) : head1 X3 (ix2 k l) = (d.ks 1 (384 * b + k) l : EReal) :=
  (pay48_at (y := fun k l => d.K (384 * b + k.val) l.val) (fun k l => (ld_all3 k l).trans (H.h3 k l)) k l).trans (by rw [Data.ks, if_neg (one_ne_zero : (1 : ℕ) ≠ 0)])

theorem val0_at (H : Holds d b X2 X3 X4 X5 X6 X7 X8 X9) (k : Fin 384) (l : Fin 128) : val0 X4 (ix2 k l) = (d.vs 0 (384 * b + k) l : EReal) :=
  (pay49_at (y := fun k l => d.V (384 * b + k.val) l.val) (fun k l => (ld_all3 k l).trans (H.h4 k l)) k l).trans (by rw [Data.vs, if_pos rfl])

theorem val1_at (H : Holds d b X2 X3 X4 X5 X6 X7 X8 X9) (k : Fin 384) (l : Fin 128) : val1 X4 (ix2 k l) = (d.vs 1 (384 * b + k) l : EReal) :=
  (pay51_at (y := fun k l => d.V (384 * b + k.val) l.val) (fun k l => (ld_all3 k l).trans (H.h4 k l)) k l).trans (by rw [Data.vs, if_neg (one_ne_zero : (1 : ℕ) ≠ 0)])

theorem tr0_at (H : Holds d b X2 X3 X4 X5 X6 X7 X8 X9) (l : Fin 128) (k : Fin 384) : tr0 X3 (ix2 l k) = (d.ks 0 (384 * b + k) l : EReal) := by
  unfold tr0
  pointwise [k0_pay54]
  exact head0_at H k l

theorem tr1_at (H : Holds d b X2 X3 X4 X5 X6 X7 X8 X9) (l : Fin 128) (k : Fin 384) : tr1 X3 (ix2 l k) = (d.ks 1 (384 * b + k) l : EReal) := by
  unfold tr1
  pointwise [k0_pay55]
  exact head1_at H k l

theorem dec0_ld (H : Holds d b X2 X3 X4 X5 X6 X7 X8 X9) (k : Fin 384) :
    View.ld (Val := Elt Ideal) X9 (Rect.unit (s := S1x384x2) ![0, 0, 0] S1x384x1.size inb_S1x384x2_S1x384x1_0_0_0) (ix3 0 k 0) = (d.C 0 (384 * b + k) : EReal) := by
  refine Eq.trans ?_ (H.h9 k 0)
  pointwise
  try (refine congrArg X9 ?_; idx_ext <;> omega)

theorem dec1_ld (H : Holds d b X2 X3 X4 X5 X6 X7 X8 X9) (k : Fin 384) :
    View.ld (Val := Elt Ideal) X9 (Rect.unit (s := S1x384x2) ![0, 0, 1] S1x384x1.size inb_S1x384x2_S1x384x1_0_0_1) (ix3 0 k 0) = (d.C 1 (384 * b + k) : EReal) := by
  refine Eq.trans ?_ (H.h9 k 1)
  pointwise
  try (refine congrArg X9 ?_; idx_ext <;> omega)

theorem dec0_at (H : Holds d b X2 X3 X4 X5 X6 X7 X8 X9) (k : Fin 384) : dec0 X9 (ix2 k 0) = (d.C 0 (384 * b + k) : EReal) := by
  unfold dec0
  pointwise [k0_pay52]
  exact H.h9 k 0

theorem dec1_at (H : Holds d b X2 X3 X4 X5 X6 X7 X8 X9) (k : Fin 384) : dec1 X9 (ix2 k 0) = (d.C 1 (384 * b + k) : EReal) := by
  unfold dec1
  pointwise [k0_pay53]
  exact H.h9 k 1
end

/-- The weights of a later query block are those of the whole. -/
theorem rp_eq (d : Data) (b n h : ℕ) (hb : b < n) (k r : Fin 384) :
    rp (fun k l => d.ks h (384 * b + k.val) l.val) (fun r l => d.Q (384 * n + r.val) l.val) (fun k => d.C h (384 * b + k.val)) (fun r => d.C h (384 * n + r.val)) (fun r => d.L h (384 * n + r.val)) k r
      = d.pr h (384 * n + r) (384 * b + k) := by
  rw [Data.pr, if_pos (by have := k.isLt; omega)]
  rfl

theorem rpd_eq (d : Data) (b h : ℕ) (k r : Fin 384) :
    rpd (fun k l => d.ks h (384 * b + k.val) l.val) (fun r l => d.Q (384 * b + r.val) l.val) (fun k => d.C h (384 * b + k.val)) (fun r => d.C h (384 * b + r.val)) (fun r => d.L h (384 * b + r.val)) k r
      = d.pr h (384 * b + r) (384 * b + k) := by
  unfold rpd Data.pr
  by_cases e : k ≤ r
  · rw [if_pos e, if_pos (by have := Fin.le_def.1 e; omega)]
    rfl
  · rw [if_neg e, if_neg (fun h' => e (Fin.le_def.2 (by omega)))]

theorem rs_eq (d : Data) (b n h : ℕ) (k r : Fin 384) :
    rs (fun k r => d.pr h (384 * n + r.val) (384 * b + k.val)) (fun k l => d.vs h (384 * b + k.val) l.val) (fun r l => d.G (384 * n + r.val) l.val) (fun r => d.D h (384 * n + r.val)) k r
      = d.ds h (384 * n + r) (384 * b + k) := rfl

section
variable {d : Data} {i : grid0.Coords} {X2 : Vec Ideal S4224x128 .bf16} {X3 X4 : Vec Ideal S384x128 .bf16} {X5 : Vec Ideal S4224x128 .f32}
    {X6 X7 X8 : Vec Ideal S1x2x4224 .f32} {X9 : Vec Ideal S1x384x2 .f32} {a a' : ℕ → ℕ → ℝ}

theorem trip_step (H : Holds d (i 1).val X2 X3 X4 X5 X6 X7 X8 X9) (k : Fin (k0_t1_loop i).trips) (s : Carry Ideal × Vec Ideal S128x4224 .f32 × Vec Ideal S2x4224 .f32)
    (hs : CarryIs d (i 1).val ((i 1).val + 1 + k.val) s.1) (ha : AccIs d (i 1).val ((i 1).val + 1 + k.val) a a' s.2) :
    CarryIs d (i 1).val ((i 1).val + 1 + k.val + 1) (trip i X2 X5 X6 X7 X8 (head0 X3) (head1 X3) (val0 X4) (val1 X4) (dec0 X9) (dec1 X9) (tr0 X3) (tr1 X3) k s).1
      ∧ AccIs d (i 1).val ((i 1).val + 1 + k.val + 1) a a' (trip i X2 X5 X6 X7 X8 (head0 X3) (head1 X3) (val0 X4) (val1 X4) (dec0 X9) (dec1 X9) (tr0 X3) (tr1 X3) k s).2 := by
  have hk : k.val < 10 - (i 1).val := (trips1 i) ▸ k.isLt
  have o7 := off7 i k
  have o8 := off8 i k
  have o9 := off9 i k
  have o10 := off10 i k
  have o11 := off11 i k
  have o12 := off12 i k
  generalize hb : (i 1).val = b at *
  generalize hn : b + 1 + k.val = n at *
  have hn11 : n < 11 := by omega
  have hbn : b < n := by omega
  have hlt : ∀ r : Fin 384, 384 * n + r.val < 4224 := fun r => by have := r.isLt; omega
  have L2 := fun (r : Fin 384) (l : Fin 128) => (ld_rows X2 _ (k0_off7_inb i k) _ o7 r l (hlt r)).trans (H.h2 _ l)
  have L5 := fun (r : Fin 384) (l : Fin 128) => (ld_rows X5 _ (k0_off7_inb i k) _ o7 r l (hlt r)).trans (H.h5 _ l)
  have L60 := fun (r : Fin 384) => (ld_stat X6 _ (k0_off8_inb i k) 0 _ o8 r (hlt r)).trans (H.h6 0 _)
  have L70 := fun (r : Fin 384) => (ld_stat X7 _ (k0_off8_inb i k) 0 _ o8 r (hlt r)).trans (H.h7 0 _)
  have L80 := fun (r : Fin 384) => (ld_stat X8 _ (k0_off8_inb i k) 0 _ o8 r (hlt r)).trans (H.h8 0 _)
  have L61 := fun (r : Fin 384) => (ld_stat X6 _ (k0_off10_inb i k) 1 _ o10 r (hlt r)).trans (H.h6 1 _)
  have L71 := fun (r : Fin 384) => (ld_stat X7 _ (k0_off10_inb i k) 1 _ o10 r (hlt r)).trans (H.h7 1 _)
  have L81 := fun (r : Fin 384) => (ld_stat X8 _ (k0_off10_inb i k) 1 _ o10 r (hlt r)).trans (H.h8 1 _)
  have P0 := fun (k r : Fin 384) => (pay11_at (ks := fun k l => d.ks 0 (384 * b + k.val) l.val) (q := fun r l => d.Q (384 * n + r.val) l.val) (ck := fun k => d.C 0 (384 * b + k.val))
    (c := fun r => d.C 0 (384 * n + r.val)) (L := fun r => d.L 0 (384 * n + r.val)) (head0_at H) L2 (dec0_at H) L80 L60 k r).trans (congrArg _ (rp_eq d b n 0 hbn k r))
  have S0 := fun (k r : Fin 384) => (pay13_at (p := fun k r => d.pr 0 (384 * n + r.val) (384 * b + k.val)) (vs := fun k l => d.vs 0 (384 * b + k.val) l.val) (g := fun r l => d.G (384 * n + r.val) l.val)
    (D := fun r => d.D 0 (384 * n + r.val)) P0 (val0_at H) L5 L70 k r).trans (congrArg _ (rs_eq d b n 0 k r))
  have L5' := fun (r : Fin 384) (l : Fin 128) => (show k0_pay10 (View.ld (Val := Elt Ideal) X5 (Rect.unit (s := S4224x128) (k0_off7 i k) S384x128.size (k0_off7_inb i k))) (ix2 r l) = _ from L5 r l)
  have P1 := fun (k r : Fin 384) => (pay20_at (ks := fun k l => d.ks 1 (384 * b + k.val) l.val) (q := fun r l => d.Q (384 * n + r.val) l.val) (ck := fun k => d.C 1 (384 * b + k.val))
    (c := fun r => d.C 1 (384 * n + r.val)) (L := fun r => d.L 1 (384 * n + r.val)) (head1_at H) L2 (dec1_at H) L81 L61 k r).trans (congrArg _ (rp_eq d b n 1 hbn k r))
  have S1 := fun (k r : Fin 384) => (pay22_at (p := fun k r => d.pr 1 (384 * n + r.val) (384 * b + k.val)) (vs := fun k l => d.vs 1 (384 * b + k.val) l.val) (g := fun r l => d.G (384 * n + r.val) l.val)
    (D := fun r => d.D 1 (384 * n + r.val)) P1 (val1_at H) L5' L71 k r).trans (congrArg _ (rs_eq d b n 1 k r))
  refine ⟨⟨fun k l => ?_, fun k l => ?_, fun k => ?_, fun k l => ?_, fun k l => ?_, fun k => ?_⟩, ⟨fun l q => ?_, fun h q => ?_⟩⟩
  · exact (pay15_at (s := fun k r => d.ds 0 (384 * n + r.val) (384 * b + k.val)) (q := fun r l => d.Q (384 * n + r.val) l.val) (A := fun k l => d.dk b n 0 k l) S0 L2 hs.k0 k l).trans
      (congrArg _ (Finset.sum_range_succ _ n).symm)
  · exact (pay12_at (p := fun k r => d.pr 0 (384 * n + r.val) (384 * b + k.val)) (g := fun r l => d.G (384 * n + r.val) l.val) (A := fun k l => d.dv b n 0 k l) P0 L5 hs.v0 k l).trans
      (congrArg _ (Finset.sum_range_succ _ n).symm)
  · exact (pay19_at (s := fun k r => d.ds 0 (384 * n + r.val) (384 * b + k.val)) (A := fun k => d.dc b n 0 k) S0 hs.c0 k).trans
      (congrArg _ (Finset.sum_range_succ _ n).symm)
  · exact (pay24_at (s := fun k r => d.ds 1 (384 * n + r.val) (384 * b + k.val)) (q := fun r l => d.Q (384 * n + r.val) l.val) (A := fun k l => d.dk b n 1 k l) S1 L2 hs.k1 k l).trans
      (congrArg _ (Finset.sum_range_succ _ n).symm)
  · exact (pay21_at (p := fun k r => d.pr 1 (384 * n + r.val) (384 * b + k.val)) (g := fun r l => d.G (384 * n + r.val) l.val) (A := fun k l => d.dv b n 1 k l) P1 L5' hs.v1 k l).trans
      (congrArg _ (Finset.sum_range_succ _ n).symm)
  · exact (pay1_at (s := fun k r => d.ds 1 (384 * n + r.val) (384 * b + k.val)) (A := fun k => d.dc b n 1 k) S1 hs.c1 k).trans
      (congrArg _ (Finset.sum_range_succ _ n).symm)
  · refine (put_acc _ _ _ _ o12 l q).trans ?_
    by_cases e : 384 * n ≤ q.val ∧ q.val < 384 * n + 384
    · rw [dif_pos e, if_pos (show q.val < 384 * (n + 1) by omega)]
      refine (pay25_at (W := fun l r => ∑ k : Fin 384, d.ks 0 (384 * b + k.val) l.val * d.ds 0 (384 * n + r.val) (384 * b + k.val)) (ks := fun k l => d.ks 1 (384 * b + k.val) l.val)
        (s := fun k r => d.ds 1 (384 * n + r.val) (384 * b + k.val)) (tr1_at H) S1
        (pay16_at (ks := fun k l => d.ks 0 (384 * b + k.val) l.val) (s := fun k r => d.ds 0 (384 * n + r.val) (384 * b + k.val)) (tr0_at H) S0) l _).trans ?_
      have eq : (⟨384 * n + (q.val - 384 * n), by omega⟩ : Fin 4224) = q := Fin.ext (by show 384 * n + (q.val - 384 * n) = q.val; omega)
      have e1 := (ld_acc s.2.1 _ (k0_off12_inb i k) _ o12 l ⟨q.val - 384 * n, by omega⟩ (by show 384 * n + (q.val - 384 * n) < 4224; omega)).trans ((congrArg (fun x => s.2.1 (ix2 l x)) eq).trans (ha.q l q))
      refine (congrArg (fun x : EReal => x + _) e1).trans ?_
      rw [if_neg (by omega), add_zero, ← EReal.coe_add]
      refine congrArg _ ?_
      unfold Data.dq
      simp only [show 384 * n + (q.val - 384 * n) = q.val by omega]
    · rw [dif_neg e]
      refine (ha.q l q).trans ?_
      by_cases e' : q.val < 384 * n
      · rw [if_pos e', if_pos (by omega)]
      · rw [if_neg e', if_neg (by omega)]
  · have eq : ∀ e : 384 * n ≤ q.val ∧ q.val < 384 * n + 384, (⟨384 * n + (q.val - 384 * n), by omega⟩ : Fin 4224) = q :=
      fun e => Fin.ext (by show 384 * n + (q.val - 384 * n) = q.val; omega)
    refine (put_row _ _ _ 1 _ o11 h q).trans ?_
    by_cases e : h.val = 1 ∧ 384 * n ≤ q.val ∧ q.val < 384 * n + 384
    · have e2 := e.2
      have eh : (1 : Fin 2) = h := Fin.ext e.1.symm
      subst eh
      rw [dif_pos e, if_pos (show q.val < 384 * (n + 1) by omega)]
      refine (pay26_at (s := fun k r => d.ds 1 (384 * n + r.val) (384 * b + k.val)) S1 _).trans ?_
      have e1 := (ld_row s.2.2 _ (k0_off11_inb i k) 1 _ o11 ⟨q.val - 384 * n, by omega⟩ (by show 384 * n + (q.val - 384 * n) < 4224; omega)).trans ((congrArg (fun x => s.2.2 (ix2 1 x)) (eq e2)).trans (ha.c 1 q))
      refine (congrArg (fun x : EReal => x + _) e1).trans ?_
      rw [if_neg (by omega), add_zero, ← EReal.coe_add]
      refine congrArg _ ?_
      unfold Data.dr
      simp only [show 384 * n + (q.val - 384 * n) = q.val by omega]
      rfl
    · rw [dif_neg e]
      refine (put_row _ _ _ 0 _ o9 h q).trans ?_
      by_cases e0 : h.val = 0 ∧ 384 * n ≤ q.val ∧ q.val < 384 * n + 384
      · have e2 := e0.2
        have eh : (0 : Fin 2) = h := Fin.ext e0.1.symm
        subst eh
        rw [dif_pos e0, if_pos (show q.val < 384 * (n + 1) by omega)]
        refine (pay17_at (s := fun k r => d.ds 0 (384 * n + r.val) (384 * b + k.val)) S0 _).trans ?_
        have e1 := (ld_row s.2.2 _ (k0_off9_inb i k) 0 _ o9 ⟨q.val - 384 * n, by omega⟩ (by show 384 * n + (q.val - 384 * n) < 4224; omega)).trans ((congrArg (fun x => s.2.2 (ix2 0 x)) (eq e2)).trans (ha.c 0 q))
        refine (congrArg (fun x : EReal => x + _) e1).trans ?_
        rw [if_neg (by omega), add_zero, ← EReal.coe_add]
        refine congrArg _ ?_
        unfold Data.dr
        simp only [show 384 * n + (q.val - 384 * n) = q.val by omega]
        rfl
      · rw [dif_neg e0]
        refine (ha.c h q).trans ?_
        have hh := h.isLt
        by_cases e' : q.val < 384 * n
        · rw [if_pos e', if_pos (by omega)]
        · rw [if_neg e', if_neg (by omega)]

theorem dk_diag (d : Data) (b h k l : ℕ) : ∑ r : Fin 384, d.ds h (384 * b + r) (384 * b + k) * d.Q (384 * b + r) l = d.dk b (b + 1) h k l := by
  unfold Data.dk
  rw [Finset.sum_range_succ]
  refine ((congrArg (· + _) (Finset.sum_eq_zero ?_)).trans (zero_add _)).symm
  intro e he
  refine Finset.sum_eq_zero fun r _ => ?_
  rw [Data.ds_late d h _ _ (by have := Finset.mem_range.1 he; have := r.isLt; omega), zero_mul]

theorem dv_diag (d : Data) (b h k l : ℕ) : ∑ r : Fin 384, d.pr h (384 * b + r) (384 * b + k) * d.G (384 * b + r) l = d.dv b (b + 1) h k l := by
  unfold Data.dv
  rw [Finset.sum_range_succ]
  refine ((congrArg (· + _) (Finset.sum_eq_zero ?_)).trans (zero_add _)).symm
  intro e he
  refine Finset.sum_eq_zero fun r _ => ?_
  rw [Data.pr_late d h _ _ (by have := Finset.mem_range.1 he; have := r.isLt; omega), zero_mul]

theorem dc_diag (d : Data) (b h k : ℕ) : ∑ r : Fin 384, d.ds h (384 * b + r) (384 * b + k) = d.dc b (b + 1) h k := by
  unfold Data.dc
  rw [Finset.sum_range_succ]
  refine ((congrArg (· + _) (Finset.sum_eq_zero ?_)).trans (zero_add _)).symm
  intro e he
  refine Finset.sum_eq_zero fun r _ => ?_
  rw [Data.ds_late d h _ _ (by have := Finset.mem_range.1 he; have := r.isLt; omega)]

theorem dq_early (d : Data) (b l q : ℕ) (h : q < 384 * b) : d.dq b l q = 0 := by
  unfold Data.dq
  rw [Finset.sum_eq_zero, Finset.sum_eq_zero, add_zero] <;>
  · intro k _
    rw [Data.ds_late d _ _ _ (by omega), mul_zero]

theorem dr_early (d : Data) (b h q : ℕ) (hq : q < 384 * b) : d.dr b h q = 0 :=
  Finset.sum_eq_zero fun k _ => Data.ds_late d _ _ _ (by omega)

theorem diag_step (H : Holds d (i 1).val X2 X3 X4 X5 X6 X7 X8 X9) (s : Vec Ideal S128x4224 .f32 × Vec Ideal S2x4224 .f32)
    (haq : ∀ (l : Fin 128) (q : Fin 4224), s.1 (ix2 l q) = (a l q : EReal)) (hac : ∀ (h : Fin 2) (q : Fin 4224), s.2 (ix2 h q) = (a' h q : EReal)) :
    CarryIs d (i 1).val ((i 1).val + 1) (diag i X2 X3 X4 X5 X6 X7 X8 X9 s).1
      ∧ AccIs d (i 1).val ((i 1).val + 1) a a' (diag i X2 X3 X4 X5 X6 X7 X8 X9 s).2 := by
  have hb11 : (i 1).val < 11 := (i 1).isLt
  have o1 := off1 i
  have o2 := off2 i
  have o3 := off3 i
  have o4 := off4 i
  have o5 := off5 i
  have o6 := off6 i
  generalize hb : (i 1).val = b at *
  have hlt : ∀ r : Fin 384, 384 * b + r.val < 4224 := fun r => by have := r.isLt; omega
  have L2 := fun (r : Fin 384) (l : Fin 128) => (ld_rows X2 _ (k0_off1_inb i) _ o1 r l (hlt r)).trans (H.h2 _ l)
  have L5 := fun (r : Fin 384) (l : Fin 128) => (ld_rows X5 _ (k0_off1_inb i) _ o1 r l (hlt r)).trans (H.h5 _ l)
  have L60 := fun (r : Fin 384) => (ld_stat X6 _ (k0_off2_inb i) 0 _ o2 r (hlt r)).trans (H.h6 0 _)
  have L70 := fun (r : Fin 384) => (ld_stat X7 _ (k0_off2_inb i) 0 _ o2 r (hlt r)).trans (H.h7 0 _)
  have L80 := fun (r : Fin 384) => (ld_stat X8 _ (k0_off2_inb i) 0 _ o2 r (hlt r)).trans (H.h8 0 _)
  have L61 := fun (r : Fin 384) => (ld_stat X6 _ (k0_off4_inb i) 1 _ o4 r (hlt r)).trans (H.h6 1 _)
  have L71 := fun (r : Fin 384) => (ld_stat X7 _ (k0_off4_inb i) 1 _ o4 r (hlt r)).trans (H.h7 1 _)
  have L81 := fun (r : Fin 384) => (ld_stat X8 _ (k0_off4_inb i) 1 _ o4 r (hlt r)).trans (H.h8 1 _)
  have L5' := fun (r : Fin 384) (l : Fin 128) => (show k0_pay59 (View.ld (Val := Elt Ideal) X5 (Rect.unit (s := S4224x128) (k0_off1 i) S384x128.size (k0_off1_inb i))) (ix2 r l) = _ from L5 r l)
  have L60' := fun (r : Fin 384) => (pay60_at _ r).trans (L60 r)
  have L70' := fun (r : Fin 384) => (pay61_at _ r).trans (L70 r)
  have L61' := fun (r : Fin 384) => (pay71_at _ r).trans (L61 r)
  have L71' := fun (r : Fin 384) => (pay72_at _ r).trans (L71 r)
  have P0 := fun (k r : Fin 384) => (pay63_at (ks := fun k l => d.ks 0 (384 * b + k.val) l.val) (q := fun r l => d.Q (384 * b + r.val) l.val) (ck := fun k => d.C 0 (384 * b + k.val))
    (c := fun r => d.C 0 (384 * b + r.val)) (L := fun r => d.L 0 (384 * b + r.val)) (head0_at H) L2 (dec0_ld H) L80 L60' k r).trans (congrArg _ (rpd_eq d b 0 k r))
  have S0 := fun (k r : Fin 384) => (pay65_at (p := fun k r => d.pr 0 (384 * b + r.val) (384 * b + k.val)) (vs := fun k l => d.vs 0 (384 * b + k.val) l.val) (g := fun r l => d.G (384 * b + r.val) l.val)
    (D := fun r => d.D 0 (384 * b + r.val)) P0 (val0_at H) L5' L70' k r).trans (congrArg _ (rs_eq d b b 0 k r))
  have P1 := fun (k r : Fin 384) => (pay75_at (ks := fun k l => d.ks 1 (384 * b + k.val) l.val) (q := fun r l => d.Q (384 * b + r.val) l.val) (ck := fun k => d.C 1 (384 * b + k.val))
    (c := fun r => d.C 1 (384 * b + r.val)) (L := fun r => d.L 1 (384 * b + r.val)) (head1_at H) L2 (dec1_at H) L81 L61' k r).trans (congrArg _ (rpd_eq d b 1 k r))
  have S1 := fun (k r : Fin 384) => (pay77_at (p := fun k r => d.pr 1 (384 * b + r.val) (384 * b + k.val)) (vs := fun k l => d.vs 1 (384 * b + k.val) l.val) (g := fun r l => d.G (384 * b + r.val) l.val)
    (D := fun r => d.D 1 (384 * b + r.val)) P1 (val1_at H) L5' L71' k r).trans (congrArg _ (rs_eq d b b 1 k r))
  refine ⟨⟨fun k l => ?_, fun k l => ?_, fun k => ?_, fun k l => ?_, fun k l => ?_, fun k => ?_⟩, ⟨fun l q => ?_, fun h q => ?_⟩⟩
  · exact (pay67_at (s := fun k r => d.ds 0 (384 * b + r.val) (384 * b + k.val)) (q := fun r l => d.Q (384 * b + r.val) l.val) S0 L2 k l).trans (congrArg _ (dk_diag d b 0 k l))
  · exact (pay64_at (p := fun k r => d.pr 0 (384 * b + r.val) (384 * b + k.val)) (g := fun r l => d.G (384 * b + r.val) l.val) P0 L5' k l).trans (congrArg _ (dv_diag d b 0 k l))
  · exact (pay70_at (s := fun k r => d.ds 0 (384 * b + r.val) (384 * b + k.val)) S0 k).trans (congrArg _ (dc_diag d b 0 k))
  · exact (pay79_at (s := fun k r => d.ds 1 (384 * b + r.val) (384 * b + k.val)) (q := fun r l => d.Q (384 * b + r.val) l.val) S1 L2 k l).trans (congrArg _ (dk_diag d b 1 k l))
  · exact (pay76_at (p := fun k r => d.pr 1 (384 * b + r.val) (384 * b + k.val)) (g := fun r l => d.G (384 * b + r.val) l.val) P1 L5' k l).trans (congrArg _ (dv_diag d b 1 k l))
  · exact (pay81_at (s := fun k r => d.ds 1 (384 * b + r.val) (384 * b + k.val)) S1 k).trans (congrArg _ (dc_diag d b 1 k))
  · refine (put_acc _ _ _ _ o6 l q).trans ?_
    by_cases e : 384 * b ≤ q.val ∧ q.val < 384 * b + 384
    · rw [dif_pos e, if_pos (show q.val < 384 * (b + 1) by omega)]
      refine (pay82_at (W := fun l r => ∑ k : Fin 384, d.ks 0 (384 * b + k.val) l.val * d.ds 0 (384 * b + r.val) (384 * b + k.val)) (ks := fun k l => d.ks 1 (384 * b + k.val) l.val)
        (s := fun k r => d.ds 1 (384 * b + r.val) (384 * b + k.val)) (tr1_at H) S1
        (pay68_at (ks := fun k l => d.ks 0 (384 * b + k.val) l.val) (s := fun k r => d.ds 0 (384 * b + r.val) (384 * b + k.val)) (tr0_at H) S0) l _).trans ?_
      have eq : (⟨384 * b + (q.val - 384 * b), by omega⟩ : Fin 4224) = q := Fin.ext (by show 384 * b + (q.val - 384 * b) = q.val; omega)
      have e1 := (ld_acc s.1 _ (k0_off6_inb i) _ o6 l ⟨q.val - 384 * b, by omega⟩ (by show 384 * b + (q.val - 384 * b) < 4224; omega)).trans ((congrArg (fun x => s.1 (ix2 l x)) eq).trans (haq l q))
      refine (congrArg (fun x : EReal => x + _) e1).trans ?_
      rw [← EReal.coe_add]
      refine congrArg _ ?_
      unfold Data.dq
      simp only [show 384 * b + (q.val - 384 * b) = q.val by omega]
    · rw [dif_neg e]
      refine (haq l q).trans ?_
      by_cases e' : q.val < 384 * (b + 1)
      · rw [if_pos e', dq_early d b l q (by omega), add_zero]
      · rw [if_neg e', add_zero]
  · have eq : ∀ e : 384 * b ≤ q.val ∧ q.val < 384 * b + 384, (⟨384 * b + (q.val - 384 * b), by omega⟩ : Fin 4224) = q :=
      fun e => Fin.ext (by show 384 * b + (q.val - 384 * b) = q.val; omega)
    refine (put_row _ _ _ 1 _ o5 h q).trans ?_
    by_cases e : h.val = 1 ∧ 384 * b ≤ q.val ∧ q.val < 384 * b + 384
    · have e2 := e.2
      have eh : (1 : Fin 2) = h := Fin.ext e.1.symm
      subst eh
      rw [dif_pos e, if_pos (show q.val < 384 * (b + 1) by omega)]
      refine (pay80_at (s := fun k r => d.ds 1 (384 * b + r.val) (384 * b + k.val)) S1 _).trans ?_
      have e1 := (ld_row s.2 _ (k0_off5_inb i) 1 _ o5 ⟨q.val - 384 * b, by omega⟩ (by show 384 * b + (q.val - 384 * b) < 4224; omega)).trans ((congrArg (fun x => s.2 (ix2 1 x)) (eq e2)).trans (hac 1 q))
      refine (congrArg (fun x : EReal => x + _) e1).trans ?_
      rw [← EReal.coe_add]
      refine congrArg _ ?_
      unfold Data.dr
      simp only [show 384 * b + (q.val - 384 * b) = q.val by omega]
      rfl
    · rw [dif_neg e]
      refine (put_row _ _ _ 0 _ o3 h q).trans ?_
      by_cases e0 : h.val = 0 ∧ 384 * b ≤ q.val ∧ q.val < 384 * b + 384
      · have e2 := e0.2
        have eh : (0 : Fin 2) = h := Fin.ext e0.1.symm
        subst eh
        rw [dif_pos e0, if_pos (show q.val < 384 * (b + 1) by omega)]
        refine (pay69_at (s := fun k r => d.ds 0 (384 * b + r.val) (384 * b + k.val)) S0 _).trans ?_
        have e1 := (ld_row s.2 _ (k0_off3_inb i) 0 _ o3 ⟨q.val - 384 * b, by omega⟩ (by show 384 * b + (q.val - 384 * b) < 4224; omega)).trans ((congrArg (fun x => s.2 (ix2 0 x)) (eq e2)).trans (hac 0 q))
        refine (congrArg (fun x : EReal => x + _) e1).trans ?_
        rw [← EReal.coe_add]
        refine congrArg _ ?_
        unfold Data.dr
        simp only [show 384 * b + (q.val - 384 * b) = q.val by omega]
        rfl
      · rw [dif_neg e0]
        refine (hac h q).trans ?_
        have hh := h.isLt
        by_cases e' : q.val < 384 * (b + 1)
        · rw [if_pos e', dr_early d b h q (by omega), add_zero]
        · rw [if_neg e', add_zero]

theorem loop_at (H : Holds d (i 1).val X2 X3 X4 X5 X6 X7 X8 X9) (s : Vec Ideal S128x4224 .f32 × Vec Ideal S2x4224 .f32)
    (haq : ∀ (l : Fin 128) (q : Fin 4224), s.1 (ix2 l q) = (a l q : EReal)) (hac : ∀ (h : Fin 2) (q : Fin 4224), s.2 (ix2 h q) = (a' h q : EReal)) (n : ℕ) (hn : n ≤ (k0_t1_loop i).trips) :
    CarryIs d (i 1).val ((i 1).val + 1 + n) (loop i X2 X5 X6 X7 X8 (head0 X3) (head1 X3) (val0 X4) (val1 X4) (dec0 X9) (dec1 X9) (tr0 X3) (tr1 X3) (diag i X2 X3 X4 X5 X6 X7 X8 X9 s) n).1
      ∧ AccIs d (i 1).val ((i 1).val + 1 + n) a a' (loop i X2 X5 X6 X7 X8 (head0 X3) (head1 X3) (val0 X4) (val1 X4) (dec0 X9) (dec1 X9) (tr0 X3) (tr1 X3) (diag i X2 X3 X4 X5 X6 X7 X8 X9 s) n).2 := by
  induction n with
  | zero => exact diag_step H s haq hac
  | succ n ih =>
    have ih := ih (by omega)
    rw [loop, dif_pos (by omega)]
    exact trip_step H ⟨n, by omega⟩ _ ih.1 ih.2

/-- What a point leaves: all the sums for its key block, and the accumulators with that block added. -/
theorem ends_at (H : Holds d (i 1).val X2 X3 X4 X5 X6 X7 X8 X9) (s : Vec Ideal S128x4224 .f32 × Vec Ideal S2x4224 .f32)
    (haq : ∀ (l : Fin 128) (q : Fin 4224), s.1 (ix2 l q) = (a l q : EReal)) (hac : ∀ (h : Fin 2) (q : Fin 4224), s.2 (ix2 h q) = (a' h q : EReal)) :
    CarryIs d (i 1).val 11 (ends i X2 X3 X4 X5 X6 X7 X8 X9 s).1
      ∧ (∀ (l : Fin 128) (q : Fin 4224), (ends i X2 X3 X4 X5 X6 X7 X8 X9 s).2.1 (ix2 l q) = ((a l q + d.dq (i 1).val l q : ℝ) : EReal))
      ∧ ∀ (h : Fin 2) (q : Fin 4224), (ends i X2 X3 X4 X5 X6 X7 X8 X9 s).2.2 (ix2 h q) = ((a' h q + d.dr (i 1).val h q : ℝ) : EReal) := by
  have h := loop_at H s haq hac _ le_rfl
  have e : (i 1).val + 1 + (k0_t1_loop i).trips = 11 := by
    have : (i 1).val < 11 := (i 1).isLt
    rw [trips1 i]; omega
  rw [e] at h
  unfold ends
  refine ⟨h.1, fun l q => ?_, fun g q => ?_⟩
  · rw [h.2.q l q, if_pos (by have := q.isLt; omega)]
  · rw [h.2.c g q, if_pos (by have := q.isLt; omega)]
end

end Cert.AttnKernelIdeal.Pay

end
-- ==== Proof.AttnReal.lean ====
/- The gradient of causal attention with decay, on real numbers: its definitions and the identities its two computations need. -/
module

public import Idealize.ShloMosaic.Lib.Pointwise
public import Idealize.ShloMosaic.Lib.Pipeline.ValueKit

@[expose] public section

set_option maxRecDepth 16384

noncomputable section

namespace Cert.AttnReal

open Idealize.ShloMosaic

/-- A sum of finite values is the finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The largest of finitely many finite values, some of them possibly left out, is finite. -/
theorem fold_max (n : ℕ) (f : Fin n → EReal) (ht : ∀ j, f j ≠ ⊤) (k : Fin n) (hk : f k ≠ ⊥) :
    ((Finset.univ.fold max ⊥ f).toReal : EReal) = Finset.univ.fold max ⊥ f := by
  refine EReal.coe_toReal ?_ ?_
  · refine ne_of_lt (Finset.fold_max_lt (b := (⊥ : EReal)) ⊤ |>.2 ⟨bot_lt_top, fun j _ => lt_top_iff_ne_top.2 (ht j)⟩)
  · refine ne_of_gt (lt_of_lt_of_le (bot_lt_iff_ne_bot.2 hk) ?_)
    exact (Finset.le_fold_max _).2 (Or.inr ⟨k, Finset.mem_univ k, le_rfl⟩)

/-- The finite operands: the projections, the cumulative decay and the cotangent, by row and column. -/
structure Arr where
  x : ℕ → ℕ → ℝ
  c : ℕ → ℕ → ℝ
  g : ℕ → ℕ → ℝ

namespace Arr
variable (A : Arr)

/-- The score of query `i` and key `j` in head `h`. -/
def sc (h i j : ℕ) : ℝ := (((∑ d : Fin 64, A.x i (64 * h + d) * A.x j (1024 + (64 * h + d))) * 0.125) + A.c i h) - A.c j h

/-- The score, or nothing where the key is later than the query. -/
def ms (h i j : ℕ) : EReal := if j ≤ i then (A.sc h i j : EReal) else ⊥

/-- The largest score of a row. -/
def mx (h i : ℕ) : ℝ := (Finset.univ.fold max ⊥ fun j : Fin 4224 => A.ms h i j).toReal

/-- A score's exponential. -/
def ex (h i j : ℕ) : ℝ := if j ≤ i then Real.exp (A.sc h i j - A.mx h i) else 0

/-- The sum of a row's exponentials. -/
def Z (h i : ℕ) : ℝ := ∑ j : Fin 4224, A.ex h i j

/-- The attention weight. -/
def P (h i j : ℕ) : ℝ := A.ex h i j / A.Z h i

/-- The gradient of the weight. -/
def dP (h i j : ℕ) : ℝ := ∑ d : Fin 64, A.g i (64 * h + d) * A.x j (2048 + (64 * h + d))

/-- The mean of the weights' gradients in a row. -/
def del (h i : ℕ) : ℝ := ∑ j : Fin 4224, A.P h i j * A.dP h i j

/-- The gradient of the score. -/
def ds (h i j : ℕ) : ℝ := A.P h i j * (A.dP h i j - A.del h i)

/-- The five gradients. -/
def gq (i n : ℕ) : ℝ := ∑ j : Fin 4224, (A.ds (n / 64) i j * 0.125) * A.x j (1024 + n)
def gk (j n : ℕ) : ℝ := ∑ i : Fin 4224, (A.ds (n / 64) i j * 0.125) * A.x i n
def gv (j n : ℕ) : ℝ := ∑ i : Fin 4224, A.g i n * A.P (n / 64) i j
def gcq (h i : ℕ) : ℝ := ∑ j : Fin 4224, A.ds h i j
def gck (h j : ℕ) : ℝ := -∑ i : Fin 4224, A.ds h i j

theorem mx_coe (h : ℕ) (i : Fin 4224) : (Finset.univ.fold max ⊥ fun j : Fin 4224 => A.ms h i j) = (A.mx h i : EReal) := by
  refine (fold_max 4224 _ (fun j => ?_) i ?_).symm
  · unfold ms
    split
    · exact EReal.coe_ne_top _
    · exact bot_ne_top
  · unfold ms
    rw [if_pos le_rfl]
    exact EReal.coe_ne_bot _

theorem ex_coe (h i j : ℕ) : Ideal.exp (A.ms h i j - (A.mx h i : EReal)) = (A.ex h i j : EReal) := by
  unfold ms ex
  by_cases e : j ≤ i
  · rw [if_pos e, if_pos e, ← EReal.coe_sub, Ideal.exp_coe]
  · rw [if_neg e, if_neg e, EReal.bot_sub, EReal.coe_zero]
    rfl

theorem ex_nonneg (h i j : ℕ) : 0 ≤ A.ex h i j := by
  unfold ex
  split
  · exact (Real.exp_pos _).le
  · exact le_rfl

theorem Z_pos (h : ℕ) (i : Fin 4224) : 0 < A.Z h i := by
  refine Finset.sum_pos' (fun j _ => A.ex_nonneg h i j) ⟨i, Finset.mem_univ i, ?_⟩
  unfold ex
  rw [if_pos le_rfl]
  exact Real.exp_pos _

/-- A finite value and a positive one's logarithm. -/
theorem log_add (x z : ℝ) (hz : 0 < z) : (x : EReal) + Ideal.log (z : EReal) = ((x + Real.log z : ℝ) : EReal) := by
  rw [Ideal.log_coe, if_neg (not_le.2 hz), ← EReal.coe_add]

/-- The normaliser. -/
def lse (h i : ℕ) : ℝ := A.mx h i + Real.log (A.Z h i)

theorem P_exp (h : ℕ) (i : Fin 4224) (j : ℕ) : A.P h i j = if j ≤ i.val then Real.exp (A.sc h i j - A.lse h i) else 0 := by
  unfold P ex lse
  by_cases e : j ≤ i.val
  · rw [if_pos e, if_pos e, ← sub_sub, Real.exp_sub _ (Real.log _), Real.exp_log (A.Z_pos h i)]
  · rw [if_neg e, if_neg e, zero_div]

theorem P_coe (h : ℕ) (i : Fin 4224) (j : ℕ) : Ideal.exp (A.ms h i j - (A.lse h i : EReal)) = (A.P h i j : EReal) := by
  rw [P_exp]
  unfold ms
  by_cases e : j ≤ i.val
  · rw [if_pos e, if_pos e, ← EReal.coe_sub, Ideal.exp_coe]
  · rw [if_neg e, if_neg e, EReal.bot_sub, EReal.coe_zero]
    rfl

theorem ds_late (h i j : ℕ) (e : ¬ j ≤ i) : A.ds h i j = 0 := by
  unfold ds P ex
  rw [if_neg e, zero_div, zero_mul]

/-- The mean, summed the other way round. -/
theorem del_swap (h i : ℕ) : ∑ d : Fin 64, A.g i (64 * h + d) * (∑ j : Fin 4224, A.x j (2048 + (64 * h + d)) * A.P h i j) = A.del h i := by
  unfold del dP
  simp only [Finset.mul_sum]
  rw [Finset.sum_comm]
  refine Finset.sum_congr rfl fun j _ => Finset.sum_congr rfl fun d _ => ?_
  ring

/-- The gradient through the quotient by the row's sum. -/
theorem ds_quot (h : ℕ) (i : Fin 4224) (j : ℕ) :
    (A.dP h i j * (1 / A.Z h i) + -∑ k : Fin 4224, (A.dP h i k * (1 / (A.Z h i * A.Z h i))) * A.ex h i k) * A.ex h i j = A.ds h i j := by
  have hz := (A.Z_pos h i).ne'
  have e : ∑ k : Fin 4224, (A.dP h i k * (1 / (A.Z h i * A.Z h i))) * A.ex h i k = A.del h i / A.Z h i := by
    unfold del P
    rw [Finset.sum_div]
    refine Finset.sum_congr rfl fun k _ => ?_
    field_simp
  rw [e]
  unfold ds P
  field_simp
  ring

end Arr

theorem c_bot : Ideal.ofBits .f32 0xFF800000#32 = ⊥ := by
  simp [Ideal.ofBits, Ideal.ieee, -EReal.coe_mul]

/-- A row's maximum, taken along the last of three axes. -/
theorem reduce_max (a b n : ℕ) (x : FVec Ideal ⟨3, ![a, b, n]⟩ .f32) (init : FVec Ideal ⟨0, ![]⟩ .f32)
    (h' : (⟨3, ![a, b, n]⟩ : Shape).ReducesTo [2] ⟨2, ![a, b]⟩) (h : (⟨3, ![a, b, n]⟩ : Shape).Reduces [2] ⟨2, ![a, b]⟩) (hu : 0 < (⟨0, ![]⟩ : Shape).numel)
    (i : Fin a) (j : Fin b) :
    Host.reduce FloatOps.maximumf x init h' hu (ix2 i j) = Finset.univ.fold (max : EReal → EReal → EReal) (init ix0) fun k : Fin n => x (ix3 i j k) := by
  rw [Host.reduce_eq_fold_single FloatOps.maximumf x init h' h hu]
  have e : (x ∘ h.lift (ix2 i j)) = fun k : Fin n => x (ix3 i j k) := by
    funext k
    refine congrArg x (funext fun c => ?_)
    match c with
    | 0 => rfl
    | 1 => rfl
    | 2 => rfl
  rw [e]
  rw [show Shape.Idx.first hu = ix0 from funext fun c => c.elim0]
  rfl

/-- The same maximum, compared with a further value. -/
theorem max_row (a b n : ℕ) (B : FVec Ideal ⟨2, ![a, b]⟩ .f32) (x : FVec Ideal ⟨3, ![a, b, n]⟩ .f32) (init : FVec Ideal ⟨0, ![]⟩ .f32)
    (h' : (⟨3, ![a, b, n]⟩ : Shape).ReducesTo [2] ⟨2, ![a, b]⟩) (h : (⟨3, ![a, b, n]⟩ : Shape).Reduces [2] ⟨2, ![a, b]⟩) (hu : 0 < (⟨0, ![]⟩ : Shape).numel)
    (i : Fin a) (j : Fin b) :
    maximumf B (Host.reduce FloatOps.maximumf x init h' hu) (ix2 i j) = max (B (ix2 i j)) (Finset.univ.fold (max : EReal → EReal → EReal) (init ix0) fun k : Fin n => x (ix3 i j k)) :=
  congrArg (fun z : EReal => max (B (ix2 i j)) z) (reduce_max a b n x init h' h hu i j)

/-- A row's maximum from nothing. -/
theorem reduce_max_bot (a b n : ℕ) (x : FVec Ideal ⟨3, ![a, b, n]⟩ .f32) (y : Fin n → EReal)
    (h' : (⟨3, ![a, b, n]⟩ : Shape).ReducesTo [2] ⟨2, ![a, b]⟩) (h : (⟨3, ![a, b, n]⟩ : Shape).Reduces [2] ⟨2, ![a, b]⟩) (hu : 0 < (⟨0, ![]⟩ : Shape).numel)
    (i : Fin a) (j : Fin b) (e : ∀ k, x (ix3 i j k) = y k) :
    Host.reduce FloatOps.maximumf x (constant (F := Ideal) ⟨0, ![]⟩ .f32 0xFF800000#32) h' hu (ix2 i j) = Finset.univ.fold max ⊥ y := by
  rw [reduce_max a b n x _ h' h hu i j, funext e]
  exact congrArg (fun z : EReal => Finset.univ.fold max z y) c_bot

/-- A sum with a logarithm, at an index. -/
theorem add_log {s : Shape} (a b : FVec Ideal s .f32) (i : s.Idx) (x z : ℝ) (hz : 0 < z) (ha : a i = (x : EReal)) (hb : b i = (z : EReal)) :
    addf a (Host.log b) i = ((x + Real.log z : ℝ) : EReal) :=
  (congrArg₂ (fun u v : EReal => u + Ideal.log v) ha hb).trans (Arr.log_add x z hz)

theorem c_eighth : Ideal.ofBits .f32 0x3E000000#32 = ((0.125 : ℝ) : EReal) := by
  simp [Ideal.ofBits, Ideal.ieee, -EReal.coe_mul]
  norm_num

theorem c_one : Ideal.ofBits .f32 0x3F800000#32 = ((1 : ℝ) : EReal) := by
  simp [Ideal.ofBits, Ideal.ieee, -EReal.coe_mul]
  norm_num

/-- The operands a program is given are these finite ones. -/
structure Fits (A : Arr) (X : FVec Ideal ⟨2, ![4224, 3072]⟩ .bf16) (C : FVec Ideal ⟨2, ![4224, 16]⟩ .f32) (D : FVec Ideal ⟨2, ![4224, 2048]⟩ .f32) : Prop where
  hx : ∀ i j, X (ix2 i j) = (A.x i.val j.val : EReal)
  hc : ∀ i h, C (ix2 i h) = (A.c i.val h.val : EReal)
  hg : ∀ i j, D (ix2 i j) = (A.g i.val j.val : EReal)

end Cert.AttnReal

end
-- ==== Proof.AttnPair.lean ====
/- A pair of heads beside each other in the lanes: the sums over its blocks are the two heads' gradients. -/
module

public import proofs.«01_k».proof.Proof.AttnLoop
public import proofs.«01_k».proof.Proof.AttnReal

@[expose] public section

set_option maxRecDepth 16384

noncomputable section

namespace Cert.AttnPair

open Cert.AttnReal Cert.AttnKernelIdeal.Pay Idealize.ShloMosaic

/-- The operands of the pair `p`: heads `2p` and `2p + 1`, 64 lanes each. -/
def pair (A : Arr) (p : ℕ) : Data where
  Q q l := A.x q (128 * p + l)
  K j l := A.x j (1024 + (128 * p + l))
  V j l := A.x j (2048 + (128 * p + l))
  G q l := A.g q (128 * p + l)
  C h i := A.c i (2 * p + h)
  L h i := A.lse (2 * p + h) i
  D h i := A.del (2 * p + h) i

/-- A sum over the lanes, half by half. -/
theorem halves (f : ℕ → ℝ) : ∑ l : Fin 128, f l = (∑ d : Fin 64, f d) + ∑ d : Fin 64, f (64 + d) :=
  Fin.sum_univ_two_halves 64 64 rfl (fun l : Fin 128 => f l)

/-- A sum over the rows, block by block. -/
theorem tiles (f : ℕ → ℝ) : ∑ e ∈ Finset.range 11, ∑ r : Fin 384, f (384 * e + r) = ∑ i : Fin 4224, f i := by
  rw [Finset.sum_range, Fin.sum_univ_tiles 11 384 rfl (fun i : Fin 4224 => f i)]
  refine Finset.sum_congr rfl fun e _ => Finset.sum_congr rfl fun r _ => congrArg f ?_
  show 384 * e.val + r.val = e.val * 384 + r.val
  omega

variable (A : Arr) (p : ℕ)

theorem ks_lo (k l : ℕ) (hl : l < 64) : (pair A p).ks 0 k l = A.x k (1024 + (128 * p + l)) * 0.125 := by
  rw [Data.ks, if_pos rfl, if_pos hl]; rfl
theorem ks_lo' (k l : ℕ) (hl : ¬ l < 64) : (pair A p).ks 0 k l = 0 := by rw [Data.ks, if_pos rfl, if_neg hl]
theorem ks_hi (k l : ℕ) (hl : ¬ l < 64) : (pair A p).ks 1 k l = A.x k (1024 + (128 * p + l)) * 0.125 := by
  rw [Data.ks, if_neg (by decide), if_neg hl]; rfl
theorem ks_hi' (k l : ℕ) (hl : l < 64) : (pair A p).ks 1 k l = 0 := by rw [Data.ks, if_neg (by decide), if_pos hl]
theorem vs_lo (k l : ℕ) (hl : l < 64) : (pair A p).vs 0 k l = A.x k (2048 + (128 * p + l)) := by
  rw [Data.vs, if_pos rfl, if_pos hl]; rfl
theorem vs_lo' (k l : ℕ) (hl : ¬ l < 64) : (pair A p).vs 0 k l = 0 := by rw [Data.vs, if_pos rfl, if_neg hl]
theorem vs_hi (k l : ℕ) (hl : ¬ l < 64) : (pair A p).vs 1 k l = A.x k (2048 + (128 * p + l)) := by
  rw [Data.vs, if_neg (by decide), if_neg hl]; rfl
theorem vs_hi' (k l : ℕ) (hl : l < 64) : (pair A p).vs 1 k l = 0 := by rw [Data.vs, if_neg (by decide), if_pos hl]

theorem lane0 (d : ℕ) : 128 * p + d = 64 * (2 * p + 0) + d := by omega
theorem lane1 (d : ℕ) : 128 * p + (64 + d) = 64 * (2 * p + 1) + d := by omega

theorem score (h : Fin 2) (q k : ℕ) : ∑ l : Fin 128, (pair A p).ks h k l * (pair A p).Q q l
    = (∑ d : Fin 64, A.x q (64 * (2 * p + h.val) + d) * A.x k (1024 + (64 * (2 * p + h.val) + d))) * 0.125 := by
  rw [halves fun l => (pair A p).ks h k l * (pair A p).Q q l, Finset.sum_mul]
  match h with
  | 0 =>
    refine (congrArg (_ + ·) (Finset.sum_eq_zero fun d _ => ?_)).trans ((add_zero _).trans (Finset.sum_congr rfl fun d _ => ?_))
    · rw [show ((0 : Fin 2) : ℕ) = 0 from rfl, ks_lo' A p k (64 + d) (by omega), zero_mul]
    · rw [show ((0 : Fin 2) : ℕ) = 0 from rfl, ks_lo A p k d d.isLt, ← lane0]
      show _ * A.x q (128 * p + d) = _
      ring
  | 1 =>
    refine (congrArg (· + _) (Finset.sum_eq_zero fun d _ => ?_)).trans ((zero_add _).trans (Finset.sum_congr rfl fun d _ => ?_))
    · rw [show ((1 : Fin 2) : ℕ) = 1 from rfl, ks_hi' A p k d d.isLt, zero_mul]
    · rw [show ((1 : Fin 2) : ℕ) = 1 from rfl, ks_hi A p k (64 + d) (by omega), ← lane1]
      show _ * A.x q (128 * p + (64 + d)) = _
      ring

theorem weight (h : Fin 2) (q k : ℕ) : ∑ l : Fin 128, (pair A p).vs h k l * (pair A p).G q l = A.dP (2 * p + h.val) q k := by
  rw [halves fun l => (pair A p).vs h k l * (pair A p).G q l]
  unfold Arr.dP
  match h with
  | 0 =>
    refine (congrArg (_ + ·) (Finset.sum_eq_zero fun d _ => ?_)).trans ((add_zero _).trans (Finset.sum_congr rfl fun d _ => ?_))
    · rw [show ((0 : Fin 2) : ℕ) = 0 from rfl, vs_lo' A p k (64 + d) (by omega), zero_mul]
    · rw [show ((0 : Fin 2) : ℕ) = 0 from rfl, vs_lo A p k d d.isLt, ← lane0]
      show _ * A.g q (128 * p + d) = _
      ring
  | 1 =>
    refine (congrArg (· + _) (Finset.sum_eq_zero fun d _ => ?_)).trans ((zero_add _).trans (Finset.sum_congr rfl fun d _ => ?_))
    · rw [show ((1 : Fin 2) : ℕ) = 1 from rfl, vs_hi' A p k d d.isLt, zero_mul]
    · rw [show ((1 : Fin 2) : ℕ) = 1 from rfl, vs_hi A p k (64 + d) (by omega), ← lane1]
      show _ * A.g q (128 * p + (64 + d)) = _
      ring

theorem pr_eq (h : Fin 2) (q k : ℕ) (hq : q < 4224) : (pair A p).pr h q k = A.P (2 * p + h.val) q k := by
  rw [A.P_exp (2 * p + h.val) ⟨q, hq⟩ k, Data.pr, score A p h q k]
  rfl

theorem ds_eq (h : Fin 2) (q k : ℕ) (hq : q < 4224) : (pair A p).ds h q k = A.ds (2 * p + h.val) q k := by
  rw [Data.ds, pr_eq A p h q k hq, weight A p h q k]
  rfl

theorem dk_eq (b : ℕ) (h : Fin 2) (k l : ℕ) : (pair A p).dk b 11 h k l = ∑ i : Fin 4224, A.ds (2 * p + h.val) i (384 * b + k) * A.x i (128 * p + l) := by
  rw [← tiles fun i => A.ds (2 * p + h.val) i (384 * b + k) * A.x i (128 * p + l)]
  refine Finset.sum_congr rfl fun e he => Finset.sum_congr rfl fun r _ => ?_
  have := Finset.mem_range.1 he
  rw [ds_eq A p h _ _ (by have := r.isLt; omega)]
  rfl

theorem dv_eq (b : ℕ) (h : Fin 2) (k l : ℕ) : (pair A p).dv b 11 h k l = ∑ i : Fin 4224, A.P (2 * p + h.val) i (384 * b + k) * A.g i (128 * p + l) := by
  rw [← tiles fun i => A.P (2 * p + h.val) i (384 * b + k) * A.g i (128 * p + l)]
  refine Finset.sum_congr rfl fun e he => Finset.sum_congr rfl fun r _ => ?_
  have := Finset.mem_range.1 he
  rw [pr_eq A p h _ _ (by have := r.isLt; omega)]
  rfl

theorem dc_eq (b : ℕ) (h : Fin 2) (k : ℕ) : (pair A p).dc b 11 h k = ∑ i : Fin 4224, A.ds (2 * p + h.val) i (384 * b + k) := by
  rw [← tiles fun i => A.ds (2 * p + h.val) i (384 * b + k)]
  refine Finset.sum_congr rfl fun e he => Finset.sum_congr rfl fun r _ => ?_
  have := Finset.mem_range.1 he
  exact ds_eq A p h _ _ (by have := r.isLt; omega)

theorem dr_all (h : Fin 2) (q : ℕ) (hq : q < 4224) : ∑ b ∈ Finset.range 11, (pair A p).dr b h q = ∑ j : Fin 4224, A.ds (2 * p + h.val) q j := by
  rw [← tiles fun j => A.ds (2 * p + h.val) q j]
  exact Finset.sum_congr rfl fun e _ => Finset.sum_congr rfl fun r _ => ds_eq A p h _ _ hq

theorem div_lo (l : ℕ) (hl : l < 64) : (128 * p + l) / 64 = 2 * p + 0 := by omega
theorem div_hi (l : ℕ) (hl : ¬ l < 64) (hl' : l < 128) : (128 * p + l) / 64 = 2 * p + 1 := by omega

theorem dq_all (l q : ℕ) (hl : l < 128) (hq : q < 4224) : ∑ b ∈ Finset.range 11, (pair A p).dq b l q = A.gq q (128 * p + l) := by
  unfold Arr.gq
  rw [← tiles fun j => (A.ds ((128 * p + l) / 64) q j * 0.125) * A.x j (1024 + (128 * p + l))]
  refine Finset.sum_congr rfl fun b _ => ?_
  unfold Data.dq
  by_cases h : l < 64
  · refine (congrArg (_ + ·) (Finset.sum_eq_zero fun k _ => ?_)).trans ((add_zero _).trans (Finset.sum_congr rfl fun k _ => ?_))
    · rw [ks_hi' A p _ l h, zero_mul]
    · rw [ks_lo A p _ l h, div_lo p l h]
      refine (congrArg (_ * ·) (ds_eq A p 0 q _ hq)).trans ?_
      show _ * A.ds (2 * p + 0) q _ = _
      ring
  · refine (congrArg (· + _) (Finset.sum_eq_zero fun k _ => ?_)).trans ((zero_add _).trans (Finset.sum_congr rfl fun k _ => ?_))
    · rw [ks_lo' A p _ l h, zero_mul]
    · rw [ks_hi A p _ l h, div_hi p l h hl]
      refine (congrArg (_ * ·) (ds_eq A p 1 q _ hq)).trans ?_
      show _ * A.ds (2 * p + 1) q _ = _
      ring

/-- The key gradient of a lane, from the two heads' sums. -/
theorem gk_lane (b k l : ℕ) (hl : l < 128) : (if l < 64 then (pair A p).dk b 11 0 k l else (pair A p).dk b 11 1 k l) * 0.125 = A.gk (384 * b + k) (128 * p + l) := by
  unfold Arr.gk
  by_cases h : l < 64
  · rw [if_pos h, div_lo p l h]
    refine (congrArg (· * _) (dk_eq A p b 0 k l)).trans ?_
    rw [Finset.sum_mul]
    refine Finset.sum_congr rfl fun i _ => ?_
    show A.ds (2 * p + 0) i _ * _ * _ = _
    ring
  · rw [if_neg h, div_hi p l h hl]
    refine (congrArg (· * _) (dk_eq A p b 1 k l)).trans ?_
    rw [Finset.sum_mul]
    refine Finset.sum_congr rfl fun i _ => ?_
    show A.ds (2 * p + 1) i _ * _ * _ = _
    ring

/-- The value gradient of a lane, from the two heads' sums. -/
theorem gv_lane (b k l : ℕ) (hl : l < 128) : (if l < 64 then (pair A p).dv b 11 0 k l else (pair A p).dv b 11 1 k l) = A.gv (384 * b + k) (128 * p + l) := by
  unfold Arr.gv
  by_cases h : l < 64
  · rw [if_pos h, div_lo p l h]
    refine (dv_eq A p b 0 k l).trans (Finset.sum_congr rfl fun i _ => ?_)
    show A.P (2 * p + 0) i _ * _ = _
    ring
  · rw [if_neg h, div_hi p l h hl]
    refine (dv_eq A p b 1 k l).trans (Finset.sum_congr rfl fun i _ => ?_)
    show A.P (2 * p + 1) i _ * _ = _
    ring

end Cert.AttnPair

end
-- ==== Proof.AttnHost.lean ====
/- The arrays that the attention gradient's grid reads: the row normalisers, the row means and the decays. -/
module

public import proofs.«01_k».proof.Proof.AttnReal
public import proofs.«01_k».proof.Proof.AttnFrameIdeal
public import Idealize.ShloMosaic.Lib.WordCmp

@[expose] public section

set_option maxRecDepth 16384

noncomputable section

namespace Cert.AttnKernelIdeal.Prep

open Cert.AttnKernelIdeal Cert.AttnKernelIdeal.Gen Cert.AttnReal Idealize.ShloMosaic Idealize.ShloMosaic.TcCoe Idealize.SL.Sem

def h4 (X : FVec Ideal S4224x3072 .bf16) : FVec Ideal S4224x16x64 .f32 :=
  shapeCast _ (extractStridedSlice S4224x1024 ![0, 0] (extf .f32 X bitsLt_bf16_f32) slices_S4224x3072_S4224x1024_0_0) shapeCasts_S4224x1024_S4224x16x64
def h5 (X : FVec Ideal S4224x3072 .bf16) : FVec Ideal S4224x16x64 .f32 :=
  shapeCast _ (extractStridedSlice S4224x1024 ![0, 1024] (extf .f32 X bitsLt_bf16_f32) slices_S4224x3072_S4224x1024_0_1024) shapeCasts_S4224x1024_S4224x16x64
def h6 (X : FVec Ideal S4224x3072 .bf16) : FVec Ideal S4224x16x64 .f32 :=
  shapeCast _ (extractStridedSlice S4224x1024 ![0, 2048] (extf .f32 X bitsLt_bf16_f32) slices_S4224x3072_S4224x1024_0_2048) shapeCasts_S4224x1024_S4224x16x64
def h41 (D : FVec Ideal S4224x2048 .f32) : FVec Ideal S4224x16x64 .f32 :=
  shapeCast _ (extractStridedSlice S4224x1024 ![0, 0] D slices_S4224x2048_S4224x1024_0_0) shapeCasts_S4224x1024_S4224x16x64
def h17 (X : FVec Ideal S4224x3072 .bf16) (C : FVec Ideal S4224x16 .f32) : FVec Ideal S16x4224x4224 .f32 :=
  subf (addf (mulf (Host.dotGeneral dot_S4224x16x64_S4224x16x64_S16x4224x4224_2_2_0_0_1_1 none (h4 X) (h5 X)) (broadcastInDim S16x4224x4224 ![] bcast_S_S16x4224x4224 (constant S_ .f32 0x3E000000#32))) (broadcastInDim S16x4224x4224 ![0, 1, 2] bcast_S16x4224x1_S16x4224x4224_0_1_2 (broadcastInDim S16x4224x1 ![0, 1] bcast_S16x4224_S16x4224x1_0_1 (transpose S16x4224 [1, 0] C transposes_S4224x16_S16x4224_1_0)))) (broadcastInDim S16x4224x4224 ![0, 1, 2] bcast_S16x1x4224_S16x4224x4224_0_1_2 (broadcastInDim S16x1x4224 ![0, 2] bcast_S16x4224_S16x1x4224_0_2 (transpose S16x4224 [1, 0] C transposes_S4224x16_S16x4224_1_0)))
def hm  : IVec S16x4224x4224 1 :=
  broadcastInDim S16x4224x4224 ![1, 2] bcast_S4224x4224_S16x4224x4224_1_2 (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0))))
def h25 (X : FVec Ideal S4224x3072 .bf16) (C : FVec Ideal S4224x16 .f32) : FVec Ideal S16x4224x4224 .f32 :=
  select hm (h17 X C) (broadcastInDim S16x4224x4224 ![] bcast_S_S16x4224x4224 (id (constant S_ .f32 0xFF800000#32)))
def h26 (X : FVec Ideal S4224x3072 .bf16) (C : FVec Ideal S4224x16 .f32) : FVec Ideal S16x4224 .f32 :=
  Host.reduce FloatOps.maximumf (h25 X C) (constant S_ .f32 0xFF800000#32) reducesTo_S16x4224x4224_S16x4224_d2 h_S_
def h30 (X : FVec Ideal S4224x3072 .bf16) (C : FVec Ideal S4224x16 .f32) : FVec Ideal S16x4224x4224 .f32 :=
  Host.exp (subf (h25 X C) (broadcastInDim S16x4224x4224 ![0, 1, 2] bcast_S16x4224x1_S16x4224x4224_0_1_2 (broadcastInDim S16x4224x1 ![0, 1] bcast_S16x4224_S16x4224x1_0_1 (h26 X C))))
def h31 (X : FVec Ideal S4224x3072 .bf16) (C : FVec Ideal S4224x16 .f32) : FVec Ideal S16x4224 .f32 :=
  Host.reduceAdd (h30 X C) (constant S_ .f32 0x00000000#32) reducesTo_S16x4224x4224_S16x4224_d2 h_S_
def h33 (X : FVec Ideal S4224x3072 .bf16) (C : FVec Ideal S4224x16 .f32) : FVec Ideal S16x4224 .f32 :=
  addf (h26 X C) (Host.log (h31 X C))
def h37 (X : FVec Ideal S4224x3072 .bf16) (C : FVec Ideal S4224x16 .f32) : FVec Ideal S16x4224x4224 .f32 :=
  Host.exp (subf (h25 X C) (broadcastInDim S16x4224x4224 ![0, 1, 2] bcast_S16x4224x1_S16x4224x4224_0_1_2 (broadcastInDim S16x4224x1 ![0, 1] bcast_S16x4224_S16x4224x1_0_1 (h33 X C))))
def h39 (X : FVec Ideal S4224x3072 .bf16) (C : FVec Ideal S4224x16 .f32) : FVec Ideal S4224x16x64 .f32 :=
  transpose S4224x16x64 [2, 0, 1] (Host.dotGeneral dot_S4224x16x64_S16x4224x4224_S16x64x4224_0_2_2_1_1_0 none (h6 X) (h37 X C)) transposes_S16x64x4224_S4224x16x64_2_0_1
def h43 (X : FVec Ideal S4224x3072 .bf16) (C : FVec Ideal S4224x16 .f32) (D : FVec Ideal S4224x2048 .f32) : FVec Ideal S4224x16 .f32 :=
  Host.reduceAdd (mulf (h41 D) (h39 X C)) (constant S_ .f32 0x00000000#32) reducesTo_S4224x16x64_S4224x16_d2 h_S_
def v46 (X : FVec Ideal S4224x3072 .bf16) (C : FVec Ideal S4224x16 .f32) : FVec Ideal S8x2x4224 .f32 :=
  transpose S8x2x4224 [1, 2, 0] (shapeCast _ (transpose S4224x16 [1, 0] (h33 X C) transposes_S16x4224_S4224x16_1_0) shapeCasts_S4224x16_S4224x8x2) transposes_S4224x8x2_S8x2x4224_1_2_0
def v48 (X : FVec Ideal S4224x3072 .bf16) (C : FVec Ideal S4224x16 .f32) (D : FVec Ideal S4224x2048 .f32) : FVec Ideal S8x2x4224 .f32 :=
  transpose S8x2x4224 [1, 2, 0] (shapeCast _ (h43 X C D) shapeCasts_S4224x16_S4224x8x2) transposes_S4224x8x2_S8x2x4224_1_2_0
def v50 (C : FVec Ideal S4224x16 .f32) : FVec Ideal S8x2x4224 .f32 :=
  transpose S8x2x4224 [1, 2, 0] (shapeCast _ C shapeCasts_S4224x16_S4224x8x2) transposes_S4224x8x2_S8x2x4224_1_2_0
def v52 (C : FVec Ideal S4224x16 .f32) : FVec Ideal S8x4224x2 .f32 :=
  transpose S8x4224x2 [1, 0, 2] (shapeCast _ C shapeCasts_S4224x16_S4224x8x2) transposes_S4224x8x2_S8x4224x2_1_0_2
section
variable (m : (ℓ : Loc nD τ sig) → Buf (Elt Ideal) ℓ) (c : Dev nD)

theorem V46 : V m c main_v46 = v46 (m ((c : Thread nD τ).loc main_arg0)) (m ((c : Thread nD τ).loc main_arg1)) := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

theorem V48 : V m c main_v48 = v48 (m ((c : Thread nD τ).loc main_arg0)) (m ((c : Thread nD τ).loc main_arg1)) (m ((c : Thread nD τ).loc main_arg2)) := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

theorem V50 : V m c main_v50 = v50 (m ((c : Thread nD τ).loc main_arg1)) := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

theorem V52 : V m c main_v52 = v52 (m ((c : Thread nD τ).loc main_arg1)) := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

end

section
variable {A : Arr} {X : FVec Ideal S4224x3072 .bf16} {C : FVec Ideal S4224x16 .f32} {D : FVec Ideal S4224x2048 .f32} (H : Fits A X C D)
include H

theorem h4_at (i : Fin 4224) (h : Fin 16) (d : Fin 64) : h4 X (ix3 i h d) = (A.x i (64 * h.val + d.val) : EReal) := by
  unfold h4
  pointwise
  refine (H.hx _ _).trans (congrArg (fun n => ((A.x i.val n : ℝ) : EReal)) ?_)
  show h.val * 64 + d.val = _
  omega

theorem h5_at (i : Fin 4224) (h : Fin 16) (d : Fin 64) : h5 X (ix3 i h d) = (A.x i (1024 + (64 * h.val + d.val)) : EReal) := by
  unfold h5
  pointwise
  refine (H.hx _ _).trans (congrArg (fun n => ((A.x i.val n : ℝ) : EReal)) ?_)
  show 1024 + (h.val * 64 + d.val) = _
  omega

theorem h6_at (i : Fin 4224) (h : Fin 16) (d : Fin 64) : h6 X (ix3 i h d) = (A.x i (2048 + (64 * h.val + d.val)) : EReal) := by
  unfold h6
  pointwise
  refine (H.hx _ _).trans (congrArg (fun n => ((A.x i.val n : ℝ) : EReal)) ?_)
  show 2048 + (h.val * 64 + d.val) = _
  omega

theorem h17_at (h : Fin 16) (i j : Fin 4224) : h17 X C (ix3 h i j) = (A.sc h i j : EReal) := by
  unfold h17
  pointwise
  simp only [h4_at H, h5_at H, H.hc, c_eighth, ← EReal.coe_mul, ← coe_sum, ← EReal.coe_add, ← EReal.coe_sub]
  rfl

theorem h25_at (h : Fin 16) (i j : Fin 4224) : h25 X C (ix3 h i j) = A.ms h i j := by
  unfold h25 hm
  pointwise
  simp (disch := word_cmp_side) only [hlo_ix]
  unfold Arr.ms
  by_cases e : j.val ≤ i.val
  · rw [if_pos e, if_pos e, h17_at H]
  · rw [if_neg e, if_neg e]
    exact c_bot

theorem h41_at (i : Fin 4224) (h : Fin 16) (d : Fin 64) : h41 D (ix3 i h d) = (A.g i (64 * h.val + d.val) : EReal) := by
  unfold h41
  pointwise
  refine (H.hg _ _).trans (congrArg (fun n => ((A.g i.val n : ℝ) : EReal)) ?_)
  show h.val * 64 + d.val = _
  omega

theorem h26_at (h : Fin 16) (i : Fin 4224) : h26 X C (ix2 h i) = (A.mx h i : EReal) :=
  (reduce_max_bot 16 4224 4224 (h25 X C) (fun k => A.ms h i k) reducesTo_S16x4224x4224_S16x4224_d2 (by decide) h_S_ h i fun k => h25_at H h i k).trans (A.mx_coe h i)

theorem h30_at (h : Fin 16) (i j : Fin 4224) : h30 X C (ix3 h i j) = (A.ex h i j : EReal) := by
  unfold h30
  pointwise
  rw [h25_at H, h26_at H]
  exact A.ex_coe h i j

theorem h31_at (h : Fin 16) (i : Fin 4224) : h31 X C (ix2 h i) = (A.Z h i : EReal) := by
  unfold h31
  pointwise
  simp only [h30_at H, ← coe_sum]
  unfold Arr.Z
  rfl

theorem h33_at (h : Fin 16) (i : Fin 4224) : h33 X C (ix2 h i) = (A.lse h i : EReal) :=
  add_log (h26 X C) (h31 X C) (ix2 h i) _ _ (A.Z_pos h i) (h26_at H h i) (h31_at H h i)

theorem h37_at (h : Fin 16) (i j : Fin 4224) : h37 X C (ix3 h i j) = (A.P h i j : EReal) := by
  unfold h37
  pointwise
  rw [h25_at H, h33_at H]
  exact A.P_coe h i j

theorem h39_at (i : Fin 4224) (h : Fin 16) (d : Fin 64) : h39 X C (ix3 i h d) = ((∑ j : Fin 4224, A.x j (2048 + (64 * h.val + d.val)) * A.P h i j : ℝ) : EReal) := by
  unfold h39
  pointwise
  simp only [h6_at H, h37_at H, ← EReal.coe_mul, ← coe_sum]

theorem h43_at (i : Fin 4224) (h : Fin 16) : h43 X C D (ix2 i h) = (A.del h i : EReal) := by
  unfold h43
  pointwise
  simp only [h41_at H, h39_at H, ← EReal.coe_mul, ← coe_sum]
  exact congrArg _ (A.del_swap h i)

theorem v46_at (p : Fin 8) (e : Fin 2) (i : Fin 4224) : v46 X C (ix3 p e i) = (A.lse (2 * p.val + e.val) i : EReal) := by
  unfold v46
  pointwise
  refine (h33_at H _ _).trans (congrArg (fun n => ((A.lse n i.val : ℝ) : EReal)) ?_)
  show p.val * 2 + e.val = _
  omega

theorem v48_at (p : Fin 8) (e : Fin 2) (i : Fin 4224) : v48 X C D (ix3 p e i) = (A.del (2 * p.val + e.val) i : EReal) := by
  unfold v48
  pointwise
  refine (h43_at H _ _).trans (congrArg (fun n => ((A.del n i.val : ℝ) : EReal)) ?_)
  show p.val * 2 + e.val = _
  omega

theorem v50_at (p : Fin 8) (e : Fin 2) (i : Fin 4224) : v50 C (ix3 p e i) = (A.c i (2 * p.val + e.val) : EReal) := by
  unfold v50
  pointwise
  refine (H.hc _ _).trans (congrArg (fun n => ((A.c i.val n : ℝ) : EReal)) ?_)
  show p.val * 2 + e.val = _
  omega

theorem v52_at (p : Fin 8) (i : Fin 4224) (e : Fin 2) : v52 C (ix3 p i e) = (A.c i (2 * p.val + e.val) : EReal) := by
  unfold v52
  pointwise
  refine (H.hc _ _).trans (congrArg (fun n => ((A.c i.val n : ℝ) : EReal)) ?_)
  show p.val * 2 + e.val = _
  omega

end

end Cert.AttnKernelIdeal.Prep

end
-- ==== Proof.AttnGrid.lean ====
/- The attention gradient's grid: what every point leaves, and the output arrays at the end. -/
module

public import proofs.«01_k».proof.Proof.AttnPair
public import proofs.«01_k».proof.Proof.AttnHost

@[expose] public section

set_option maxRecDepth 16384

noncomputable section

namespace Cert.AttnKernelIdeal.Spec

open Cert.AttnKernelIdeal Cert.AttnKernelIdeal.Gen Cert.AttnKernelIdeal.Body Cert.AttnKernelIdeal.Pay Cert.AttnReal Cert.AttnPair
open Idealize.ShloMosaic Idealize.ShloMosaic.TcCoe Idealize.ShloMosaic.Pipeline Idealize.SL.Sem

theorem t_lt (t : Fin cfg0.N) : t.val < 88 := lt_of_lt_of_eq t.isLt N_0

/-- The second grid coordinate is the key block. -/
theorem co : ∀ t : Fin cfg0.N, (grid0.coords t 1).val = t.val % 11 := (by decide +kernel : ∀ t : Fin grid0.N, _)

theorem idx0 : ∀ t : Fin cfg0.N, win0_0.index t = ![0, t.val / 11] := (by decide +kernel : ∀ t : Fin grid0.N, _)
theorem idx1 : ∀ t : Fin cfg0.N, win0_1.index t = ![t.val % 11, 8 + t.val / 11] := (by decide +kernel : ∀ t : Fin grid0.N, _)
theorem idx2 : ∀ t : Fin cfg0.N, win0_2.index t = ![t.val % 11, 16 + t.val / 11] := (by decide +kernel : ∀ t : Fin grid0.N, _)
theorem idx3 : ∀ t : Fin cfg0.N, win0_3.index t = ![0, t.val / 11] := (by decide +kernel : ∀ t : Fin grid0.N, _)
theorem idx4 : ∀ t : Fin cfg0.N, win0_4.index t = ![t.val / 11, 0, 0] := (by decide +kernel : ∀ t : Fin grid0.N, _)
theorem idx5 : ∀ t : Fin cfg0.N, win0_5.index t = ![t.val / 11, 0, 0] := (by decide +kernel : ∀ t : Fin grid0.N, _)
theorem idx6 : ∀ t : Fin cfg0.N, win0_6.index t = ![t.val / 11, 0, 0] := (by decide +kernel : ∀ t : Fin grid0.N, _)
theorem idx7 : ∀ t : Fin cfg0.N, win0_7.index t = ![t.val / 11, t.val % 11, 0] := (by decide +kernel : ∀ t : Fin grid0.N, _)
theorem idx8 : ∀ t : Fin cfg0.N, win0_8.index t = ![0, t.val / 11] := (by decide +kernel : ∀ t : Fin grid0.N, _)
theorem idx9 : ∀ t : Fin cfg0.N, win0_9.index t = ![t.val % 11, t.val / 11] := (by decide +kernel : ∀ t : Fin grid0.N, _)
theorem idx10 : ∀ t : Fin cfg0.N, win0_10.index t = ![t.val % 11, t.val / 11] := (by decide +kernel : ∀ t : Fin grid0.N, _)
theorem idx11 : ∀ t : Fin cfg0.N, win0_11.index t = ![t.val / 11, 0, 0] := (by decide +kernel : ∀ t : Fin grid0.N, _)
theorem idx12 : ∀ t : Fin cfg0.N, win0_12.index t = ![t.val / 11, t.val % 11, 0] := (by decide +kernel : ∀ t : Fin grid0.N, _)

/-- The head pair, the lane's column and the block's row at a point. -/
def prOf (t : Fin cfg0.N) : Fin 8 := ⟨t.val / 11, by have := t_lt t; omega⟩
def col (n : ℕ) (o : ℕ) (h : o + 1024 ≤ n) (t : Fin cfg0.N) (l : Fin 128) : Fin n := ⟨o + (128 * (t.val / 11) + l.val), by have := t_lt t; have := l.isLt; omega⟩
def row (t : Fin cfg0.N) (k : Fin 384) : Fin 4224 := ⟨384 * (t.val % 11) + k.val, by have := k.isLt; omega⟩

/-- A block of the head pairs' rows of sums. -/
theorem blk4 (t : Fin cfg0.N) (h : Fin 2) (r : Fin 4224) (f : S8x2x4224.Idx → EReal) :
    ((cfg0.win 4).blk t).view.read (Elt Ideal) f (ix3 0 h r) = f (ix3 (prOf t) h r) := by
  blk_simp
  refine congrArg f ?_
  blk_ext [idx4 t, prOf]

theorem pair_L (A : Arr) (t h r : ℕ) : (pair A (t / 11)).L h r = A.lse (2 * (t / 11) + h) r := rfl
theorem pair_D (A : Arr) (t h r : ℕ) : (pair A (t / 11)).D h r = A.del (2 * (t / 11) + h) r := rfl

section
variable (m : (ℓ : Loc nD τ sig) → Buf (Elt Ideal) ℓ) (c : Dev nD) {A : Arr}
  (H : Fits A (m ((c : Thread nD τ).loc main_arg0)) (m ((c : Thread nD τ).loc main_arg1)) (m ((c : Thread nD τ).loc main_arg2)))
include H

theorem rd0 (t : Fin cfg0.N) (r : Fin 4224) (l : Fin 128) : iblk m c 0 t (ix2 r l) = ((pair A (t.val / 11)).Q r l : EReal) := by
  have e : iblk m c 0 t (ix2 r l) = V m c main_arg0 (ix2 r (col 3072 0 (by decide) t l)) := by
    blk_simp [iblk]
    refine congrArg (V m c main_arg0) ?_
    blk_ext [idx0 t, col]
  refine (e.trans (congrFun (V_main_arg0 m c) _)).trans ((H.hx _ _).trans ?_)
  show ((A.x r.val (0 + (128 * (t.val / 11) + l.val)) : ℝ) : EReal) = _
  rw [zero_add]
  rfl

theorem rd1 (t : Fin cfg0.N) (k : Fin 384) (l : Fin 128) : iblk m c 1 t (ix2 k l) = ((pair A (t.val / 11)).K (384 * (t.val % 11) + k) l : EReal) := by
  have e : iblk m c 1 t (ix2 k l) = V m c main_arg0 (ix2 (row t k) (col 3072 1024 (by decide) t l)) := by
    blk_simp [iblk]
    refine congrArg (V m c main_arg0) ?_
    blk_ext [idx1 t, row, col]
  exact (e.trans (congrFun (V_main_arg0 m c) _)).trans (H.hx _ _)

theorem rd2 (t : Fin cfg0.N) (k : Fin 384) (l : Fin 128) : iblk m c 2 t (ix2 k l) = ((pair A (t.val / 11)).V (384 * (t.val % 11) + k) l : EReal) := by
  have e : iblk m c 2 t (ix2 k l) = V m c main_arg0 (ix2 (row t k) (col 3072 2048 (by decide) t l)) := by
    blk_simp [iblk]
    refine congrArg (V m c main_arg0) ?_
    blk_ext [idx2 t, row, col]
  exact (e.trans (congrFun (V_main_arg0 m c) _)).trans (H.hx _ _)

theorem rd3 (t : Fin cfg0.N) (r : Fin 4224) (l : Fin 128) : iblk m c 3 t (ix2 r l) = ((pair A (t.val / 11)).G r l : EReal) := by
  have e : iblk m c 3 t (ix2 r l) = V m c main_arg2 (ix2 r (col 2048 0 (by decide) t l)) := by
    blk_simp [iblk]
    refine congrArg (V m c main_arg2) ?_
    blk_ext [idx3 t, col]
  refine (e.trans (congrFun (V_main_arg2 m c) _)).trans ((H.hg _ _).trans ?_)
  show ((A.g r.val (0 + (128 * (t.val / 11) + l.val)) : ℝ) : EReal) = _
  rw [zero_add]
  rfl

theorem rd4 (t : Fin cfg0.N) (h : Fin 2) (r : Fin 4224) : iblk m c 4 t (ix3 0 h r) = ((pair A (t.val / 11)).L h r : EReal) := by
  refine (blk4 t h r (V m c main_v46)).trans ?_
  rw [Prep.V46 m c, Prep.v46_at H (prOf t) h r]
  exact congrArg Real.toEReal (pair_L A t.val h.val r.val).symm

theorem rd5 (t : Fin cfg0.N) (h : Fin 2) (r : Fin 4224) : iblk m c 5 t (ix3 0 h r) = ((pair A (t.val / 11)).D h r : EReal) := by
  have e : iblk m c 5 t (ix3 0 h r) = V m c main_v48 (ix3 (prOf t) h r) := by
    blk_simp [iblk]
    refine congrArg (V m c main_v48) ?_
    blk_ext [idx5 t, prOf]
  rw [e, Prep.V48 m c, Prep.v48_at H (prOf t) h r]
  exact congrArg Real.toEReal (pair_D A t.val h.val r.val).symm

theorem rd6 (t : Fin cfg0.N) (h : Fin 2) (r : Fin 4224) : iblk m c 6 t (ix3 0 h r) = ((pair A (t.val / 11)).C h r : EReal) := by
  have e : iblk m c 6 t (ix3 0 h r) = V m c main_v50 (ix3 (prOf t) h r) := by
    blk_simp [iblk]
    refine congrArg (V m c main_v50) ?_
    blk_ext [idx6 t, prOf]
  exact (e.trans (congrFun (Prep.V50 m c) _)).trans (Prep.v50_at H (prOf t) h r)

theorem rd7 (t : Fin cfg0.N) (k : Fin 384) (h : Fin 2) : iblk m c 7 t (ix3 0 k h) = ((pair A (t.val / 11)).C h (384 * (t.val % 11) + k) : EReal) := by
  have e : iblk m c 7 t (ix3 0 k h) = V m c main_v52 (ix3 (prOf t) (row t k) h) := by
    blk_simp [iblk]
    refine congrArg (V m c main_v52) ?_
    blk_ext [idx7 t, prOf, row]
  exact (e.trans (congrFun (Prep.V52 m c) _)).trans (Prep.v52_at H (prOf t) (row t k) h)

/-- The blocks at a point are the pair's operands. -/
theorem holds (t : Fin cfg0.N) : Holds (pair A (t.val / 11)) (grid0.coords t 1).val (iblk m c 0 t) (iblk m c 1 t) (iblk m c 2 t) (iblk m c 3 t)
    (iblk m c 4 t) (iblk m c 5 t) (iblk m c 6 t) (iblk m c 7 t) := by
  rw [co t]
  exact ⟨rd0 m c H t, rd1 m c H t, rd2 m c H t, rd3 m c H t, rd4 m c H t, rd5 m c H t, rd6 m c H t, rd7 m c H t⟩

/-- What a point's sums are: its own key block's carry, and the accumulators over the key blocks so far. -/
def Done (A : Arr) (p b : ℕ) (R : Res Ideal) : Prop :=
  CarryIs (pair A p) b 11 R.1
    ∧ (∀ (l : Fin 128) (q : Fin 4224), R.2.1 (ix2 l q) = ((∑ e ∈ Finset.range (b + 1), (pair A p).dq e l q : ℝ) : EReal))
    ∧ ∀ (h : Fin 2) (q : Fin 4224), R.2.2 (ix2 h q) = ((∑ e ∈ Finset.range (b + 1), (pair A p).dr e h q : ℝ) : EReal)

omit H in
theorem zeros_q (l : Fin 128) (q : Fin 4224) : (zeros (F := Ideal)).1 (ix2 l q) = (((fun _ _ => 0 : ℕ → ℕ → ℝ) l q : ℝ) : EReal) := by
  show k0_pay44 (F := Ideal) (ix2 l q) = ((0 : ℝ) : EReal)
  rw [EReal.coe_zero]
  pointwise [k0_pay44]

omit H in
theorem zeros_c (h : Fin 2) (q : Fin 4224) : (zeros (F := Ideal)).2 (ix2 h q) = (((fun _ _ => 0 : ℕ → ℕ → ℝ) h q : ℝ) : EReal) := by
  show k0_pay45 (F := Ideal) (ix2 h q) = ((0 : ℝ) : EReal)
  rw [EReal.coe_zero]
  pointwise [k0_pay45]

/-- One point adds its own part to whatever the accumulators held. -/
theorem res_at (t : Fin cfg0.N) (s : Vec Ideal S128x4224 .f32 × Vec Ideal S2x4224 .f32) (a a' : ℕ → ℕ → ℝ)
    (hq : ∀ (l : Fin 128) (q : Fin 4224), s.1 (ix2 l q) = (a l q : EReal)) (hc : ∀ (h : Fin 2) (q : Fin 4224), s.2 (ix2 h q) = (a' h q : EReal)) :
    CarryIs (pair A (t.val / 11)) (t.val % 11) 11 (res m c t s).1
      ∧ (∀ (l : Fin 128) (q : Fin 4224), (res m c t s).2.1 (ix2 l q) = ((a l q + (pair A (t.val / 11)).dq (t.val % 11) l q : ℝ) : EReal))
      ∧ ∀ (h : Fin 2) (q : Fin 4224), (res m c t s).2.2 (ix2 h q) = ((a' h q + (pair A (t.val / 11)).dr (t.val % 11) h q : ℝ) : EReal) := by
  have h := ends_at (holds m c H t) s hq hc
  rw [co t] at h
  exact h

theorem done_first (t : Fin cfg0.N) (h0 : t.val % 11 = 0) : Done A (t.val / 11) (t.val % 11) (acc m c t.val t.isLt) := by
  rw [acc_first m c t h0]
  obtain ⟨h1, h2, h3⟩ := res_at m c H t (zeros (F := Ideal)) (fun _ _ => 0) (fun _ _ => 0) zeros_q zeros_c
  refine ⟨h1, fun l q => (h2 l q).trans ?_, fun h q => (h3 h q).trans ?_⟩
  · rw [h0, zero_add, Finset.sum_range_one]
  · rw [h0, zero_add, Finset.sum_range_one]

theorem done_next (t : Fin cfg0.N) (h0 : ¬ t.val % 11 = 0) (R : Res Ideal)
    (ih : Done A (t.val / 11) (t.val % 11 - 1) R) : Done A (t.val / 11) (t.val % 11) (res m c t R.2) := by
  obtain ⟨-, i2, i3⟩ := ih
  have e : t.val % 11 - 1 + 1 = t.val % 11 := by omega
  rw [e] at i2 i3
  obtain ⟨h1, h2, h3⟩ := res_at m c H t R.2 (fun l q => ∑ e ∈ Finset.range (t.val % 11), (pair A (t.val / 11)).dq e l q)
    (fun h q => ∑ e ∈ Finset.range (t.val % 11), (pair A (t.val / 11)).dr e h q) i2 i3
  refine ⟨h1, fun l q => (h2 l q).trans ?_, fun h q => (h3 h q).trans ?_⟩
  · rw [Finset.sum_range_succ]
  · rw [Finset.sum_range_succ]

theorem done (n : ℕ) (hn : n < cfg0.N) : Done A (n / 11) (n % 11) (acc m c n hn) := by
  induction n with
  | zero => exact done_first m c H ⟨0, hn⟩ rfl
  | succ n ih =>
    by_cases h0 : (n + 1) % 11 = 0
    · exact done_first m c H ⟨n + 1, hn⟩ h0
    · rw [acc_next m c ⟨n + 1, hn⟩ h0]
      refine done_next m c H ⟨n + 1, hn⟩ h0 _ ?_
      have e := ih (Nat.lt_of_succ_lt hn)
      rw [show n / 11 = (n + 1) / 11 by omega, show n % 11 = (n + 1) % 11 - 1 by omega] at e
      exact e

/-! The outputs of a point. -/

theorem outQ_at (t : Fin cfg0.N) (hf : t.val % 11 = 10) (q : Fin 4224) (l : Fin 128) :
    outQ (acc m c t.val t.isLt) (ix2 q l) = (A.gq q (128 * (t.val / 11) + l) : EReal) := by
  obtain ⟨-, h2, -⟩ := done m c H t.val t.isLt
  unfold outQ
  refine Eq.trans (show _ = (acc m c t.val t.isLt).2.1 (ix2 l q) from by pointwise [k0_pay8]) ((h2 l q).trans ?_)
  rw [hf, dq_all A _ l q l.isLt q.isLt]

theorem outD_at (t : Fin cfg0.N) (hf : t.val % 11 = 10) (z : Fin 1) (h : Fin 2) (q : Fin 4224) :
    outD (acc m c t.val t.isLt) (ix3 z h q) = (A.gcq (2 * (t.val / 11) + h) q : EReal) := by
  obtain ⟨-, -, h3⟩ := done m c H t.val t.isLt
  unfold outD
  refine Eq.trans (show _ = (acc m c t.val t.isLt).2.2 (ix2 h q) from by pointwise [k0_pay9]) ((h3 h q).trans ?_)
  rw [hf, dr_all A _ h q q.isLt]
  rfl

theorem outK_at (t : Fin cfg0.N) (k : Fin 384) (l : Fin 128) :
    outK (acc m c t.val t.isLt) (ix2 k l) = (A.gk (384 * (t.val % 11) + k) (128 * (t.val / 11) + l) : EReal) := by
  obtain ⟨h1, -, -⟩ := done m c H t.val t.isLt
  unfold outK
  rw [pay5_at, h1.k0, h1.k1, ← gk_lane A _ _ k l l.isLt, EReal.coe_mul]
  by_cases h : l.val < 64
  · rw [if_pos h, if_pos h]
  · rw [if_neg h, if_neg h]

theorem outV_at (t : Fin cfg0.N) (k : Fin 384) (l : Fin 128) :
    outV (acc m c t.val t.isLt) (ix2 k l) = (A.gv (384 * (t.val % 11) + k) (128 * (t.val / 11) + l) : EReal) := by
  obtain ⟨h1, -, -⟩ := done m c H t.val t.isLt
  unfold outV
  rw [pay6_at, h1.v0, h1.v1, ← gv_lane A _ _ k l l.isLt]
  by_cases h : l.val < 64
  · rw [if_pos h, if_pos h]
  · rw [if_neg h, if_neg h]

theorem outC_at (t : Fin cfg0.N) (z : Fin 1) (k : Fin 384) (h : Fin 2) :
    outC (acc m c t.val t.isLt) (ix3 z k h) = (A.gck (2 * (t.val / 11) + h) (384 * (t.val % 11) + k) : EReal) := by
  obtain ⟨h1, -, -⟩ := done m c H t.val t.isLt
  obtain rfl : z = 0 := Subsingleton.elim _ _
  unfold outC Arr.gck
  rw [pay7_at, h1.c0, h1.c1, EReal.coe_neg, zero_sub]
  match h with
  | 0 =>
    rw [if_pos (show ((0 : Fin 2) : ℕ) < 1 by decide)]
    exact congrArg (fun x : ℝ => -(x : EReal)) (dc_eq A _ _ 0 k)
  | 1 =>
    rw [if_neg (show ¬ ((1 : Fin 2) : ℕ) < 1 by decide)]
    exact congrArg (fun x : ℝ => -(x : EReal)) (dc_eq A _ _ 1 k)

end

end Cert.AttnKernelIdeal.Spec

end
-- ==== Proof.AttnFinal.lean ====
/- The output arrays of the attention gradient at the end of its run. -/
module

public import proofs.«01_k».proof.Proof.AttnGrid

@[expose] public section

set_option maxRecDepth 16384

noncomputable section

namespace Cert.AttnKernelIdeal.Spec

open Cert.AttnKernelIdeal Cert.AttnKernelIdeal.Gen Cert.AttnKernelIdeal.Body Cert.AttnKernelIdeal.Pay Cert.AttnReal Cert.AttnPair
open Idealize.ShloMosaic Idealize.ShloMosaic.TcCoe Idealize.ShloMosaic.Pipeline Idealize.SL.Sem

section
variable (m : (ℓ : Loc nD τ sig) → Buf (Elt Ideal) ℓ) (c : Dev nD) {A : Arr}
  (H : Fits A (m ((c : Thread nD τ).loc main_arg0)) (m ((c : Thread nD τ).loc main_arg1)) (m ((c : Thread nD τ).loc main_arg2)))
include H

set_option maxRecDepth 200000 in
theorem final8 : (dats m 0 c).arrAt 8 (cfgs 0).N = fun j : S4224x1024.Idx => ((A.gq (j 0).val (j 1).val : ℝ) : EReal) := by
  refine (dats m 0 c).arrAt_eq_of_covers 8 _ (by decide +kernel) fun t hf y => ?_
  blk_simp
  rw [after0_8]
  idx_vars y
  have e0 : y0.val = win0_8.index t 0 * 4224 + y0.val := by rw [idx8 t]; show _ = 0 * 4224 + y0.val; omega
  have e1 : 128 * (t.val / 11) + y1.val = win0_8.index t 1 * 128 + y1.val := by rw [idx8 t]; show _ = t.val / 11 * 128 + y1.val; omega
  refine (outQ_at m c H t ((flush0_8 t).mp hf) y0 y1).trans ?_
  exact congrArg₂ (fun a b : ℕ => ((A.gq a b : ℝ) : EReal)) e0 e1

set_option maxRecDepth 200000 in
theorem final9 : (dats m 0 c).arrAt 9 (cfgs 0).N = fun j : S4224x1024.Idx => ((A.gk (j 0).val (j 1).val : ℝ) : EReal) := by
  refine (dats m 0 c).arrAt_eq_of_covers 9 _ (by decide +kernel) fun t hf y => ?_
  blk_simp
  rw [after0_9]
  idx_vars y
  have e0 : 384 * (t.val % 11) + y0.val = win0_9.index t 0 * 384 + y0.val := by rw [idx9 t]; show _ = t.val % 11 * 384 + y0.val; omega
  have e1 : 128 * (t.val / 11) + y1.val = win0_9.index t 1 * 128 + y1.val := by rw [idx9 t]; show _ = t.val / 11 * 128 + y1.val; omega
  refine (outK_at m c H t y0 y1).trans ?_
  exact congrArg₂ (fun a b : ℕ => ((A.gk a b : ℝ) : EReal)) e0 e1

set_option maxRecDepth 200000 in
theorem final10 : (dats m 0 c).arrAt 10 (cfgs 0).N = fun j : S4224x1024.Idx => ((A.gv (j 0).val (j 1).val : ℝ) : EReal) := by
  refine (dats m 0 c).arrAt_eq_of_covers 10 _ (by decide +kernel) fun t hf y => ?_
  blk_simp
  rw [after0_10]
  idx_vars y
  have e0 : 384 * (t.val % 11) + y0.val = win0_10.index t 0 * 384 + y0.val := by rw [idx10 t]; show _ = t.val % 11 * 384 + y0.val; omega
  have e1 : 128 * (t.val / 11) + y1.val = win0_10.index t 1 * 128 + y1.val := by rw [idx10 t]; show _ = t.val / 11 * 128 + y1.val; omega
  refine (outV_at m c H t y0 y1).trans ?_
  exact congrArg₂ (fun a b : ℕ => ((A.gv a b : ℝ) : EReal)) e0 e1

set_option maxRecDepth 200000 in
theorem final11 : (dats m 0 c).arrAt 11 (cfgs 0).N = fun j : S8x2x4224.Idx => ((A.gcq (2 * (j 0).val + (j 1).val) (j 2).val : ℝ) : EReal) := by
  refine (dats m 0 c).arrAt_eq_of_covers 11 _ (by decide +kernel) fun t hf y => ?_
  blk_simp
  rw [after0_11]
  idx_vars y
  have e0 : 2 * (t.val / 11) + y1.val = 2 * win0_11.index t 0 + (win0_11.index t 1 * 2 + y1.val) := by
    rw [idx11 t]; show _ = 2 * (t.val / 11) + (0 * 2 + y1.val); omega
  have e1 : y2.val = win0_11.index t 2 * 4224 + y2.val := by rw [idx11 t]; show _ = 0 * 4224 + y2.val; omega
  refine (outD_at m c H t ((flush0_11 t).mp hf) y0 y1 y2).trans ?_
  exact congrArg₂ (fun a b : ℕ => ((A.gcq a b : ℝ) : EReal)) e0 e1

set_option maxRecDepth 200000 in
theorem final12 : (dats m 0 c).arrAt 12 (cfgs 0).N = fun j : S8x4224x2.Idx => ((A.gck (2 * (j 0).val + (j 2).val) (j 1).val : ℝ) : EReal) := by
  refine (dats m 0 c).arrAt_eq_of_covers 12 _ (by decide +kernel) fun t hf y => ?_
  blk_simp
  rw [after0_12]
  idx_vars y
  have e0 : 2 * (t.val / 11) + y2.val = 2 * win0_12.index t 0 + (win0_12.index t 2 * 2 + y2.val) := by
    rw [idx12 t]; show _ = 2 * (t.val / 11) + (0 * 2 + y2.val); omega
  have e1 : 384 * (t.val % 11) + y1.val = win0_12.index t 1 * 384 + y1.val := by rw [idx12 t]; show _ = t.val % 11 * 384 + y1.val; omega
  refine (outC_at m c H t y0 y1 y2).trans ?_
  exact congrArg₂ (fun a b : ℕ => ((A.gck a b : ℝ) : EReal)) e0 e1

end

end Cert.AttnKernelIdeal.Spec

end
-- ==== Proof.AttnRef.lean ====
/- What the reference of the attention gradient computes. -/
module

public import proofs.«01_k».proof.Proof.AttnReal
public import proofs.«01_k».proof.Proof.Gen.AttnReferenceIdeal.Run
public import Idealize.ShloMosaic.Lib.WordCmp

@[expose] public section

set_option maxRecDepth 16384

noncomputable section

namespace Cert.AttnReferenceIdeal.Spec

open Cert.AttnReferenceIdeal Cert.AttnReferenceIdeal.Gen Cert.AttnReal Idealize.ShloMosaic Idealize.ShloMosaic.TcCoe Idealize.SL.Sem

def r4 (X : FVec Ideal S4224x3072 .bf16) : FVec Ideal S4224x16x64 .f32 :=
  shapeCast _ (extractStridedSlice S4224x1024 ![0, 0] (extf .f32 X bitsLt_bf16_f32) slices_S4224x3072_S4224x1024_0_0) shapeCasts_S4224x1024_S4224x16x64
def r5 (X : FVec Ideal S4224x3072 .bf16) : FVec Ideal S4224x16x64 .f32 :=
  shapeCast _ (extractStridedSlice S4224x1024 ![0, 1024] (extf .f32 X bitsLt_bf16_f32) slices_S4224x3072_S4224x1024_0_1024) shapeCasts_S4224x1024_S4224x16x64
def r6 (X : FVec Ideal S4224x3072 .bf16) : FVec Ideal S4224x16x64 .f32 :=
  shapeCast _ (extractStridedSlice S4224x1024 ![0, 2048] (extf .f32 X bitsLt_bf16_f32) slices_S4224x3072_S4224x1024_0_2048) shapeCasts_S4224x1024_S4224x16x64
def r58 (D : FVec Ideal S4224x2048 .f32) : FVec Ideal S16x64x4224 .f32 :=
  transpose S16x64x4224 [1, 2, 0] (shapeCast _ (extractStridedSlice S4224x1024 ![0, 0] D slices_S4224x2048_S4224x1024_0_0) shapeCasts_S4224x1024_S4224x16x64) transposes_S4224x16x64_S16x64x4224_1_2_0
def r19 (X : FVec Ideal S4224x3072 .bf16) (C : FVec Ideal S4224x16 .f32) : FVec Ideal S16x4224x4224 .f32 :=
  subf (addf (mulf (Host.dotGeneral dot_S4224x16x64_S4224x16x64_S16x4224x4224_2_2_0_0_1_1 none (r4 X) (r5 X)) (broadcastInDim S16x4224x4224 ![] bcast_S_S16x4224x4224 (constant S_ .f32 0x3E000000#32))) (broadcastInDim S16x4224x4224 ![0, 1, 2] bcast_S16x4224x1_S16x4224x4224_0_1_2 (broadcastInDim S16x4224x1 ![0, 1] bcast_S16x4224_S16x4224x1_0_1 (transpose S16x4224 [1, 0] C transposes_S4224x16_S16x4224_1_0)))) (broadcastInDim S16x4224x4224 ![0, 1, 2] bcast_S16x1x4224_S16x4224x4224_0_1_2 (broadcastInDim S16x1x4224 ![0, 2] bcast_S16x4224_S16x1x4224_0_2 (transpose S16x4224 [1, 0] C transposes_S4224x16_S16x4224_1_0)))
def rm  : IVec S16x4224x4224 1 :=
  broadcastInDim S16x4224x4224 ![1, 2] bcast_S4224x4224_S16x4224x4224_1_2 (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0))))
def r27 (X : FVec Ideal S4224x3072 .bf16) (C : FVec Ideal S4224x16 .f32) : FVec Ideal S16x4224x4224 .f32 :=
  select rm (r19 X C) (broadcastInDim S16x4224x4224 ![] bcast_S_S16x4224x4224 (id (constant S_ .f32 0xFF800000#32)))
def r35 (X : FVec Ideal S4224x3072 .bf16) (C : FVec Ideal S4224x16 .f32) : FVec Ideal S16x4224 .f32 :=
  maximumf (broadcastInDim S16x4224 ![] bcast_S_S16x4224 (constant S_ .f32 0xFF800000#32)) (Host.reduce FloatOps.maximumf (r27 X C) (constant S_ .f32 0xFF800000#32) reducesTo_S16x4224x4224_S16x4224_d2 h_S_)
def r48 (X : FVec Ideal S4224x3072 .bf16) (C : FVec Ideal S4224x16 .f32) : FVec Ideal S16x4224x4224 .f32 :=
  Host.exp (subf (r27 X C) (broadcastInDim S16x4224x4224 ![0, 1, 2] bcast_S16x4224x1_S16x4224x4224_0_1_2 (broadcastInDim S16x4224x1 ![0, 1] bcast_S16x4224_S16x4224x1_0_1 (r35 X C))))
def r50 (X : FVec Ideal S4224x3072 .bf16) (C : FVec Ideal S4224x16 .f32) : FVec Ideal S16x4224x1 .f32 :=
  broadcastInDim S16x4224x1 ![0, 1] bcast_S16x4224_S16x4224x1_0_1 (Host.reduceAdd (r48 X C) (constant S_ .f32 0x00000000#32) reducesTo_S16x4224x4224_S16x4224_d2 h_S_)
def r52 (X : FVec Ideal S4224x3072 .bf16) (C : FVec Ideal S4224x16 .f32) : FVec Ideal S16x4224x4224 .f32 :=
  Host.divf (r48 X C) (broadcastInDim S16x4224x4224 ![0, 1, 2] bcast_S16x4224x1_S16x4224x4224_0_1_2 (r50 X C))
def r59 (X : FVec Ideal S4224x3072 .bf16) (D : FVec Ideal S4224x2048 .f32) : FVec Ideal S16x4224x4224 .f32 :=
  Host.dotGeneral dot_S16x64x4224_S4224x16x64_S16x4224x4224_1_2_2_0_0_1 none (r58 D) (r6 X)
def r64 (X : FVec Ideal S4224x3072 .bf16) (C : FVec Ideal S4224x16 .f32) (D : FVec Ideal S4224x2048 .f32) : FVec Ideal S16x4224x4224 .f32 :=
  mulf (mulf (r59 X D) (broadcastInDim S16x4224x4224 ![0, 1, 2] bcast_S16x4224x1_S16x4224x4224_0_1_2 (Host.divf (broadcastInDim S16x4224x1 ![] bcast_S_S16x4224x1 (constant S_ .f32 0x3F800000#32)) (mulf (r50 X C) (r50 X C))))) (r48 X C)
def r70 (X : FVec Ideal S4224x3072 .bf16) (C : FVec Ideal S4224x16 .f32) (D : FVec Ideal S4224x2048 .f32) : FVec Ideal S16x4224 .f32 :=
  Host.reduceAdd (Host.negf (shapeCast _ (Host.reduceAdd (r64 X C D) (constant S_ .f32 0x00000000#32) reducesTo_S16x4224x4224_S16x4224_d2 h_S_) shapeCasts_S16x4224_S16x4224x1)) (constant S_ .f32 0x00000000#32) reducesTo_S16x4224x1_S16x4224_d2 h_S_
def r74 (X : FVec Ideal S4224x3072 .bf16) (C : FVec Ideal S4224x16 .f32) (D : FVec Ideal S4224x2048 .f32) : FVec Ideal S16x4224x4224 .f32 :=
  select rm (mulf (addf (Host.divf (r59 X D) (broadcastInDim S16x4224x4224 ![0, 1, 2] bcast_S16x4224x1_S16x4224x4224_0_1_2 (r50 X C))) (broadcastInDim S16x4224x4224 ![0, 1] bcast_S16x4224_S16x4224x4224_0_1 (r70 X C D))) (r48 X C)) (broadcastInDim S16x4224x4224 ![] bcast_S_S16x4224x4224 (constant S_ .f32 0x00000000#32))
def r85 (X : FVec Ideal S4224x3072 .bf16) (C : FVec Ideal S4224x16 .f32) (D : FVec Ideal S4224x2048 .f32) : FVec Ideal S16x4224x4224 .f32 :=
  mulf (r74 X C D) (broadcastInDim S16x4224x4224 ![] bcast_S_S16x4224x4224 (constant S_ .f32 0x3E000000#32))
def o0 (X : FVec Ideal S4224x3072 .bf16) (C : FVec Ideal S4224x16 .f32) (D : FVec Ideal S4224x2048 .f32) : FVec Ideal S4224x1024 .bf16 :=
  truncf .bf16 (shapeCast _ (transpose S4224x16x64 [1, 0, 2] (Host.dotGeneral dot_S16x4224x4224_S4224x16x64_S16x4224x64_2_0_1_2_0_1 none (r85 X C D) (r5 X)) transposes_S16x4224x64_S4224x16x64_1_0_2) shapeCasts_S4224x16x64_S4224x1024) bitsLt_bf16_f32
def o1 (X : FVec Ideal S4224x3072 .bf16) (C : FVec Ideal S4224x16 .f32) (D : FVec Ideal S4224x2048 .f32) : FVec Ideal S4224x1024 .bf16 :=
  truncf .bf16 (shapeCast _ (transpose S4224x16x64 [1, 0, 2] (Host.dotGeneral dot_S16x4224x4224_S4224x16x64_S16x4224x64_1_0_2_2_0_1 none (r85 X C D) (r4 X)) transposes_S16x4224x64_S4224x16x64_1_0_2) shapeCasts_S4224x16x64_S4224x1024) bitsLt_bf16_f32
def o2 (X : FVec Ideal S4224x3072 .bf16) (C : FVec Ideal S4224x16 .f32) (D : FVec Ideal S4224x2048 .f32) : FVec Ideal S4224x1024 .bf16 :=
  truncf .bf16 (shapeCast _ (transpose S4224x16x64 [2, 0, 1] (Host.dotGeneral dot_S16x64x4224_S16x4224x4224_S16x64x4224_2_1_1_2_0_0 none (r58 D) (r52 X C)) transposes_S16x64x4224_S4224x16x64_2_0_1) shapeCasts_S4224x16x64_S4224x1024) bitsLt_bf16_f32
def o3 (X : FVec Ideal S4224x3072 .bf16) (C : FVec Ideal S4224x16 .f32) (D : FVec Ideal S4224x2048 .f32) : FVec Ideal S8x2x4224 .f32 :=
  transpose S8x2x4224 [1, 2, 0] (shapeCast _ (transpose S4224x16 [1, 0] (Host.reduceAdd (shapeCast _ (Host.reduceAdd (r74 X C D) (constant S_ .f32 0x00000000#32) reducesTo_S16x4224x4224_S16x4224_d2 h_S_) shapeCasts_S16x4224_S16x4224x1) (constant S_ .f32 0x00000000#32) reducesTo_S16x4224x1_S16x4224_d2 h_S_) transposes_S16x4224_S4224x16_1_0) shapeCasts_S4224x16_S4224x8x2) transposes_S4224x8x2_S8x2x4224_1_2_0
def o4 (X : FVec Ideal S4224x3072 .bf16) (C : FVec Ideal S4224x16 .f32) (D : FVec Ideal S4224x2048 .f32) : FVec Ideal S8x4224x2 .f32 :=
  transpose S8x4224x2 [1, 0, 2] (shapeCast _ (transpose S4224x16 [1, 0] (Host.reduceAdd (shapeCast _ (Host.reduceAdd (Host.negf (r74 X C D)) (constant S_ .f32 0x00000000#32) reducesTo_S16x4224x4224_S16x4224_d1 h_S_) shapeCasts_S16x4224_S16x1x4224) (constant S_ .f32 0x00000000#32) reducesTo_S16x1x4224_S16x4224_d1 h_S_) transposes_S16x4224_S4224x16_1_0) shapeCasts_S4224x16_S4224x8x2) transposes_S4224x8x2_S8x4224x2_1_0_2

theorem res0 (m : (ℓ : Loc nD τ sig) → Buf (Elt Ideal) ℓ) (c : Dev nD) : Value.res_main_v91 m c = o0 (m ((c.tc : Thread nD τ).loc main_arg0)) (m ((c.tc : Thread nD τ).loc main_arg1)) (m ((c.tc : Thread nD τ).loc main_arg2)) := by
  unfold Value.res_main_v91
  rfl

theorem res1 (m : (ℓ : Loc nD τ sig) → Buf (Elt Ideal) ℓ) (c : Dev nD) : Value.res_main_v93 m c = o1 (m ((c.tc : Thread nD τ).loc main_arg0)) (m ((c.tc : Thread nD τ).loc main_arg1)) (m ((c.tc : Thread nD τ).loc main_arg2)) := by
  unfold Value.res_main_v93
  rfl

theorem res2 (m : (ℓ : Loc nD τ sig) → Buf (Elt Ideal) ℓ) (c : Dev nD) : Value.res_main_v95 m c = o2 (m ((c.tc : Thread nD τ).loc main_arg0)) (m ((c.tc : Thread nD τ).loc main_arg1)) (m ((c.tc : Thread nD τ).loc main_arg2)) := by
  unfold Value.res_main_v95
  rfl

theorem res3 (m : (ℓ : Loc nD τ sig) → Buf (Elt Ideal) ℓ) (c : Dev nD) : Value.res_main_v97 m c = o3 (m ((c.tc : Thread nD τ).loc main_arg0)) (m ((c.tc : Thread nD τ).loc main_arg1)) (m ((c.tc : Thread nD τ).loc main_arg2)) := by
  unfold Value.res_main_v97
  rfl

theorem res4 (m : (ℓ : Loc nD τ sig) → Buf (Elt Ideal) ℓ) (c : Dev nD) : Value.res_main_v99 m c = o4 (m ((c.tc : Thread nD τ).loc main_arg0)) (m ((c.tc : Thread nD τ).loc main_arg1)) (m ((c.tc : Thread nD τ).loc main_arg2)) := by
  unfold Value.res_main_v99
  rfl

section
variable {A : Arr} {X : FVec Ideal S4224x3072 .bf16} {C : FVec Ideal S4224x16 .f32} {D : FVec Ideal S4224x2048 .f32} (H : Fits A X C D)
include H

theorem r4_at (i : Fin 4224) (h : Fin 16) (d : Fin 64) : r4 X (ix3 i h d) = (A.x i (64 * h.val + d.val) : EReal) := by
  unfold r4
  pointwise
  refine (H.hx _ _).trans (congrArg (fun n => ((A.x i.val n : ℝ) : EReal)) ?_)
  show h.val * 64 + d.val = _
  omega

theorem r5_at (i : Fin 4224) (h : Fin 16) (d : Fin 64) : r5 X (ix3 i h d) = (A.x i (1024 + (64 * h.val + d.val)) : EReal) := by
  unfold r5
  pointwise
  refine (H.hx _ _).trans (congrArg (fun n => ((A.x i.val n : ℝ) : EReal)) ?_)
  show 1024 + (h.val * 64 + d.val) = _
  omega

theorem r6_at (i : Fin 4224) (h : Fin 16) (d : Fin 64) : r6 X (ix3 i h d) = (A.x i (2048 + (64 * h.val + d.val)) : EReal) := by
  unfold r6
  pointwise
  refine (H.hx _ _).trans (congrArg (fun n => ((A.x i.val n : ℝ) : EReal)) ?_)
  show 2048 + (h.val * 64 + d.val) = _
  omega

theorem r58_at (h : Fin 16) (d : Fin 64) (i : Fin 4224) : r58 D (ix3 h d i) = (A.g i (64 * h.val + d.val) : EReal) := by
  unfold r58
  pointwise
  refine (H.hg _ _).trans (congrArg (fun n => ((A.g i.val n : ℝ) : EReal)) ?_)
  show h.val * 64 + d.val = _
  omega

theorem r19_at (h : Fin 16) (i j : Fin 4224) : r19 X C (ix3 h i j) = (A.sc h i j : EReal) := by
  unfold r19
  pointwise
  simp only [r4_at H, r5_at H, H.hc, c_eighth, ← EReal.coe_mul, ← coe_sum, ← EReal.coe_add, ← EReal.coe_sub]
  rfl

theorem r27_at (h : Fin 16) (i j : Fin 4224) : r27 X C (ix3 h i j) = A.ms h i j := by
  unfold r27 rm
  pointwise
  simp (disch := word_cmp_side) only [hlo_ix]
  unfold Arr.ms
  by_cases e : j.val ≤ i.val
  · rw [if_pos e, if_pos e, r19_at H]
  · rw [if_neg e, if_neg e]
    exact c_bot

theorem r35_at (h : Fin 16) (i : Fin 4224) : r35 X C (ix2 h i) = (A.mx h i : EReal) := by
  unfold r35
  refine (max_row 16 4224 4224 _ (r27 X C) (constant S_ .f32 0xFF800000#32) reducesTo_S16x4224x4224_S16x4224_d2 (by decide) h_S_ h i).trans ?_
  show max (Ideal.ofBits .f32 0xFF800000#32) (Finset.univ.fold (max : EReal → EReal → EReal) (Ideal.ofBits .f32 0xFF800000#32) fun k : Fin 4224 => r27 X C (ix3 h i k)) = _
  rw [c_bot, funext fun k => r27_at H h i k, A.mx_coe h i]
  exact max_eq_right bot_le

theorem r48_at (h : Fin 16) (i j : Fin 4224) : r48 X C (ix3 h i j) = (A.ex h i j : EReal) := by
  unfold r48
  pointwise
  rw [r27_at H, r35_at H]
  exact A.ex_coe h i j

theorem r50_at (h : Fin 16) (i : Fin 4224) (z : Fin 1) : r50 X C (ix3 h i z) = (A.Z h i : EReal) := by
  unfold r50
  pointwise
  simp only [r48_at H, ← coe_sum]
  rfl

theorem r52_at (h : Fin 16) (i j : Fin 4224) : r52 X C (ix3 h i j) = (A.P h i j : EReal) := by
  unfold r52
  pointwise
  rw [r48_at H, r50_at H, Ideal.div_coe (A.Z_pos h i).ne', ← EReal.coe_mul, mul_one_div]
  rfl

theorem r59_at (h : Fin 16) (i j : Fin 4224) : r59 X D (ix3 h i j) = (A.dP h i j : EReal) := by
  unfold r59
  pointwise
  simp only [r58_at H, r6_at H, ← EReal.coe_mul, ← coe_sum]
  rfl

theorem r64_at (h : Fin 16) (i j : Fin 4224) : r64 X C D (ix3 h i j) = (((A.dP h i j * (1 / (A.Z h i * A.Z h i))) * A.ex h i j : ℝ) : EReal) := by
  have hz := (A.Z_pos h i).ne'
  unfold r64
  pointwise
  rw [r59_at H, r50_at H, r48_at H, ← EReal.coe_mul, Ideal.div_coe (mul_ne_zero hz hz), one_mul, ← EReal.coe_mul, ← EReal.coe_mul]

theorem r70_at (h : Fin 16) (i : Fin 4224) : r70 X C D (ix2 h i) = ((-∑ k : Fin 4224, (A.dP h i k * (1 / (A.Z h i * A.Z h i))) * A.ex h i k : ℝ) : EReal) := by
  unfold r70
  pointwise
  simp only [r64_at H, ← coe_sum, ← EReal.coe_neg]
  rw [Fin.sum_univ_one]

theorem r74_at (h : Fin 16) (i j : Fin 4224) : r74 X C D (ix3 h i j) = (A.ds h i j : EReal) := by
  unfold r74 rm
  pointwise
  simp (disch := word_cmp_side) only [hlo_ix]
  by_cases e : j.val ≤ i.val
  · rw [if_pos e, r59_at H, r50_at H, r48_at H, r70_at H, Ideal.div_coe (A.Z_pos h i).ne', ← EReal.coe_mul, ← EReal.coe_add, ← EReal.coe_mul]
    exact congrArg _ (A.ds_quot h i j)
  · rw [if_neg e, A.ds_late h i j e, EReal.coe_zero]

theorem r85_at (h : Fin 16) (i j : Fin 4224) : r85 X C D (ix3 h i j) = ((A.ds h i j * 0.125 : ℝ) : EReal) := by
  unfold r85
  pointwise
  rw [r74_at H, c_eighth, ← EReal.coe_mul]

theorem o0_at (i : Fin 4224) (n : Fin 1024) : o0 X C D (ix2 i n) = (A.gq i n : EReal) := by
  unfold o0
  pointwise
  simp only [r85_at H, r5_at H, ← EReal.coe_mul, ← coe_sum, Nat.div_add_mod]
  rfl

theorem o1_at (j : Fin 4224) (n : Fin 1024) : o1 X C D (ix2 j n) = (A.gk j n : EReal) := by
  unfold o1
  pointwise
  simp only [r85_at H, r4_at H, ← EReal.coe_mul, ← coe_sum, Nat.div_add_mod]
  rfl

theorem o2_at (j : Fin 4224) (n : Fin 1024) : o2 X C D (ix2 j n) = (A.gv j n : EReal) := by
  unfold o2
  pointwise
  simp only [r58_at H, r52_at H, ← EReal.coe_mul, ← coe_sum, Nat.div_add_mod]
  rfl

theorem o3_at (p : Fin 8) (e : Fin 2) (i : Fin 4224) : o3 X C D (ix3 p e i) = (A.gcq (2 * p.val + e.val) i : EReal) := by
  unfold o3
  pointwise
  simp only [r74_at H, ← coe_sum]
  rw [Fin.sum_univ_one]
  refine congrArg (fun n => ((A.gcq n i.val : ℝ) : EReal)) ?_
  show p.val * 2 + e.val = _
  omega

theorem o4_at (p : Fin 8) (j : Fin 4224) (e : Fin 2) : o4 X C D (ix3 p j e) = (A.gck (2 * p.val + e.val) j : EReal) := by
  unfold o4
  pointwise
  simp only [r74_at H, ← EReal.coe_neg, ← coe_sum, Finset.sum_neg_distrib]
  rw [Fin.sum_univ_one]
  refine congrArg (fun n => ((A.gck n j.val : ℝ) : EReal)) ?_
  show p.val * 2 + e.val = _
  omega

end

end Cert.AttnReferenceIdeal.Spec

end
-- ==== Proof.AttnEq.lean ====
/- The run of the attention gradient's kernel beside the reference's, on finite arguments. -/
module

public import proofs.«01_k».proof.Proof.AttnFinal
public import proofs.«01_k».proof.Proof.AttnRef
public import proofs.«01_k».proof.Proof.Gen.Pre_attn_finite
public import proofs.«01_k».proof.Defs
public import Idealize.ShloMosaic.Lib.ReduceAll

@[expose] public section

set_option maxRecDepth 16384

noncomputable section

namespace Cert.AttnReferenceIdeal.Spec

open Cert.AttnReferenceIdeal Cert.AttnReal Idealize.ShloMosaic Idealize.ShloMosaic.TcCoe Idealize.SL.Sem

variable {A : Arr} {X : FVec Ideal S4224x3072 .bf16} {C : FVec Ideal S4224x16 .f32} {D : FVec Ideal S4224x2048 .f32} (H : Fits A X C D)
include H

theorem all0 : o0 X C D = fun j : S4224x1024.Idx => ((A.gq (j 0).val (j 1).val : ℝ) : EReal) := by
  funext j
  idx_vars j
  exact o0_at H j0 j1

theorem all1 : o1 X C D = fun j : S4224x1024.Idx => ((A.gk (j 0).val (j 1).val : ℝ) : EReal) := by
  funext j
  idx_vars j
  exact o1_at H j0 j1

theorem all2 : o2 X C D = fun j : S4224x1024.Idx => ((A.gv (j 0).val (j 1).val : ℝ) : EReal) := by
  funext j
  idx_vars j
  exact o2_at H j0 j1

theorem all3 : o3 X C D = fun j : S8x2x4224.Idx => ((A.gcq (2 * (j 0).val + (j 1).val) (j 2).val : ℝ) : EReal) := by
  funext j
  idx_vars j
  exact o3_at H j0 j1 j2

theorem all4 : o4 X C D = fun j : S8x4224x2.Idx => ((A.gck (2 * (j 0).val + (j 2).val) (j 1).val : ℝ) : EReal) := by
  funext j
  idx_vars j
  exact o4_at H j0 j1 j2

end Cert.AttnReferenceIdeal.Spec

namespace Cert.AttnKernelIdeal.Spec

open Cert.AttnKernelIdeal Cert.AttnKernelIdeal.Gen Cert.AttnKernelIdeal.Body Cert.AttnReal
open Idealize.ShloMosaic Idealize.ShloMosaic.TcCoe Idealize.ShloMosaic.Pipeline Idealize.SL.Sem

/-! The precondition, read at the entries. -/

theorem and_one : ∀ a b : BitVec 1, IntOp.andi a b = 1#1 → a = 1#1 ∧ b = 1#1 := by decide

theorem inf16 : Ideal.ofBits .bf16 0x7F80#16 = ⊤ := by
  simp [Ideal.ofBits, Ideal.ieee, -EReal.coe_mul]

theorem inf32 : Ideal.ofBits .f32 0x7F800000#32 = ⊤ := by
  simp [Ideal.ofBits, Ideal.ieee, -EReal.coe_mul]

/-- An entry whose absolute value is below infinity is neither infinity. -/
theorem finite_entry (x : EReal) (h : Ideal.cmp .olt (max x (-x)) ⊤ = 1#1) : x ≠ ⊤ ∧ x ≠ ⊥ := by
  refine ⟨?_, ?_⟩ <;> rintro rfl <;> simp [Ideal.cmp] at h

theorem finite_all {s : Shape} {φ : FTy} (X : FVec Ideal s φ) (v : FVec Ideal Pre_attn_finite.S_ φ) (hv : ∀ j, v j = (⊤ : EReal))
    (hb : Pre_attn_finite.S_.BroadcastsInDim s (![] : Fin 0 → Fin s.rank)) {ax : List (Fin s.rank)} (hr : s.ReducesTo ax Pre_attn_finite.S_) (hu : 0 < Pre_attn_finite.S_.numel)
    (u : IVec Pre_attn_finite.S_ 1) (j : Pre_attn_finite.S_.Idx)
    (h : Host.reduce IntOp.andi (cmpf .olt (Host.absf X) (broadcastInDim s ![] hb v)) u hr hu j = 1#1) (i : s.Idx) : (X i : EReal) ≠ ⊤ ∧ (X i : EReal) ≠ ⊥ :=
  finite_entry (X i) ((congrArg (Ideal.cmp .olt (max (X i : EReal) (-(X i : EReal)))) (hv _)).symm.trans (Host.reduce_andi_all _ _ _ _ j h i))

/-- The one index of an array without axes. -/
def none_idx : Pre_attn_finite.S_.Idx := fun i : Fin 0 => i.elim0

/-- The real array that a finite one is, zero outside. -/
def realOf {a b : ℕ} (X : (⟨2, ![a, b]⟩ : Shape).Idx → EReal) (i j : ℕ) : ℝ := if h : i < a ∧ j < b then (X (ix2 ⟨i, h.1⟩ ⟨j, h.2⟩)).toReal else 0

theorem realOf_at {a b : ℕ} (X : (⟨2, ![a, b]⟩ : Shape).Idx → EReal) (i : Fin a) (j : Fin b) (h : X (ix2 i j) ≠ ⊤ ∧ X (ix2 i j) ≠ ⊥) :
    X (ix2 i j) = (realOf X i.val j.val : EReal) := by
  unfold realOf
  rw [dif_pos ⟨i.isLt, j.isLt⟩]
  exact (EReal.coe_toReal h.1 h.2).symm

def arrOf (X : FVec Ideal S4224x3072 .bf16) (C : FVec Ideal S4224x16 .f32) (D : FVec Ideal S4224x2048 .f32) : Arr where
  x := realOf X
  c := realOf C
  g := realOf D

theorem fits (X : FVec Ideal S4224x3072 .bf16) (C : FVec Ideal S4224x16 .f32) (D : FVec Ideal S4224x2048 .f32)
    (h : Cert.Pre_attn_finite.fn (F := Ideal) X C D = fun _ => 1#1) : Fits (arrOf X C D) X C D := by
  have h0 := congrFun h none_idx
  obtain ⟨h1, hD⟩ := and_one _ _ h0
  obtain ⟨hX, hC⟩ := and_one _ _ h1
  refine ⟨fun i j => ?_, fun i j => ?_, fun i j => ?_⟩
  · exact realOf_at X i j (finite_all X _ (fun _ => inf16) Pre_attn_finite.Facts.bcast_S_S4224x3072 Pre_attn_finite.Facts.reducesTo_S4224x3072_S_d0_1 Pre_attn_finite.Facts.h_S_ _ none_idx hX (ix2 i j))
  · exact realOf_at C i j (finite_all C _ (fun _ => inf32) Pre_attn_finite.Facts.bcast_S_S4224x16 Pre_attn_finite.Facts.reducesTo_S4224x16_S_d0_1 Pre_attn_finite.Facts.h_S_ _ none_idx hC (ix2 i j))
  · exact realOf_at D i j (finite_all D _ (fun _ => inf32) Pre_attn_finite.Facts.bcast_S_S4224x2048 Pre_attn_finite.Facts.reducesTo_S4224x2048_S_d0_1 Pre_attn_finite.Facts.h_S_ _ none_idx hD (ix2 i j))

theorem fits_of (X X' : FVec Ideal S4224x3072 .bf16) (C C' : FVec Ideal S4224x16 .f32) (D D' : FVec Ideal S4224x2048 .f32)
    (h : Cert.Pre_attn_finite.fn (F := Ideal) X C D = fun _ => 1#1) (e0 : X' = X) (e1 : C' = C) (e2 : D' = D) : Fits (arrOf X C D) X' C' D' := by
  subst e0 e1 e2
  exact fits _ _ _ h

/-! What a run ends with, read at the outputs and at the arguments. -/

section
variable (m : (ℓ : Loc nD τ sig) → Buf (Elt Ideal) ℓ) (da : (p : Fin 1) → (c : Dev nD) → Dat τ (Elt Ideal) Unit ℕ (UR sig nD τ) ℕ (cfgs p) c)
  (hA : ∀ c w, (da 0 c).A w = V m c (Pipeline.arrRef spec0 w)) (r : PUnit × MemSt nD τ sig (Elt Ideal)) (h : Pipeline.FramePost cfgs da 0 (V m) r) (c : Dev nD)
include h

theorem end8 : r.2.mem ((c.tc : Thread nD τ).loc main_v53_0) = (da 0 c).arrAt 8 (cfgs 0).N := (h c).1 8
theorem end9 : r.2.mem ((c.tc : Thread nD τ).loc main_v53_1) = (da 0 c).arrAt 9 (cfgs 0).N := (h c).1 9
theorem end10 : r.2.mem ((c.tc : Thread nD τ).loc main_v53_2) = (da 0 c).arrAt 10 (cfgs 0).N := (h c).1 10
theorem end11 : r.2.mem ((c.tc : Thread nD τ).loc main_v53_3) = (da 0 c).arrAt 11 (cfgs 0).N := (h c).1 11
theorem end12 : r.2.mem ((c.tc : Thread nD τ).loc main_v53_4) = (da 0 c).arrAt 12 (cfgs 0).N := (h c).1 12
include hA
theorem endA : r.2.mem ((c.tc : Thread nD τ).loc main_arg0) = m ((c.tc : Thread nD τ).loc main_arg0) :=
  ((h c).1 2).trans (((da 0 c).arrAt_in 2 rfl _).trans ((hA c 2).trans (V_main_arg0 m c)))
omit hA in
theorem endB : r.2.mem ((c.tc : Thread nD τ).loc main_arg1) = m ((c.tc : Thread nD τ).loc main_arg1) :=
  ((h c).2 main_arg1 (Pipeline.mem_restRefs_of main_arg1 (by decide) (by decide))).trans (V_main_arg1 m c)
theorem endC : r.2.mem ((c.tc : Thread nD τ).loc main_arg2) = m ((c.tc : Thread nD τ).loc main_arg2) :=
  ((h c).1 3).trans (((da 0 c).arrAt_in 3 rfl _).trans ((hA c 3).trans (V_main_arg2 m c)))
end

/-- The kernel's run ends with the gradients in its output arrays and its arguments unchanged. -/
theorem run (m : (ℓ : Loc nD τ sig) → Buf (Elt Ideal) ℓ) (ρ : Dev nD → PrngReg) (A : Dev nD → Arr)
    (H : ∀ c : Dev nD, Fits (A c) (m ((c : Thread nD τ).loc main_arg0)) (m ((c : Thread nD τ).loc main_arg1)) (m ((c : Thread nD τ).loc main_arg2))) :
    θ_run defs (onTc (τ := τ) (main (F := Ideal))) ⟨m, fun _ => 0, ρ⟩ fun r => ∀ c : Dev nD,
      r.2.mem ((c.tc : Thread nD τ).loc main_v53_0) = (fun j : S4224x1024.Idx => (((A c).gq (j 0).val (j 1).val : ℝ) : EReal))
      ∧ r.2.mem ((c.tc : Thread nD τ).loc main_v53_1) = (fun j : S4224x1024.Idx => (((A c).gk (j 0).val (j 1).val : ℝ) : EReal))
      ∧ r.2.mem ((c.tc : Thread nD τ).loc main_v53_2) = (fun j : S4224x1024.Idx => (((A c).gv (j 0).val (j 1).val : ℝ) : EReal))
      ∧ r.2.mem ((c.tc : Thread nD τ).loc main_v53_3) = (fun j : S8x2x4224.Idx => (((A c).gcq (2 * (j 0).val + (j 1).val) (j 2).val : ℝ) : EReal))
      ∧ r.2.mem ((c.tc : Thread nD τ).loc main_v53_4) = (fun j : S8x4224x2.Idx => (((A c).gck (2 * (j 0).val + (j 2).val) (j 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main m ρ)
  refine ⟨?_, ?_, ?_, ?_, ?_, ?_, ?_, ?_⟩
  · exact (end8 m _ r h c).trans (final8 m c (H c))
  · exact (end9 m _ r h c).trans (final9 m c (H c))
  · exact (end10 m _ r h c).trans (final10 m c (H c))
  · exact (end11 m _ r h c).trans (final11 m c (H c))
  · exact (end12 m _ r h c).trans (final12 m c (H c))
  · exact endA m _ (A_eq m) r h c
  · exact endB m _ r h c
  · exact endC m _ (A_eq m) r h c

/-- The kernel and the reference end with equal results. -/
theorem algebraic : Cert.algebraic_AttnKernelIdeal_AttnReferenceIdeal_pre_attn_finite (hAttnKernelIdeal := Cert.AttnKernelIdeal.Gen.facts)
    (hAttnReferenceIdeal := Cert.AttnReferenceIdeal.Gen.facts) (hPre_attn_finite := Cert.Pre_attn_finite.Gen.facts) := by
  intro m ρ m' ρ' hp hag
  refine ⟨_, _, _, _, _, run m ρ _ (fun c => fits _ _ _ (hp c)), (θ_run _ _ _).mono (fun _ h c => ?_) (Cert.AttnReferenceIdeal.Value.run m' ρ')⟩
  have h := h c
  have e := hag c
  have G' := fits_of _ _ _ _ _ _ (hp c) e.1 e.2.1 e.2.2
  exact ⟨h.1.trans ((Cert.AttnReferenceIdeal.Spec.res0 m' c).trans (Cert.AttnReferenceIdeal.Spec.all0 G')),
    h.2.1.trans ((Cert.AttnReferenceIdeal.Spec.res1 m' c).trans (Cert.AttnReferenceIdeal.Spec.all1 G')),
    h.2.2.1.trans ((Cert.AttnReferenceIdeal.Spec.res2 m' c).trans (Cert.AttnReferenceIdeal.Spec.all2 G')),
    h.2.2.2.1.trans ((Cert.AttnReferenceIdeal.Spec.res3 m' c).trans (Cert.AttnReferenceIdeal.Spec.all3 G')),
    h.2.2.2.2.1.trans ((Cert.AttnReferenceIdeal.Spec.res4 m' c).trans (Cert.AttnReferenceIdeal.Spec.all4 G')),
    h.2.2.2.2.2⟩

end Cert.AttnKernelIdeal.Spec

end
-- ==== Proof.Dwdown.lean ====
/- The gradient of the channel mixer's last weight: the kernel's product block by block and the reference's are the same sums. -/
module

public import proofs.«01_k».proof.Proof.Gen.DwdownKernelIdeal.Value
public import proofs.«01_k».proof.Proof.Gen.DwdownReferenceIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.DwdownSpec

open Idealize.ShloMosaic

/-- What both compute: the gradient of the channel mixer's last weight. -/
def grad (A : FVec Ideal ⟨2, ![4224, 5632]⟩ .bf16) (B : FVec Ideal ⟨2, ![4224, 2048]⟩ .bf16) (i : Fin 5632) (j : Fin 2048) : EReal :=
  ∑ k : Fin 4224, A (ix2 k i) * B (ix2 k j)

end Cert.DwdownSpec

namespace Cert.DwdownReferenceIdeal.Spec

open Cert.DwdownReferenceIdeal Cert.DwdownReferenceIdeal.Gen Cert.DwdownSpec Idealize.ShloMosaic Idealize.ShloMosaic.TcCoe Idealize.SL.Sem

/-- The reference's result is the formula, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = (fun j : S5632x2048.Idx => grad (m ((c.tc : Thread nD τ).loc main_arg0)) (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h0, h1⟩ := h c
  refine ⟨h0.trans ?_, h1⟩
  clear h h0 h1
  funext j
  idx_vars j
  pointwise [grad]
  exact Finset.sum_congr rfl fun k _ => mul_comm (G := EReal) _ _

end Cert.DwdownReferenceIdeal.Spec

namespace Cert.DwdownKernelIdeal.Spec

open Cert.DwdownKernelIdeal Cert.DwdownKernelIdeal.Gen Cert.DwdownSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem t_lt (t : Fin cfg0.N) : t.val < 22 := lt_of_lt_of_eq t.isLt N_0

/-- The row of the result that row `i` of the block of grid point `t` stands for. -/
def rowOf (t : Fin cfg0.N) (i : Fin 512) : Fin 5632 := ⟨t.val % 11 * 512 + i.val, by have := t_lt t; have := i.isLt; omega⟩
/-- The column of the result that column `j` of the block of grid point `t` stands for. -/
def colOf (t : Fin cfg0.N) (j : Fin 1024) : Fin 2048 := ⟨t.val / 11 * 1024 + j.val, by have := t_lt t; have := j.isLt; omega⟩

theorem idx0 : ∀ t : Fin cfg0.N, win0_0.index t = ![0, t.val % 11] := (by decide +kernel : ∀ t : Fin grid0.N, _)
theorem idx1 : ∀ t : Fin cfg0.N, win0_1.index t = ![0, t.val / 11] := (by decide +kernel : ∀ t : Fin grid0.N, _)
theorem idx2 : ∀ t : Fin cfg0.N, win0_2.index t = ![t.val % 11, t.val / 11] := (by decide +kernel : ∀ t : Fin grid0.N, _)
/-- What window 0 reads. -/
theorem rd0 (c : Dev nD) (t : Fin cfg0.N) (k : Fin 4224) (i : Fin 512) : iblk m c 0 t (ix2 k i) = (m ((c.tc : Thread nD τ).loc main_arg0)) (ix2 k (rowOf t i)) := by
  have ht := t_lt t
  refine Eq.trans ?_ (congrFun (V_main_arg0 m c) _)
  blk_simp [iblk]
  refine congrArg (V m c main_arg0) ?_
  blk_ext [idx0 t, rowOf, colOf]

/-- What window 1 reads. -/
theorem rd1 (c : Dev nD) (t : Fin cfg0.N) (k : Fin 4224) (j : Fin 1024) : iblk m c 1 t (ix2 k j) = (m ((c.tc : Thread nD τ).loc main_arg1)) (ix2 k (colOf t j)) := by
  have ht := t_lt t
  refine Eq.trans ?_ (congrFun (V_main_arg1 m c) _)
  blk_simp [iblk]
  refine congrArg (V m c main_arg1) ?_
  blk_ext [idx1 t, rowOf, colOf]

set_option maxRecDepth 200000 in
/-- The kernel's result is the formula. -/
theorem final (c : Dev nD) : (dats m 0 c).arrAt 2 (cfgs 0).N
    = fun j : S5632x2048.Idx => grad (m ((c.tc : Thread nD τ).loc main_arg0)) (m ((c.tc : Thread nD τ).loc main_arg1)) (j 0) (j 1) := by
  refine (dats m 0 c).arrAt_eq_of_covers 2 _ (by decide +kernel) fun t _ y => ?_
  blk_simp
  rw [after0_2]; frame_out
  idx_vars y
  have e0 : ((cfg0.win 2).blk t).view.emb (ix2 y0 y1) 0 = rowOf t y0 := Fin.ext (by blk_simp [idx2 t, rowOf])
  have e1 : ((cfg0.win 2).blk t).view.emb (ix2 y0 y1) 1 = colOf t y1 := Fin.ext (by blk_simp [idx2 t, colOf])
  refine Eq.trans ?_ (show grad (m ((c.tc : Thread nD τ).loc main_arg0)) (m ((c.tc : Thread nD τ).loc main_arg1)) (rowOf t y0) (colOf t y1) = _ from by rw [e0, e1])
  pointwise [k0_pay1, grad]
  simp only [rd0, rd1]

/-- The kernel's run ends with the formula in its result and its arguments unchanged. -/
theorem run :
    θ_run defs (onTc (τ := τ) (main (F := Ideal))) ⟨m, fun _ => 0, ρ⟩ fun r => ∀ c : Dev nD,
      r.2.mem ((c.tc : Thread nD τ).loc main_v0) = (fun j : S5632x2048.Idx => grad (m ((c.tc : Thread nD τ).loc main_arg0)) (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run_blocks m ρ)
  have h := h c
  rw [final m c] at h
  exact h

/-- The kernel and the reference end with equal results. -/
theorem algebraic : Cert.algebraic_DwdownKernelIdeal_DwdownReferenceIdeal (hDwdownKernelIdeal := Cert.DwdownKernelIdeal.Gen.facts)
    (hDwdownReferenceIdeal := Cert.DwdownReferenceIdeal.Gen.facts) := by
  intro m ρ m' ρ' _ hag
  refine ⟨_, run m ρ, (θ_run _ _ _).mono (fun _ h c => ?_) (Cert.DwdownReferenceIdeal.Spec.run m' ρ')⟩
  have h := h c
  have e := hag c
  refine ⟨h.1.trans ?_, h.2⟩
  rw [e.1, e.2]

end Cert.DwdownKernelIdeal.Spec

end
-- ==== Proof.Dwgate.lean ====
/- The gradient of the channel mixer's first weights: the kernel's product block by block and the reference's are the same sums. -/
module

public import proofs.«01_k».proof.Proof.Gen.DwgateKernelIdeal.Value
public import proofs.«01_k».proof.Proof.Gen.DwgateReferenceIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.DwgateSpec

open Idealize.ShloMosaic

/-- What both compute: the gradient of the channel mixer's first weights. -/
def grad (A : FVec Ideal ⟨2, ![4224, 2048]⟩ .bf16) (B : FVec Ideal ⟨2, ![4224, 5632]⟩ .bf16) (i : Fin 2048) (j : Fin 5632) : EReal :=
  ∑ k : Fin 4224, A (ix2 k i) * B (ix2 k j)

end Cert.DwgateSpec

namespace Cert.DwgateReferenceIdeal.Spec

open Cert.DwgateReferenceIdeal Cert.DwgateReferenceIdeal.Gen Cert.DwgateSpec Idealize.ShloMosaic Idealize.ShloMosaic.TcCoe Idealize.SL.Sem

/-- The reference's result is the formula, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = (fun j : S2048x5632.Idx => grad (m ((c.tc : Thread nD τ).loc main_arg0)) (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h0, h1⟩ := h c
  refine ⟨h0.trans ?_, h1⟩
  clear h h0 h1
  funext j
  idx_vars j
  pointwise [grad]
  exact Finset.sum_congr rfl fun k _ => mul_comm (G := EReal) _ _

end Cert.DwgateReferenceIdeal.Spec

namespace Cert.DwgateKernelIdeal.Spec

open Cert.DwgateKernelIdeal Cert.DwgateKernelIdeal.Gen Cert.DwgateSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem t_lt (t : Fin cfg0.N) : t.val < 22 := lt_of_lt_of_eq t.isLt N_0

/-- The row of the result that row `i` of the block of grid point `t` stands for. -/
def rowOf (t : Fin cfg0.N) (i : Fin 1024) : Fin 2048 := ⟨t.val % 2 * 1024 + i.val, by have := t_lt t; have := i.isLt; omega⟩
/-- The column of the result that column `j` of the block of grid point `t` stands for. -/
def colOf (t : Fin cfg0.N) (j : Fin 512) : Fin 5632 := ⟨t.val / 2 * 512 + j.val, by have := t_lt t; have := j.isLt; omega⟩

theorem idx0 : ∀ t : Fin cfg0.N, win0_0.index t = ![t.val % 2, 0] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)

/-- The first factor reaches the kernel transposed. -/
theorem V0 (c : Dev nD) : V m c main_v0 = transpose S2048x4224 [1, 0] (m ((c.tc : Thread nD τ).loc main_arg0)) transposes_S4224x2048_S2048x4224_1_0 := by
  unfold V
  after_results

/-- What window 0 reads. -/
theorem rd0 (c : Dev nD) (t : Fin cfg0.N) (i : Fin 1024) (k : Fin 4224) : iblk m c 0 t (ix2 i k) = (m ((c.tc : Thread nD τ).loc main_arg0)) (ix2 k (rowOf t i)) := by
  have ht := t_lt t
  have e : iblk m c 0 t (ix2 i k) = V m c main_v0 (ix2 (rowOf t i) k) := by
    blk_simp [iblk]
    refine congrArg (V m c main_v0) ?_
    blk_ext [idx0 t, rowOf]
  refine e.trans ?_
  rw [V0]
  pointwise []

/-- What window 1 reads. -/
theorem rd1 (c : Dev nD) (t : Fin cfg0.N) (k : Fin 4224) (j : Fin 512) : iblk m c 1 t (ix2 k j) = (m ((c.tc : Thread nD τ).loc main_arg1)) (ix2 k (colOf t j)) := by
  have ht := t_lt t
  refine Eq.trans ?_ (congrFun (V_main_arg1 m c) _)
  blk_simp [iblk]
  refine congrArg (V m c main_arg1) ?_
  blk_ext [idx1 t, rowOf, colOf]

set_option maxRecDepth 200000 in
/-- The kernel's result is the formula. -/
theorem final (c : Dev nD) : (dats m 0 c).arrAt 2 (cfgs 0).N
    = fun j : S2048x5632.Idx => grad (m ((c.tc : Thread nD τ).loc main_arg0)) (m ((c.tc : Thread nD τ).loc main_arg1)) (j 0) (j 1) := by
  refine (dats m 0 c).arrAt_eq_of_covers 2 _ (by decide +kernel) fun t _ y => ?_
  blk_simp
  rw [after0_2]; frame_out
  idx_vars y
  have e0 : ((cfg0.win 2).blk t).view.emb (ix2 y0 y1) 0 = rowOf t y0 := Fin.ext (by blk_simp [idx2 t, rowOf])
  have e1 : ((cfg0.win 2).blk t).view.emb (ix2 y0 y1) 1 = colOf t y1 := Fin.ext (by blk_simp [idx2 t, colOf])
  refine Eq.trans ?_ (show grad (m ((c.tc : Thread nD τ).loc main_arg0)) (m ((c.tc : Thread nD τ).loc main_arg1)) (rowOf t y0) (colOf t y1) = _ from by rw [e0, e1])
  pointwise [k0_pay1, grad]
  simp only [rd0, rd1]

/-- The kernel's run ends with the formula in its result and its arguments unchanged. -/
theorem run :
    θ_run defs (onTc (τ := τ) (main (F := Ideal))) ⟨m, fun _ => 0, ρ⟩ fun r => ∀ c : Dev nD,
      r.2.mem ((c.tc : Thread nD τ).loc main_v1) = (fun j : S2048x5632.Idx => grad (m ((c.tc : Thread nD τ).loc main_arg0)) (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run_blocks m ρ)
  have h := h c
  rw [final m c] at h
  exact h

/-- The kernel and the reference end with equal results. -/
theorem algebraic : Cert.algebraic_DwgateKernelIdeal_DwgateReferenceIdeal (hDwgateKernelIdeal := Cert.DwgateKernelIdeal.Gen.facts)
    (hDwgateReferenceIdeal := Cert.DwgateReferenceIdeal.Gen.facts) := by
  intro m ρ m' ρ' _ hag
  refine ⟨_, run m ρ, (θ_run _ _ _).mono (fun _ h c => ?_) (Cert.DwgateReferenceIdeal.Spec.run m' ρ')⟩
  have h := h c
  have e := hag c
  refine ⟨h.1.trans ?_, h.2⟩
  rw [e.1, e.2]

end Cert.DwgateKernelIdeal.Spec

end
-- ==== Proof.Du.lean ====
/- The gradient at the channel mixer's input through the gate: the kernel's product block by block and the reference's are the same sums. -/
module

public import proofs.«01_k».proof.Proof.Gen.DuKernelIdeal.Value
public import proofs.«01_k».proof.Proof.Gen.DuReferenceIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.DuSpec

open Idealize.ShloMosaic

/-- What both compute: the gradient at the channel mixer's input through the gate. -/
def grad (A : FVec Ideal ⟨2, ![4224, 5632]⟩ .bf16) (B : FVec Ideal ⟨2, ![2048, 5632]⟩ .bf16) (i : Fin 4224) (j : Fin 2048) : EReal :=
  ∑ k : Fin 5632, A (ix2 i k) * B (ix2 j k)

end Cert.DuSpec

namespace Cert.DuReferenceIdeal.Spec

open Cert.DuReferenceIdeal Cert.DuReferenceIdeal.Gen Cert.DuSpec Idealize.ShloMosaic Idealize.ShloMosaic.TcCoe Idealize.SL.Sem

/-- The reference's result is the formula, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = (fun j : S4224x2048.Idx => grad (m ((c.tc : Thread nD τ).loc main_arg0)) (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h0, h1⟩ := h c
  refine ⟨h0.trans ?_, h1⟩
  clear h h0 h1
  funext j
  idx_vars j
  pointwise [grad]

end Cert.DuReferenceIdeal.Spec

namespace Cert.DuKernelIdeal.Spec

open Cert.DuKernelIdeal Cert.DuKernelIdeal.Gen Cert.DuSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem t_lt (t : Fin cfg0.N) : t.val < 44 := lt_of_lt_of_eq t.isLt N_0

/-- The row of the result that row `i` of the block of grid point `t` stands for. -/
def rowOf (t : Fin cfg0.N) (i : Fin 384) : Fin 4224 := ⟨t.val % 11 * 384 + i.val, by have := t_lt t; have := i.isLt; omega⟩
/-- The column of the result that column `j` of the block of grid point `t` stands for. -/
def colOf (t : Fin cfg0.N) (j : Fin 512) : Fin 2048 := ⟨t.val / 11 * 512 + j.val, by have := t_lt t; have := j.isLt; omega⟩

theorem idx0 : ∀ t : Fin cfg0.N, win0_0.index t = ![t.val % 11, 0] := (by decide +kernel : ∀ t : Fin grid0.N, _)
theorem idx1 : ∀ t : Fin cfg0.N, win0_1.index t = ![t.val / 11, 0] := (by decide +kernel : ∀ t : Fin grid0.N, _)
theorem idx2 : ∀ t : Fin cfg0.N, win0_2.index t = ![t.val % 11, t.val / 11] := (by decide +kernel : ∀ t : Fin grid0.N, _)
/-- What window 0 reads. -/
theorem rd0 (c : Dev nD) (t : Fin cfg0.N) (i : Fin 384) (k : Fin 5632) : iblk m c 0 t (ix2 i k) = (m ((c.tc : Thread nD τ).loc main_arg0)) (ix2 (rowOf t i) k) := by
  have ht := t_lt t
  refine Eq.trans ?_ (congrFun (V_main_arg0 m c) _)
  blk_simp [iblk]
  refine congrArg (V m c main_arg0) ?_
  blk_ext [idx0 t, rowOf, colOf]

/-- What window 1 reads. -/
theorem rd1 (c : Dev nD) (t : Fin cfg0.N) (j : Fin 512) (k : Fin 5632) : iblk m c 1 t (ix2 j k) = (m ((c.tc : Thread nD τ).loc main_arg1)) (ix2 (colOf t j) k) := by
  have ht := t_lt t
  refine Eq.trans ?_ (congrFun (V_main_arg1 m c) _)
  blk_simp [iblk]
  refine congrArg (V m c main_arg1) ?_
  blk_ext [idx1 t, rowOf, colOf]

set_option maxRecDepth 200000 in
/-- The kernel's result is the formula. -/
theorem final (c : Dev nD) : (dats m 0 c).arrAt 2 (cfgs 0).N
    = fun j : S4224x2048.Idx => grad (m ((c.tc : Thread nD τ).loc main_arg0)) (m ((c.tc : Thread nD τ).loc main_arg1)) (j 0) (j 1) := by
  refine (dats m 0 c).arrAt_eq_of_covers 2 _ (by decide +kernel) fun t _ y => ?_
  blk_simp
  rw [after0_2]; frame_out
  idx_vars y
  have e0 : ((cfg0.win 2).blk t).view.emb (ix2 y0 y1) 0 = rowOf t y0 := Fin.ext (by blk_simp [idx2 t, rowOf])
  have e1 : ((cfg0.win 2).blk t).view.emb (ix2 y0 y1) 1 = colOf t y1 := Fin.ext (by blk_simp [idx2 t, colOf])
  refine Eq.trans ?_ (show grad (m ((c.tc : Thread nD τ).loc main_arg0)) (m ((c.tc : Thread nD τ).loc main_arg1)) (rowOf t y0) (colOf t y1) = _ from by rw [e0, e1])
  pointwise [k0_pay1, grad]
  simp only [rd0, rd1]

/-- The kernel's run ends with the formula in its result and its arguments unchanged. -/
theorem run :
    θ_run defs (onTc (τ := τ) (main (F := Ideal))) ⟨m, fun _ => 0, ρ⟩ fun r => ∀ c : Dev nD,
      r.2.mem ((c.tc : Thread nD τ).loc main_v0) = (fun j : S4224x2048.Idx => grad (m ((c.tc : Thread nD τ).loc main_arg0)) (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run_blocks m ρ)
  have h := h c
  rw [final m c] at h
  exact h

/-- The kernel and the reference end with equal results. -/
theorem algebraic : Cert.algebraic_DuKernelIdeal_DuReferenceIdeal (hDuKernelIdeal := Cert.DuKernelIdeal.Gen.facts)
    (hDuReferenceIdeal := Cert.DuReferenceIdeal.Gen.facts) := by
  intro m ρ m' ρ' _ hag
  refine ⟨_, run m ρ, (θ_run _ _ _).mono (fun _ h c => ?_) (Cert.DuReferenceIdeal.Spec.run m' ρ')⟩
  have h := h c
  have e := hag c
  refine ⟨h.1.trans ?_, h.2⟩
  rw [e.1, e.2]

end Cert.DuKernelIdeal.Spec

end
-- ==== Proof.Duup.lean ====
/- The gradient at the channel mixer's input, the other branch's added: the kernel's product block by block and the reference's are the same sums. -/
module

public import proofs.«01_k».proof.Proof.Gen.DuupKernelIdeal.Value
public import proofs.«01_k».proof.Proof.Gen.DuupReferenceIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.DuupSpec

open Idealize.ShloMosaic

/-- What both compute: the gradient at the channel mixer's input, the other branch's added. -/
def grad (A : FVec Ideal ⟨2, ![4224, 5632]⟩ .bf16) (B : FVec Ideal ⟨2, ![2048, 5632]⟩ .bf16) (C : FVec Ideal ⟨2, ![4224, 2048]⟩ .f32) (i : Fin 4224) (j : Fin 2048) : EReal :=
  C (ix2 i j) + ∑ k : Fin 5632, A (ix2 i k) * B (ix2 j k)

end Cert.DuupSpec

namespace Cert.DuupReferenceIdeal.Spec

open Cert.DuupReferenceIdeal Cert.DuupReferenceIdeal.Gen Cert.DuupSpec Idealize.ShloMosaic Idealize.ShloMosaic.TcCoe Idealize.SL.Sem

/-- The reference's result is the formula, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = (fun j : S4224x2048.Idx => grad (m ((c.tc : Thread nD τ).loc main_arg0)) (m ((c.tc : Thread nD τ).loc main_arg1)) (m ((c.tc : Thread nD τ).loc main_arg2)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, h1⟩ := h c
  refine ⟨h0.trans ?_, h1⟩
  clear h h0 h1
  funext j
  idx_vars j
  pointwise [grad]

end Cert.DuupReferenceIdeal.Spec

namespace Cert.DuupKernelIdeal.Spec

open Cert.DuupKernelIdeal Cert.DuupKernelIdeal.Gen Cert.DuupSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem t_lt (t : Fin cfg0.N) : t.val < 44 := lt_of_lt_of_eq t.isLt N_0

/-- The row of the result that row `i` of the block of grid point `t` stands for. -/
def rowOf (t : Fin cfg0.N) (i : Fin 384) : Fin 4224 := ⟨t.val % 11 * 384 + i.val, by have := t_lt t; have := i.isLt; omega⟩
/-- The column of the result that column `j` of the block of grid point `t` stands for. -/
def colOf (t : Fin cfg0.N) (j : Fin 512) : Fin 2048 := ⟨t.val / 11 * 512 + j.val, by have := t_lt t; have := j.isLt; omega⟩

theorem idx0 : ∀ t : Fin cfg0.N, win0_0.index t = ![t.val % 11, 0] := (by decide +kernel : ∀ t : Fin grid0.N, _)
theorem idx1 : ∀ t : Fin cfg0.N, win0_1.index t = ![t.val / 11, 0] := (by decide +kernel : ∀ t : Fin grid0.N, _)
theorem idx2 : ∀ t : Fin cfg0.N, win0_2.index t = ![t.val % 11, t.val / 11] := (by decide +kernel : ∀ t : Fin grid0.N, _)
theorem idx3 : ∀ t : Fin cfg0.N, win0_3.index t = ![t.val % 11, t.val / 11] := (by decide +kernel : ∀ t : Fin grid0.N, _)
/-- What window 0 reads. -/
theorem rd0 (c : Dev nD) (t : Fin cfg0.N) (i : Fin 384) (k : Fin 5632) : iblk m c 0 t (ix2 i k) = (m ((c.tc : Thread nD τ).loc main_arg0)) (ix2 (rowOf t i) k) := by
  have ht := t_lt t
  refine Eq.trans ?_ (congrFun (V_main_arg0 m c) _)
  blk_simp [iblk]
  refine congrArg (V m c main_arg0) ?_
  blk_ext [idx0 t, rowOf, colOf]

/-- What window 1 reads. -/
theorem rd1 (c : Dev nD) (t : Fin cfg0.N) (j : Fin 512) (k : Fin 5632) : iblk m c 1 t (ix2 j k) = (m ((c.tc : Thread nD τ).loc main_arg1)) (ix2 (colOf t j) k) := by
  have ht := t_lt t
  refine Eq.trans ?_ (congrFun (V_main_arg1 m c) _)
  blk_simp [iblk]
  refine congrArg (V m c main_arg1) ?_
  blk_ext [idx1 t, rowOf, colOf]

/-- What window 2 reads. -/
theorem rd2 (c : Dev nD) (t : Fin cfg0.N) (i : Fin 384) (j : Fin 512) : iblk m c 2 t (ix2 i j) = (m ((c.tc : Thread nD τ).loc main_arg2)) (ix2 (rowOf t i) (colOf t j)) := by
  have ht := t_lt t
  refine Eq.trans ?_ (congrFun (V_main_arg2 m c) _)
  blk_simp [iblk]
  refine congrArg (V m c main_arg2) ?_
  blk_ext [idx2 t, rowOf, colOf]

set_option maxRecDepth 200000 in
/-- The kernel's result is the formula. -/
theorem final (c : Dev nD) : (dats m 0 c).arrAt 3 (cfgs 0).N
    = fun j : S4224x2048.Idx => grad (m ((c.tc : Thread nD τ).loc main_arg0)) (m ((c.tc : Thread nD τ).loc main_arg1)) (m ((c.tc : Thread nD τ).loc main_arg2)) (j 0) (j 1) := by
  refine (dats m 0 c).arrAt_eq_of_covers 3 _ (by decide +kernel) fun t _ y => ?_
  blk_simp
  rw [after0_3]; frame_out
  idx_vars y
  have e0 : ((cfg0.win 3).blk t).view.emb (ix2 y0 y1) 0 = rowOf t y0 := Fin.ext (by blk_simp [idx3 t, rowOf])
  have e1 : ((cfg0.win 3).blk t).view.emb (ix2 y0 y1) 1 = colOf t y1 := Fin.ext (by blk_simp [idx3 t, colOf])
  refine Eq.trans ?_ (show grad (m ((c.tc : Thread nD τ).loc main_arg0)) (m ((c.tc : Thread nD τ).loc main_arg1)) (m ((c.tc : Thread nD τ).loc main_arg2)) (rowOf t y0) (colOf t y1) = _ from by rw [e0, e1])
  pointwise [k0_pay1, grad]
  simp only [rd0, rd1, rd2]
  exact add_comm (G := EReal) _ _

/-- The kernel's run ends with the formula in its result and its arguments unchanged. -/
theorem run :
    θ_run defs (onTc (τ := τ) (main (F := Ideal))) ⟨m, fun _ => 0, ρ⟩ fun r => ∀ c : Dev nD,
      r.2.mem ((c.tc : Thread nD τ).loc main_v0) = (fun j : S4224x2048.Idx => grad (m ((c.tc : Thread nD τ).loc main_arg0)) (m ((c.tc : Thread nD τ).loc main_arg1)) (m ((c.tc : Thread nD τ).loc main_arg2)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run_blocks m ρ)
  have h := h c
  rw [final m c] at h
  exact h

/-- The kernel and the reference end with equal results. -/
theorem algebraic : Cert.algebraic_DuupKernelIdeal_DuupReferenceIdeal (hDuupKernelIdeal := Cert.DuupKernelIdeal.Gen.facts)
    (hDuupReferenceIdeal := Cert.DuupReferenceIdeal.Gen.facts) := by
  intro m ρ m' ρ' _ hag
  refine ⟨_, run m ρ, (θ_run _ _ _).mono (fun _ h c => ?_) (Cert.DuupReferenceIdeal.Spec.run m' ρ')⟩
  have h := h c
  have e := hag c
  refine ⟨h.1.trans ?_, h.2⟩
  rw [e.1, e.2.1, e.2.2]

end Cert.DuupKernelIdeal.Spec

end
-- ==== Proof.Ffnin.lean ====
/- The channel mixer's two branches and their gated product, forward: block by block and at once they are the same. -/
module

public import proofs.«01_k».proof.Proof.Gen.FfninKernelIdeal.Value
public import proofs.«01_k».proof.Proof.Gen.FfninReferenceIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.FfninSpec

open Idealize.ShloMosaic

/-- One branch: the input times its weight. -/
def branch (U : FVec Ideal ⟨2, ![4224, 2048]⟩ .bf16) (W : FVec Ideal ⟨2, ![2048, 5632]⟩ .bf16) (i : Fin 4224) (j : Fin 5632) : EReal :=
  ∑ k : Fin 2048, U (ix2 i k) * W (ix2 k j)

/-- A number gated by its own logistic, times another. -/
def gate (x y : EReal) : EReal := x * Ideal.logistic x * y

end Cert.FfninSpec

namespace Cert.FfninReferenceIdeal.Spec

open Cert.FfninReferenceIdeal Cert.FfninReferenceIdeal.Gen Cert.FfninSpec Idealize.ShloMosaic Idealize.ShloMosaic.TcCoe Idealize.SL.Sem

theorem dot_at (U : FVec Ideal S4224x2048 .bf16) (W : FVec Ideal S2048x5632 .bf16) (i : Fin 4224) (j : Fin 5632) :
    Host.dotGeneral (F := Ideal) dot_S4224x2048_S2048x5632_S4224x5632_1_0_0_1_n_n none (extf .f32 U bitsLt_bf16_f32) (extf .f32 W bitsLt_bf16_f32) (ix2 i j) = branch U W i j := by
  pointwise [branch]

theorem silu_at {s : Shape} (x : FVec Ideal s .f32) (y : FVec Ideal s .f32) (i : s.Idx) (one : FVec Ideal s .f32) (h1 : ∀ i, one i = (1 : EReal)) :
    mulf (mulf x (Host.divf one (addf one (Host.exp (Host.negf x))))) y i = gate (x i) (y i) := by
  show x i * Ideal.div (one i) (one i + Ideal.exp (-(x i))) * y i = _
  rw [h1]
  rfl

theorem c_one (s : Shape) (h : S_.BroadcastsInDim s (![] : Fin 0 → Fin s.rank)) (i : s.Idx) :
    broadcastInDim s ![] h (constant (F := Ideal) S_ .f32 0x3F800000#32) i = (1 : EReal) := by
  show Ideal.ofBits .f32 0x3F800000#32 = (1 : EReal)
  simp [Ideal.ofBits, Ideal.ieee, -EReal.coe_mul]
  norm_num

/-- The reference's results are the branches and their gated product, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = (fun j : S4224x5632.Idx => branch (m ((c.tc : Thread nD τ).loc main_arg0)) (m ((c.tc : Thread nD τ).loc main_arg1)) (j 0) (j 1))
      ∧ r.2.mem ((c.tc : Thread nD τ).loc main_v6) = (fun j : S4224x5632.Idx => branch (m ((c.tc : Thread nD τ).loc main_arg0)) (m ((c.tc : Thread nD τ).loc main_arg2)) (j 0) (j 1))
      ∧ r.2.mem ((c.tc : Thread nD τ).loc main_v9) = (fun j : S4224x5632.Idx => gate (branch (m ((c.tc : Thread nD τ).loc main_arg0)) (m ((c.tc : Thread nD τ).loc main_arg1)) (j 0) (j 1)) (branch (m ((c.tc : Thread nD τ).loc main_arg0)) (m ((c.tc : Thread nD τ).loc main_arg2)) (j 0) (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, h1, h2, h3⟩ := h c
  refine ⟨h0.trans ?_, h1.trans ?_, h2.trans ?_, h3⟩
  · funext j
    idx_vars j
    exact dot_at _ _ j0 j1
  · funext j
    idx_vars j
    exact dot_at _ _ j0 j1
  · funext j
    idx_vars j
    refine (silu_at _ _ _ _ (c_one _ _)).trans ?_
    exact congrArg₂ gate (dot_at _ _ j0 j1) (dot_at _ _ j0 j1)

end Cert.FfninReferenceIdeal.Spec

namespace Cert.FfninKernelIdeal.Spec

open Cert.FfninKernelIdeal Cert.FfninKernelIdeal.Gen Cert.FfninSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem t_lt (t : Fin cfg0.N) : t.val < 44 := lt_of_lt_of_eq t.isLt N_0

/-- The row of the result that row `i` of the block of grid point `t` stands for. -/
def rowOf (t : Fin cfg0.N) (i : Fin 384) : Fin 4224 := ⟨t.val % 11 * 384 + i.val, by have := t_lt t; have := i.isLt; omega⟩
/-- The column of the result that column `j` of the block of grid point `t` stands for. -/
def colOf (t : Fin cfg0.N) (j : Fin 1408) : Fin 5632 := ⟨t.val / 11 * 1408 + j.val, by have := t_lt t; have := j.isLt; omega⟩

theorem idx0 : ∀ t : Fin cfg0.N, win0_0.index t = ![t.val % 11, 0] := (by decide +kernel : ∀ t : Fin grid0.N, _)
theorem idx1 : ∀ t : Fin cfg0.N, win0_1.index t = ![0, t.val / 11] := (by decide +kernel : ∀ t : Fin grid0.N, _)
theorem idx2 : ∀ t : Fin cfg0.N, win0_2.index t = ![0, t.val / 11] := (by decide +kernel : ∀ t : Fin grid0.N, _)
theorem idx3 : ∀ t : Fin cfg0.N, win0_3.index t = ![t.val % 11, t.val / 11] := (by decide +kernel : ∀ t : Fin grid0.N, _)
theorem idx4 : ∀ t : Fin cfg0.N, win0_4.index t = ![t.val % 11, t.val / 11] := (by decide +kernel : ∀ t : Fin grid0.N, _)
theorem idx5 : ∀ t : Fin cfg0.N, win0_5.index t = ![t.val % 11, t.val / 11] := (by decide +kernel : ∀ t : Fin grid0.N, _)

/-- What window 0 reads. -/
theorem rd0 (c : Dev nD) (t : Fin cfg0.N) (i : Fin 384) (k : Fin 2048) : iblk m c 0 t (ix2 i k) = m ((c.tc : Thread nD τ).loc main_arg0) (ix2 (rowOf t i) k) := by
  have ht := t_lt t
  refine Eq.trans ?_ (congrFun (V_main_arg0 m c) _)
  blk_simp [iblk]
  refine congrArg (V m c main_arg0) ?_
  blk_ext [idx0 t, rowOf, colOf]

/-- What window 1 reads. -/
theorem rd1 (c : Dev nD) (t : Fin cfg0.N) (k : Fin 2048) (j : Fin 1408) : iblk m c 1 t (ix2 k j) = m ((c.tc : Thread nD τ).loc main_arg1) (ix2 k (colOf t j)) := by
  have ht := t_lt t
  refine Eq.trans ?_ (congrFun (V_main_arg1 m c) _)
  blk_simp [iblk]
  refine congrArg (V m c main_arg1) ?_
  blk_ext [idx1 t, rowOf, colOf]

/-- What window 2 reads. -/
theorem rd2 (c : Dev nD) (t : Fin cfg0.N) (k : Fin 2048) (j : Fin 1408) : iblk m c 2 t (ix2 k j) = m ((c.tc : Thread nD τ).loc main_arg2) (ix2 k (colOf t j)) := by
  have ht := t_lt t
  refine Eq.trans ?_ (congrFun (V_main_arg2 m c) _)
  blk_simp [iblk]
  refine congrArg (V m c main_arg2) ?_
  blk_ext [idx2 t, rowOf, colOf]

/-! One block's payloads. -/

theorem pay1_at (u : Vec Ideal S384x2048 .bf16) (w : Vec Ideal S2048x1408 .bf16) (i : Fin 384) (j : Fin 1408) :
    k0_pay1 (F := Ideal) u w (ix2 i j) = ∑ k : Fin 2048, u (ix2 i k) * w (ix2 k j) := by
  pointwise [k0_pay1]

theorem pay2_at (u : Vec Ideal S384x2048 .bf16) (w : Vec Ideal S2048x1408 .bf16) (i : Fin 384) (j : Fin 1408) :
    k0_pay2 (F := Ideal) u w (ix2 i j) = ∑ k : Fin 2048, u (ix2 i k) * w (ix2 k j) := by
  pointwise [k0_pay2]

theorem gate_at {s : Shape} (x y zero one : FVec Ideal s .f32) (i : s.Idx) (h0 : zero i = (0 : EReal)) (h1 : one i = (1 : EReal)) :
    mulf (mulf x (divf one (addf one (exp (subf zero x))))) y i = gate (x i) (y i) := by
  show x i * Ideal.div (one i) (one i + Ideal.exp (zero i - x i)) * y i = _
  rw [h0, h1, sub_eq_add_neg, zero_add]
  rfl

theorem pay5_at (u : Vec Ideal S384x2048 .bf16) (w w' : Vec Ideal S2048x1408 .bf16) (i : Fin 384) (j : Fin 1408) :
    k0_pay5 (F := Ideal) u w w' (ix2 i j) = gate (k0_pay1 (F := Ideal) u w (ix2 i j)) (k0_pay2 (F := Ideal) u w' (ix2 i j)) :=
  gate_at (k0_pay1 u w) (k0_pay2 u w') (broadcast S384x1408 (Scalar.ofBits .f32 0x00000000#32)) (broadcast S384x1408 (Scalar.ofBits .f32 0x3F800000#32)) (ix2 i j)
    (show Ideal.ofBits .f32 0x00000000#32 = (0 : EReal) by simp [Ideal.ofBits, Ideal.ieee, -EReal.coe_mul])
    (show Ideal.ofBits .f32 0x3F800000#32 = (1 : EReal) by simp [Ideal.ofBits, Ideal.ieee, -EReal.coe_mul]; norm_num)

theorem blk1 (c : Dev nD) (t : Fin cfg0.N) (i : Fin 384) (j : Fin 1408) :
    k0_pay1 (F := Ideal) (iblk m c 0 t) (iblk m c 1 t) (ix2 i j) = branch (m ((c.tc : Thread nD τ).loc main_arg0)) (m ((c.tc : Thread nD τ).loc main_arg1)) (rowOf t i) (colOf t j) :=
  (pay1_at _ _ i j).trans (Finset.sum_congr rfl fun k _ => congrArg₂ (fun a b : EReal => a * b) (rd0 m c t i k) (rd1 m c t k j))

theorem blk2 (c : Dev nD) (t : Fin cfg0.N) (i : Fin 384) (j : Fin 1408) :
    k0_pay2 (F := Ideal) (iblk m c 0 t) (iblk m c 2 t) (ix2 i j) = branch (m ((c.tc : Thread nD τ).loc main_arg0)) (m ((c.tc : Thread nD τ).loc main_arg2)) (rowOf t i) (colOf t j) :=
  (pay2_at _ _ i j).trans (Finset.sum_congr rfl fun k _ => congrArg₂ (fun a b : EReal => a * b) (rd0 m c t i k) (rd2 m c t k j))

set_option maxRecDepth 200000 in
theorem final3 (c : Dev nD) : (dats m 0 c).arrAt 3 (cfgs 0).N
    = fun j : S4224x5632.Idx => branch (m ((c.tc : Thread nD τ).loc main_arg0)) (m ((c.tc : Thread nD τ).loc main_arg1)) (j 0) (j 1) := by
  refine (dats m 0 c).arrAt_eq_of_covers 3 _ (by decide +kernel) fun t _ y => ?_
  blk_simp
  rw [after0_3]; frame_out
  idx_vars y
  have e0 : ((cfg0.win 3).blk t).view.emb (ix2 y0 y1) 0 = rowOf t y0 := Fin.ext (by blk_simp [idx3 t, rowOf])
  have e1 : ((cfg0.win 3).blk t).view.emb (ix2 y0 y1) 1 = colOf t y1 := Fin.ext (by blk_simp [idx3 t, colOf])
  refine Eq.trans ?_ (show branch (m ((c.tc : Thread nD τ).loc main_arg0)) (m ((c.tc : Thread nD τ).loc main_arg1)) (rowOf t y0) (colOf t y1) = _ from by rw [e0, e1])
  exact blk1 m c t y0 y1

set_option maxRecDepth 200000 in
theorem final4 (c : Dev nD) : (dats m 0 c).arrAt 4 (cfgs 0).N
    = fun j : S4224x5632.Idx => branch (m ((c.tc : Thread nD τ).loc main_arg0)) (m ((c.tc : Thread nD τ).loc main_arg2)) (j 0) (j 1) := by
  refine (dats m 0 c).arrAt_eq_of_covers 4 _ (by decide +kernel) fun t _ y => ?_
  blk_simp
  rw [after0_4]; frame_out
  idx_vars y
  have e0 : ((cfg0.win 4).blk t).view.emb (ix2 y0 y1) 0 = rowOf t y0 := Fin.ext (by blk_simp [idx4 t, rowOf])
  have e1 : ((cfg0.win 4).blk t).view.emb (ix2 y0 y1) 1 = colOf t y1 := Fin.ext (by blk_simp [idx4 t, colOf])
  refine Eq.trans ?_ (show branch (m ((c.tc : Thread nD τ).loc main_arg0)) (m ((c.tc : Thread nD τ).loc main_arg2)) (rowOf t y0) (colOf t y1) = _ from by rw [e0, e1])
  exact blk2 m c t y0 y1

set_option maxRecDepth 200000 in
theorem final5 (c : Dev nD) : (dats m 0 c).arrAt 5 (cfgs 0).N
    = fun j : S4224x5632.Idx => gate (branch (m ((c.tc : Thread nD τ).loc main_arg0)) (m ((c.tc : Thread nD τ).loc main_arg1)) (j 0) (j 1)) (branch (m ((c.tc : Thread nD τ).loc main_arg0)) (m ((c.tc : Thread nD τ).loc main_arg2)) (j 0) (j 1)) := by
  refine (dats m 0 c).arrAt_eq_of_covers 5 _ (by decide +kernel) fun t _ y => ?_
  blk_simp
  rw [after0_5]; frame_out
  idx_vars y
  have e0 : ((cfg0.win 5).blk t).view.emb (ix2 y0 y1) 0 = rowOf t y0 := Fin.ext (by blk_simp [idx5 t, rowOf])
  have e1 : ((cfg0.win 5).blk t).view.emb (ix2 y0 y1) 1 = colOf t y1 := Fin.ext (by blk_simp [idx5 t, colOf])
  refine Eq.trans ?_ (show gate (branch (m ((c.tc : Thread nD τ).loc main_arg0)) (m ((c.tc : Thread nD τ).loc main_arg1)) (rowOf t y0) (colOf t y1)) (branch (m ((c.tc : Thread nD τ).loc main_arg0)) (m ((c.tc : Thread nD τ).loc main_arg2)) (rowOf t y0) (colOf t y1)) = _ from by rw [e0, e1])
  exact (pay5_at _ _ _ y0 y1).trans (congrArg₂ gate (blk1 m c t y0 y1) (blk2 m c t y0 y1))

/-- The kernel's run ends with the branches and their gated product in its results and its arguments unchanged. -/
theorem run :
    θ_run defs (onTc (τ := τ) (main (F := Ideal))) ⟨m, fun _ => 0, ρ⟩ fun r => ∀ c : Dev nD,
      r.2.mem ((c.tc : Thread nD τ).loc main_v0_0) = (fun j : S4224x5632.Idx => branch (m ((c.tc : Thread nD τ).loc main_arg0)) (m ((c.tc : Thread nD τ).loc main_arg1)) (j 0) (j 1))
      ∧ r.2.mem ((c.tc : Thread nD τ).loc main_v0_1) = (fun j : S4224x5632.Idx => branch (m ((c.tc : Thread nD τ).loc main_arg0)) (m ((c.tc : Thread nD τ).loc main_arg2)) (j 0) (j 1))
      ∧ r.2.mem ((c.tc : Thread nD τ).loc main_v0_2) = (fun j : S4224x5632.Idx => gate (branch (m ((c.tc : Thread nD τ).loc main_arg0)) (m ((c.tc : Thread nD τ).loc main_arg1)) (j 0) (j 1)) (branch (m ((c.tc : Thread nD τ).loc main_arg0)) (m ((c.tc : Thread nD τ).loc main_arg2)) (j 0) (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run_blocks m ρ)
  have h := h c
  rw [final3 m c, final4 m c, final5 m c] at h
  exact h

/-- The kernel and the reference end with equal results. -/
theorem algebraic : Cert.algebraic_FfninKernelIdeal_FfninReferenceIdeal (hFfninKernelIdeal := Cert.FfninKernelIdeal.Gen.facts)
    (hFfninReferenceIdeal := Cert.FfninReferenceIdeal.Gen.facts) := by
  intro m ρ m' ρ' _ hag
  refine ⟨_, _, _, run m ρ, (θ_run _ _ _).mono (fun _ h c => ?_) (Cert.FfninReferenceIdeal.Spec.run m' ρ')⟩
  have h := h c
  have e := hag c
  refine ⟨h.1.trans ?_, h.2.1.trans ?_, h.2.2.1.trans ?_, h.2.2.2⟩
  · rw [e.1, e.2.1]
  · rw [e.1, e.2.2]
  · rw [e.1, e.2.1, e.2.2]

end Cert.FfninKernelIdeal.Spec

end
-- ==== Proof.Ffnout.lean ====
/- The channel mixer's last product, forward: the kernel's product block by block and the reference's are the same sums. -/
module

public import proofs.«01_k».proof.Proof.Gen.FfnoutKernelIdeal.Value
public import proofs.«01_k».proof.Proof.Gen.FfnoutReferenceIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.FfnoutSpec

open Idealize.ShloMosaic

/-- What both compute: the channel mixer's last product, forward. -/
def mixed (A : FVec Ideal ⟨2, ![4224, 5632]⟩ .bf16) (B : FVec Ideal ⟨2, ![5632, 2048]⟩ .bf16) (i : Fin 4224) (j : Fin 2048) : EReal :=
  ∑ k : Fin 5632, A (ix2 i k) * B (ix2 k j)

end Cert.FfnoutSpec

namespace Cert.FfnoutReferenceIdeal.Spec

open Cert.FfnoutReferenceIdeal Cert.FfnoutReferenceIdeal.Gen Cert.FfnoutSpec Idealize.ShloMosaic Idealize.ShloMosaic.TcCoe Idealize.SL.Sem

/-- The reference's result is the formula, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun j : S4224x2048.Idx => mixed (m ((c.tc : Thread nD τ).loc main_arg0)) (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h0, h1⟩ := h c
  refine ⟨h0.trans ?_, h1⟩
  clear h h0 h1
  funext j
  idx_vars j
  pointwise [mixed]

end Cert.FfnoutReferenceIdeal.Spec

namespace Cert.FfnoutKernelIdeal.Spec

open Cert.FfnoutKernelIdeal Cert.FfnoutKernelIdeal.Gen Cert.FfnoutSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem t_lt (t : Fin cfg0.N) : t.val < 44 := lt_of_lt_of_eq t.isLt N_0

/-- The row of the result that row `i` of the block of grid point `t` stands for. -/
def rowOf (t : Fin cfg0.N) (i : Fin 384) : Fin 4224 := ⟨t.val % 11 * 384 + i.val, by have := t_lt t; have := i.isLt; omega⟩
/-- The column of the result that column `j` of the block of grid point `t` stands for. -/
def colOf (t : Fin cfg0.N) (j : Fin 512) : Fin 2048 := ⟨t.val / 11 * 512 + j.val, by have := t_lt t; have := j.isLt; omega⟩

theorem idx0 : ∀ t : Fin cfg0.N, win0_0.index t = ![t.val % 11, 0] := (by decide +kernel : ∀ t : Fin grid0.N, _)
theorem idx1 : ∀ t : Fin cfg0.N, win0_1.index t = ![0, t.val / 11] := (by decide +kernel : ∀ t : Fin grid0.N, _)
theorem idx2 : ∀ t : Fin cfg0.N, win0_2.index t = ![t.val % 11, t.val / 11] := (by decide +kernel : ∀ t : Fin grid0.N, _)
/-- What window 0 reads. -/
theorem rd0 (c : Dev nD) (t : Fin cfg0.N) (i : Fin 384) (k : Fin 5632) : iblk m c 0 t (ix2 i k) = (m ((c.tc : Thread nD τ).loc main_arg0)) (ix2 (rowOf t i) k) := by
  have ht := t_lt t
  refine Eq.trans ?_ (congrFun (V_main_arg0 m c) _)
  blk_simp [iblk]
  refine congrArg (V m c main_arg0) ?_
  blk_ext [idx0 t, rowOf, colOf]

/-- What window 1 reads. -/
theorem rd1 (c : Dev nD) (t : Fin cfg0.N) (k : Fin 5632) (j : Fin 512) : iblk m c 1 t (ix2 k j) = (m ((c.tc : Thread nD τ).loc main_arg1)) (ix2 k (colOf t j)) := by
  have ht := t_lt t
  refine Eq.trans ?_ (congrFun (V_main_arg1 m c) _)
  blk_simp [iblk]
  refine congrArg (V m c main_arg1) ?_
  blk_ext [idx1 t, rowOf, colOf]

set_option maxRecDepth 200000 in
/-- The kernel's result is the formula. -/
theorem final (c : Dev nD) : (dats m 0 c).arrAt 2 (cfgs 0).N
    = fun j : S4224x2048.Idx => mixed (m ((c.tc : Thread nD τ).loc main_arg0)) (m ((c.tc : Thread nD τ).loc main_arg1)) (j 0) (j 1) := by
  refine (dats m 0 c).arrAt_eq_of_covers 2 _ (by decide +kernel) fun t _ y => ?_
  blk_simp
  rw [after0_2]; frame_out
  idx_vars y
  have e0 : ((cfg0.win 2).blk t).view.emb (ix2 y0 y1) 0 = rowOf t y0 := Fin.ext (by blk_simp [idx2 t, rowOf])
  have e1 : ((cfg0.win 2).blk t).view.emb (ix2 y0 y1) 1 = colOf t y1 := Fin.ext (by blk_simp [idx2 t, colOf])
  refine Eq.trans ?_ (show mixed (m ((c.tc : Thread nD τ).loc main_arg0)) (m ((c.tc : Thread nD τ).loc main_arg1)) (rowOf t y0) (colOf t y1) = _ from by rw [e0, e1])
  pointwise [k0_pay1, mixed]
  simp only [rd0, rd1]

/-- The kernel's run ends with the formula in its result and its arguments unchanged. -/
theorem run :
    θ_run defs (onTc (τ := τ) (main (F := Ideal))) ⟨m, fun _ => 0, ρ⟩ fun r => ∀ c : Dev nD,
      r.2.mem ((c.tc : Thread nD τ).loc main_v0) = (fun j : S4224x2048.Idx => mixed (m ((c.tc : Thread nD τ).loc main_arg0)) (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run_blocks m ρ)
  have h := h c
  rw [final m c] at h
  exact h

/-- The kernel and the reference end with equal results. -/
theorem algebraic : Cert.algebraic_FfnoutKernelIdeal_FfnoutReferenceIdeal (hFfnoutKernelIdeal := Cert.FfnoutKernelIdeal.Gen.facts)
    (hFfnoutReferenceIdeal := Cert.FfnoutReferenceIdeal.Gen.facts) := by
  intro m ρ m' ρ' _ hag
  refine ⟨_, run m ρ, (θ_run _ _ _).mono (fun _ h c => ?_) (Cert.FfnoutReferenceIdeal.Spec.run m' ρ')⟩
  have h := h c
  have e := hag c
  refine ⟨h.1.trans ?_, h.2⟩
  rw [e.1, e.2]

end Cert.FfnoutKernelIdeal.Spec

end
-- ==== Proof.lean ====
/- The proof of the certificate's claim: for each call the frames of the kernel, of the ideal kernel and of the
   reference, and that kernel and reference compute the same function over the extended reals. -/
module

public import proofs.«01_k».proof.Defs
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal.Value
public import proofs.«01_k».proof.Proof.Gen.ConvReferenceIdeal
public import proofs.«01_k».proof.Proof.Gen.ConvReferenceIdeal.Run
public import proofs.«01_k».proof.Proof.ConvEq
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal.Value
public import proofs.«01_k».proof.Proof.Gen.GateReferenceIdeal
public import proofs.«01_k».proof.Proof.Gen.GateReferenceIdeal.Run
public import proofs.«01_k».proof.Proof.GateEq
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnReferenceIdeal
public import proofs.«01_k».proof.Proof.Gen.AttnReferenceIdeal.Run
public import proofs.«01_k».proof.Proof.AttnFrame
public import proofs.«01_k».proof.Proof.AttnFrameIdeal
public import proofs.«01_k».proof.Proof.Gen.Pre_attn_finite
public import proofs.«01_k».proof.Proof.AttnEq
public import proofs.«01_k».proof.Proof.Gen.DwdownKernelIdeal
public import proofs.«01_k».proof.Proof.Gen.DwdownKernelIdeal.Skeleton
public import proofs.«01_k».proof.Proof.Gen.DwdownKernelIdeal.Launch
public import proofs.«01_k».proof.Proof.Gen.DwdownKernelIdeal.Points
public import proofs.«01_k».proof.Proof.Gen.DwdownKernelIdeal.Frame
public import proofs.«01_k».proof.Proof.Gen.DwdownKernel
public import proofs.«01_k».proof.Proof.Gen.DwdownKernel.Skeleton
public import proofs.«01_k».proof.Proof.Gen.DwdownKernel.Launch
public import proofs.«01_k».proof.Proof.Gen.DwdownKernel.Points
public import proofs.«01_k».proof.Proof.Gen.DwdownKernel.Frame
public import proofs.«01_k».proof.Proof.Gen.DwdownKernelIdeal.Value
public import proofs.«01_k».proof.Proof.Gen.DwdownReferenceIdeal
public import proofs.«01_k».proof.Proof.Gen.DwdownReferenceIdeal.Run
public import proofs.«01_k».proof.Proof.Dwdown
public import proofs.«01_k».proof.Proof.Gen.DwgateKernelIdeal
public import proofs.«01_k».proof.Proof.Gen.DwgateKernelIdeal.Skeleton
public import proofs.«01_k».proof.Proof.Gen.DwgateKernelIdeal.Launch
public import proofs.«01_k».proof.Proof.Gen.DwgateKernelIdeal.Points
public import proofs.«01_k».proof.Proof.Gen.DwgateKernelIdeal.Frame
public import proofs.«01_k».proof.Proof.Gen.DwgateKernel
public import proofs.«01_k».proof.Proof.Gen.DwgateKernel.Skeleton
public import proofs.«01_k».proof.Proof.Gen.DwgateKernel.Launch
public import proofs.«01_k».proof.Proof.Gen.DwgateKernel.Points
public import proofs.«01_k».proof.Proof.Gen.DwgateKernel.Frame
public import proofs.«01_k».proof.Proof.Gen.DwgateKernelIdeal.Value
public import proofs.«01_k».proof.Proof.Gen.DwgateReferenceIdeal
public import proofs.«01_k».proof.Proof.Gen.DwgateReferenceIdeal.Run
public import proofs.«01_k».proof.Proof.Dwgate
public import proofs.«01_k».proof.Proof.Gen.DuKernelIdeal
public import proofs.«01_k».proof.Proof.Gen.DuKernelIdeal.Skeleton
public import proofs.«01_k».proof.Proof.Gen.DuKernelIdeal.Launch
public import proofs.«01_k».proof.Proof.Gen.DuKernelIdeal.Points
public import proofs.«01_k».proof.Proof.Gen.DuKernelIdeal.Frame
public import proofs.«01_k».proof.Proof.Gen.DuKernel
public import proofs.«01_k».proof.Proof.Gen.DuKernel.Skeleton
public import proofs.«01_k».proof.Proof.Gen.DuKernel.Launch
public import proofs.«01_k».proof.Proof.Gen.DuKernel.Points
public import proofs.«01_k».proof.Proof.Gen.DuKernel.Frame
public import proofs.«01_k».proof.Proof.Gen.DuKernelIdeal.Value
public import proofs.«01_k».proof.Proof.Gen.DuReferenceIdeal
public import proofs.«01_k».proof.Proof.Gen.DuReferenceIdeal.Run
public import proofs.«01_k».proof.Proof.Du
public import proofs.«01_k».proof.Proof.Gen.DuupKernelIdeal
public import proofs.«01_k».proof.Proof.Gen.DuupKernelIdeal.Skeleton
public import proofs.«01_k».proof.Proof.Gen.DuupKernelIdeal.Launch
public import proofs.«01_k».proof.Proof.Gen.DuupKernelIdeal.Points
public import proofs.«01_k».proof.Proof.Gen.DuupKernelIdeal.Frame
public import proofs.«01_k».proof.Proof.Gen.DuupKernel
public import proofs.«01_k».proof.Proof.Gen.DuupKernel.Skeleton
public import proofs.«01_k».proof.Proof.Gen.DuupKernel.Launch
public import proofs.«01_k».proof.Proof.Gen.DuupKernel.Points
public import proofs.«01_k».proof.Proof.Gen.DuupKernel.Frame
public import proofs.«01_k».proof.Proof.Gen.DuupKernelIdeal.Value
public import proofs.«01_k».proof.Proof.Gen.DuupReferenceIdeal
public import proofs.«01_k».proof.Proof.Gen.DuupReferenceIdeal.Run
public import proofs.«01_k».proof.Proof.Duup
public import proofs.«01_k».proof.Proof.Gen.FfninKernelIdeal
public import proofs.«01_k».proof.Proof.Gen.FfninKernelIdeal.Skeleton
public import proofs.«01_k».proof.Proof.Gen.FfninKernelIdeal.Launch
public import proofs.«01_k».proof.Proof.Gen.FfninKernelIdeal.Points
public import proofs.«01_k».proof.Proof.Gen.FfninKernelIdeal.Frame
public import proofs.«01_k».proof.Proof.Gen.FfninKernel
public import proofs.«01_k».proof.Proof.Gen.FfninKernel.Skeleton
public import proofs.«01_k».proof.Proof.Gen.FfninKernel.Launch
public import proofs.«01_k».proof.Proof.Gen.FfninKernel.Points
public import proofs.«01_k».proof.Proof.Gen.FfninKernel.Frame
public import proofs.«01_k».proof.Proof.Gen.FfninKernelIdeal.Value
public import proofs.«01_k».proof.Proof.Gen.FfninReferenceIdeal
public import proofs.«01_k».proof.Proof.Gen.FfninReferenceIdeal.Run
public import proofs.«01_k».proof.Proof.Ffnin
public import proofs.«01_k».proof.Proof.Gen.FfnoutKernelIdeal
public import proofs.«01_k».proof.Proof.Gen.FfnoutKernelIdeal.Skeleton
public import proofs.«01_k».proof.Proof.Gen.FfnoutKernelIdeal.Launch
public import proofs.«01_k».proof.Proof.Gen.FfnoutKernelIdeal.Points
public import proofs.«01_k».proof.Proof.Gen.FfnoutKernelIdeal.Frame
public import proofs.«01_k».proof.Proof.Gen.FfnoutKernel
public import proofs.«01_k».proof.Proof.Gen.FfnoutKernel.Skeleton
public import proofs.«01_k».proof.Proof.Gen.FfnoutKernel.Launch
public import proofs.«01_k».proof.Proof.Gen.FfnoutKernel.Points
public import proofs.«01_k».proof.Proof.Gen.FfnoutKernel.Frame
public import proofs.«01_k».proof.Proof.Gen.FfnoutKernelIdeal.Value
public import proofs.«01_k».proof.Proof.Gen.FfnoutReferenceIdeal
public import proofs.«01_k».proof.Proof.Gen.FfnoutReferenceIdeal.Run
public import proofs.«01_k».proof.Proof.Ffnout
public import Idealize.ShloMosaic.Adequacy
public import Idealize.ShloMosaic.Init
public import Idealize.ShloMosaic.Lib.Quiescent

@[expose] public section

noncomputable section

namespace Cert.Proof

open Idealize.ShloMosaic Idealize.SL.Sem

/-- The reference of Conv ends with its arguments unchanged and every counter at zero. -/
theorem frame_Conv : Cert.quiescent_ConvReferenceIdeal (hConvReferenceIdeal := Cert.ConvReferenceIdeal.Gen.facts) :=
  fun m ρ _ => (θ_run Cert.ConvReferenceIdeal.defs _ _).mono (fun r h => ⟨fun c => (h c).2.2.2.2.2, sem_eq_zero_of_no_sems rfl r.2⟩) (Cert.ConvReferenceIdeal.Spec.run m ρ)

/-- The reference of Gate ends with its arguments unchanged and every counter at zero. -/
theorem frame_Gate : Cert.quiescent_GateReferenceIdeal (hGateReferenceIdeal := Cert.GateReferenceIdeal.Gen.facts) :=
  fun m ρ _ => (θ_run Cert.GateReferenceIdeal.defs _ _).mono (fun r h => ⟨fun c => (h c).2.2, sem_eq_zero_of_no_sems rfl r.2⟩) (Cert.GateReferenceIdeal.Spec.run m ρ)

/-- The reference of Attn ends with its arguments unchanged and every counter at zero. -/
theorem frame_Attn : Cert.quiescent_AttnReferenceIdeal (hAttnReferenceIdeal := Cert.AttnReferenceIdeal.Gen.facts) :=
  fun m ρ _ => (θ_run Cert.AttnReferenceIdeal.defs _ _).mono (fun r h => ⟨fun c => (h c).2.2.2.2.2, sem_eq_zero_of_no_sems rfl r.2⟩) (Cert.AttnReferenceIdeal.Value.run m ρ)

/-- The reference of Dwdown ends with its arguments unchanged and every counter at zero. -/
theorem frame_Dwdown : Cert.quiescent_DwdownReferenceIdeal (hDwdownReferenceIdeal := Cert.DwdownReferenceIdeal.Gen.facts) :=
  fun m ρ _ => (θ_run Cert.DwdownReferenceIdeal.defs _ _).mono (fun r h => ⟨fun c => (h c).2, sem_eq_zero_of_no_sems rfl r.2⟩) (Cert.DwdownReferenceIdeal.Spec.run m ρ)

/-- The reference of Dwgate ends with its arguments unchanged and every counter at zero. -/
theorem frame_Dwgate : Cert.quiescent_DwgateReferenceIdeal (hDwgateReferenceIdeal := Cert.DwgateReferenceIdeal.Gen.facts) :=
  fun m ρ _ => (θ_run Cert.DwgateReferenceIdeal.defs _ _).mono (fun r h => ⟨fun c => (h c).2, sem_eq_zero_of_no_sems rfl r.2⟩) (Cert.DwgateReferenceIdeal.Spec.run m ρ)

/-- The reference of Du ends with its arguments unchanged and every counter at zero. -/
theorem frame_Du : Cert.quiescent_DuReferenceIdeal (hDuReferenceIdeal := Cert.DuReferenceIdeal.Gen.facts) :=
  fun m ρ _ => (θ_run Cert.DuReferenceIdeal.defs _ _).mono (fun r h => ⟨fun c => (h c).2, sem_eq_zero_of_no_sems rfl r.2⟩) (Cert.DuReferenceIdeal.Spec.run m ρ)

/-- The reference of Duup ends with its arguments unchanged and every counter at zero. -/
theorem frame_Duup : Cert.quiescent_DuupReferenceIdeal (hDuupReferenceIdeal := Cert.DuupReferenceIdeal.Gen.facts) :=
  fun m ρ _ => (θ_run Cert.DuupReferenceIdeal.defs _ _).mono (fun r h => ⟨fun c => (h c).2, sem_eq_zero_of_no_sems rfl r.2⟩) (Cert.DuupReferenceIdeal.Spec.run m ρ)

/-- The reference of Ffnin ends with its arguments unchanged and every counter at zero. -/
theorem frame_Ffnin : Cert.quiescent_FfninReferenceIdeal (hFfninReferenceIdeal := Cert.FfninReferenceIdeal.Gen.facts) :=
  fun m ρ _ => (θ_run Cert.FfninReferenceIdeal.defs _ _).mono (fun r h => ⟨fun c => (h c).2.2.2, sem_eq_zero_of_no_sems rfl r.2⟩) (Cert.FfninReferenceIdeal.Spec.run m ρ)

/-- The reference of Ffnout ends with its arguments unchanged and every counter at zero. -/
theorem frame_Ffnout : Cert.quiescent_FfnoutReferenceIdeal (hFfnoutReferenceIdeal := Cert.FfnoutReferenceIdeal.Gen.facts) :=
  fun m ρ _ => (θ_run Cert.FfnoutReferenceIdeal.defs _ _).mono (fun r h => ⟨fun c => (h c).2, sem_eq_zero_of_no_sems rfl r.2⟩) (Cert.FfnoutReferenceIdeal.Spec.run m ρ)

theorem claim : Cert.Claim :=
  ⟨Cert.ConvKernel.Gen.facts,
    Cert.ConvKernelIdeal.Gen.facts,
    Cert.ConvReferenceIdeal.Gen.facts,
    Cert.GateKernel.Gen.facts,
    Cert.GateKernelIdeal.Gen.facts,
    Cert.GateReferenceIdeal.Gen.facts,
    Cert.AttnKernel.Gen.facts,
    Cert.AttnKernelIdeal.Gen.facts,
    Cert.AttnReferenceIdeal.Gen.facts,
    Cert.DwdownKernel.Gen.facts,
    Cert.DwdownKernelIdeal.Gen.facts,
    Cert.DwdownReferenceIdeal.Gen.facts,
    Cert.DwgateKernel.Gen.facts,
    Cert.DwgateKernelIdeal.Gen.facts,
    Cert.DwgateReferenceIdeal.Gen.facts,
    Cert.DuKernel.Gen.facts,
    Cert.DuKernelIdeal.Gen.facts,
    Cert.DuReferenceIdeal.Gen.facts,
    Cert.DuupKernel.Gen.facts,
    Cert.DuupKernelIdeal.Gen.facts,
    Cert.DuupReferenceIdeal.Gen.facts,
    Cert.FfninKernel.Gen.facts,
    Cert.FfninKernelIdeal.Gen.facts,
    Cert.FfninReferenceIdeal.Gen.facts,
    Cert.FfnoutKernel.Gen.facts,
    Cert.FfnoutKernelIdeal.Gen.facts,
    Cert.FfnoutReferenceIdeal.Gen.facts,
    Cert.Pre_attn_finite.Gen.facts,
    fun m ρ _ => Cert.ConvKernel.Gen.frame m ρ,
    fun m ρ _ => Cert.ConvKernelIdeal.Gen.frame m ρ,
    frame_Conv,
    fun m ρ _ => Cert.GateKernel.Gen.frame m ρ,
    fun m ρ _ => Cert.GateKernelIdeal.Gen.frame m ρ,
    frame_Gate,
    fun m ρ _ => Cert.AttnKernel.Body.frame m ρ,
    fun m ρ _ => Cert.AttnKernelIdeal.Body.frame m ρ,
    fun m ρ _ => Cert.AttnKernelIdeal.Body.frame m ρ,
    frame_Attn,
    fun m ρ _ => frame_Attn m ρ trivial,
    fun m ρ _ => Cert.DwdownKernel.Gen.frame m ρ,
    fun m ρ _ => Cert.DwdownKernelIdeal.Gen.frame m ρ,
    frame_Dwdown,
    fun m ρ _ => Cert.DwgateKernel.Gen.frame m ρ,
    fun m ρ _ => Cert.DwgateKernelIdeal.Gen.frame m ρ,
    frame_Dwgate,
    fun m ρ _ => Cert.DuKernel.Gen.frame m ρ,
    fun m ρ _ => Cert.DuKernelIdeal.Gen.frame m ρ,
    frame_Du,
    fun m ρ _ => Cert.DuupKernel.Gen.frame m ρ,
    fun m ρ _ => Cert.DuupKernelIdeal.Gen.frame m ρ,
    frame_Duup,
    fun m ρ _ => Cert.FfninKernel.Gen.frame m ρ,
    fun m ρ _ => Cert.FfninKernelIdeal.Gen.frame m ρ,
    frame_Ffnin,
    fun m ρ _ => Cert.FfnoutKernel.Gen.frame m ρ,
    fun m ρ _ => Cert.FfnoutKernelIdeal.Gen.frame m ρ,
    frame_Ffnout,
    trivial,
    Cert.ConvKernelIdeal.Spec.algebraic,
    trivial,
    Cert.GateKernelIdeal.Spec.algebraic,
    IdealRules.named_const.statement Cert.AttnKernelIdeal.κ "mask" .f32 0xF149F2CA#32 ⊥ rfl,
    Cert.AttnKernelIdeal.Spec.algebraic,
    trivial,
    Cert.DwdownKernelIdeal.Spec.algebraic,
    trivial,
    Cert.DwgateKernelIdeal.Spec.algebraic,
    trivial,
    Cert.DuKernelIdeal.Spec.algebraic,
    trivial,
    Cert.DuupKernelIdeal.Spec.algebraic,
    trivial,
    Cert.FfninKernelIdeal.Spec.algebraic,
    trivial,
    Cert.FfnoutKernelIdeal.Spec.algebraic⟩

end Cert.Proof

end
